-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_state [hPre_finite_state : Cert.Pre_finite_state.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_state.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_state [hPre_finite_state : Cert.Pre_finite_state.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_state.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite_state [hKernel6Ideal : Cert.Kernel6Ideal.Facts] [hPre_finite_state : Cert.Pre_finite_state.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_state m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite_state [hReference6Ideal : Cert.Reference6Ideal.Facts] [hPre_finite_state : Cert.Pre_finite_state.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_state m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16)
      ∧ r.2.mem ((c.tc : Thread Cert.Kernel7.nD Cert.Kernel7.τ).loc Cert.Kernel7.main_arg17) = m ((c.tc : Thread Cert.Kernel7.nD Cert.Kernel7.τ).loc Cert.Kernel7.main_arg17)
      ∧ r.2.mem ((c.tc : Thread Cert.Kernel7.nD Cert.Kernel7.τ).loc Cert.Kernel7.main_arg18) = m ((c.tc : Thread Cert.Kernel7.nD Cert.Kernel7.τ).loc Cert.Kernel7.main_arg18)
      ∧ r.2.mem ((c.tc : Thread Cert.Kernel7.nD Cert.Kernel7.τ).loc Cert.Kernel7.main_arg19) = m ((c.tc : Thread Cert.Kernel7.nD Cert.Kernel7.τ).loc Cert.Kernel7.main_arg19)
      ∧ r.2.mem ((c.tc : Thread Cert.Kernel7.nD Cert.Kernel7.τ).loc Cert.Kernel7.main_arg20) = m ((c.tc : Thread Cert.Kernel7.nD Cert.Kernel7.τ).loc Cert.Kernel7.main_arg20)
      ∧ r.2.mem ((c.tc : Thread Cert.Kernel7.nD Cert.Kernel7.τ).loc Cert.Kernel7.main_arg21) = m ((c.tc : Thread Cert.Kernel7.nD Cert.Kernel7.τ).loc Cert.Kernel7.main_arg21)
      ∧ r.2.mem ((c.tc : Thread Cert.Kernel7.nD Cert.Kernel7.τ).loc Cert.Kernel7.main_arg22) = m ((c.tc : Thread Cert.Kernel7.nD Cert.Kernel7.τ).loc Cert.Kernel7.main_arg22)
      ∧ r.2.mem ((c.tc : Thread Cert.Kernel7.nD Cert.Kernel7.τ).loc Cert.Kernel7.main_arg23) = m ((c.tc : Thread Cert.Kernel7.nD Cert.Kernel7.τ).loc Cert.Kernel7.main_arg23)
      ∧ r.2.mem ((c.tc : Thread Cert.Kernel7.nD Cert.Kernel7.τ).loc Cert.Kernel7.main_arg24) = m ((c.tc : Thread Cert.Kernel7.nD Cert.Kernel7.τ).loc Cert.Kernel7.main_arg24)
      ∧ r.2.mem ((c.tc : Thread Cert.Kernel7.nD Cert.Kernel7.τ).loc Cert.Kernel7.main_arg25) = m ((c.tc : Thread Cert.Kernel7.nD Cert.Kernel7.τ).loc Cert.Kernel7.main_arg25)
      ∧ r.2.mem ((c.tc : Thread Cert.Kernel7.nD Cert.Kernel7.τ).loc Cert.Kernel7.main_arg26) = m ((c.tc : Thread Cert.Kernel7.nD Cert.Kernel7.τ).loc Cert.Kernel7.main_arg26)
      ∧ r.2.mem ((c.tc : Thread Cert.Kernel7.nD Cert.Kernel7.τ).loc Cert.Kernel7.main_arg27) = m ((c.tc : Thread Cert.Kernel7.nD Cert.Kernel7.τ).loc Cert.Kernel7.main_arg27)
      ∧ r.2.mem ((c.tc : Thread Cert.Kernel7.nD Cert.Kernel7.τ).loc Cert.Kernel7.main_arg28) = m ((c.tc : Thread Cert.Kernel7.nD Cert.Kernel7.τ).loc Cert.Kernel7.main_arg28)
      ∧ r.2.mem ((c.tc : Thread Cert.Kernel7.nD Cert.Kernel7.τ).loc Cert.Kernel7.main_arg29) = m ((c.tc : Thread Cert.Kernel7.nD Cert.Kernel7.τ).loc Cert.Kernel7.main_arg29)
      ∧ r.2.mem ((c.tc : Thread Cert.Kernel7.nD Cert.Kernel7.τ).loc Cert.Kernel7.main_arg30) = m ((c.tc : Thread Cert.Kernel7.nD Cert.Kernel7.τ).loc Cert.Kernel7.main_arg30)
      ∧ r.2.mem ((c.tc : Thread Cert.Kernel7.nD Cert.Kernel7.τ).loc Cert.Kernel7.main_arg31) = m ((c.tc : Thread Cert.Kernel7.nD Cert.Kernel7.τ).loc Cert.Kernel7.main_arg31)
      ∧ r.2.mem ((c.tc : Thread Cert.Kernel7.nD Cert.Kernel7.τ).loc Cert.Kernel7.main_arg32) = m ((c.tc : Thread Cert.Kernel7.nD Cert.Kernel7.τ).loc Cert.Kernel7.main_arg32)
      ∧ r.2.mem ((c.tc : Thread Cert.Kernel7.nD Cert.Kernel7.τ).loc Cert.Kernel7.main_arg33) = m ((c.tc : Thread Cert.Kernel7.nD Cert.Kernel7.τ).loc Cert.Kernel7.main_arg33))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
      ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
      ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
      ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
      ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
      ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
      ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
      ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23)
      ∧ r.2.mem ((c.tc : Thread Cert.Kernel7Ideal.nD Cert.Kernel7Ideal.τ).loc Cert.Kernel7Ideal.main_arg24) = m ((c.tc : Thread Cert.Kernel7Ideal.nD Cert.Kernel7Ideal.τ).loc Cert.Kernel7Ideal.main_arg24)
      ∧ r.2.mem ((c.tc : Thread Cert.Kernel7Ideal.nD Cert.Kernel7Ideal.τ).loc Cert.Kernel7Ideal.main_arg25) = m ((c.tc : Thread Cert.Kernel7Ideal.nD Cert.Kernel7Ideal.τ).loc Cert.Kernel7Ideal.main_arg25)
      ∧ r.2.mem ((c.tc : Thread Cert.Kernel7Ideal.nD Cert.Kernel7Ideal.τ).loc Cert.Kernel7Ideal.main_arg26) = m ((c.tc : Thread Cert.Kernel7Ideal.nD Cert.Kernel7Ideal.τ).loc Cert.Kernel7Ideal.main_arg26)
      ∧ r.2.mem ((c.tc : Thread Cert.Kernel7Ideal.nD Cert.Kernel7Ideal.τ).loc Cert.Kernel7Ideal.main_arg27) = m ((c.tc : Thread Cert.Kernel7Ideal.nD Cert.Kernel7Ideal.τ).loc Cert.Kernel7Ideal.main_arg27)
      ∧ r.2.mem ((c.tc : Thread Cert.Kernel7Ideal.nD Cert.Kernel7Ideal.τ).loc Cert.Kernel7Ideal.main_arg28) = m ((c.tc : Thread Cert.Kernel7Ideal.nD Cert.Kernel7Ideal.τ).loc Cert.Kernel7Ideal.main_arg28)
      ∧ r.2.mem ((c.tc : Thread Cert.Kernel7Ideal.nD Cert.Kernel7Ideal.τ).loc Cert.Kernel7Ideal.main_arg29) = m ((c.tc : Thread Cert.Kernel7Ideal.nD Cert.Kernel7Ideal.τ).loc Cert.Kernel7Ideal.main_arg29)
      ∧ r.2.mem ((c.tc : Thread Cert.Kernel7Ideal.nD Cert.Kernel7Ideal.τ).loc Cert.Kernel7Ideal.main_arg30) = m ((c.tc : Thread Cert.Kernel7Ideal.nD Cert.Kernel7Ideal.τ).loc Cert.Kernel7Ideal.main_arg30)
      ∧ r.2.mem ((c.tc : Thread Cert.Kernel7Ideal.nD Cert.Kernel7Ideal.τ).loc Cert.Kernel7Ideal.main_arg31) = m ((c.tc : Thread Cert.Kernel7Ideal.nD Cert.Kernel7Ideal.τ).loc Cert.Kernel7Ideal.main_arg31)
      ∧ r.2.mem ((c.tc : Thread Cert.Kernel7Ideal.nD Cert.Kernel7Ideal.τ).loc Cert.Kernel7Ideal.main_arg32) = m ((c.tc : Thread Cert.Kernel7Ideal.nD Cert.Kernel7Ideal.τ).loc Cert.Kernel7Ideal.main_arg32)
      ∧ r.2.mem ((c.tc : Thread Cert.Kernel7Ideal.nD Cert.Kernel7Ideal.τ).loc Cert.Kernel7Ideal.main_arg33) = m ((c.tc : Thread Cert.Kernel7Ideal.nD Cert.Kernel7Ideal.τ).loc Cert.Kernel7Ideal.main_arg33))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16)
      ∧ r.2.mem ((c.tc : Thread Cert.Reference7Ideal.nD Cert.Reference7Ideal.τ).loc Cert.Reference7Ideal.main_arg17) = m ((c.tc : Thread Cert.Reference7Ideal.nD Cert.Reference7Ideal.τ).loc Cert.Reference7Ideal.main_arg17)
      ∧ r.2.mem ((c.tc : Thread Cert.Reference7Ideal.nD Cert.Reference7Ideal.τ).loc Cert.Reference7Ideal.main_arg18) = m ((c.tc : Thread Cert.Reference7Ideal.nD Cert.Reference7Ideal.τ).loc Cert.Reference7Ideal.main_arg18)
      ∧ r.2.mem ((c.tc : Thread Cert.Reference7Ideal.nD Cert.Reference7Ideal.τ).loc Cert.Reference7Ideal.main_arg19) = m ((c.tc : Thread Cert.Reference7Ideal.nD Cert.Reference7Ideal.τ).loc Cert.Reference7Ideal.main_arg19)
      ∧ r.2.mem ((c.tc : Thread Cert.Reference7Ideal.nD Cert.Reference7Ideal.τ).loc Cert.Reference7Ideal.main_arg20) = m ((c.tc : Thread Cert.Reference7Ideal.nD Cert.Reference7Ideal.τ).loc Cert.Reference7Ideal.main_arg20)
      ∧ r.2.mem ((c.tc : Thread Cert.Reference7Ideal.nD Cert.Reference7Ideal.τ).loc Cert.Reference7Ideal.main_arg21) = m ((c.tc : Thread Cert.Reference7Ideal.nD Cert.Reference7Ideal.τ).loc Cert.Reference7Ideal.main_arg21)
      ∧ r.2.mem ((c.tc : Thread Cert.Reference7Ideal.nD Cert.Reference7Ideal.τ).loc Cert.Reference7Ideal.main_arg22) = m ((c.tc : Thread Cert.Reference7Ideal.nD Cert.Reference7Ideal.τ).loc Cert.Reference7Ideal.main_arg22)
      ∧ r.2.mem ((c.tc : Thread Cert.Reference7Ideal.nD Cert.Reference7Ideal.τ).loc Cert.Reference7Ideal.main_arg23) = m ((c.tc : Thread Cert.Reference7Ideal.nD Cert.Reference7Ideal.τ).loc Cert.Reference7Ideal.main_arg23)
      ∧ r.2.mem ((c.tc : Thread Cert.Reference7Ideal.nD Cert.Reference7Ideal.τ).loc Cert.Reference7Ideal.main_arg24) = m ((c.tc : Thread Cert.Reference7Ideal.nD Cert.Reference7Ideal.τ).loc Cert.Reference7Ideal.main_arg24)
      ∧ r.2.mem ((c.tc : Thread Cert.Reference7Ideal.nD Cert.Reference7Ideal.τ).loc Cert.Reference7Ideal.main_arg25) = m ((c.tc : Thread Cert.Reference7Ideal.nD Cert.Reference7Ideal.τ).loc Cert.Reference7Ideal.main_arg25)
      ∧ r.2.mem ((c.tc : Thread Cert.Reference7Ideal.nD Cert.Reference7Ideal.τ).loc Cert.Reference7Ideal.main_arg26) = m ((c.tc : Thread Cert.Reference7Ideal.nD Cert.Reference7Ideal.τ).loc Cert.Reference7Ideal.main_arg26)
      ∧ r.2.mem ((c.tc : Thread Cert.Reference7Ideal.nD Cert.Reference7Ideal.τ).loc Cert.Reference7Ideal.main_arg27) = m ((c.tc : Thread Cert.Reference7Ideal.nD Cert.Reference7Ideal.τ).loc Cert.Reference7Ideal.main_arg27)
      ∧ r.2.mem ((c.tc : Thread Cert.Reference7Ideal.nD Cert.Reference7Ideal.τ).loc Cert.Reference7Ideal.main_arg28) = m ((c.tc : Thread Cert.Reference7Ideal.nD Cert.Reference7Ideal.τ).loc Cert.Reference7Ideal.main_arg28)
      ∧ r.2.mem ((c.tc : Thread Cert.Reference7Ideal.nD Cert.Reference7Ideal.τ).loc Cert.Reference7Ideal.main_arg29) = m ((c.tc : Thread Cert.Reference7Ideal.nD Cert.Reference7Ideal.τ).loc Cert.Reference7Ideal.main_arg29)
      ∧ r.2.mem ((c.tc : Thread Cert.Reference7Ideal.nD Cert.Reference7Ideal.τ).loc Cert.Reference7Ideal.main_arg30) = m ((c.tc : Thread Cert.Reference7Ideal.nD Cert.Reference7Ideal.τ).loc Cert.Reference7Ideal.main_arg30)
      ∧ r.2.mem ((c.tc : Thread Cert.Reference7Ideal.nD Cert.Reference7Ideal.τ).loc Cert.Reference7Ideal.main_arg31) = m ((c.tc : Thread Cert.Reference7Ideal.nD Cert.Reference7Ideal.τ).loc Cert.Reference7Ideal.main_arg31)
      ∧ r.2.mem ((c.tc : Thread Cert.Reference7Ideal.nD Cert.Reference7Ideal.τ).loc Cert.Reference7Ideal.main_arg32) = m ((c.tc : Thread Cert.Reference7Ideal.nD Cert.Reference7Ideal.τ).loc Cert.Reference7Ideal.main_arg32)
      ∧ r.2.mem ((c.tc : Thread Cert.Reference7Ideal.nD Cert.Reference7Ideal.τ).loc Cert.Reference7Ideal.main_arg33) = m ((c.tc : Thread Cert.Reference7Ideal.nD Cert.Reference7Ideal.τ).loc Cert.Reference7Ideal.main_arg33))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_v101) = v4 c
          ∧ r.2.mem ((c.tc : Thread Cert.ReferenceIdeal.nD Cert.ReferenceIdeal.τ).loc Cert.ReferenceIdeal.main_v103) = v5 c
          ∧ r.2.mem ((c.tc : Thread Cert.ReferenceIdeal.nD Cert.ReferenceIdeal.τ).loc Cert.ReferenceIdeal.main_v105) = v6 c
          ∧ r.2.mem ((c.tc : Thread Cert.ReferenceIdeal.nD Cert.ReferenceIdeal.τ).loc Cert.ReferenceIdeal.main_v95) = v7 c
          ∧ r.2.mem ((c.tc : Thread Cert.ReferenceIdeal.nD Cert.ReferenceIdeal.τ).loc Cert.ReferenceIdeal.main_v89) = v8 c
          ∧ r.2.mem ((c.tc : Thread Cert.ReferenceIdeal.nD Cert.ReferenceIdeal.τ).loc Cert.ReferenceIdeal.main_v84) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_v8) = v2 c
          ∧ r.2.mem ((c.tc : Thread Cert.Reference4Ideal.nD Cert.Reference4Ideal.τ).loc Cert.Reference4Ideal.main_v14) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)) (v6 : (c : Dev Cert.Kernel5Ideal.nD) → Buf (Elt Ideal) ((c.tc : Thread Cert.Kernel5Ideal.nD Cert.Kernel5Ideal.τ).loc Cert.Kernel5Ideal.main_v0_6)) (v7 : (c : Dev Cert.Kernel5Ideal.nD) → Buf (Elt Ideal) ((c.tc : Thread Cert.Kernel5Ideal.nD Cert.Kernel5Ideal.τ).loc Cert.Kernel5Ideal.main_v0_7)) (v8 : (c : Dev Cert.Kernel5Ideal.nD) → Buf (Elt Ideal) ((c.tc : Thread Cert.Kernel5Ideal.nD Cert.Kernel5Ideal.τ).loc Cert.Kernel5Ideal.main_v0_8)) (v9 : (c : Dev Cert.Kernel5Ideal.nD) → Buf (Elt Ideal) ((c.tc : Thread Cert.Kernel5Ideal.nD Cert.Kernel5Ideal.τ).loc Cert.Kernel5Ideal.main_v0_9)) (v10 : (c : Dev Cert.Kernel5Ideal.nD) → Buf (Elt Ideal) ((c.tc : Thread Cert.Kernel5Ideal.nD Cert.Kernel5Ideal.τ).loc Cert.Kernel5Ideal.main_v0_10)) (v11 : (c : Dev Cert.Kernel5Ideal.nD) → Buf (Elt Ideal) ((c.tc : Thread Cert.Kernel5Ideal.nD Cert.Kernel5Ideal.τ).loc Cert.Kernel5Ideal.main_v0_11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_v0_6) = v6 c
          ∧ r.2.mem ((c.tc : Thread Cert.Kernel5Ideal.nD Cert.Kernel5Ideal.τ).loc Cert.Kernel5Ideal.main_v0_7) = v7 c
          ∧ r.2.mem ((c.tc : Thread Cert.Kernel5Ideal.nD Cert.Kernel5Ideal.τ).loc Cert.Kernel5Ideal.main_v0_8) = v8 c
          ∧ r.2.mem ((c.tc : Thread Cert.Kernel5Ideal.nD Cert.Kernel5Ideal.τ).loc Cert.Kernel5Ideal.main_v0_9) = v9 c
          ∧ r.2.mem ((c.tc : Thread Cert.Kernel5Ideal.nD Cert.Kernel5Ideal.τ).loc Cert.Kernel5Ideal.main_v0_10) = v10 c
          ∧ r.2.mem ((c.tc : Thread Cert.Kernel5Ideal.nD Cert.Kernel5Ideal.τ).loc Cert.Kernel5Ideal.main_v0_11) = v11 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v6) = v2 c
          ∧ r.2.mem ((c.tc : Thread Cert.Reference5Ideal.nD Cert.Reference5Ideal.τ).loc Cert.Reference5Ideal.main_v12) = v3 c
          ∧ r.2.mem ((c.tc : Thread Cert.Reference5Ideal.nD Cert.Reference5Ideal.τ).loc Cert.Reference5Ideal.main_v27) = v4 c
          ∧ r.2.mem ((c.tc : Thread Cert.Reference5Ideal.nD Cert.Reference5Ideal.τ).loc Cert.Reference5Ideal.main_v51) = v5 c
          ∧ r.2.mem ((c.tc : Thread Cert.Reference5Ideal.nD Cert.Reference5Ideal.τ).loc Cert.Reference5Ideal.main_v32) = v6 c
          ∧ r.2.mem ((c.tc : Thread Cert.Reference5Ideal.nD Cert.Reference5Ideal.τ).loc Cert.Reference5Ideal.main_v38) = v7 c
          ∧ r.2.mem ((c.tc : Thread Cert.Reference5Ideal.nD Cert.Reference5Ideal.τ).loc Cert.Reference5Ideal.main_v53) = v8 c
          ∧ r.2.mem ((c.tc : Thread Cert.Reference5Ideal.nD Cert.Reference5Ideal.τ).loc Cert.Reference5Ideal.main_v77) = v9 c
          ∧ r.2.mem ((c.tc : Thread Cert.Reference5Ideal.nD Cert.Reference5Ideal.τ).loc Cert.Reference5Ideal.main_v58) = v10 c
          ∧ r.2.mem ((c.tc : Thread Cert.Reference5Ideal.nD Cert.Reference5Ideal.τ).loc Cert.Reference5Ideal.main_v64) = v11 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal_pre_finite_state [hKernel6Ideal : Cert.Kernel6Ideal.Facts] [hReference6Ideal : Cert.Reference6Ideal.Facts] [hPre_finite_state : Cert.Pre_finite_state.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_state m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)
      ∧ m' ((c.tc : Thread Cert.Reference7Ideal.nD Cert.Reference7Ideal.τ).loc Cert.Reference7Ideal.main_arg17) = m ((c.tc : Thread Cert.Kernel7Ideal.nD Cert.Kernel7Ideal.τ).loc Cert.Kernel7Ideal.main_arg17)
      ∧ m' ((c.tc : Thread Cert.Reference7Ideal.nD Cert.Reference7Ideal.τ).loc Cert.Reference7Ideal.main_arg18) = m ((c.tc : Thread Cert.Kernel7Ideal.nD Cert.Kernel7Ideal.τ).loc Cert.Kernel7Ideal.main_arg18)
      ∧ m' ((c.tc : Thread Cert.Reference7Ideal.nD Cert.Reference7Ideal.τ).loc Cert.Reference7Ideal.main_arg19) = m ((c.tc : Thread Cert.Kernel7Ideal.nD Cert.Kernel7Ideal.τ).loc Cert.Kernel7Ideal.main_arg19)
      ∧ m' ((c.tc : Thread Cert.Reference7Ideal.nD Cert.Reference7Ideal.τ).loc Cert.Reference7Ideal.main_arg20) = m ((c.tc : Thread Cert.Kernel7Ideal.nD Cert.Kernel7Ideal.τ).loc Cert.Kernel7Ideal.main_arg20)
      ∧ m' ((c.tc : Thread Cert.Reference7Ideal.nD Cert.Reference7Ideal.τ).loc Cert.Reference7Ideal.main_arg21) = m ((c.tc : Thread Cert.Kernel7Ideal.nD Cert.Kernel7Ideal.τ).loc Cert.Kernel7Ideal.main_arg21)
      ∧ m' ((c.tc : Thread Cert.Reference7Ideal.nD Cert.Reference7Ideal.τ).loc Cert.Reference7Ideal.main_arg22) = m ((c.tc : Thread Cert.Kernel7Ideal.nD Cert.Kernel7Ideal.τ).loc Cert.Kernel7Ideal.main_arg22)
      ∧ m' ((c.tc : Thread Cert.Reference7Ideal.nD Cert.Reference7Ideal.τ).loc Cert.Reference7Ideal.main_arg23) = m ((c.tc : Thread Cert.Kernel7Ideal.nD Cert.Kernel7Ideal.τ).loc Cert.Kernel7Ideal.main_arg23)
      ∧ m' ((c.tc : Thread Cert.Reference7Ideal.nD Cert.Reference7Ideal.τ).loc Cert.Reference7Ideal.main_arg24) = m ((c.tc : Thread Cert.Kernel7Ideal.nD Cert.Kernel7Ideal.τ).loc Cert.Kernel7Ideal.main_arg24)
      ∧ m' ((c.tc : Thread Cert.Reference7Ideal.nD Cert.Reference7Ideal.τ).loc Cert.Reference7Ideal.main_arg25) = m ((c.tc : Thread Cert.Kernel7Ideal.nD Cert.Kernel7Ideal.τ).loc Cert.Kernel7Ideal.main_arg25)
      ∧ m' ((c.tc : Thread Cert.Reference7Ideal.nD Cert.Reference7Ideal.τ).loc Cert.Reference7Ideal.main_arg26) = m ((c.tc : Thread Cert.Kernel7Ideal.nD Cert.Kernel7Ideal.τ).loc Cert.Kernel7Ideal.main_arg26)
      ∧ m' ((c.tc : Thread Cert.Reference7Ideal.nD Cert.Reference7Ideal.τ).loc Cert.Reference7Ideal.main_arg27) = m ((c.tc : Thread Cert.Kernel7Ideal.nD Cert.Kernel7Ideal.τ).loc Cert.Kernel7Ideal.main_arg27)
      ∧ m' ((c.tc : Thread Cert.Reference7Ideal.nD Cert.Reference7Ideal.τ).loc Cert.Reference7Ideal.main_arg28) = m ((c.tc : Thread Cert.Kernel7Ideal.nD Cert.Kernel7Ideal.τ).loc Cert.Kernel7Ideal.main_arg28)
      ∧ m' ((c.tc : Thread Cert.Reference7Ideal.nD Cert.Reference7Ideal.τ).loc Cert.Reference7Ideal.main_arg29) = m ((c.tc : Thread Cert.Kernel7Ideal.nD Cert.Kernel7Ideal.τ).loc Cert.Kernel7Ideal.main_arg29)
      ∧ m' ((c.tc : Thread Cert.Reference7Ideal.nD Cert.Reference7Ideal.τ).loc Cert.Reference7Ideal.main_arg30) = m ((c.tc : Thread Cert.Kernel7Ideal.nD Cert.Kernel7Ideal.τ).loc Cert.Kernel7Ideal.main_arg30)
      ∧ m' ((c.tc : Thread Cert.Reference7Ideal.nD Cert.Reference7Ideal.τ).loc Cert.Reference7Ideal.main_arg31) = m ((c.tc : Thread Cert.Kernel7Ideal.nD Cert.Kernel7Ideal.τ).loc Cert.Kernel7Ideal.main_arg31)
      ∧ m' ((c.tc : Thread Cert.Reference7Ideal.nD Cert.Reference7Ideal.τ).loc Cert.Reference7Ideal.main_arg32) = m ((c.tc : Thread Cert.Kernel7Ideal.nD Cert.Kernel7Ideal.τ).loc Cert.Kernel7Ideal.main_arg32)
      ∧ m' ((c.tc : Thread Cert.Reference7Ideal.nD Cert.Reference7Ideal.τ).loc Cert.Reference7Ideal.main_arg33) = m ((c.tc : Thread Cert.Kernel7Ideal.nD Cert.Kernel7Ideal.τ).loc Cert.Kernel7Ideal.main_arg33)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)) (v5 : (c : Dev Cert.Kernel7Ideal.nD) → Buf (Elt Ideal) ((c.tc : Thread Cert.Kernel7Ideal.nD Cert.Kernel7Ideal.τ).loc Cert.Kernel7Ideal.main_v0_5)) (v6 : (c : Dev Cert.Kernel7Ideal.nD) → Buf (Elt Ideal) ((c.tc : Thread Cert.Kernel7Ideal.nD Cert.Kernel7Ideal.τ).loc Cert.Kernel7Ideal.main_v0_6)) (v7 : (c : Dev Cert.Kernel7Ideal.nD) → Buf (Elt Ideal) ((c.tc : Thread Cert.Kernel7Ideal.nD Cert.Kernel7Ideal.τ).loc Cert.Kernel7Ideal.main_v0_7)) (v8 : (c : Dev Cert.Kernel7Ideal.nD) → Buf (Elt Ideal) ((c.tc : Thread Cert.Kernel7Ideal.nD Cert.Kernel7Ideal.τ).loc Cert.Kernel7Ideal.main_v0_8)) (v9 : (c : Dev Cert.Kernel7Ideal.nD) → Buf (Elt Ideal) ((c.tc : Thread Cert.Kernel7Ideal.nD Cert.Kernel7Ideal.τ).loc Cert.Kernel7Ideal.main_v0_9)) (v10 : (c : Dev Cert.Kernel7Ideal.nD) → Buf (Elt Ideal) ((c.tc : Thread Cert.Kernel7Ideal.nD Cert.Kernel7Ideal.τ).loc Cert.Kernel7Ideal.main_v0_10)) (v11 : (c : Dev Cert.Kernel7Ideal.nD) → Buf (Elt Ideal) ((c.tc : Thread Cert.Kernel7Ideal.nD Cert.Kernel7Ideal.τ).loc Cert.Kernel7Ideal.main_v0_11)) (v12 : (c : Dev Cert.Kernel7Ideal.nD) → Buf (Elt Ideal) ((c.tc : Thread Cert.Kernel7Ideal.nD Cert.Kernel7Ideal.τ).loc Cert.Kernel7Ideal.main_v0_12)) (v13 : (c : Dev Cert.Kernel7Ideal.nD) → Buf (Elt Ideal) ((c.tc : Thread Cert.Kernel7Ideal.nD Cert.Kernel7Ideal.τ).loc Cert.Kernel7Ideal.main_v0_13)) (v14 : (c : Dev Cert.Kernel7Ideal.nD) → Buf (Elt Ideal) ((c.tc : Thread Cert.Kernel7Ideal.nD Cert.Kernel7Ideal.τ).loc Cert.Kernel7Ideal.main_v0_14)) (v15 : (c : Dev Cert.Kernel7Ideal.nD) → Buf (Elt Ideal) ((c.tc : Thread Cert.Kernel7Ideal.nD Cert.Kernel7Ideal.τ).loc Cert.Kernel7Ideal.main_v0_15)) (v16 : (c : Dev Cert.Kernel7Ideal.nD) → Buf (Elt Ideal) ((c.tc : Thread Cert.Kernel7Ideal.nD Cert.Kernel7Ideal.τ).loc Cert.Kernel7Ideal.main_v0_16)) (v17 : (c : Dev Cert.Kernel7Ideal.nD) → Buf (Elt Ideal) ((c.tc : Thread Cert.Kernel7Ideal.nD Cert.Kernel7Ideal.τ).loc Cert.Kernel7Ideal.main_v0_17)) (v18 : (c : Dev Cert.Kernel7Ideal.nD) → Buf (Elt Ideal) ((c.tc : Thread Cert.Kernel7Ideal.nD Cert.Kernel7Ideal.τ).loc Cert.Kernel7Ideal.main_v0_18)) (v19 : (c : Dev Cert.Kernel7Ideal.nD) → Buf (Elt Ideal) ((c.tc : Thread Cert.Kernel7Ideal.nD Cert.Kernel7Ideal.τ).loc Cert.Kernel7Ideal.main_v0_19)) (v20 : (c : Dev Cert.Kernel7Ideal.nD) → Buf (Elt Ideal) ((c.tc : Thread Cert.Kernel7Ideal.nD Cert.Kernel7Ideal.τ).loc Cert.Kernel7Ideal.main_v0_20)) (v21 : (c : Dev Cert.Kernel7Ideal.nD) → Buf (Elt Ideal) ((c.tc : Thread Cert.Kernel7Ideal.nD Cert.Kernel7Ideal.τ).loc Cert.Kernel7Ideal.main_v0_21)) (v22 : (c : Dev Cert.Kernel7Ideal.nD) → Buf (Elt Ideal) ((c.tc : Thread Cert.Kernel7Ideal.nD Cert.Kernel7Ideal.τ).loc Cert.Kernel7Ideal.main_v0_22)) (v23 : (c : Dev Cert.Kernel7Ideal.nD) → Buf (Elt Ideal) ((c.tc : Thread Cert.Kernel7Ideal.nD Cert.Kernel7Ideal.τ).loc Cert.Kernel7Ideal.main_v0_23)) (v24 : (c : Dev Cert.Kernel7Ideal.nD) → Buf (Elt Ideal) ((c.tc : Thread Cert.Kernel7Ideal.nD Cert.Kernel7Ideal.τ).loc Cert.Kernel7Ideal.main_v0_24)) (v25 : (c : Dev Cert.Kernel7Ideal.nD) → Buf (Elt Ideal) ((c.tc : Thread Cert.Kernel7Ideal.nD Cert.Kernel7Ideal.τ).loc Cert.Kernel7Ideal.main_v0_25)) (v26 : (c : Dev Cert.Kernel7Ideal.nD) → Buf (Elt Ideal) ((c.tc : Thread Cert.Kernel7Ideal.nD Cert.Kernel7Ideal.τ).loc Cert.Kernel7Ideal.main_v0_26)) (v27 : (c : Dev Cert.Kernel7Ideal.nD) → Buf (Elt Ideal) ((c.tc : Thread Cert.Kernel7Ideal.nD Cert.Kernel7Ideal.τ).loc Cert.Kernel7Ideal.main_v0_27)) (v28 : (c : Dev Cert.Kernel7Ideal.nD) → Buf (Elt Ideal) ((c.tc : Thread Cert.Kernel7Ideal.nD Cert.Kernel7Ideal.τ).loc Cert.Kernel7Ideal.main_v0_28)) (v29 : (c : Dev Cert.Kernel7Ideal.nD) → Buf (Elt Ideal) ((c.tc : Thread Cert.Kernel7Ideal.nD Cert.Kernel7Ideal.τ).loc Cert.Kernel7Ideal.main_v0_29)) (v30 : (c : Dev Cert.Kernel7Ideal.nD) → Buf (Elt Ideal) ((c.tc : Thread Cert.Kernel7Ideal.nD Cert.Kernel7Ideal.τ).loc Cert.Kernel7Ideal.main_v0_30)) (v31 : (c : Dev Cert.Kernel7Ideal.nD) → Buf (Elt Ideal) ((c.tc : Thread Cert.Kernel7Ideal.nD Cert.Kernel7Ideal.τ).loc Cert.Kernel7Ideal.main_v0_31)) (v32 : (c : Dev Cert.Kernel7Ideal.nD) → Buf (Elt Ideal) ((c.tc : Thread Cert.Kernel7Ideal.nD Cert.Kernel7Ideal.τ).loc Cert.Kernel7Ideal.main_v0_32)) (v33 : (c : Dev Cert.Kernel7Ideal.nD) → Buf (Elt Ideal) ((c.tc : Thread Cert.Kernel7Ideal.nD Cert.Kernel7Ideal.τ).loc Cert.Kernel7Ideal.main_v0_33)) (v34 : (c : Dev Cert.Kernel7Ideal.nD) → Buf (Elt Ideal) ((c.tc : Thread Cert.Kernel7Ideal.nD Cert.Kernel7Ideal.τ).loc Cert.Kernel7Ideal.main_v0_34)) (v35 : (c : Dev Cert.Kernel7Ideal.nD) → Buf (Elt Ideal) ((c.tc : Thread Cert.Kernel7Ideal.nD Cert.Kernel7Ideal.τ).loc Cert.Kernel7Ideal.main_v0_35)) (v36 : (c : Dev Cert.Kernel7Ideal.nD) → Buf (Elt Ideal) ((c.tc : Thread Cert.Kernel7Ideal.nD Cert.Kernel7Ideal.τ).loc Cert.Kernel7Ideal.main_v0_36)) (v37 : (c : Dev Cert.Kernel7Ideal.nD) → Buf (Elt Ideal) ((c.tc : Thread Cert.Kernel7Ideal.nD Cert.Kernel7Ideal.τ).loc Cert.Kernel7Ideal.main_v0_37)) (v38 : (c : Dev Cert.Kernel7Ideal.nD) → Buf (Elt Ideal) ((c.tc : Thread Cert.Kernel7Ideal.nD Cert.Kernel7Ideal.τ).loc Cert.Kernel7Ideal.main_v0_38)) (v39 : (c : Dev Cert.Kernel7Ideal.nD) → Buf (Elt Ideal) ((c.tc : Thread Cert.Kernel7Ideal.nD Cert.Kernel7Ideal.τ).loc Cert.Kernel7Ideal.main_v0_39)) (v40 : (c : Dev Cert.Kernel7Ideal.nD) → Buf (Elt Ideal) ((c.tc : Thread Cert.Kernel7Ideal.nD Cert.Kernel7Ideal.τ).loc Cert.Kernel7Ideal.main_v0_40)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_v0_5) = v5 c
          ∧ r.2.mem ((c.tc : Thread Cert.Kernel7Ideal.nD Cert.Kernel7Ideal.τ).loc Cert.Kernel7Ideal.main_v0_6) = v6 c
          ∧ r.2.mem ((c.tc : Thread Cert.Kernel7Ideal.nD Cert.Kernel7Ideal.τ).loc Cert.Kernel7Ideal.main_v0_7) = v7 c
          ∧ r.2.mem ((c.tc : Thread Cert.Kernel7Ideal.nD Cert.Kernel7Ideal.τ).loc Cert.Kernel7Ideal.main_v0_8) = v8 c
          ∧ r.2.mem ((c.tc : Thread Cert.Kernel7Ideal.nD Cert.Kernel7Ideal.τ).loc Cert.Kernel7Ideal.main_v0_9) = v9 c
          ∧ r.2.mem ((c.tc : Thread Cert.Kernel7Ideal.nD Cert.Kernel7Ideal.τ).loc Cert.Kernel7Ideal.main_v0_10) = v10 c
          ∧ r.2.mem ((c.tc : Thread Cert.Kernel7Ideal.nD Cert.Kernel7Ideal.τ).loc Cert.Kernel7Ideal.main_v0_11) = v11 c
          ∧ r.2.mem ((c.tc : Thread Cert.Kernel7Ideal.nD Cert.Kernel7Ideal.τ).loc Cert.Kernel7Ideal.main_v0_12) = v12 c
          ∧ r.2.mem ((c.tc : Thread Cert.Kernel7Ideal.nD Cert.Kernel7Ideal.τ).loc Cert.Kernel7Ideal.main_v0_13) = v13 c
          ∧ r.2.mem ((c.tc : Thread Cert.Kernel7Ideal.nD Cert.Kernel7Ideal.τ).loc Cert.Kernel7Ideal.main_v0_14) = v14 c
          ∧ r.2.mem ((c.tc : Thread Cert.Kernel7Ideal.nD Cert.Kernel7Ideal.τ).loc Cert.Kernel7Ideal.main_v0_15) = v15 c
          ∧ r.2.mem ((c.tc : Thread Cert.Kernel7Ideal.nD Cert.Kernel7Ideal.τ).loc Cert.Kernel7Ideal.main_v0_16) = v16 c
          ∧ r.2.mem ((c.tc : Thread Cert.Kernel7Ideal.nD Cert.Kernel7Ideal.τ).loc Cert.Kernel7Ideal.main_v0_17) = v17 c
          ∧ r.2.mem ((c.tc : Thread Cert.Kernel7Ideal.nD Cert.Kernel7Ideal.τ).loc Cert.Kernel7Ideal.main_v0_18) = v18 c
          ∧ r.2.mem ((c.tc : Thread Cert.Kernel7Ideal.nD Cert.Kernel7Ideal.τ).loc Cert.Kernel7Ideal.main_v0_19) = v19 c
          ∧ r.2.mem ((c.tc : Thread Cert.Kernel7Ideal.nD Cert.Kernel7Ideal.τ).loc Cert.Kernel7Ideal.main_v0_20) = v20 c
          ∧ r.2.mem ((c.tc : Thread Cert.Kernel7Ideal.nD Cert.Kernel7Ideal.τ).loc Cert.Kernel7Ideal.main_v0_21) = v21 c
          ∧ r.2.mem ((c.tc : Thread Cert.Kernel7Ideal.nD Cert.Kernel7Ideal.τ).loc Cert.Kernel7Ideal.main_v0_22) = v22 c
          ∧ r.2.mem ((c.tc : Thread Cert.Kernel7Ideal.nD Cert.Kernel7Ideal.τ).loc Cert.Kernel7Ideal.main_v0_23) = v23 c
          ∧ r.2.mem ((c.tc : Thread Cert.Kernel7Ideal.nD Cert.Kernel7Ideal.τ).loc Cert.Kernel7Ideal.main_v0_24) = v24 c
          ∧ r.2.mem ((c.tc : Thread Cert.Kernel7Ideal.nD Cert.Kernel7Ideal.τ).loc Cert.Kernel7Ideal.main_v0_25) = v25 c
          ∧ r.2.mem ((c.tc : Thread Cert.Kernel7Ideal.nD Cert.Kernel7Ideal.τ).loc Cert.Kernel7Ideal.main_v0_26) = v26 c
          ∧ r.2.mem ((c.tc : Thread Cert.Kernel7Ideal.nD Cert.Kernel7Ideal.τ).loc Cert.Kernel7Ideal.main_v0_27) = v27 c
          ∧ r.2.mem ((c.tc : Thread Cert.Kernel7Ideal.nD Cert.Kernel7Ideal.τ).loc Cert.Kernel7Ideal.main_v0_28) = v28 c
          ∧ r.2.mem ((c.tc : Thread Cert.Kernel7Ideal.nD Cert.Kernel7Ideal.τ).loc Cert.Kernel7Ideal.main_v0_29) = v29 c
          ∧ r.2.mem ((c.tc : Thread Cert.Kernel7Ideal.nD Cert.Kernel7Ideal.τ).loc Cert.Kernel7Ideal.main_v0_30) = v30 c
          ∧ r.2.mem ((c.tc : Thread Cert.Kernel7Ideal.nD Cert.Kernel7Ideal.τ).loc Cert.Kernel7Ideal.main_v0_31) = v31 c
          ∧ r.2.mem ((c.tc : Thread Cert.Kernel7Ideal.nD Cert.Kernel7Ideal.τ).loc Cert.Kernel7Ideal.main_v0_32) = v32 c
          ∧ r.2.mem ((c.tc : Thread Cert.Kernel7Ideal.nD Cert.Kernel7Ideal.τ).loc Cert.Kernel7Ideal.main_v0_33) = v33 c
          ∧ r.2.mem ((c.tc : Thread Cert.Kernel7Ideal.nD Cert.Kernel7Ideal.τ).loc Cert.Kernel7Ideal.main_v0_34) = v34 c
          ∧ r.2.mem ((c.tc : Thread Cert.Kernel7Ideal.nD Cert.Kernel7Ideal.τ).loc Cert.Kernel7Ideal.main_v0_35) = v35 c
          ∧ r.2.mem ((c.tc : Thread Cert.Kernel7Ideal.nD Cert.Kernel7Ideal.τ).loc Cert.Kernel7Ideal.main_v0_36) = v36 c
          ∧ r.2.mem ((c.tc : Thread Cert.Kernel7Ideal.nD Cert.Kernel7Ideal.τ).loc Cert.Kernel7Ideal.main_v0_37) = v37 c
          ∧ r.2.mem ((c.tc : Thread Cert.Kernel7Ideal.nD Cert.Kernel7Ideal.τ).loc Cert.Kernel7Ideal.main_v0_38) = v38 c
          ∧ r.2.mem ((c.tc : Thread Cert.Kernel7Ideal.nD Cert.Kernel7Ideal.τ).loc Cert.Kernel7Ideal.main_v0_39) = v39 c
          ∧ r.2.mem ((c.tc : Thread Cert.Kernel7Ideal.nD Cert.Kernel7Ideal.τ).loc Cert.Kernel7Ideal.main_v0_40) = v40 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
          ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
          ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
          ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19)
          ∧ r.2.mem ((c.tc : Thread Cert.Kernel7Ideal.nD Cert.Kernel7Ideal.τ).loc Cert.Kernel7Ideal.main_arg20) = m ((c.tc : Thread Cert.Kernel7Ideal.nD Cert.Kernel7Ideal.τ).loc Cert.Kernel7Ideal.main_arg20)
          ∧ r.2.mem ((c.tc : Thread Cert.Kernel7Ideal.nD Cert.Kernel7Ideal.τ).loc Cert.Kernel7Ideal.main_arg21) = m ((c.tc : Thread Cert.Kernel7Ideal.nD Cert.Kernel7Ideal.τ).loc Cert.Kernel7Ideal.main_arg21)
          ∧ r.2.mem ((c.tc : Thread Cert.Kernel7Ideal.nD Cert.Kernel7Ideal.τ).loc Cert.Kernel7Ideal.main_arg22) = m ((c.tc : Thread Cert.Kernel7Ideal.nD Cert.Kernel7Ideal.τ).loc Cert.Kernel7Ideal.main_arg22)
          ∧ r.2.mem ((c.tc : Thread Cert.Kernel7Ideal.nD Cert.Kernel7Ideal.τ).loc Cert.Kernel7Ideal.main_arg23) = m ((c.tc : Thread Cert.Kernel7Ideal.nD Cert.Kernel7Ideal.τ).loc Cert.Kernel7Ideal.main_arg23)
          ∧ r.2.mem ((c.tc : Thread Cert.Kernel7Ideal.nD Cert.Kernel7Ideal.τ).loc Cert.Kernel7Ideal.main_arg24) = m ((c.tc : Thread Cert.Kernel7Ideal.nD Cert.Kernel7Ideal.τ).loc Cert.Kernel7Ideal.main_arg24)
          ∧ r.2.mem ((c.tc : Thread Cert.Kernel7Ideal.nD Cert.Kernel7Ideal.τ).loc Cert.Kernel7Ideal.main_arg25) = m ((c.tc : Thread Cert.Kernel7Ideal.nD Cert.Kernel7Ideal.τ).loc Cert.Kernel7Ideal.main_arg25)
          ∧ r.2.mem ((c.tc : Thread Cert.Kernel7Ideal.nD Cert.Kernel7Ideal.τ).loc Cert.Kernel7Ideal.main_arg26) = m ((c.tc : Thread Cert.Kernel7Ideal.nD Cert.Kernel7Ideal.τ).loc Cert.Kernel7Ideal.main_arg26)
          ∧ r.2.mem ((c.tc : Thread Cert.Kernel7Ideal.nD Cert.Kernel7Ideal.τ).loc Cert.Kernel7Ideal.main_arg27) = m ((c.tc : Thread Cert.Kernel7Ideal.nD Cert.Kernel7Ideal.τ).loc Cert.Kernel7Ideal.main_arg27)
          ∧ r.2.mem ((c.tc : Thread Cert.Kernel7Ideal.nD Cert.Kernel7Ideal.τ).loc Cert.Kernel7Ideal.main_arg28) = m ((c.tc : Thread Cert.Kernel7Ideal.nD Cert.Kernel7Ideal.τ).loc Cert.Kernel7Ideal.main_arg28)
          ∧ r.2.mem ((c.tc : Thread Cert.Kernel7Ideal.nD Cert.Kernel7Ideal.τ).loc Cert.Kernel7Ideal.main_arg29) = m ((c.tc : Thread Cert.Kernel7Ideal.nD Cert.Kernel7Ideal.τ).loc Cert.Kernel7Ideal.main_arg29)
          ∧ r.2.mem ((c.tc : Thread Cert.Kernel7Ideal.nD Cert.Kernel7Ideal.τ).loc Cert.Kernel7Ideal.main_arg30) = m ((c.tc : Thread Cert.Kernel7Ideal.nD Cert.Kernel7Ideal.τ).loc Cert.Kernel7Ideal.main_arg30)
          ∧ r.2.mem ((c.tc : Thread Cert.Kernel7Ideal.nD Cert.Kernel7Ideal.τ).loc Cert.Kernel7Ideal.main_arg31) = m ((c.tc : Thread Cert.Kernel7Ideal.nD Cert.Kernel7Ideal.τ).loc Cert.Kernel7Ideal.main_arg31)
          ∧ r.2.mem ((c.tc : Thread Cert.Kernel7Ideal.nD Cert.Kernel7Ideal.τ).loc Cert.Kernel7Ideal.main_arg32) = m ((c.tc : Thread Cert.Kernel7Ideal.nD Cert.Kernel7Ideal.τ).loc Cert.Kernel7Ideal.main_arg32)
          ∧ r.2.mem ((c.tc : Thread Cert.Kernel7Ideal.nD Cert.Kernel7Ideal.τ).loc Cert.Kernel7Ideal.main_arg33) = m ((c.tc : Thread Cert.Kernel7Ideal.nD Cert.Kernel7Ideal.τ).loc Cert.Kernel7Ideal.main_arg33))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v35) = v1 c
          ∧ r.2.mem ((c.tc : Thread Cert.Reference7Ideal.nD Cert.Reference7Ideal.τ).loc Cert.Reference7Ideal.main_v16) = v2 c
          ∧ r.2.mem ((c.tc : Thread Cert.Reference7Ideal.nD Cert.Reference7Ideal.τ).loc Cert.Reference7Ideal.main_v22) = v3 c
          ∧ r.2.mem ((c.tc : Thread Cert.Reference7Ideal.nD Cert.Reference7Ideal.τ).loc Cert.Reference7Ideal.main_v3) = v4 c
          ∧ r.2.mem ((c.tc : Thread Cert.Reference7Ideal.nD Cert.Reference7Ideal.τ).loc Cert.Reference7Ideal.main_v59) = v5 c
          ∧ r.2.mem ((c.tc : Thread Cert.Reference7Ideal.nD Cert.Reference7Ideal.τ).loc Cert.Reference7Ideal.main_v40) = v6 c
          ∧ r.2.mem ((c.tc : Thread Cert.Reference7Ideal.nD Cert.Reference7Ideal.τ).loc Cert.Reference7Ideal.main_v46) = v7 c
          ∧ r.2.mem ((c.tc : Thread Cert.Reference7Ideal.nD Cert.Reference7Ideal.τ).loc Cert.Reference7Ideal.main_v4) = v8 c
          ∧ r.2.mem ((c.tc : Thread Cert.Reference7Ideal.nD Cert.Reference7Ideal.τ).loc Cert.Reference7Ideal.main_v83) = v9 c
          ∧ r.2.mem ((c.tc : Thread Cert.Reference7Ideal.nD Cert.Reference7Ideal.τ).loc Cert.Reference7Ideal.main_v64) = v10 c
          ∧ r.2.mem ((c.tc : Thread Cert.Reference7Ideal.nD Cert.Reference7Ideal.τ).loc Cert.Reference7Ideal.main_v70) = v11 c
          ∧ r.2.mem ((c.tc : Thread Cert.Reference7Ideal.nD Cert.Reference7Ideal.τ).loc Cert.Reference7Ideal.main_v5) = v12 c
          ∧ r.2.mem ((c.tc : Thread Cert.Reference7Ideal.nD Cert.Reference7Ideal.τ).loc Cert.Reference7Ideal.main_v107) = v13 c
          ∧ r.2.mem ((c.tc : Thread Cert.Reference7Ideal.nD Cert.Reference7Ideal.τ).loc Cert.Reference7Ideal.main_v88) = v14 c
          ∧ r.2.mem ((c.tc : Thread Cert.Reference7Ideal.nD Cert.Reference7Ideal.τ).loc Cert.Reference7Ideal.main_v94) = v15 c
          ∧ r.2.mem ((c.tc : Thread Cert.Reference7Ideal.nD Cert.Reference7Ideal.τ).loc Cert.Reference7Ideal.main_v6) = v16 c
          ∧ r.2.mem ((c.tc : Thread Cert.Reference7Ideal.nD Cert.Reference7Ideal.τ).loc Cert.Reference7Ideal.main_v131) = v17 c
          ∧ r.2.mem ((c.tc : Thread Cert.Reference7Ideal.nD Cert.Reference7Ideal.τ).loc Cert.Reference7Ideal.main_v112) = v18 c
          ∧ r.2.mem ((c.tc : Thread Cert.Reference7Ideal.nD Cert.Reference7Ideal.τ).loc Cert.Reference7Ideal.main_v118) = v19 c
          ∧ r.2.mem ((c.tc : Thread Cert.Reference7Ideal.nD Cert.Reference7Ideal.τ).loc Cert.Reference7Ideal.main_v7) = v20 c
          ∧ r.2.mem ((c.tc : Thread Cert.Reference7Ideal.nD Cert.Reference7Ideal.τ).loc Cert.Reference7Ideal.main_v155) = v21 c
          ∧ r.2.mem ((c.tc : Thread Cert.Reference7Ideal.nD Cert.Reference7Ideal.τ).loc Cert.Reference7Ideal.main_v136) = v22 c
          ∧ r.2.mem ((c.tc : Thread Cert.Reference7Ideal.nD Cert.Reference7Ideal.τ).loc Cert.Reference7Ideal.main_v142) = v23 c
          ∧ r.2.mem ((c.tc : Thread Cert.Reference7Ideal.nD Cert.Reference7Ideal.τ).loc Cert.Reference7Ideal.main_v8) = v24 c
          ∧ r.2.mem ((c.tc : Thread Cert.Reference7Ideal.nD Cert.Reference7Ideal.τ).loc Cert.Reference7Ideal.main_v179) = v25 c
          ∧ r.2.mem ((c.tc : Thread Cert.Reference7Ideal.nD Cert.Reference7Ideal.τ).loc Cert.Reference7Ideal.main_v160) = v26 c
          ∧ r.2.mem ((c.tc : Thread Cert.Reference7Ideal.nD Cert.Reference7Ideal.τ).loc Cert.Reference7Ideal.main_v166) = v27 c
          ∧ r.2.mem ((c.tc : Thread Cert.Reference7Ideal.nD Cert.Reference7Ideal.τ).loc Cert.Reference7Ideal.main_v9) = v28 c
          ∧ r.2.mem ((c.tc : Thread Cert.Reference7Ideal.nD Cert.Reference7Ideal.τ).loc Cert.Reference7Ideal.main_v203) = v29 c
          ∧ r.2.mem ((c.tc : Thread Cert.Reference7Ideal.nD Cert.Reference7Ideal.τ).loc Cert.Reference7Ideal.main_v184) = v30 c
          ∧ r.2.mem ((c.tc : Thread Cert.Reference7Ideal.nD Cert.Reference7Ideal.τ).loc Cert.Reference7Ideal.main_v190) = v31 c
          ∧ r.2.mem ((c.tc : Thread Cert.Reference7Ideal.nD Cert.Reference7Ideal.τ).loc Cert.Reference7Ideal.main_v10) = v32 c
          ∧ r.2.mem ((c.tc : Thread Cert.Reference7Ideal.nD Cert.Reference7Ideal.τ).loc Cert.Reference7Ideal.main_v227) = v33 c
          ∧ r.2.mem ((c.tc : Thread Cert.Reference7Ideal.nD Cert.Reference7Ideal.τ).loc Cert.Reference7Ideal.main_v208) = v34 c
          ∧ r.2.mem ((c.tc : Thread Cert.Reference7Ideal.nD Cert.Reference7Ideal.τ).loc Cert.Reference7Ideal.main_v214) = v35 c
          ∧ r.2.mem ((c.tc : Thread Cert.Reference7Ideal.nD Cert.Reference7Ideal.τ).loc Cert.Reference7Ideal.main_v11) = v36 c
          ∧ r.2.mem ((c.tc : Thread Cert.Reference7Ideal.nD Cert.Reference7Ideal.τ).loc Cert.Reference7Ideal.main_v251) = v37 c
          ∧ r.2.mem ((c.tc : Thread Cert.Reference7Ideal.nD Cert.Reference7Ideal.τ).loc Cert.Reference7Ideal.main_v232) = v38 c
          ∧ r.2.mem ((c.tc : Thread Cert.Reference7Ideal.nD Cert.Reference7Ideal.τ).loc Cert.Reference7Ideal.main_v238) = v39 c
          ∧ r.2.mem ((c.tc : Thread Cert.Reference7Ideal.nD Cert.Reference7Ideal.τ).loc Cert.Reference7Ideal.main_v254) = v40 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16)
          ∧ r.2.mem ((c.tc : Thread Cert.Reference7Ideal.nD Cert.Reference7Ideal.τ).loc Cert.Reference7Ideal.main_arg17) = m' ((c.tc : Thread Cert.Reference7Ideal.nD Cert.Reference7Ideal.τ).loc Cert.Reference7Ideal.main_arg17)
          ∧ r.2.mem ((c.tc : Thread Cert.Reference7Ideal.nD Cert.Reference7Ideal.τ).loc Cert.Reference7Ideal.main_arg18) = m' ((c.tc : Thread Cert.Reference7Ideal.nD Cert.Reference7Ideal.τ).loc Cert.Reference7Ideal.main_arg18)
          ∧ r.2.mem ((c.tc : Thread Cert.Reference7Ideal.nD Cert.Reference7Ideal.τ).loc Cert.Reference7Ideal.main_arg19) = m' ((c.tc : Thread Cert.Reference7Ideal.nD Cert.Reference7Ideal.τ).loc Cert.Reference7Ideal.main_arg19)
          ∧ r.2.mem ((c.tc : Thread Cert.Reference7Ideal.nD Cert.Reference7Ideal.τ).loc Cert.Reference7Ideal.main_arg20) = m' ((c.tc : Thread Cert.Reference7Ideal.nD Cert.Reference7Ideal.τ).loc Cert.Reference7Ideal.main_arg20)
          ∧ r.2.mem ((c.tc : Thread Cert.Reference7Ideal.nD Cert.Reference7Ideal.τ).loc Cert.Reference7Ideal.main_arg21) = m' ((c.tc : Thread Cert.Reference7Ideal.nD Cert.Reference7Ideal.τ).loc Cert.Reference7Ideal.main_arg21)
          ∧ r.2.mem ((c.tc : Thread Cert.Reference7Ideal.nD Cert.Reference7Ideal.τ).loc Cert.Reference7Ideal.main_arg22) = m' ((c.tc : Thread Cert.Reference7Ideal.nD Cert.Reference7Ideal.τ).loc Cert.Reference7Ideal.main_arg22)
          ∧ r.2.mem ((c.tc : Thread Cert.Reference7Ideal.nD Cert.Reference7Ideal.τ).loc Cert.Reference7Ideal.main_arg23) = m' ((c.tc : Thread Cert.Reference7Ideal.nD Cert.Reference7Ideal.τ).loc Cert.Reference7Ideal.main_arg23)
          ∧ r.2.mem ((c.tc : Thread Cert.Reference7Ideal.nD Cert.Reference7Ideal.τ).loc Cert.Reference7Ideal.main_arg24) = m' ((c.tc : Thread Cert.Reference7Ideal.nD Cert.Reference7Ideal.τ).loc Cert.Reference7Ideal.main_arg24)
          ∧ r.2.mem ((c.tc : Thread Cert.Reference7Ideal.nD Cert.Reference7Ideal.τ).loc Cert.Reference7Ideal.main_arg25) = m' ((c.tc : Thread Cert.Reference7Ideal.nD Cert.Reference7Ideal.τ).loc Cert.Reference7Ideal.main_arg25)
          ∧ r.2.mem ((c.tc : Thread Cert.Reference7Ideal.nD Cert.Reference7Ideal.τ).loc Cert.Reference7Ideal.main_arg26) = m' ((c.tc : Thread Cert.Reference7Ideal.nD Cert.Reference7Ideal.τ).loc Cert.Reference7Ideal.main_arg26)
          ∧ r.2.mem ((c.tc : Thread Cert.Reference7Ideal.nD Cert.Reference7Ideal.τ).loc Cert.Reference7Ideal.main_arg27) = m' ((c.tc : Thread Cert.Reference7Ideal.nD Cert.Reference7Ideal.τ).loc Cert.Reference7Ideal.main_arg27)
          ∧ r.2.mem ((c.tc : Thread Cert.Reference7Ideal.nD Cert.Reference7Ideal.τ).loc Cert.Reference7Ideal.main_arg28) = m' ((c.tc : Thread Cert.Reference7Ideal.nD Cert.Reference7Ideal.τ).loc Cert.Reference7Ideal.main_arg28)
          ∧ r.2.mem ((c.tc : Thread Cert.Reference7Ideal.nD Cert.Reference7Ideal.τ).loc Cert.Reference7Ideal.main_arg29) = m' ((c.tc : Thread Cert.Reference7Ideal.nD Cert.Reference7Ideal.τ).loc Cert.Reference7Ideal.main_arg29)
          ∧ r.2.mem ((c.tc : Thread Cert.Reference7Ideal.nD Cert.Reference7Ideal.τ).loc Cert.Reference7Ideal.main_arg30) = m' ((c.tc : Thread Cert.Reference7Ideal.nD Cert.Reference7Ideal.τ).loc Cert.Reference7Ideal.main_arg30)
          ∧ r.2.mem ((c.tc : Thread Cert.Reference7Ideal.nD Cert.Reference7Ideal.τ).loc Cert.Reference7Ideal.main_arg31) = m' ((c.tc : Thread Cert.Reference7Ideal.nD Cert.Reference7Ideal.τ).loc Cert.Reference7Ideal.main_arg31)
          ∧ r.2.mem ((c.tc : Thread Cert.Reference7Ideal.nD Cert.Reference7Ideal.τ).loc Cert.Reference7Ideal.main_arg32) = m' ((c.tc : Thread Cert.Reference7Ideal.nD Cert.Reference7Ideal.τ).loc Cert.Reference7Ideal.main_arg32)
          ∧ r.2.mem ((c.tc : Thread Cert.Reference7Ideal.nD Cert.Reference7Ideal.τ).loc Cert.Reference7Ideal.main_arg33) = m' ((c.tc : Thread Cert.Reference7Ideal.nD Cert.Reference7Ideal.τ).loc Cert.Reference7Ideal.main_arg33))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_state : Cert.Pre_finite_state.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_state (hKernel6Ideal := hKernel6Ideal) (hPre_finite_state := hPre_finite_state)
    ∧ quiescent_Reference6Ideal (hReference6Ideal := hReference6Ideal)
    ∧ quiescent_Reference6Ideal_pre_finite_state (hReference6Ideal := hReference6Ideal) (hPre_finite_state := hPre_finite_state)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_state (hKernel6Ideal := hKernel6Ideal) (hReference6Ideal := hReference6Ideal) (hPre_finite_state := hPre_finite_state)
    ∧ preserves_Kernel7_Kernel7Ideal
    ∧ algebraic_Kernel7Ideal_Reference7Ideal (hKernel7Ideal := hKernel7Ideal) (hReference7Ideal := hReference7Ideal)
-- ==== Pre_finite_state.lean ====
abbrev S4096x6656 : Shape := ⟨2, ![4096, 6656]⟩
abbrev S4096x1024 : Shape := ⟨2, ![4096, 1024]⟩
abbrev S64x128 : Shape := ⟨2, ![64, 128]⟩
abbrev S1x1024 : Shape := ⟨2, ![1, 1024]⟩
abbrev S8x128x128 : Shape := ⟨3, ![8, 128, 128]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32

variable [Facts]

def fn {F : FTy → Type} [FloatOps F] (main_arg0 : FVec F S4096x6656 .bf16) (main_arg1 : FVec F S4096x1024 .f32) (main_arg2 : FVec F S4096x1024 .bf16) (main_arg3 : FVec F S64x128 .f32) (main_arg4 : FVec F S1x1024 .f32) (main_arg5 : FVec F S8x128x128 .f32) (main_arg6 : FVec F S1x1024 .f32) (main_arg7 : FVec F S8x128x128 .f32) (main_arg8 : FVec F S1x1024 .f32) (main_arg9 : FVec F S1x1024 .f32) : IVec S4096x1024 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := (extf .f32 · bitsLt_bf16_f32) main_arg2
  let main_v4 : FVec F S4096x1024 .f32 := Host.absf main_v3
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : IVec S4096x1024 1 := andi main_v2 main_v6
  main_v7
-- ==== Kernel.lean ====
abbrev S4096x1024 : Shape := ⟨2, ![4096, 1024]⟩
abbrev S4096x6656 : Shape := ⟨2, ![4096, 6656]⟩
abbrev S1024x1024 : Shape := ⟨2, ![1024, 1024]⟩
abbrev S1x1024 : Shape := ⟨2, ![1, 1024]⟩
abbrev S8x1024 : Shape := ⟨2, ![8, 1024]⟩
abbrev S512x1024 : Shape := ⟨2, ![512, 1024]⟩
abbrev S512x512 : Shape := ⟨2, ![512, 512]⟩
abbrev S3 : Shape := ⟨1, ![3]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩
abbrev S_ : Shape := ⟨0, ![]⟩

abbrev nBuf : Space → Nat
  | .hbm => 19
  | .vmem => 35
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x6656, .bf16⟩
  | .hbm, ⟨3, _⟩ => ⟨S4096x1024, .bf16⟩
  | .hbm, ⟨4, _⟩ => ⟨S4096x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S8x1024, .f32⟩
  | .hbm, ⟨15, _⟩ => ⟨S8x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S8x1024, .f32⟩
  | .local _ .vmem, ⟨31, _⟩ => ⟨S8x1024, .f32⟩
  | .local _ .vmem, ⟨32, _⟩ => ⟨S1024x1024, .f32⟩
  | .local _ .vmem, ⟨33, _⟩ => ⟨S1024x1024, .f32⟩
  | .local _ .vmem, ⟨34, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev main_v0_9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg18_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S4096x1024 : Shape := ⟨2, ![4096, 1024]⟩
abbrev S4096x6656 : Shape := ⟨2, ![4096, 6656]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩
abbrev S7x1024 : Shape := ⟨2, ![7, 1024]⟩

abbrev nBuf : Space → Nat
  | .hbm => 139
  | .vmem => 0
  | .smem => 0
  | _ => 0

abbrev hbmTy0_0 (i : Nat) : BufTy := match i % 128 with
  | 0 => ⟨S4096x1024, .f32⟩
  | 1 => ⟨S4096x1024, .f32⟩
  | 2 => ⟨S4096x6656, .bf16⟩
  | 3 => ⟨S4096x1024, .bf16⟩
  | 4 => ⟨S4096x1024, .bf16⟩
  | 5 => ⟨S1024x1024, .bf16⟩
  | 6 => ⟨S1024x1024, .bf16⟩
  | 7 => ⟨S1024x1024, .bf16⟩
  | 8 => ⟨S1x1024, .f32⟩
  | 9 => ⟨S4096x1024, .bf16⟩
  | 10 => ⟨S4096x1024, .bf16⟩
  | 11 => ⟨S4096x1024, .f32⟩
  | 12 => ⟨S4096x1024, .f32⟩
  | 13 => ⟨S4096x1024, .f32⟩
  | 14 => ⟨S4096x1024, .f32⟩
  | 15 => ⟨S1024x1024, .f32⟩
  | 16 => ⟨S1024x1024, .f32⟩
  | 17 => ⟨S1024x1024, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S_, .f32⟩
  | 51 => ⟨S4096, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S_, .f32⟩
  | 71 => ⟨S4096x1024, .f32⟩
  | 72 => ⟨S4096x1024, .f32⟩
  | 73 => ⟨S_, .f32⟩
  | 74 => ⟨S4096, .f32⟩
  | 75 => ⟨S_, .f32⟩
  | 76 => ⟨S4096, .f32⟩
  | 77 => ⟨S4096, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S4096, .f32⟩
  | 86 => ⟨S_, .f32⟩
  | 87 => ⟨S4096, .f32⟩
  | 88 => ⟨S4096, .f32⟩
  | 89 => ⟨S4096x1024, .f32⟩
  | 90 => ⟨S4096x1024, .f32⟩
  | 91 => ⟨S4096x1024, .f32⟩
  | 92 => ⟨S_, .f32⟩
  | 93 => ⟨S1024, .f32⟩
  | 94 => ⟨S1x1024, .f32⟩
  | 95 => ⟨S4096x1024, .f32⟩
  | 96 => ⟨S4096x1024, .f32⟩
  | 97 => ⟨S4096x1024, .f32⟩
  | 98 => ⟨S_, .f32⟩
  | 99 => ⟨S4096, .f32⟩
  | 100 => ⟨S4096x1, .f32⟩
  | 101 => ⟨S4096x1024, .f32⟩
  | 102 => ⟨S4096x1024, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S1024x1024, .f32⟩
  | 115 => ⟨S1024x1024, .f32⟩
  | 116 => ⟨S4096x1024, .f32⟩
  | 117 => ⟨S4096x1024, .f32⟩
  | 118 => ⟨S4096x1024, .f32⟩
  | 119 => ⟨S1024x1024, .f32⟩
  | 120 => ⟨S1024x1024, .f32⟩
  | 121 => ⟨S4096x1024, .f32⟩
  | 122 => ⟨S4096x1024, .f32⟩
  | 123 => ⟨S4096x1024, .f32⟩
  | 124 => ⟨S4096x1024, .f32⟩
  | 125 => ⟨S1024x1024, .f32⟩
  | 126 => ⟨S1024x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .bf16⟩
  | 2 => ⟨S4096x1024, .bf16⟩
  | 3 => ⟨S4096x1024, .bf16⟩
  | 4 => ⟨S4096x1024, .bf16⟩
  | 5 => ⟨S_, .f32⟩
  | 6 => ⟨S_, .f32⟩
  | 7 => ⟨S8x1024, .f32⟩
  | 8 => ⟨S_, .f32⟩
  | 9 => ⟨S7x1024, .f32⟩
  | 10 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_cst_14 : Ref sig .tc := ⟨.hbm, 82, rfl⟩
abbrev main_cst_15 : Ref sig .tc := ⟨.hbm, 83, rfl⟩
abbrev main_v58 : Ref sig .tc := ⟨.hbm, 84, rfl⟩
abbrev main_v59 : Ref sig .tc := ⟨.hbm, 85, rfl⟩
abbrev main_cst_16 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_17 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_18 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_19 : Ref sig .tc := ⟨.hbm, 104, rfl⟩
abbrev main_v75 : Ref sig .tc := ⟨.hbm, 105, rfl⟩
abbrev main_v76 : Ref sig .tc := ⟨.hbm, 106, rfl⟩
abbrev main_cst_20 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_21 : Ref sig .tc := ⟨.hbm, 133, rfl⟩
abbrev main_v102 : Ref sig .tc := ⟨.hbm, 134, rfl⟩
abbrev main_v103 : Ref sig .tc := ⟨.hbm, 135, rfl⟩
abbrev main_cst_22 : Ref sig .tc := ⟨.hbm, 136, rfl⟩
abbrev main_v104 : Ref sig .tc := ⟨.hbm, 137, rfl⟩
abbrev main_v105 : Ref sig .tc := ⟨.hbm, 138, rfl⟩

abbrev nD : Nat := 1
abbrev τ : Topo := Topo.v7x

variable {F : FTy → Type} [FloatOps F]
-- ==== Kernel2.lean ====
abbrev S4096x1024 : Shape := ⟨2, ![4096, 1024]⟩
abbrev S4096x512 : Shape := ⟨2, ![4096, 512]⟩
abbrev S6656x1024 : Shape := ⟨2, ![6656, 1024]⟩
abbrev S1x1024 : Shape := ⟨2, ![1, 1024]⟩
abbrev S8x1024 : Shape := ⟨2, ![8, 1024]⟩
abbrev S512x1024 : Shape := ⟨2, ![512, 1024]⟩
abbrev S512x512 : Shape := ⟨2, ![512, 512]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x512, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S6656x1024, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S6656x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S6656x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S4096x1024 : Shape := ⟨2, ![4096, 1024]⟩
abbrev S4096x512 : Shape := ⟨2, ![4096, 512]⟩
abbrev S6656x1024 : Shape := ⟨2, ![6656, 1024]⟩
abbrev S1x1024 : Shape := ⟨2, ![1, 1024]⟩
abbrev S4096x6656 : Shape := ⟨2, ![4096, 6656]⟩
abbrev S_ : Shape := ⟨0, ![]⟩
abbrev S4096 : Shape := ⟨1, ![4096]⟩
abbrev S4096x1 : Shape := ⟨2, ![4096, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x512, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S6656x1024, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x6656, .bf16⟩
  | .hbm, ⟨12, _⟩ => ⟨S4096x6656, .f32⟩
  | .hbm, ⟨13, _⟩ => ⟨S6656x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x6656, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S7x1024, .f32⟩
  | .hbm, ⟨61, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Kernel3.lean ====
abbrev S4096x1024 : Shape := ⟨2, ![4096, 1024]⟩
abbrev S4096x512 : Shape := ⟨2, ![4096, 512]⟩
abbrev S6656x1024 : Shape := ⟨2, ![6656, 1024]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x512, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S6656x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S4096x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![13, 2], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond9 (i : grid0.Coords) : BitVec 1 :=
  let arg1 : BitVec 32 := BitVec.ofNat 32 (i 1).val
  let c1_i32 : BitVec 32 := 1#32
  let v42 : BitVec 1 := Scalar.cmpi .eq arg1 c1_i32
  let v43 : BitVec 32 := Scalar.extui v42
  let c0_i32_15 : BitVec 32 := 0#32
  let v44 : BitVec 1 := Scalar.cmpi .ne v43 c0_i32_15
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let c0_i32_0 : BitVec 32 := 0#32
  let v3 : BitVec 32 := Scalar.subi arg0 c0_i32_0
  let c0_i32_1 : BitVec 32 := 0#32
  let c1_i32 : BitVec 32 := 1#32
  let v4 : BitVec 32 := Scalar.maxsi c0_i32_1 v3
  let v5 : BitVec 32 := Scalar.minsi c1_i32 v4
  let c2_i32_2 : BitVec 32 := 2#32
  let v6 : BitVec 1 := Scalar.cmpi .sge arg0 c2_i32_2
  let c4_i32 : BitVec 32 := 4#32
  let v7 : BitVec 1 := Scalar.cmpi .slt arg0 c4_i32
  let v8 : BitVec 1 := Scalar.andi v6 v7
  let c2_i32_3 : BitVec 32 := 2#32
  let v9 : BitVec 32 := Scalar.subi arg0 c2_i32_3
  let c0_i32_4 : BitVec 32 := 0#32
  let c1_i32_5 : BitVec 32 := 1#32
  let v10 : BitVec 32 := Scalar.maxsi c0_i32_4 v9
  let v11 : BitVec 32 := Scalar.minsi c1_i32_5 v10
  let c4_i32_6 : BitVec 32 := 4#32
  let v12 : BitVec 1 := Scalar.cmpi .sge arg0 c4_i32_6
  let c6_i32 : BitVec 32 := 6#32
  let v13 : BitVec 1 := Scalar.cmpi .slt arg0 c6_i32
  let v14 : BitVec 1 := Scalar.andi v12 v13
  let c4_i32_7 : BitVec 32 := 4#32
  let v15 : BitVec 32 := Scalar.subi arg0 c4_i32_7
  let c0_i32_8 : BitVec 32 := 0#32
  let c1_i32_9 : BitVec 32 := 1#32
  let v16 : BitVec 32 := Scalar.maxsi c0_i32_8 v15
  let v17 : BitVec 32 := Scalar.minsi c1_i32_9 v16
  let c6_i32_10 : BitVec 32 := 6#32
  let v18 : BitVec 1 := Scalar.cmpi .sge arg0 c6_i32_10
  let c7_i32 : BitVec 32 := 7#32
  let v19 : BitVec 1 := Scalar.cmpi .slt arg0 c7_i32
  let v20 : BitVec 1 := Scalar.andi v18 v19
  let c6_i32_11 : BitVec 32 := 6#32
  let v21 : BitVec 32 := Scalar.subi arg0 c6_i32_11
  let c0_i32_12 : BitVec 32 := 0#32
  let c0_i32_13 : BitVec 32 := 0#32
  let v22 : BitVec 32 := Scalar.maxsi c0_i32_12 v21
  let v23 : BitVec 32 := Scalar.minsi c0_i32_13 v22
  let c7_i32_14 : BitVec 32 := 7#32
  let v24 : BitVec 1 := Scalar.cmpi .sge arg0 c7_i32_14
  let c9_i32 : BitVec 32 := 9#32
  let v25 : BitVec 1 := Scalar.cmpi .slt arg0 c9_i32
  let v26 : BitVec 1 := Scalar.andi v24 v25
  let c7_i32_15 : BitVec 32 := 7#32
  let v27 : BitVec 32 := Scalar.subi arg0 c7_i32_15
  let c0_i32_16 : BitVec 32 := 0#32
  let c1_i32_17 : BitVec 32 := 1#32
  let v28 : BitVec 32 := Scalar.maxsi c0_i32_16 v27
  let v29 : BitVec 32 := Scalar.minsi c1_i32_17 v28
  let c9_i32_18 : BitVec 32 := 9#32
  let v30 : BitVec 1 := Scalar.cmpi .sge arg0 c9_i32_18
  let c11_i32 : BitVec 32 := 11#32
  let v31 : BitVec 1 := Scalar.cmpi .slt arg0 c11_i32
  let v32 : BitVec 1 := Scalar.andi v30 v31
  let c9_i32_19 : BitVec 32 := 9#32
  let v33 : BitVec 32 := Scalar.subi arg0 c9_i32_19
  let c0_i32_20 : BitVec 32 := 0#32
  let c1_i32_21 : BitVec 32 := 1#32
  let v34 : BitVec 32 := Scalar.maxsi c0_i32_20 v33
  let v35 : BitVec 32 := Scalar.minsi c1_i32_21 v34
  let c11_i32_22 : BitVec 32 := 11#32
  let v36 : BitVec 1 := Scalar.cmpi .sge arg0 c11_i32_22
  let c13_i32 : BitVec 32 := 13#32
  let v37 : BitVec 1 := Scalar.cmpi .slt arg0 c13_i32
  let v38 : BitVec 1 := Scalar.andi v36 v37
  let c11_i32_23 : BitVec 32 := 11#32
  let v39 : BitVec 32 := Scalar.subi arg0 c11_i32_23
  let c0_i32_24 : BitVec 32 := 0#32
  let c1_i32_25 : BitVec 32 := 1#32
  let v40 : BitVec 32 := Scalar.maxsi c0_i32_24 v39
  let v41 : BitVec 32 := Scalar.minsi c1_i32_25 v40
  let c0_i32_26 : BitVec 32 := 0#32
  let v42 : BitVec 32 := Scalar.select v2 arg1 c0_i32_26
  let c0_i32_27 : BitVec 32 := 0#32
  ![v42.toNat, v5.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let c0_i32_0 : BitVec 32 := 0#32
  let v3 : BitVec 32 := Scalar.subi arg0 c0_i32_0
  let c0_i32_1 : BitVec 32 := 0#32
  let c1_i32 : BitVec 32 := 1#32
  let v4 : BitVec 32 := Scalar.maxsi c0_i32_1 v3
  let v5 : BitVec 32 := Scalar.minsi c1_i32 v4
  let c2_i32_2 : BitVec 32 := 2#32
  let v6 : BitVec 1 := Scalar.cmpi .sge arg0 c2_i32_2
  let c4_i32 : BitVec 32 := 4#32
  let v7 : BitVec 1 := Scalar.cmpi .slt arg0 c4_i32
  let v8 : BitVec 1 := Scalar.andi v6 v7
  let c2_i32_3 : BitVec 32 := 2#32
  let v9 : BitVec 32 := Scalar.subi arg0 c2_i32_3
  let c0_i32_4 : BitVec 32 := 0#32
  let c1_i32_5 : BitVec 32 := 1#32
  let v10 : BitVec 32 := Scalar.maxsi c0_i32_4 v9
  let v11 : BitVec 32 := Scalar.minsi c1_i32_5 v10
  let c4_i32_6 : BitVec 32 := 4#32
  let v12 : BitVec 1 := Scalar.cmpi .sge arg0 c4_i32_6
  let c6_i32 : BitVec 32 := 6#32
  let v13 : BitVec 1 := Scalar.cmpi .slt arg0 c6_i32
  let v14 : BitVec 1 := Scalar.andi v12 v13
  let c4_i32_7 : BitVec 32 := 4#32
  let v15 : BitVec 32 := Scalar.subi arg0 c4_i32_7
  let c0_i32_8 : BitVec 32 := 0#32
  let c1_i32_9 : BitVec 32 := 1#32
  let v16 : BitVec 32 := Scalar.maxsi c0_i32_8 v15
  let v17 : BitVec 32 := Scalar.minsi c1_i32_9 v16
  let c6_i32_10 : BitVec 32 := 6#32
  let v18 : BitVec 1 := Scalar.cmpi .sge arg0 c6_i32_10
  let c7_i32 : BitVec 32 := 7#32
  let v19 : BitVec 1 := Scalar.cmpi .slt arg0 c7_i32
  let v20 : BitVec 1 := Scalar.andi v18 v19
  let c6_i32_11 : BitVec 32 := 6#32
  let v21 : BitVec 32 := Scalar.subi arg0 c6_i32_11
  let c0_i32_12 : BitVec 32 := 0#32
  let c0_i32_13 : BitVec 32 := 0#32
  let v22 : BitVec 32 := Scalar.maxsi c0_i32_12 v21
  let v23 : BitVec 32 := Scalar.minsi c0_i32_13 v22
  let c7_i32_14 : BitVec 32 := 7#32
  let v24 : BitVec 1 := Scalar.cmpi .sge arg0 c7_i32_14
  let c9_i32 : BitVec 32 := 9#32
  let v25 : BitVec 1 := Scalar.cmpi .slt arg0 c9_i32
  let v26 : BitVec 1 := Scalar.andi v24 v25
  let c7_i32_15 : BitVec 32 := 7#32
  let v27 : BitVec 32 := Scalar.subi arg0 c7_i32_15
  let c0_i32_16 : BitVec 32 := 0#32
  let c1_i32_17 : BitVec 32 := 1#32
  let v28 : BitVec 32 := Scalar.maxsi c0_i32_16 v27
  let v29 : BitVec 32 := Scalar.minsi c1_i32_17 v28
  let c9_i32_18 : BitVec 32 := 9#32
  let v30 : BitVec 1 := Scalar.cmpi .sge arg0 c9_i32_18
  let c11_i32 : BitVec 32 := 11#32
  let v31 : BitVec 1 := Scalar.cmpi .slt arg0 c11_i32
  let v32 : BitVec 1 := Scalar.andi v30 v31
  let c9_i32_19 : BitVec 32 := 9#32
  let v33 : BitVec 32 := Scalar.subi arg0 c9_i32_19
  let c0_i32_20 : BitVec 32 := 0#32
  let c1_i32_21 : BitVec 32 := 1#32
  let v34 : BitVec 32 := Scalar.maxsi c0_i32_20 v33
  let v35 : BitVec 32 := Scalar.minsi c1_i32_21 v34
  let c11_i32_22 : BitVec 32 := 11#32
  let v36 : BitVec 1 := Scalar.cmpi .sge arg0 c11_i32_22
  let c13_i32 : BitVec 32 := 13#32
  let v37 : BitVec 1 := Scalar.cmpi .slt arg0 c13_i32
  let v38 : BitVec 1 := Scalar.andi v36 v37
  let c11_i32_23 : BitVec 32 := 11#32
  let v39 : BitVec 32 := Scalar.subi arg0 c11_i32_23
  let c0_i32_24 : BitVec 32 := 0#32
  let c1_i32_25 : BitVec 32 := 1#32
  let v40 : BitVec 32 := Scalar.maxsi c0_i32_24 v39
  let v41 : BitVec 32 := Scalar.minsi c1_i32_25 v40
  let c0_i32_26 : BitVec 32 := 0#32
  let v42 : BitVec 32 := Scalar.select v8 arg1 c0_i32_26
  let c0_i32_27 : BitVec 32 := 0#32
  ![v42.toNat, v11.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let c0_i32_0 : BitVec 32 := 0#32
  let v3 : BitVec 32 := Scalar.subi arg0 c0_i32_0
  let c0_i32_1 : BitVec 32 := 0#32
  let c1_i32 : BitVec 32 := 1#32
  let v4 : BitVec 32 := Scalar.maxsi c0_i32_1 v3
  let v5 : BitVec 32 := Scalar.minsi c1_i32 v4
  let c2_i32_2 : BitVec 32 := 2#32
  let v6 : BitVec 1 := Scalar.cmpi .sge arg0 c2_i32_2
  let c4_i32 : BitVec 32 := 4#32
  let v7 : BitVec 1 := Scalar.cmpi .slt arg0 c4_i32
  let v8 : BitVec 1 := Scalar.andi v6 v7
  let c2_i32_3 : BitVec 32 := 2#32
  let v9 : BitVec 32 := Scalar.subi arg0 c2_i32_3
  let c0_i32_4 : BitVec 32 := 0#32
  let c1_i32_5 : BitVec 32 := 1#32
  let v10 : BitVec 32 := Scalar.maxsi c0_i32_4 v9
  let v11 : BitVec 32 := Scalar.minsi c1_i32_5 v10
  let c4_i32_6 : BitVec 32 := 4#32
  let v12 : BitVec 1 := Scalar.cmpi .sge arg0 c4_i32_6
  let c6_i32 : BitVec 32 := 6#32
  let v13 : BitVec 1 := Scalar.cmpi .slt arg0 c6_i32
  let v14 : BitVec 1 := Scalar.andi v12 v13
  let c4_i32_7 : BitVec 32 := 4#32
  let v15 : BitVec 32 := Scalar.subi arg0 c4_i32_7
  let c0_i32_8 : BitVec 32 := 0#32
  let c1_i32_9 : BitVec 32 := 1#32
  let v16 : BitVec 32 := Scalar.maxsi c0_i32_8 v15
  let v17 : BitVec 32 := Scalar.minsi c1_i32_9 v16
  let c6_i32_10 : BitVec 32 := 6#32
  let v18 : BitVec 1 := Scalar.cmpi .sge arg0 c6_i32_10
  let c7_i32 : BitVec 32 := 7#32
  let v19 : BitVec 1 := Scalar.cmpi .slt arg0 c7_i32
  let v20 : BitVec 1 := Scalar.andi v18 v19
  let c6_i32_11 : BitVec 32 := 6#32
  let v21 : BitVec 32 := Scalar.subi arg0 c6_i32_11
  let c0_i32_12 : BitVec 32 := 0#32
  let c0_i32_13 : BitVec 32 := 0#32
  let v22 : BitVec 32 := Scalar.maxsi c0_i32_12 v21
  let v23 : BitVec 32 := Scalar.minsi c0_i32_13 v22
  let c7_i32_14 : BitVec 32 := 7#32
  let v24 : BitVec 1 := Scalar.cmpi .sge arg0 c7_i32_14
  let c9_i32 : BitVec 32 := 9#32
  let v25 : BitVec 1 := Scalar.cmpi .slt arg0 c9_i32
  let v26 : BitVec 1 := Scalar.andi v24 v25
  let c7_i32_15 : BitVec 32 := 7#32
  let v27 : BitVec 32 := Scalar.subi arg0 c7_i32_15
  let c0_i32_16 : BitVec 32 := 0#32
  let c1_i32_17 : BitVec 32 := 1#32
  let v28 : BitVec 32 := Scalar.maxsi c0_i32_16 v27
  let v29 : BitVec 32 := Scalar.minsi c1_i32_17 v28
  let c9_i32_18 : BitVec 32 := 9#32
  let v30 : BitVec 1 := Scalar.cmpi .sge arg0 c9_i32_18
  let c11_i32 : BitVec 32 := 11#32
  let v31 : BitVec 1 := Scalar.cmpi .slt arg0 c11_i32
  let v32 : BitVec 1 := Scalar.andi v30 v31
  let c9_i32_19 : BitVec 32 := 9#32
  let v33 : BitVec 32 := Scalar.subi arg0 c9_i32_19
  let c0_i32_20 : BitVec 32 := 0#32
  let c1_i32_21 : BitVec 32 := 1#32
  let v34 : BitVec 32 := Scalar.maxsi c0_i32_20 v33
  let v35 : BitVec 32 := Scalar.minsi c1_i32_21 v34
  let c11_i32_22 : BitVec 32 := 11#32
  let v36 : BitVec 1 := Scalar.cmpi .sge arg0 c11_i32_22
  let c13_i32 : BitVec 32 := 13#32
  let v37 : BitVec 1 := Scalar.cmpi .slt arg0 c13_i32
  let v38 : BitVec 1 := Scalar.andi v36 v37
  let c11_i32_23 : BitVec 32 := 11#32
  let v39 : BitVec 32 := Scalar.subi arg0 c11_i32_23
  let c0_i32_24 : BitVec 32 := 0#32
  let c1_i32_25 : BitVec 32 := 1#32
  let v40 : BitVec 32 := Scalar.maxsi c0_i32_24 v39
  let v41 : BitVec 32 := Scalar.minsi c1_i32_25 v40
  let c0_i32_26 : BitVec 32 := 0#32
  let v42 : BitVec 32 := Scalar.select v14 arg1 c0_i32_26
  let c0_i32_27 : BitVec 32 := 0#32
  ![v42.toNat, v17.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let c0_i32_0 : BitVec 32 := 0#32
  let v3 : BitVec 32 := Scalar.subi arg0 c0_i32_0
  let c0_i32_1 : BitVec 32 := 0#32
  let c1_i32 : BitVec 32 := 1#32
  let v4 : BitVec 32 := Scalar.maxsi c0_i32_1 v3
  let v5 : BitVec 32 := Scalar.minsi c1_i32 v4
  let c2_i32_2 : BitVec 32 := 2#32
  let v6 : BitVec 1 := Scalar.cmpi .sge arg0 c2_i32_2
  let c4_i32 : BitVec 32 := 4#32
  let v7 : BitVec 1 := Scalar.cmpi .slt arg0 c4_i32
  let v8 : BitVec 1 := Scalar.andi v6 v7
  let c2_i32_3 : BitVec 32 := 2#32
  let v9 : BitVec 32 := Scalar.subi arg0 c2_i32_3
  let c0_i32_4 : BitVec 32 := 0#32
  let c1_i32_5 : BitVec 32 := 1#32
  let v10 : BitVec 32 := Scalar.maxsi c0_i32_4 v9
  let v11 : BitVec 32 := Scalar.minsi c1_i32_5 v10
  let c4_i32_6 : BitVec 32 := 4#32
  let v12 : BitVec 1 := Scalar.cmpi .sge arg0 c4_i32_6
  let c6_i32 : BitVec 32 := 6#32
  let v13 : BitVec 1 := Scalar.cmpi .slt arg0 c6_i32
  let v14 : BitVec 1 := Scalar.andi v12 v13
  let c4_i32_7 : BitVec 32 := 4#32
  let v15 : BitVec 32 := Scalar.subi arg0 c4_i32_7
  let c0_i32_8 : BitVec 32 := 0#32
  let c1_i32_9 : BitVec 32 := 1#32
  let v16 : BitVec 32 := Scalar.maxsi c0_i32_8 v15
  let v17 : BitVec 32 := Scalar.minsi c1_i32_9 v16
  let c6_i32_10 : BitVec 32 := 6#32
  let v18 : BitVec 1 := Scalar.cmpi .sge arg0 c6_i32_10
  let c7_i32 : BitVec 32 := 7#32
  let v19 : BitVec 1 := Scalar.cmpi .slt arg0 c7_i32
  let v20 : BitVec 1 := Scalar.andi v18 v19
  let c6_i32_11 : BitVec 32 := 6#32
  let v21 : BitVec 32 := Scalar.subi arg0 c6_i32_11
  let c0_i32_12 : BitVec 32 := 0#32
  let c0_i32_13 : BitVec 32 := 0#32
  let v22 : BitVec 32 := Scalar.maxsi c0_i32_12 v21
  let v23 : BitVec 32 := Scalar.minsi c0_i32_13 v22
  let c7_i32_14 : BitVec 32 := 7#32
  let v24 : BitVec 1 := Scalar.cmpi .sge arg0 c7_i32_14
  let c9_i32 : BitVec 32 := 9#32
  let v25 : BitVec 1 := Scalar.cmpi .slt arg0 c9_i32
  let v26 : BitVec 1 := Scalar.andi v24 v25
  let c7_i32_15 : BitVec 32 := 7#32
  let v27 : BitVec 32 := Scalar.subi arg0 c7_i32_15
  let c0_i32_16 : BitVec 32 := 0#32
  let c1_i32_17 : BitVec 32 := 1#32
  let v28 : BitVec 32 := Scalar.maxsi c0_i32_16 v27
  let v29 : BitVec 32 := Scalar.minsi c1_i32_17 v28
  let c9_i32_18 : BitVec 32 := 9#32
  let v30 : BitVec 1 := Scalar.cmpi .sge arg0 c9_i32_18
  let c11_i32 : BitVec 32 := 11#32
  let v31 : BitVec 1 := Scalar.cmpi .slt arg0 c11_i32
  let v32 : BitVec 1 := Scalar.andi v30 v31
  let c9_i32_19 : BitVec 32 := 9#32
  let v33 : BitVec 32 := Scalar.subi arg0 c9_i32_19
  let c0_i32_20 : BitVec 32 := 0#32
  let c1_i32_21 : BitVec 32 := 1#32
  let v34 : BitVec 32 := Scalar.maxsi c0_i32_20 v33
  let v35 : BitVec 32 := Scalar.minsi c1_i32_21 v34
  let c11_i32_22 : BitVec 32 := 11#32
  let v36 : BitVec 1 := Scalar.cmpi .sge arg0 c11_i32_22
  let c13_i32 : BitVec 32 := 13#32
  let v37 : BitVec 1 := Scalar.cmpi .slt arg0 c13_i32
  let v38 : BitVec 1 := Scalar.andi v36 v37
  let c11_i32_23 : BitVec 32 := 11#32
  let v39 : BitVec 32 := Scalar.subi arg0 c11_i32_23
  let c0_i32_24 : BitVec 32 := 0#32
  let c1_i32_25 : BitVec 32 := 1#32
  let v40 : BitVec 32 := Scalar.maxsi c0_i32_24 v39
  let v41 : BitVec 32 := Scalar.minsi c1_i32_25 v40
  let c0_i32_26 : BitVec 32 := 0#32
  let v42 : BitVec 32 := Scalar.select v20 arg1 c0_i32_26
  let c0_i32_27 : BitVec 32 := 0#32
  ![v42.toNat, v23.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let c0_i32_0 : BitVec 32 := 0#32
  let v3 : BitVec 32 := Scalar.subi arg0 c0_i32_0
  let c0_i32_1 : BitVec 32 := 0#32
  let c1_i32 : BitVec 32 := 1#32
  let v4 : BitVec 32 := Scalar.maxsi c0_i32_1 v3
  let v5 : BitVec 32 := Scalar.minsi c1_i32 v4
  let c2_i32_2 : BitVec 32 := 2#32
  let v6 : BitVec 1 := Scalar.cmpi .sge arg0 c2_i32_2
  let c4_i32 : BitVec 32 := 4#32
  let v7 : BitVec 1 := Scalar.cmpi .slt arg0 c4_i32
  let v8 : BitVec 1 := Scalar.andi v6 v7
  let c2_i32_3 : BitVec 32 := 2#32
  let v9 : BitVec 32 := Scalar.subi arg0 c2_i32_3
  let c0_i32_4 : BitVec 32 := 0#32
  let c1_i32_5 : BitVec 32 := 1#32
  let v10 : BitVec 32 := Scalar.maxsi c0_i32_4 v9
  let v11 : BitVec 32 := Scalar.minsi c1_i32_5 v10
  let c4_i32_6 : BitVec 32 := 4#32
  let v12 : BitVec 1 := Scalar.cmpi .sge arg0 c4_i32_6
  let c6_i32 : BitVec 32 := 6#32
  let v13 : BitVec 1 := Scalar.cmpi .slt arg0 c6_i32
  let v14 : BitVec 1 := Scalar.andi v12 v13
  let c4_i32_7 : BitVec 32 := 4#32
  let v15 : BitVec 32 := Scalar.subi arg0 c4_i32_7
  let c0_i32_8 : BitVec 32 := 0#32
  let c1_i32_9 : BitVec 32 := 1#32
  let v16 : BitVec 32 := Scalar.maxsi c0_i32_8 v15
  let v17 : BitVec 32 := Scalar.minsi c1_i32_9 v16
  let c6_i32_10 : BitVec 32 := 6#32
  let v18 : BitVec 1 := Scalar.cmpi .sge arg0 c6_i32_10
  let c7_i32 : BitVec 32 := 7#32
  let v19 : BitVec 1 := Scalar.cmpi .slt arg0 c7_i32
  let v20 : BitVec 1 := Scalar.andi v18 v19
  let c6_i32_11 : BitVec 32 := 6#32
  let v21 : BitVec 32 := Scalar.subi arg0 c6_i32_11
  let c0_i32_12 : BitVec 32 := 0#32
  let c0_i32_13 : BitVec 32 := 0#32
  let v22 : BitVec 32 := Scalar.maxsi c0_i32_12 v21
  let v23 : BitVec 32 := Scalar.minsi c0_i32_13 v22
  let c7_i32_14 : BitVec 32 := 7#32
  let v24 : BitVec 1 := Scalar.cmpi .sge arg0 c7_i32_14
  let c9_i32 : BitVec 32 := 9#32
  let v25 : BitVec 1 := Scalar.cmpi .slt arg0 c9_i32
  let v26 : BitVec 1 := Scalar.andi v24 v25
  let c7_i32_15 : BitVec 32 := 7#32
  let v27 : BitVec 32 := Scalar.subi arg0 c7_i32_15
  let c0_i32_16 : BitVec 32 := 0#32
  let c1_i32_17 : BitVec 32 := 1#32
  let v28 : BitVec 32 := Scalar.maxsi c0_i32_16 v27
  let v29 : BitVec 32 := Scalar.minsi c1_i32_17 v28
  let c9_i32_18 : BitVec 32 := 9#32
  let v30 : BitVec 1 := Scalar.cmpi .sge arg0 c9_i32_18
  let c11_i32 : BitVec 32 := 11#32
  let v31 : BitVec 1 := Scalar.cmpi .slt arg0 c11_i32
  let v32 : BitVec 1 := Scalar.andi v30 v31
  let c9_i32_19 : BitVec 32 := 9#32
  let v33 : BitVec 32 := Scalar.subi arg0 c9_i32_19
  let c0_i32_20 : BitVec 32 := 0#32
  let c1_i32_21 : BitVec 32 := 1#32
  let v34 : BitVec 32 := Scalar.maxsi c0_i32_20 v33
  let v35 : BitVec 32 := Scalar.minsi c1_i32_21 v34
  let c11_i32_22 : BitVec 32 := 11#32
  let v36 : BitVec 1 := Scalar.cmpi .sge arg0 c11_i32_22
  let c13_i32 : BitVec 32 := 13#32
  let v37 : BitVec 1 := Scalar.cmpi .slt arg0 c13_i32
  let v38 : BitVec 1 := Scalar.andi v36 v37
  let c11_i32_23 : BitVec 32 := 11#32
  let v39 : BitVec 32 := Scalar.subi arg0 c11_i32_23
  let c0_i32_24 : BitVec 32 := 0#32
  let c1_i32_25 : BitVec 32 := 1#32
  let v40 : BitVec 32 := Scalar.maxsi c0_i32_24 v39
  let v41 : BitVec 32 := Scalar.minsi c1_i32_25 v40
  let c0_i32_26 : BitVec 32 := 0#32
  let v42 : BitVec 32 := Scalar.select v26 arg1 c0_i32_26
  let c0_i32_27 : BitVec 32 := 0#32
  ![v42.toNat, v29.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let c0_i32_0 : BitVec 32 := 0#32
  let v3 : BitVec 32 := Scalar.subi arg0 c0_i32_0
  let c0_i32_1 : BitVec 32 := 0#32
  let c1_i32 : BitVec 32 := 1#32
  let v4 : BitVec 32 := Scalar.maxsi c0_i32_1 v3
  let v5 : BitVec 32 := Scalar.minsi c1_i32 v4
  let c2_i32_2 : BitVec 32 := 2#32
  let v6 : BitVec 1 := Scalar.cmpi .sge arg0 c2_i32_2
  let c4_i32 : BitVec 32 := 4#32
  let v7 : BitVec 1 := Scalar.cmpi .slt arg0 c4_i32
  let v8 : BitVec 1 := Scalar.andi v6 v7
  let c2_i32_3 : BitVec 32 := 2#32
  let v9 : BitVec 32 := Scalar.subi arg0 c2_i32_3
  let c0_i32_4 : BitVec 32 := 0#32
  let c1_i32_5 : BitVec 32 := 1#32
  let v10 : BitVec 32 := Scalar.maxsi c0_i32_4 v9
  let v11 : BitVec 32 := Scalar.minsi c1_i32_5 v10
  let c4_i32_6 : BitVec 32 := 4#32
  let v12 : BitVec 1 := Scalar.cmpi .sge arg0 c4_i32_6
  let c6_i32 : BitVec 32 := 6#32
  let v13 : BitVec 1 := Scalar.cmpi .slt arg0 c6_i32
  let v14 : BitVec 1 := Scalar.andi v12 v13
  let c4_i32_7 : BitVec 32 := 4#32
  let v15 : BitVec 32 := Scalar.subi arg0 c4_i32_7
  let c0_i32_8 : BitVec 32 := 0#32
  let c1_i32_9 : BitVec 32 := 1#32
  let v16 : BitVec 32 := Scalar.maxsi c0_i32_8 v15
  let v17 : BitVec 32 := Scalar.minsi c1_i32_9 v16
  let c6_i32_10 : BitVec 32 := 6#32
  let v18 : BitVec 1 := Scalar.cmpi .sge arg0 c6_i32_10
  let c7_i32 : BitVec 32 := 7#32
  let v19 : BitVec 1 := Scalar.cmpi .slt arg0 c7_i32
  let v20 : BitVec 1 := Scalar.andi v18 v19
  let c6_i32_11 : BitVec 32 := 6#32
  let v21 : BitVec 32 := Scalar.subi arg0 c6_i32_11
  let c0_i32_12 : BitVec 32 := 0#32
  let c0_i32_13 : BitVec 32 := 0#32
  let v22 : BitVec 32 := Scalar.maxsi c0_i32_12 v21
  let v23 : BitVec 32 := Scalar.minsi c0_i32_13 v22
  let c7_i32_14 : BitVec 32 := 7#32
  let v24 : BitVec 1 := Scalar.cmpi .sge arg0 c7_i32_14
  let c9_i32 : BitVec 32 := 9#32
  let v25 : BitVec 1 := Scalar.cmpi .slt arg0 c9_i32
  let v26 : BitVec 1 := Scalar.andi v24 v25
  let c7_i32_15 : BitVec 32 := 7#32
  let v27 : BitVec 32 := Scalar.subi arg0 c7_i32_15
  let c0_i32_16 : BitVec 32 := 0#32
  let c1_i32_17 : BitVec 32 := 1#32
  let v28 : BitVec 32 := Scalar.maxsi c0_i32_16 v27
  let v29 : BitVec 32 := Scalar.minsi c1_i32_17 v28
  let c9_i32_18 : BitVec 32 := 9#32
  let v30 : BitVec 1 := Scalar.cmpi .sge arg0 c9_i32_18
  let c11_i32 : BitVec 32 := 11#32
  let v31 : BitVec 1 := Scalar.cmpi .slt arg0 c11_i32
  let v32 : BitVec 1 := Scalar.andi v30 v31
  let c9_i32_19 : BitVec 32 := 9#32
  let v33 : BitVec 32 := Scalar.subi arg0 c9_i32_19
  let c0_i32_20 : BitVec 32 := 0#32
  let c1_i32_21 : BitVec 32 := 1#32
  let v34 : BitVec 32 := Scalar.maxsi c0_i32_20 v33
  let v35 : BitVec 32 := Scalar.minsi c1_i32_21 v34
  let c11_i32_22 : BitVec 32 := 11#32
  let v36 : BitVec 1 := Scalar.cmpi .sge arg0 c11_i32_22
  let c13_i32 : BitVec 32 := 13#32
  let v37 : BitVec 1 := Scalar.cmpi .slt arg0 c13_i32
  let v38 : BitVec 1 := Scalar.andi v36 v37
  let c11_i32_23 : BitVec 32 := 11#32
  let v39 : BitVec 32 := Scalar.subi arg0 c11_i32_23
  let c0_i32_24 : BitVec 32 := 0#32
  let c1_i32_25 : BitVec 32 := 1#32
  let v40 : BitVec 32 := Scalar.maxsi c0_i32_24 v39
  let v41 : BitVec 32 := Scalar.minsi c1_i32_25 v40
  let c0_i32_26 : BitVec 32 := 0#32
  let v42 : BitVec 32 := Scalar.select v32 arg1 c0_i32_26
  let c0_i32_27 : BitVec 32 := 0#32
  ![v42.toNat, v35.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let c0_i32_0 : BitVec 32 := 0#32
  let v3 : BitVec 32 := Scalar.subi arg0 c0_i32_0
  let c0_i32_1 : BitVec 32 := 0#32
  let c1_i32 : BitVec 32 := 1#32
  let v4 : BitVec 32 := Scalar.maxsi c0_i32_1 v3
  let v5 : BitVec 32 := Scalar.minsi c1_i32 v4
  let c2_i32_2 : BitVec 32 := 2#32
  let v6 : BitVec 1 := Scalar.cmpi .sge arg0 c2_i32_2
  let c4_i32 : BitVec 32 := 4#32
  let v7 : BitVec 1 := Scalar.cmpi .slt arg0 c4_i32
  let v8 : BitVec 1 := Scalar.andi v6 v7
  let c2_i32_3 : BitVec 32 := 2#32
  let v9 : BitVec 32 := Scalar.subi arg0 c2_i32_3
  let c0_i32_4 : BitVec 32 := 0#32
  let c1_i32_5 : BitVec 32 := 1#32
  let v10 : BitVec 32 := Scalar.maxsi c0_i32_4 v9
  let v11 : BitVec 32 := Scalar.minsi c1_i32_5 v10
  let c4_i32_6 : BitVec 32 := 4#32
  let v12 : BitVec 1 := Scalar.cmpi .sge arg0 c4_i32_6
  let c6_i32 : BitVec 32 := 6#32
  let v13 : BitVec 1 := Scalar.cmpi .slt arg0 c6_i32
  let v14 : BitVec 1 := Scalar.andi v12 v13
  let c4_i32_7 : BitVec 32 := 4#32
  let v15 : BitVec 32 := Scalar.subi arg0 c4_i32_7
  let c0_i32_8 : BitVec 32 := 0#32
  let c1_i32_9 : BitVec 32 := 1#32
  let v16 : BitVec 32 := Scalar.maxsi c0_i32_8 v15
  let v17 : BitVec 32 := Scalar.minsi c1_i32_9 v16
  let c6_i32_10 : BitVec 32 := 6#32
  let v18 : BitVec 1 := Scalar.cmpi .sge arg0 c6_i32_10
  let c7_i32 : BitVec 32 := 7#32
  let v19 : BitVec 1 := Scalar.cmpi .slt arg0 c7_i32
  let v20 : BitVec 1 := Scalar.andi v18 v19
  let c6_i32_11 : BitVec 32 := 6#32
  let v21 : BitVec 32 := Scalar.subi arg0 c6_i32_11
  let c0_i32_12 : BitVec 32 := 0#32
  let c0_i32_13 : BitVec 32 := 0#32
  let v22 : BitVec 32 := Scalar.maxsi c0_i32_12 v21
  let v23 : BitVec 32 := Scalar.minsi c0_i32_13 v22
  let c7_i32_14 : BitVec 32 := 7#32
  let v24 : BitVec 1 := Scalar.cmpi .sge arg0 c7_i32_14
  let c9_i32 : BitVec 32 := 9#32
  let v25 : BitVec 1 := Scalar.cmpi .slt arg0 c9_i32
  let v26 : BitVec 1 := Scalar.andi v24 v25
  let c7_i32_15 : BitVec 32 := 7#32
  let v27 : BitVec 32 := Scalar.subi arg0 c7_i32_15
  let c0_i32_16 : BitVec 32 := 0#32
  let c1_i32_17 : BitVec 32 := 1#32
  let v28 : BitVec 32 := Scalar.maxsi c0_i32_16 v27
  let v29 : BitVec 32 := Scalar.minsi c1_i32_17 v28
  let c9_i32_18 : BitVec 32 := 9#32
  let v30 : BitVec 1 := Scalar.cmpi .sge arg0 c9_i32_18
  let c11_i32 : BitVec 32 := 11#32
  let v31 : BitVec 1 := Scalar.cmpi .slt arg0 c11_i32
  let v32 : BitVec 1 := Scalar.andi v30 v31
  let c9_i32_19 : BitVec 32 := 9#32
  let v33 : BitVec 32 := Scalar.subi arg0 c9_i32_19
  let c0_i32_20 : BitVec 32 := 0#32
  let c1_i32_21 : BitVec 32 := 1#32
  let v34 : BitVec 32 := Scalar.maxsi c0_i32_20 v33
  let v35 : BitVec 32 := Scalar.minsi c1_i32_21 v34
  let c11_i32_22 : BitVec 32 := 11#32
  let v36 : BitVec 1 := Scalar.cmpi .sge arg0 c11_i32_22
  let c13_i32 : BitVec 32 := 13#32
  let v37 : BitVec 1 := Scalar.cmpi .slt arg0 c13_i32
  let v38 : BitVec 1 := Scalar.andi v36 v37
  let c11_i32_23 : BitVec 32 := 11#32
  let v39 : BitVec 32 := Scalar.subi arg0 c11_i32_23
  let c0_i32_24 : BitVec 32 := 0#32
  let c1_i32_25 : BitVec 32 := 1#32
  let v40 : BitVec 32 := Scalar.maxsi c0_i32_24 v39
  let v41 : BitVec 32 := Scalar.minsi c1_i32_25 v40
  let c0_i32_26 : BitVec 32 := 0#32
  let v42 : BitVec 32 := Scalar.select v38 arg1 c0_i32_26
  let c0_i32_27 : BitVec 32 := 0#32
  ![v42.toNat, v41.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S4096x1024 : Shape := ⟨2, ![4096, 1024]⟩
abbrev S4096x512 : Shape := ⟨2, ![4096, 512]⟩
abbrev S4096x6656 : Shape := ⟨2, ![4096, 6656]⟩
abbrev S_ : Shape := ⟨0, ![]⟩
abbrev S6656x1024 : Shape := ⟨2, ![6656, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x512, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x6656, .bf16⟩
  | .hbm, ⟨9, _⟩ => ⟨S4096x6656, .f32⟩
  | .hbm, ⟨10, _⟩ => ⟨S_, .f32⟩
  | .hbm, ⟨11, _⟩ => ⟨S6656x1024, .f32⟩
  | .hbm, ⟨12, _⟩ => ⟨S4096x1024, .f32⟩
  | .hbm, ⟨13, _⟩ => ⟨S4096x6656, .f32⟩
  | .hbm, ⟨14, _⟩ => ⟨S6656x1024, .f32⟩
  | .hbm, ⟨15, _⟩ => ⟨S6656x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== Kernel4.lean ====
abbrev S832x1024 : Shape := ⟨2, ![832, 1024]⟩
abbrev S3x832x1024 : Shape := ⟨3, ![3, 832, 1024]⟩
abbrev S208x1024 : Shape := ⟨2, ![208, 1024]⟩
abbrev S3x208x1024 : Shape := ⟨3, ![3, 208, 1024]⟩
abbrev S1x208x1024 : Shape := ⟨3, ![1, 208, 1024]⟩

abbrev nBuf : Space → Nat
  | .hbm => 9
  | .vmem => 18
  | .smem => 0
  | _ => 0

abbrev bufTy : (tb : Table) → Fin (tcTables nBuf tb) → BufTy
  | .hbm, ⟨0, _⟩ => ⟨S832x1024, .bf16⟩
  | .hbm, ⟨1, _⟩ => ⟨S3x832x1024, .bf16⟩
  | .hbm, ⟨2, _⟩ => ⟨S832x1024, .f32⟩
  | .hbm, ⟨3, _⟩ => ⟨S832x1024, .f32⟩
  | .hbm, ⟨4, _⟩ => ⟨S832x1024, .f32⟩
  | .hbm, ⟨5, _⟩ => ⟨S832x1024, .f32⟩
  | .hbm, ⟨6, _⟩ => ⟨S832x1024, .f32⟩
  | .hbm, ⟨7, _⟩ => ⟨S832x1024, .f32⟩
  | .hbm, ⟨8, _⟩ => ⟨S832x1024, .f32⟩
  | .local _ .vmem, ⟨0, _⟩ => ⟨S208x1024, .bf16⟩
  | .local _ .vmem, ⟨1, _⟩ => ⟨S208x1024, .bf16⟩
  | .local _ .vmem, ⟨2, _⟩ => ⟨S3x208x1024, .bf16⟩
  | .local _ .vmem, ⟨3, _⟩ => ⟨S3x208x1024, .bf16⟩
  | .local _ .vmem, ⟨4, _⟩ => ⟨S208x1024, .f32⟩
  | .local _ .vmem, ⟨5, _⟩ => ⟨S208x1024, .f32⟩
  | .local _ .vmem, ⟨6, _⟩ => ⟨S208x1024, .f32⟩
  | .local _ .vmem, ⟨7, _⟩ => ⟨S208x1024, .f32⟩
  | .local _ .vmem, ⟨8, _⟩ => ⟨S208x1024, .f32⟩
  | .local _ .vmem, ⟨9, _⟩ => ⟨S208x1024, .f32⟩
  | .local _ .vmem, ⟨10, _⟩ => ⟨S208x1024, .f32⟩
  | .local _ .vmem, ⟨11, _⟩ => ⟨S208x1024, .f32⟩
  | .local _ .vmem, ⟨12, _⟩ => ⟨S208x1024, .f32⟩
  | .local _ .vmem, ⟨13, _⟩ => ⟨S208x1024, .f32⟩
  | .local _ .vmem, ⟨14, _⟩ => ⟨S208x1024, .f32⟩
  | .local _ .vmem, ⟨15, _⟩ => ⟨S208x1024, .f32⟩
  | .local _ .vmem, ⟨16, _⟩ => ⟨S208x1024, .f32⟩
  | .local _ .vmem, ⟨17, _⟩ => ⟨S208x1024, .f32⟩
  | _, _ => ⟨S832x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S208x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x208x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S208x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S208x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S208x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S208x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S208x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S832x1024 : Shape := ⟨2, ![832, 1024]⟩
abbrev S3x832x1024 : Shape := ⟨3, ![3, 832, 1024]⟩
abbrev S1x832x1024 : Shape := ⟨3, ![1, 832, 1024]⟩
abbrev S4x832x1024 : Shape := ⟨3, ![4, 832, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S832x1024, .bf16⟩
  | .hbm, ⟨1, _⟩ => ⟨S3x832x1024, .bf16⟩
  | .hbm, ⟨2, _⟩ => ⟨S832x1024, .f32⟩
  | .hbm, ⟨3, _⟩ => ⟨S832x1024, .f32⟩
  | .hbm, ⟨4, _⟩ => ⟨S832x1024, .f32⟩
  | .hbm, ⟨5, _⟩ => ⟨S1x832x1024, .bf16⟩
  | .hbm, ⟨6, _⟩ => ⟨S4x832x1024, .bf16⟩
  | .hbm, ⟨7, _⟩ => ⟨S4x832x1024, .f32⟩
  | .hbm, ⟨8, _⟩ => ⟨S_, .f32⟩
  | .hbm, ⟨9, _⟩ => ⟨S832x1024, .f32⟩
  | .hbm, ⟨10, _⟩ => ⟨S_, .f32⟩
  | .hbm, ⟨11, _⟩ => ⟨S832x1024, .f32⟩
  | .hbm, ⟨12, _⟩ => ⟨S832x1024, .f32⟩
  | .hbm, ⟨13, _⟩ => ⟨S_, .f32⟩
  | .hbm, ⟨14, _⟩ => ⟨S832x1024, .f32⟩
  | .hbm, ⟨15, _⟩ => ⟨S832x1024, .f32⟩
  | .hbm, ⟨16, _⟩ => ⟨S832x1024, .f32⟩
  | .hbm, ⟨17, _⟩ => ⟨S_, .f32⟩
  | .hbm, ⟨18, _⟩ => ⟨S832x1024, .f32⟩
  | .hbm, ⟨19, _⟩ => ⟨S832x1024, .f32⟩
  | .hbm, ⟨20, _⟩ => ⟨S832x1024, .f32⟩
  | .hbm, ⟨21, _⟩ => ⟨S_, .f32⟩
  | .hbm, ⟨22, _⟩ => ⟨S832x1024, .f32⟩
  | .hbm, ⟨23, _⟩ => ⟨S832x1024, .f32⟩
  | .hbm, ⟨24, _⟩ => ⟨S832x1024, .f32⟩
  | .hbm, ⟨25, _⟩ => ⟨S_, .f32⟩
  | .hbm, ⟨26, _⟩ => ⟨S832x1024, .f32⟩
  | .hbm, ⟨27, _⟩ => ⟨S832x1024, .f32⟩
  | .hbm, ⟨28, _⟩ => ⟨S_, .f32⟩
  | .hbm, ⟨29, _⟩ => ⟨S832x1024, .f32⟩
  | .hbm, ⟨30, _⟩ => ⟨S832x1024, .f32⟩
  | .hbm, ⟨31, _⟩ => ⟨S832x1024, .f32⟩
  | .hbm, ⟨32, _⟩ => ⟨S_, .f32⟩
  | .hbm, ⟨33, _⟩ => ⟨S832x1024, .f32⟩
  | .hbm, ⟨34, _⟩ => ⟨S832x1024, .f32⟩
  | .hbm, ⟨35, _⟩ => ⟨S832x1024, .f32⟩
  | .hbm, ⟨36, _⟩ => ⟨S_, .f32⟩
  | .hbm, ⟨37, _⟩ => ⟨S832x1024, .f32⟩
  | .hbm, ⟨38, _⟩ => ⟨S832x1024, .f32⟩
  | .hbm, ⟨39, _⟩ => ⟨S832x1024, .f32⟩
  | .hbm, ⟨40, _⟩ => ⟨S_, .f32⟩
  | .hbm, ⟨41, _⟩ => ⟨S832x1024, .f32⟩
  | .hbm, ⟨42, _⟩ => ⟨S832x1024, .f32⟩
  | _, _ => ⟨S832x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel5.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 24
  | .vmem => 24
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S4x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S4x128x1024, .bf16⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S128x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S128x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Reference5Ideal.lean ====
abbrev S4x128x1024 : Shape := ⟨3, ![4, 128, 1024]⟩
abbrev S128x1024 : Shape := ⟨2, ![128, 1024]⟩
abbrev S_ : Shape := ⟨0, ![]⟩

abbrev nBuf : Space → Nat
  | .hbm => 120
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S4x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S4x128x1024, .f32⟩
  | .hbm, ⟨13, _⟩ => ⟨S_, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1024, .f32⟩
  | .hbm, ⟨47, _⟩ => ⟨S128x1024, .f32⟩
  | .hbm, ⟨48, _⟩ => ⟨S4x128x1024, .f32⟩
  | .hbm, ⟨49, _⟩ => ⟨S_, .f32⟩
  | .hbm, ⟨50, _⟩ => ⟨S128x1024, .f32⟩
  | .hbm, ⟨51, _⟩ => ⟨S_, .f32⟩
  | .hbm, ⟨52, _⟩ => ⟨S128x1024, .f32⟩
  | .hbm, ⟨53, _⟩ => ⟨S128x1024, .f32⟩
  | .hbm, ⟨54, _⟩ => ⟨S_, .f32⟩
  | .hbm, ⟨55, _⟩ => ⟨S128x1024, .f32⟩
  | .hbm, ⟨56, _⟩ => ⟨S128x1024, .f32⟩
  | .hbm, ⟨57, _⟩ => ⟨S128x1024, .f32⟩
  | .hbm, ⟨58, _⟩ => ⟨S_, .f32⟩
  | .hbm, ⟨59, _⟩ => ⟨S128x1024, .f32⟩
  | .hbm, ⟨60, _⟩ => ⟨S128x1024, .f32⟩
  | .hbm, ⟨61, _⟩ => ⟨S128x1024, .f32⟩
  | .hbm, ⟨62, _⟩ => ⟨S_, .f32⟩
  | .hbm, ⟨63, _⟩ => ⟨S128x1024, .f32⟩
  | .hbm, ⟨64, _⟩ => ⟨S128x1024, .f32⟩
  | .hbm, ⟨65, _⟩ => ⟨S128x1024, .f32⟩
  | .hbm, ⟨66, _⟩ => ⟨S_, .f32⟩
  | .hbm, ⟨67, _⟩ => ⟨S128x1024, .f32⟩
  | .hbm, ⟨68, _⟩ => ⟨S128x1024, .f32⟩
  | .hbm, ⟨69, _⟩ => ⟨S_, .f32⟩
  | .hbm, ⟨70, _⟩ => ⟨S128x1024, .f32⟩
  | .hbm, ⟨71, _⟩ => ⟨S128x1024, .f32⟩
  | .hbm, ⟨72, _⟩ => ⟨S128x1024, .f32⟩
  | .hbm, ⟨73, _⟩ => ⟨S_, .f32⟩
  | .hbm, ⟨74, _⟩ => ⟨S128x1024, .f32⟩
  | .hbm, ⟨75, _⟩ => ⟨S128x1024, .f32⟩
  | .hbm, ⟨76, _⟩ => ⟨S128x1024, .f32⟩
  | .hbm, ⟨77, _⟩ => ⟨S_, .f32⟩
  | .hbm, ⟨78, _⟩ => ⟨S128x1024, .f32⟩
  | .hbm, ⟨79, _⟩ => ⟨S128x1024, .f32⟩
  | .hbm, ⟨80, _⟩ => ⟨S128x1024, .f32⟩
  | .hbm, ⟨81, _⟩ => ⟨S_, .f32⟩
  | .hbm, ⟨82, _⟩ => ⟨S128x1024, .f32⟩
  | .hbm, ⟨83, _⟩ => ⟨S128x1024, .f32⟩
  | .hbm, ⟨84, _⟩ => ⟨S4x128x1024, .f32⟩
  | .hbm, ⟨85, _⟩ => ⟨S_, .f32⟩
  | .hbm, ⟨86, _⟩ => ⟨S128x1024, .f32⟩
  | .hbm, ⟨87, _⟩ => ⟨S_, .f32⟩
  | .hbm, ⟨88, _⟩ => ⟨S128x1024, .f32⟩
  | .hbm, ⟨89, _⟩ => ⟨S128x1024, .f32⟩
  | .hbm, ⟨90, _⟩ => ⟨S_, .f32⟩
  | .hbm, ⟨91, _⟩ => ⟨S128x1024, .f32⟩
  | .hbm, ⟨92, _⟩ => ⟨S128x1024, .f32⟩
  | .hbm, ⟨93, _⟩ => ⟨S128x1024, .f32⟩
  | .hbm, ⟨94, _⟩ => ⟨S_, .f32⟩
  | .hbm, ⟨95, _⟩ => ⟨S128x1024, .f32⟩
  | .hbm, ⟨96, _⟩ => ⟨S128x1024, .f32⟩
  | .hbm, ⟨97, _⟩ => ⟨S128x1024, .f32⟩
  | .hbm, ⟨98, _⟩ => ⟨S_, .f32⟩
  | .hbm, ⟨99, _⟩ => ⟨S128x1024, .f32⟩
  | .hbm, ⟨100, _⟩ => ⟨S128x1024, .f32⟩
  | .hbm, ⟨101, _⟩ => ⟨S128x1024, .f32⟩
  | .hbm, ⟨102, _⟩ => ⟨S_, .f32⟩
  | .hbm, ⟨103, _⟩ => ⟨S128x1024, .f32⟩
  | .hbm, ⟨104, _⟩ => ⟨S128x1024, .f32⟩
  | .hbm, ⟨105, _⟩ => ⟨S_, .f32⟩
  | .hbm, ⟨106, _⟩ => ⟨S128x1024, .f32⟩
  | .hbm, ⟨107, _⟩ => ⟨S128x1024, .f32⟩
  | .hbm, ⟨108, _⟩ => ⟨S128x1024, .f32⟩
  | .hbm, ⟨109, _⟩ => ⟨S_, .f32⟩
  | .hbm, ⟨110, _⟩ => ⟨S128x1024, .f32⟩
  | .hbm, ⟨111, _⟩ => ⟨S128x1024, .f32⟩
  | .hbm, ⟨112, _⟩ => ⟨S128x1024, .f32⟩
  | .hbm, ⟨113, _⟩ => ⟨S_, .f32⟩
  | .hbm, ⟨114, _⟩ => ⟨S128x1024, .f32⟩
  | .hbm, ⟨115, _⟩ => ⟨S128x1024, .f32⟩
  | .hbm, ⟨116, _⟩ => ⟨S128x1024, .f32⟩
  | .hbm, ⟨117, _⟩ => ⟨S_, .f32⟩
  | .hbm, ⟨118, _⟩ => ⟨S128x1024, .f32⟩
  | .hbm, ⟨119, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_7 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_cst_10 : Ref sig .tc := ⟨.hbm, 51, rfl⟩
abbrev main_v28 : Ref sig .tc := ⟨.hbm, 52, rfl⟩
abbrev main_v29 : Ref sig .tc := ⟨.hbm, 53, rfl⟩
abbrev main_cst_11 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_12 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_13 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_14 : Ref sig .tc := ⟨.hbm, 66, rfl⟩
abbrev main_v39 : Ref sig .tc := ⟨.hbm, 67, rfl⟩
abbrev main_v40 : Ref sig .tc := ⟨.hbm, 68, rfl⟩
abbrev main_cst_15 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_16 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_17 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_cst_20 : Ref sig .tc := ⟨.hbm, 87, rfl⟩
abbrev main_v54 : Ref sig .tc := ⟨.hbm, 88, rfl⟩
abbrev main_v55 : Ref sig .tc := ⟨.hbm, 89, rfl⟩
abbrev main_cst_21 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_22 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_23 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_24 : Ref sig .tc := ⟨.hbm, 102, rfl⟩
abbrev main_v65 : Ref sig .tc := ⟨.hbm, 103, rfl⟩
abbrev main_v66 : Ref sig .tc := ⟨.hbm, 104, rfl⟩
abbrev main_cst_25 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_26 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_27 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_28 : Ref sig .tc := ⟨.hbm, 117, rfl⟩
abbrev main_v76 : Ref sig .tc := ⟨.hbm, 118, rfl⟩
abbrev main_v77 : Ref sig .tc := ⟨.hbm, 119, rfl⟩

abbrev nD : Nat := 1
abbrev τ : Topo := Topo.v7x

variable {F : FTy → Type} [FloatOps F]
-- ==== Kernel6.lean ====
abbrev S4096x6656 : Shape := ⟨2, ![4096, 6656]⟩
abbrev S4096x1024 : Shape := ⟨2, ![4096, 1024]⟩
abbrev S64x128 : Shape := ⟨2, ![64, 128]⟩
abbrev S1x1024 : Shape := ⟨2, ![1, 1024]⟩
abbrev S8x128x128 : Shape := ⟨3, ![8, 128, 128]⟩
abbrev S128x1024 : Shape := ⟨2, ![128, 1024]⟩
abbrev S8x1024 : Shape := ⟨2, ![8, 1024]⟩
abbrev S2048x128 : Shape := ⟨2, ![2048, 128]⟩
abbrev S8x128 : Shape := ⟨2, ![8, 128]⟩
abbrev S1x128 : Shape := ⟨2, ![1, 128]⟩
abbrev S1x128x128 : Shape := ⟨3, ![1, 128, 128]⟩
abbrev S128x128 : Shape := ⟨2, ![128, 128]⟩
abbrev S256x128 : Shape := ⟨2, ![256, 128]⟩
abbrev S256x8x128 : Shape := ⟨3, ![256, 8, 128]⟩
abbrev S128 : Shape := ⟨1, ![128]⟩

abbrev nBuf : Space → Nat
  | .hbm => 16
  | .vmem => 38
  | .smem => 0
  | _ => 0

abbrev bufTy : (tb : Table) → Fin (tcTables nBuf tb) → BufTy
  | .hbm, ⟨0, _⟩ => ⟨S4096x6656, .bf16⟩
  | .hbm, ⟨1, _⟩ => ⟨S4096x1024, .f32⟩
  | .hbm, ⟨2, _⟩ => ⟨S4096x1024, .bf16⟩
  | .hbm, ⟨3, _⟩ => ⟨S64x128, .f32⟩
  | .hbm, ⟨4, _⟩ => ⟨S1x1024, .f32⟩
  | .hbm, ⟨5, _⟩ => ⟨S8x128x128, .f32⟩
  | .hbm, ⟨6, _⟩ => ⟨S1x1024, .f32⟩
  | .hbm, ⟨7, _⟩ => ⟨S8x128x128, .f32⟩
  | .hbm, ⟨8, _⟩ => ⟨S1x1024, .f32⟩
  | .hbm, ⟨9, _⟩ => ⟨S1x1024, .f32⟩
  | .hbm, ⟨10, _⟩ => ⟨S4096x1024, .bf16⟩
  | .hbm, ⟨11, _⟩ => ⟨S4096x1024, .bf16⟩
  | .hbm, ⟨12, _⟩ => ⟨S128x1024, .f32⟩
  | .hbm, ⟨13, _⟩ => ⟨S128x1024, .f32⟩
  | .hbm, ⟨14, _⟩ => ⟨S8x1024, .f32⟩
  | .hbm, ⟨15, _⟩ => ⟨S64x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S8x128, .f32⟩
  | .local _ .vmem, ⟨9, _⟩ => ⟨S8x128, .f32⟩
  | .local _ .vmem, ⟨10, _⟩ => ⟨S1x128, .f32⟩
  | .local _ .vmem, ⟨11, _⟩ => ⟨S1x128, .f32⟩
  | .local _ .vmem, ⟨12, _⟩ => ⟨S1x128x128, .f32⟩
  | .local _ .vmem, ⟨13, _⟩ => ⟨S1x128x128, .f32⟩
  | .local _ .vmem, ⟨14, _⟩ => ⟨S1x128, .f32⟩
  | .local _ .vmem, ⟨15, _⟩ => ⟨S1x128, .f32⟩
  | .local _ .vmem, ⟨16, _⟩ => ⟨S1x128x128, .f32⟩
  | .local _ .vmem, ⟨17, _⟩ => ⟨S1x128x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S8x128, .f32⟩
  | .local _ .vmem, ⟨31, _⟩ => ⟨S8x128, .f32⟩
  | .local _ .vmem, ⟨32, _⟩ => ⟨S8x128, .f32⟩
  | .local _ .vmem, ⟨33, _⟩ => ⟨S8x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S256x128, .f32⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_92 : BitVec 32 := 0#32
  let c32_i32 : BitVec 32 := 32#32
  let v258 : BitVec 32 := Scalar.addi c0_i32_92 c32_i32
  let c1_i32_93 : BitVec 32 := 1#32
  ⟨c0_i32_92, v258, c1_i32_93⟩
def k0_mult1 (k0_t1 : Fin k0_t1_loop.trips) : BitVec 32 :=
  let c0_i32_92 : BitVec 32 := 0#32
  let c1_i32_93 : BitVec 32 := 1#32
  let arg23 : BitVec 32 := Scf.iv c0_i32_92 c1_i32_93 k0_t1
  let c8_i32 : BitVec 32 := 8#32
  let v410 : BitVec 32 := Scalar.muli arg23 c8_i32
  let c0_i32_172 : BitVec 32 := 0#32
  let v411 : BitVec 32 := Scalar.addi v410 c0_i32_172
  let c8_i32_173 : BitVec 32 := 8#32
  let v412 : BitVec 32 := Scalar.muli v411 c8_i32_173
  v412
def k0_off1 (k0_t1 : Fin k0_t1_loop.trips) (c0_i32_172 : BitVec 32) : Fin 2 → Nat :=
  let c0_i32_92 : BitVec 32 := 0#32
  let c1_i32_93 : BitVec 32 := 1#32
  let arg23 : BitVec 32 := Scf.iv c0_i32_92 c1_i32_93 k0_t1
  let c8_i32 : BitVec 32 := 8#32
  let v410 : BitVec 32 := Scalar.muli arg23 c8_i32
  let v411 : BitVec 32 := Scalar.addi v410 c0_i32_172
  let c8_i32_173 : BitVec 32 := 8#32
  let v412 : BitVec 32 := Scalar.muli v411 c8_i32_173
  let v413 : BitVec 32 := v412
  let v414 : Index := Scalar.indexCast v413
  let c0_174 : Index := 0#32
  ![v414.toNat, 0]
def k0_off2 (k0_t1 : Fin k0_t1_loop.trips) (c0_i32_172 : BitVec 32) : Fin 2 → Nat :=
  let c0_i32_92 : BitVec 32 := 0#32
  let c1_i32_93 : BitVec 32 := 1#32
  let arg23 : BitVec 32 := Scf.iv c0_i32_92 c1_i32_93 k0_t1
  let c8_i32 : BitVec 32 := 8#32
  let v410 : BitVec 32 := Scalar.muli arg23 c8_i32
  let v411 : BitVec 32 := Scalar.addi v410 c0_i32_172
  let v418 : Index := Scalar.indexCast v411
  let c0_176 : Index := 0#32
  ![v418.toNat, 0]
def k0_mult2 (k0_t1 : Fin k0_t1_loop.trips) : BitVec 32 :=
  let c0_i32_92 : BitVec 32 := 0#32
  let c1_i32_93 : BitVec 32 := 1#32
  let arg23 : BitVec 32 := Scf.iv c0_i32_92 c1_i32_93 k0_t1
  let c8_i32_178 : BitVec 32 := 8#32
  let v427 : BitVec 32 := Scalar.muli arg23 c8_i32_178
  let c1_i32_179 : BitVec 32 := 1#32
  let v428 : BitVec 32 := Scalar.addi v427 c1_i32_179
  let c8_i32_180 : BitVec 32 := 8#32
  let v429 : BitVec 32 := Scalar.muli v428 c8_i32_180
  v429
def k0_mult3 (k0_t1 : Fin k0_t1_loop.trips) : BitVec 32 :=
  let c0_i32_92 : BitVec 32 := 0#32
  let c1_i32_93 : BitVec 32 := 1#32
  let arg23 : BitVec 32 := Scf.iv c0_i32_92 c1_i32_93 k0_t1
  let c8_i32_185 : BitVec 32 := 8#32
  let v444 : BitVec 32 := Scalar.muli arg23 c8_i32_185
  let c2_i32_186 : BitVec 32 := 2#32
  let v445 : BitVec 32 := Scalar.addi v444 c2_i32_186
  let c8_i32_187 : BitVec 32 := 8#32
  let v446 : BitVec 32 := Scalar.muli v445 c8_i32_187
  v446
def k0_mult4 (k0_t1 : Fin k0_t1_loop.trips) : BitVec 32 :=
  let c0_i32_92 : BitVec 32 := 0#32
  let c1_i32_93 : BitVec 32 := 1#32
  let arg23 : BitVec 32 := Scf.iv c0_i32_92 c1_i32_93 k0_t1
  let c8_i32_192 : BitVec 32 := 8#32
  let v461 : BitVec 32 := Scalar.muli arg23 c8_i32_192
  let c3_i32_193 : BitVec 32 := 3#32
  let v462 : BitVec 32 := Scalar.addi v461 c3_i32_193
  let c8_i32_194 : BitVec 32 := 8#32
  let v463 : BitVec 32 := Scalar.muli v462 c8_i32_194
  v463
def k0_mult5 (k0_t1 : Fin k0_t1_loop.trips) : BitVec 32 :=
  let c0_i32_92 : BitVec 32 := 0#32
  let c1_i32_93 : BitVec 32 := 1#32
  let arg23 : BitVec 32 := Scf.iv c0_i32_92 c1_i32_93 k0_t1
  let c8_i32_199 : BitVec 32 := 8#32
  let v478 : BitVec 32 := Scalar.muli arg23 c8_i32_199
  let c4_i32_200 : BitVec 32 := 4#32
  let v479 : BitVec 32 := Scalar.addi v478 c4_i32_200
  let c8_i32_201 : BitVec 32 := 8#32
  let v480 : BitVec 32 := Scalar.muli v479 c8_i32_201
  v480
def k0_mult6 (k0_t1 : Fin k0_t1_loop.trips) : BitVec 32 :=
  let c0_i32_92 : BitVec 32 := 0#32
  let c1_i32_93 : BitVec 32 := 1#32
  let arg23 : BitVec 32 := Scf.iv c0_i32_92 c1_i32_93 k0_t1
  let c8_i32_206 : BitVec 32 := 8#32
  let v495 : BitVec 32 := Scalar.muli arg23 c8_i32_206
  let c5_i32 : BitVec 32 := 5#32
  let v496 : BitVec 32 := Scalar.addi v495 c5_i32
  let c8_i32_207 : BitVec 32 := 8#32
  let v497 : BitVec 32 := Scalar.muli v496 c8_i32_207
  v497
def k0_mult7 (k0_t1 : Fin k0_t1_loop.trips) : BitVec 32 :=
  let c0_i32_92 : BitVec 32 := 0#32
  let c1_i32_93 : BitVec 32 := 1#32
  let arg23 : BitVec 32 := Scf.iv c0_i32_92 c1_i32_93 k0_t1
  let c8_i32_212 : BitVec 32 := 8#32
  let v512 : BitVec 32 := Scalar.muli arg23 c8_i32_212
  let c6_i32_213 : BitVec 32 := 6#32
  let v513 : BitVec 32 := Scalar.addi v512 c6_i32_213
  let c8_i32_214 : BitVec 32 := 8#32
  let v514 : BitVec 32 := Scalar.muli v513 c8_i32_214
  v514
def k0_mult8 (k0_t1 : Fin k0_t1_loop.trips) : BitVec 32 :=
  let c0_i32_92 : BitVec 32 := 0#32
  let c1_i32_93 : BitVec 32 := 1#32
  let arg23 : BitVec 32 := Scf.iv c0_i32_92 c1_i32_93 k0_t1
  let c8_i32_219 : BitVec 32 := 8#32
  let v529 : BitVec 32 := Scalar.muli arg23 c8_i32_219
  let c7_i32_220 : BitVec 32 := 7#32
  let v530 : BitVec 32 := Scalar.addi v529 c7_i32_220
  let c8_i32_221 : BitVec 32 := 8#32
  let v531 : BitVec 32 := Scalar.muli v530 c8_i32_221
  v531
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Reference6Ideal.lean ====
abbrev S4096x6656 : Shape := ⟨2, ![4096, 6656]⟩
abbrev S4096x1024 : Shape := ⟨2, ![4096, 1024]⟩
abbrev S64x128 : Shape := ⟨2, ![64, 128]⟩
abbrev S1x1024 : Shape := ⟨2, ![1, 1024]⟩
abbrev S8x128x128 : Shape := ⟨3, ![8, 128, 128]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x6656, .bf16⟩
  | .hbm, ⟨1, _⟩ => ⟨S4096x1024, .f32⟩
  | .hbm, ⟨2, _⟩ => ⟨S4096x1024, .bf16⟩
  | .hbm, ⟨3, _⟩ => ⟨S64x128, .f32⟩
  | .hbm, ⟨4, _⟩ => ⟨S1x1024, .f32⟩
  | .hbm, ⟨5, _⟩ => ⟨S8x128x128, .f32⟩
  | .hbm, ⟨6, _⟩ => ⟨S1x1024, .f32⟩
  | .hbm, ⟨7, _⟩ => ⟨S8x128x128, .f32⟩
  | .hbm, ⟨8, _⟩ => ⟨S1x1024, .f32⟩
  | .hbm, ⟨9, _⟩ => ⟨S1x1024, .f32⟩
  | .hbm, ⟨10, _⟩ => ⟨S4096x1024, .bf16⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v2_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v2_1 : Ref sig .tc := ⟨.hbm, 23, rfl⟩
abbrev main_v2_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v6 : Ref sig .tc := ⟨.hbm, 31, rfl⟩
abbrev main_v7 : Ref sig .tc := ⟨.hbm, 32, rfl⟩

abbrev nD : Nat := 1
abbrev τ : Topo := Topo.v7x

variable {F : FTy → Type} [FloatOps F]
-- ==== Kernel7.lean ====
abbrev S128x1024 : Shape := ⟨2, ![128, 1024]⟩
abbrev S64x1024 : Shape := ⟨2, ![64, 1024]⟩
abbrev S8x128 : Shape := ⟨2, ![8, 128]⟩
abbrev S8x128x128 : Shape := ⟨3, ![8, 128, 128]⟩
abbrev S1x1024 : Shape := ⟨2, ![1, 1024]⟩
abbrev S1x16 : Shape := ⟨2, ![1, 16]⟩
abbrev S4x128 : Shape := ⟨2, ![4, 128]⟩
abbrev S128x128 : Shape := ⟨2, ![128, 128]⟩
abbrev S1x128x128 : Shape := ⟨3, ![1, 128, 128]⟩

abbrev nBuf : Space → Nat
  | .hbm => 75
  | .vmem => 75
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S64x1024, .f32⟩
  | .hbm, ⟨3, _⟩ => ⟨S8x128, .f32⟩
  | .hbm, ⟨4, _⟩ => ⟨S8x128x128, .f32⟩
  | .hbm, ⟨5, _⟩ => ⟨S8x128x128, .f32⟩
  | .hbm, ⟨6, _⟩ => ⟨S8x128x128, .f32⟩
  | .hbm, ⟨7, _⟩ => ⟨S8x128x128, .f32⟩
  | .hbm, ⟨8, _⟩ => ⟨S8x128x128, .f32⟩
  | .hbm, ⟨9, _⟩ => ⟨S8x128x128, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x16, .f32⟩
  | .hbm, ⟨29, _⟩ => ⟨S1x16, .f32⟩
  | .hbm, ⟨30, _⟩ => ⟨S1x16, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S8x128x128, .f32⟩
  | .hbm, ⟨35, _⟩ => ⟨S8x128x128, .f32⟩
  | .hbm, ⟨36, _⟩ => ⟨S8x128x128, .f32⟩
  | .hbm, ⟨37, _⟩ => ⟨S8x128x128, .f32⟩
  | .hbm, ⟨38, _⟩ => ⟨S8x128x128, .f32⟩
  | .hbm, ⟨39, _⟩ => ⟨S8x128x128, .f32⟩
  | .hbm, ⟨40, _⟩ => ⟨S8x128x128, .f32⟩
  | .hbm, ⟨41, _⟩ => ⟨S8x128x128, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x16, .f32⟩
  | .hbm, ⟨67, _⟩ => ⟨S1x16, .f32⟩
  | .hbm, ⟨68, _⟩ => ⟨S1x16, .f32⟩
  | .hbm, ⟨69, _⟩ => ⟨S1x16, .f32⟩
  | .hbm, ⟨70, _⟩ => ⟨S4x128, .f32⟩
  | .hbm, ⟨71, _⟩ => ⟨S4x128, .f32⟩
  | .hbm, ⟨72, _⟩ => ⟨S4x128, .f32⟩
  | .hbm, ⟨73, _⟩ => ⟨S4x128, .f32⟩
  | .hbm, ⟨74, _⟩ => ⟨S8x128, .f32⟩
  | .local _ .vmem, ⟨0, _⟩ => ⟨S128x1024, .f32⟩
  | .local _ .vmem, ⟨1, _⟩ => ⟨S128x1024, .f32⟩
  | .local _ .vmem, ⟨2, _⟩ => ⟨S64x1024, .f32⟩
  | .local _ .vmem, ⟨3, _⟩ => ⟨S8x128, .f32⟩
  | .local _ .vmem, ⟨4, _⟩ => ⟨S8x128x128, .f32⟩
  | .local _ .vmem, ⟨5, _⟩ => ⟨S8x128x128, .f32⟩
  | .local _ .vmem, ⟨6, _⟩ => ⟨S8x128x128, .f32⟩
  | .local _ .vmem, ⟨7, _⟩ => ⟨S8x128x128, .f32⟩
  | .local _ .vmem, ⟨8, _⟩ => ⟨S8x128x128, .f32⟩
  | .local _ .vmem, ⟨9, _⟩ => ⟨S8x128x128, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x16, .f32⟩
  | .local _ .vmem, ⟨29, _⟩ => ⟨S1x16, .f32⟩
  | .local _ .vmem, ⟨30, _⟩ => ⟨S1x16, .f32⟩
  | .local _ .vmem, ⟨31, _⟩ => ⟨S4x128, .f32⟩
  | .local _ .vmem, ⟨32, _⟩ => ⟨S4x128, .f32⟩
  | .local _ .vmem, ⟨33, _⟩ => ⟨S4x128, .f32⟩
  | .local _ .vmem, ⟨34, _⟩ => ⟨S8x128x128, .f32⟩
  | .local _ .vmem, ⟨35, _⟩ => ⟨S8x128x128, .f32⟩
  | .local _ .vmem, ⟨36, _⟩ => ⟨S8x128x128, .f32⟩
  | .local _ .vmem, ⟨37, _⟩ => ⟨S8x128x128, .f32⟩
  | .local _ .vmem, ⟨38, _⟩ => ⟨S8x128x128, .f32⟩
  | .local _ .vmem, ⟨39, _⟩ => ⟨S8x128x128, .f32⟩
  | .local _ .vmem, ⟨40, _⟩ => ⟨S8x128x128, .f32⟩
  | .local _ .vmem, ⟨41, _⟩ => ⟨S8x128x128, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S1x1024, .f32⟩
  | .local _ .vmem, ⟨49, _⟩ => ⟨S1x1024, .f32⟩
  | .local _ .vmem, ⟨50, _⟩ => ⟨S1x1024, .f32⟩
  | .local _ .vmem, ⟨51, _⟩ => ⟨S1x1024, .f32⟩
  | .local _ .vmem, ⟨52, _⟩ => ⟨S1x1024, .f32⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | .local _ .vmem, ⟨56, _⟩ => ⟨S1x1024, .f32⟩
  | .local _ .vmem, ⟨57, _⟩ => ⟨S1x1024, .f32⟩
  | .local _ .vmem, ⟨58, _⟩ => ⟨S1x1024, .f32⟩
  | .local _ .vmem, ⟨59, _⟩ => ⟨S1x1024, .f32⟩
  | .local _ .vmem, ⟨60, _⟩ => ⟨S1x1024, .f32⟩
  | .local _ .vmem, ⟨61, _⟩ => ⟨S1x1024, .f32⟩
  | .local _ .vmem, ⟨62, _⟩ => ⟨S1x1024, .f32⟩
  | .local _ .vmem, ⟨63, _⟩ => ⟨S1x1024, .f32⟩
  | .local _ .vmem, ⟨64, _⟩ => ⟨S1x1024, .f32⟩
  | .local _ .vmem, ⟨65, _⟩ => ⟨S1x1024, .f32⟩
  | .local _ .vmem, ⟨66, _⟩ => ⟨S1x16, .f32⟩
  | .local _ .vmem, ⟨67, _⟩ => ⟨S1x16, .f32⟩
  | .local _ .vmem, ⟨68, _⟩ => ⟨S1x16, .f32⟩
  | .local _ .vmem, ⟨69, _⟩ => ⟨S1x16, .f32⟩
  | .local _ .vmem, ⟨70, _⟩ => ⟨S4x128, .f32⟩
  | .local _ .vmem, ⟨71, _⟩ => ⟨S4x128, .f32⟩
  | .local _ .vmem, ⟨72, _⟩ => ⟨S4x128, .f32⟩
  | .local _ .vmem, ⟨73, _⟩ => ⟨S4x128, .f32⟩
  | .local _ .vmem, ⟨74, _⟩ => ⟨S8x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0_0 : Ref sig .tc := ⟨.hbm, 34, rfl⟩
abbrev main_v0_1 : Ref sig .tc := ⟨.hbm, 35, rfl⟩
abbrev main_v0_2 : Ref sig .tc := ⟨.hbm, 36, rfl⟩
abbrev main_v0_3 : Ref sig .tc := ⟨.hbm, 37, rfl⟩
abbrev main_v0_4 : Ref sig .tc := ⟨.hbm, 38, rfl⟩
abbrev main_v0_5 : Ref sig .tc := ⟨.hbm, 39, rfl⟩
abbrev main_v0_6 : Ref sig .tc := ⟨.hbm, 40, rfl⟩
abbrev main_v0_7 : Ref sig .tc := ⟨.hbm, 41, rfl⟩
abbrev main_v0_8 : Ref sig .tc := ⟨.hbm, 42, rfl⟩
abbrev main_v0_9 : Ref sig .tc := ⟨.hbm, 43, rfl⟩
abbrev main_v0_10 : Ref sig .tc := ⟨.hbm, 44, rfl⟩
abbrev main_v0_11 : Ref sig .tc := ⟨.hbm, 45, rfl⟩
abbrev main_v0_12 : Ref sig .tc := ⟨.hbm, 46, rfl⟩
abbrev main_v0_13 : Ref sig .tc := ⟨.hbm, 47, rfl⟩
abbrev main_v0_14 : Ref sig .tc := ⟨.hbm, 48, rfl⟩
abbrev main_v0_15 : Ref sig .tc := ⟨.hbm, 49, rfl⟩
abbrev main_v0_16 : Ref sig .tc := ⟨.hbm, 50, rfl⟩
abbrev main_v0_17 : Ref sig .tc := ⟨.hbm, 51, rfl⟩
abbrev main_v0_18 : Ref sig .tc := ⟨.hbm, 52, rfl⟩
abbrev main_v0_19 : Ref sig .tc := ⟨.hbm, 53, rfl⟩
abbrev main_v0_20 : Ref sig .tc := ⟨.hbm, 54, rfl⟩
abbrev main_v0_21 : Ref sig .tc := ⟨.hbm, 55, rfl⟩
abbrev main_v0_22 : Ref sig .tc := ⟨.hbm, 56, rfl⟩
abbrev main_v0_23 : Ref sig .tc := ⟨.hbm, 57, rfl⟩
abbrev main_v0_24 : Ref sig .tc := ⟨.hbm, 58, rfl⟩
abbrev main_v0_25 : Ref sig .tc := ⟨.hbm, 59, rfl⟩
abbrev main_v0_26 : Ref sig .tc := ⟨.hbm, 60, rfl⟩
abbrev main_v0_27 : Ref sig .tc := ⟨.hbm, 61, rfl⟩
abbrev main_v0_28 : Ref sig .tc := ⟨.hbm, 62, rfl⟩
abbrev main_v0_29 : Ref sig .tc := ⟨.hbm, 63, rfl⟩
abbrev main_v0_30 : Ref sig .tc := ⟨.hbm, 64, rfl⟩
abbrev main_v0_31 : Ref sig .tc := ⟨.hbm, 65, rfl⟩
abbrev main_v0_32 : Ref sig .tc := ⟨.hbm, 66, rfl⟩
abbrev main_v0_33 : Ref sig .tc := ⟨.hbm, 67, rfl⟩
abbrev main_v0_34 : Ref sig .tc := ⟨.hbm, 68, rfl⟩
abbrev main_v0_35 : Ref sig .tc := ⟨.hbm, 69, rfl⟩
abbrev main_v0_36 : Ref sig .tc := ⟨.hbm, 70, rfl⟩
abbrev main_v0_37 : Ref sig .tc := ⟨.hbm, 71, rfl⟩
abbrev main_v0_38 : Ref sig .tc := ⟨.hbm, 72, rfl⟩
abbrev main_v0_39 : Ref sig .tc := ⟨.hbm, 73, rfl⟩
abbrev main_v0_40 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x16 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x16 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x16 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S4x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S4x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S4x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S8x128x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S8x128x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S8x128x128 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S8x128x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S8x128x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S8x128x128 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S8x128x128 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S8x128x128 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x1024 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x1024 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x1024 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x1024 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x16 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x16 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x16 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S1x16 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S4x128 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S4x128 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S4x128 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S4x128 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S8x128 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))
-- ==== Reference7Ideal.lean ====
abbrev S128x1024 : Shape := ⟨2, ![128, 1024]⟩
abbrev S64x1024 : Shape := ⟨2, ![64, 1024]⟩
abbrev S8x128 : Shape := ⟨2, ![8, 128]⟩
abbrev S8x128x128 : Shape := ⟨3, ![8, 128, 128]⟩
abbrev S1x1024 : Shape := ⟨2, ![1, 1024]⟩
abbrev S1x16 : Shape := ⟨2, ![1, 16]⟩
abbrev S4x128 : Shape := ⟨2, ![4, 128]⟩
abbrev S128x8x128 : Shape := ⟨3, ![128, 8, 128]⟩
abbrev S_ : Shape := ⟨0, ![]⟩

abbrev nBuf : Space → Nat
  | .hbm => 380
  | .vmem => 0
  | .smem => 0
  | _ => 0

abbrev hbmTy0_0 (i : Nat) : BufTy := match i % 128 with
  | 0 => ⟨S128x1024, .f32⟩
  | 1 => ⟨S128x1024, .f32⟩
  | 2 => ⟨S64x1024, .f32⟩
  | 3 => ⟨S8x128, .f32⟩
  | 4 => ⟨S8x128x128, .f32⟩
  | 5 => ⟨S8x128x128, .f32⟩
  | 6 => ⟨S8x128x128, .f32⟩
  | 7 => ⟨S8x128x128, .f32⟩
  | 8 => ⟨S8x128x128, .f32⟩
  | 9 => ⟨S8x128x128, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x16, .f32⟩
  | 29 => ⟨S1x16, .f32⟩
  | 30 => ⟨S1x16, .f32⟩
  | 31 => ⟨S4x128, .f32⟩
  | 32 => ⟨S4x128, .f32⟩
  | 33 => ⟨S4x128, .f32⟩
  | 34 => ⟨S128x8x128, .f32⟩
  | 35 => ⟨S8x128x128, .f32⟩
  | 36 => ⟨S128x8x128, .f32⟩
  | 37 => ⟨S8x128x128, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S1x16, .f32⟩
  | 45 => ⟨S4x128, .f32⟩
  | 46 => ⟨S_, .f32⟩
  | 47 => ⟨S8x128x128, .f32⟩
  | 48 => ⟨S8x128x128, .f32⟩
  | 49 => ⟨S_, .f32⟩
  | 50 => ⟨S8x128x128, .f32⟩
  | 51 => ⟨S8x128x128, .f32⟩
  | 52 => ⟨S8x128x128, .f32⟩
  | 53 => ⟨S_, .f32⟩
  | 54 => ⟨S8x128x128, .f32⟩
  | 55 => ⟨S8x128x128, .f32⟩
  | 56 => ⟨S8x128x128, .f32⟩
  | 57 => ⟨S_, .f32⟩
  | 58 => ⟨S8x128x128, .f32⟩
  | 59 => ⟨S8x128x128, .f32⟩
  | 60 => ⟨S8x128x128, .f32⟩
  | 61 => ⟨S_, .f32⟩
  | 62 => ⟨S8x128x128, .f32⟩
  | 63 => ⟨S8x128x128, .f32⟩
  | 64 => ⟨S_, .f32⟩
  | 65 => ⟨S8x128x128, .f32⟩
  | 66 => ⟨S8x128x128, .f32⟩
  | 67 => ⟨S8x128x128, .f32⟩
  | 68 => ⟨S_, .f32⟩
  | 69 => ⟨S8x128x128, .f32⟩
  | 70 => ⟨S8x128x128, .f32⟩
  | 71 => ⟨S8x128x128, .f32⟩
  | 72 => ⟨S_, .f32⟩
  | 73 => ⟨S8x128x128, .f32⟩
  | 74 => ⟨S8x128x128, .f32⟩
  | 75 => ⟨S8x128x128, .f32⟩
  | 76 => ⟨S_, .f32⟩
  | 77 => ⟨S8x128x128, .f32⟩
  | 78 => ⟨S8x128x128, .f32⟩
  | 79 => ⟨S_, .f32⟩
  | 80 => ⟨S8x128x128, .f32⟩
  | 81 => ⟨S8x128x128, .f32⟩
  | 82 => ⟨S_, .f32⟩
  | 83 => ⟨S8x128x128, .f32⟩
  | 84 => ⟨S8x128x128, .f32⟩
  | 85 => ⟨S8x128x128, .f32⟩
  | 86 => ⟨S_, .f32⟩
  | 87 => ⟨S8x128x128, .f32⟩
  | 88 => ⟨S8x128x128, .f32⟩
  | 89 => ⟨S8x128x128, .f32⟩
  | 90 => ⟨S_, .f32⟩
  | 91 => ⟨S8x128x128, .f32⟩
  | 92 => ⟨S8x128x128, .f32⟩
  | 93 => ⟨S8x128x128, .f32⟩
  | 94 => ⟨S_, .f32⟩
  | 95 => ⟨S8x128x128, .f32⟩
  | 96 => ⟨S8x128x128, .f32⟩
  | 97 => ⟨S_, .f32⟩
  | 98 => ⟨S8x128x128, .f32⟩
  | 99 => ⟨S8x128x128, .f32⟩
  | 100 => ⟨S8x128x128, .f32⟩
  | 101 => ⟨S_, .f32⟩
  | 102 => ⟨S8x128x128, .f32⟩
  | 103 => ⟨S8x128x128, .f32⟩
  | 104 => ⟨S8x128x128, .f32⟩
  | 105 => ⟨S_, .f32⟩
  | 106 => ⟨S8x128x128, .f32⟩
  | 107 => ⟨S8x128x128, .f32⟩
  | 108 => ⟨S8x128x128, .f32⟩
  | 109 => ⟨S_, .f32⟩
  | 110 => ⟨S8x128x128, .f32⟩
  | 111 => ⟨S8x128x128, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S1x1024, .f32⟩
  | 119 => ⟨S_, .f32⟩
  | 120 => ⟨S1x1024, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S1x1024, .f32⟩
  | 127 => ⟨S_, .f32⟩
  | _ => ⟨S128x1024, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S_, .f32⟩
  | 21 => ⟨S1x1024, .f32⟩
  | 22 => ⟨S1x1024, .f32⟩
  | 23 => ⟨S1x1024, .f32⟩
  | 24 => ⟨S_, .f32⟩
  | 25 => ⟨S1x1024, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S_, .f32⟩
  | 120 => ⟨S1x1024, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S1x1024, .f32⟩
  | 127 => ⟨S_, .f32⟩
  | _ => ⟨S128x1024, .f32⟩

abbrev hbmTy0_2 (i : Nat) : BufTy := match i % 128 with
  | 0 => ⟨S1x1024, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S_, .f32⟩
  | 25 => ⟨S1x1024, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S_, .f32⟩
  | 55 => ⟨S1x16, .f32⟩
  | 56 => ⟨S1x16, .f32⟩
  | 57 => ⟨S_, .f32⟩
  | 58 => ⟨S1x16, .f32⟩
  | 59 => ⟨S1x16, .f32⟩
  | 60 => ⟨S1x16, .f32⟩
  | 61 => ⟨S_, .f32⟩
  | 62 => ⟨S1x16, .f32⟩
  | 63 => ⟨S1x16, .f32⟩
  | 64 => ⟨S1x16, .f32⟩
  | 65 => ⟨S_, .f32⟩
  | 66 => ⟨S1x16, .f32⟩
  | 67 => ⟨S1x16, .f32⟩
  | 68 => ⟨S1x16, .f32⟩
  | 69 => ⟨S_, .f32⟩
  | 70 => ⟨S1x16, .f32⟩
  | 71 => ⟨S1x16, .f32⟩
  | 72 => ⟨S_, .f32⟩
  | 73 => ⟨S1x16, .f32⟩
  | 74 => ⟨S1x16, .f32⟩
  | 75 => ⟨S1x16, .f32⟩
  | 76 => ⟨S_, .f32⟩
  | 77 => ⟨S1x16, .f32⟩
  | 78 => ⟨S1x16, .f32⟩
  | 79 => ⟨S1x16, .f32⟩
  | 80 => ⟨S_, .f32⟩
  | 81 => ⟨S1x16, .f32⟩
  | 82 => ⟨S1x16, .f32⟩
  | 83 => ⟨S1x16, .f32⟩
  | 84 => ⟨S_, .f32⟩
  | 85 => ⟨S1x16, .f32⟩
  | 86 => ⟨S1x16, .f32⟩
  | 87 => ⟨S_, .f32⟩
  | 88 => ⟨S4x128, .f32⟩
  | 89 => ⟨S4x128, .f32⟩
  | 90 => ⟨S_, .f32⟩
  | 91 => ⟨S4x128, .f32⟩
  | 92 => ⟨S4x128, .f32⟩
  | 93 => ⟨S4x128, .f32⟩
  | 94 => ⟨S_, .f32⟩
  | 95 => ⟨S4x128, .f32⟩
  | 96 => ⟨S4x128, .f32⟩
  | 97 => ⟨S4x128, .f32⟩
  | 98 => ⟨S_, .f32⟩
  | 99 => ⟨S4x128, .f32⟩
  | 100 => ⟨S4x128, .f32⟩
  | 101 => ⟨S4x128, .f32⟩
  | 102 => ⟨S_, .f32⟩
  | 103 => ⟨S4x128, .f32⟩
  | 104 => ⟨S4x128, .f32⟩
  | 105 => ⟨S_, .f32⟩
  | 106 => ⟨S4x128, .f32⟩
  | 107 => ⟨S4x128, .f32⟩
  | 108 => ⟨S4x128, .f32⟩
  | 109 => ⟨S_, .f32⟩
  | 110 => ⟨S4x128, .f32⟩
  | 111 => ⟨S4x128, .f32⟩
  | 112 => ⟨S4x128, .f32⟩
  | 113 => ⟨S_, .f32⟩
  | 114 => ⟨S4x128, .f32⟩
  | 115 => ⟨S4x128, .f32⟩
  | 116 => ⟨S4x128, .f32⟩
  | 117 => ⟨S_, .f32⟩
  | 118 => ⟨S4x128, .f32⟩
  | 119 => ⟨S4x128, .f32⟩
  | 120 => ⟨S8x128, .f32⟩
  | 121 => ⟨S_, .f32⟩
  | 122 => ⟨S8x128, .f32⟩
  | 123 => ⟨S8x128, .f32⟩
  | _ => ⟨S128x1024, .f32⟩

abbrev hbmTy (i : Nat) : BufTy := match i / 128 with
  | 0 => hbmTy0_0 i
  | 1 => hbmTy0_1 i
  | 2 => hbmTy0_2 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst : Ref sig .tc := ⟨.hbm, 46, rfl⟩
abbrev main_v12 : Ref sig .tc := ⟨.hbm, 47, rfl⟩
abbrev main_v13 : Ref sig .tc := ⟨.hbm, 48, rfl⟩
abbrev main_cst_0 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst_1 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_2 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_3 : Ref sig .tc := ⟨.hbm, 61, rfl⟩
abbrev main_v23 : Ref sig .tc := ⟨.hbm, 62, rfl⟩
abbrev main_v24 : Ref sig .tc := ⟨.hbm, 63, rfl⟩
abbrev main_cst_4 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_5 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_cst_6 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_7 : Ref sig .tc := ⟨.hbm, 76, rfl⟩
abbrev main_v34 : Ref sig .tc := ⟨.hbm, 77, rfl⟩
abbrev main_v35 : Ref sig .tc := ⟨.hbm, 78, rfl⟩
abbrev main_cst_8 : Ref sig .tc := ⟨.hbm, 79, rfl⟩
abbrev main_v36 : Ref sig .tc := ⟨.hbm, 80, rfl⟩
abbrev main_v37 : Ref sig .tc := ⟨.hbm, 81, rfl⟩
abbrev main_cst_9 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_cst_10 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_cst_11 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_12 : Ref sig .tc := ⟨.hbm, 94, rfl⟩
abbrev main_v47 : Ref sig .tc := ⟨.hbm, 95, rfl⟩
abbrev main_v48 : Ref sig .tc := ⟨.hbm, 96, rfl⟩
abbrev main_cst_13 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_cst_14 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_cst_15 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_16 : Ref sig .tc := ⟨.hbm, 109, rfl⟩
abbrev main_v58 : Ref sig .tc := ⟨.hbm, 110, rfl⟩
abbrev main_v59 : Ref sig .tc := ⟨.hbm, 111, rfl⟩
abbrev main_cst_17 : Ref sig .tc := ⟨.hbm, 112, rfl⟩
abbrev main_v60 : Ref sig .tc := ⟨.hbm, 113, rfl⟩
abbrev main_v61 : Ref sig .tc := ⟨.hbm, 114, rfl⟩
abbrev main_cst_18 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_cst_19 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_cst_20 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_cst_21 : Ref sig .tc := ⟨.hbm, 127, rfl⟩
abbrev main_v71 : Ref sig .tc := ⟨.hbm, 128, rfl⟩
abbrev main_v72 : Ref sig .tc := ⟨.hbm, 129, rfl⟩
abbrev main_cst_22 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_cst_23 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_cst_24 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_cst_25 : Ref sig .tc := ⟨.hbm, 142, rfl⟩
abbrev main_v82 : Ref sig .tc := ⟨.hbm, 143, rfl⟩
abbrev main_v83 : Ref sig .tc := ⟨.hbm, 144, rfl⟩
abbrev main_cst_26 : Ref sig .tc := ⟨.hbm, 145, rfl⟩
abbrev main_v84 : Ref sig .tc := ⟨.hbm, 146, rfl⟩
abbrev main_v85 : Ref sig .tc := ⟨.hbm, 147, rfl⟩
abbrev main_cst_27 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_cst_28 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_cst_29 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_cst_30 : Ref sig .tc := ⟨.hbm, 160, rfl⟩
abbrev main_v95 : Ref sig .tc := ⟨.hbm, 161, rfl⟩
abbrev main_v96 : Ref sig .tc := ⟨.hbm, 162, rfl⟩
abbrev main_cst_31 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_cst_32 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_cst_33 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_cst_34 : Ref sig .tc := ⟨.hbm, 175, rfl⟩
abbrev main_v106 : Ref sig .tc := ⟨.hbm, 176, rfl⟩
abbrev main_v107 : Ref sig .tc := ⟨.hbm, 177, rfl⟩
abbrev main_cst_35 : Ref sig .tc := ⟨.hbm, 178, rfl⟩
abbrev main_v108 : Ref sig .tc := ⟨.hbm, 179, rfl⟩
abbrev main_v109 : Ref sig .tc := ⟨.hbm, 180, rfl⟩
abbrev main_cst_36 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_cst_37 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_cst_38 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_cst_39 : Ref sig .tc := ⟨.hbm, 193, rfl⟩
abbrev main_v119 : Ref sig .tc := ⟨.hbm, 194, rfl⟩
abbrev main_v120 : Ref sig .tc := ⟨.hbm, 195, rfl⟩
abbrev main_cst_40 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_cst_41 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_cst_42 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_cst_43 : Ref sig .tc := ⟨.hbm, 208, rfl⟩
abbrev main_v130 : Ref sig .tc := ⟨.hbm, 209, rfl⟩
abbrev main_v131 : Ref sig .tc := ⟨.hbm, 210, rfl⟩
abbrev main_cst_44 : Ref sig .tc := ⟨.hbm, 211, rfl⟩
abbrev main_v132 : Ref sig .tc := ⟨.hbm, 212, rfl⟩
abbrev main_v133 : Ref sig .tc := ⟨.hbm, 213, rfl⟩
abbrev main_cst_45 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_cst_46 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_cst_47 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_cst_48 : Ref sig .tc := ⟨.hbm, 226, rfl⟩
abbrev main_v143 : Ref sig .tc := ⟨.hbm, 227, rfl⟩
abbrev main_v144 : Ref sig .tc := ⟨.hbm, 228, rfl⟩
abbrev main_cst_49 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_cst_50 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_cst_51 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_cst_52 : Ref sig .tc := ⟨.hbm, 241, rfl⟩
abbrev main_v154 : Ref sig .tc := ⟨.hbm, 242, rfl⟩
abbrev main_v155 : Ref sig .tc := ⟨.hbm, 243, rfl⟩
abbrev main_cst_53 : Ref sig .tc := ⟨.hbm, 244, rfl⟩
abbrev main_v156 : Ref sig .tc := ⟨.hbm, 245, rfl⟩
abbrev main_v157 : Ref sig .tc := ⟨.hbm, 246, rfl⟩
abbrev main_cst_54 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_cst_55 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_cst_56 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_cst_57 : Ref sig .tc := ⟨.hbm, 259, rfl⟩
abbrev main_v167 : Ref sig .tc := ⟨.hbm, 260, rfl⟩
abbrev main_v168 : Ref sig .tc := ⟨.hbm, 261, rfl⟩
abbrev main_cst_58 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_cst_59 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_cst_60 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_cst_61 : Ref sig .tc := ⟨.hbm, 274, rfl⟩
abbrev main_v178 : Ref sig .tc := ⟨.hbm, 275, rfl⟩
abbrev main_v179 : Ref sig .tc := ⟨.hbm, 276, rfl⟩
abbrev main_cst_62 : Ref sig .tc := ⟨.hbm, 277, rfl⟩
abbrev main_v180 : Ref sig .tc := ⟨.hbm, 278, rfl⟩
abbrev main_v181 : Ref sig .tc := ⟨.hbm, 279, rfl⟩
abbrev main_cst_63 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_cst_64 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_cst_65 : Ref sig .tc := ⟨.hbm, 288, rfl⟩
abbrev main_v188 : Ref sig .tc := ⟨.hbm, 289, rfl⟩
abbrev main_v189 : Ref sig .tc := ⟨.hbm, 290, rfl⟩
abbrev main_v190 : Ref sig .tc := ⟨.hbm, 291, rfl⟩
abbrev main_cst_66 : Ref sig .tc := ⟨.hbm, 292, rfl⟩
abbrev main_v191 : Ref sig .tc := ⟨.hbm, 293, rfl⟩
abbrev main_v192 : Ref sig .tc := ⟨.hbm, 294, rfl⟩
abbrev main_cst_67 : Ref sig .tc := ⟨.hbm, 295, rfl⟩
abbrev main_v193 : Ref sig .tc := ⟨.hbm, 296, rfl⟩
abbrev main_v194 : Ref sig .tc := ⟨.hbm, 297, rfl⟩
abbrev main_v195 : Ref sig .tc := ⟨.hbm, 298, rfl⟩
abbrev main_cst_68 : Ref sig .tc := ⟨.hbm, 299, rfl⟩
abbrev main_v196 : Ref sig .tc := ⟨.hbm, 300, rfl⟩
abbrev main_v197 : Ref sig .tc := ⟨.hbm, 301, rfl⟩
abbrev main_v198 : Ref sig .tc := ⟨.hbm, 302, rfl⟩
abbrev main_cst_69 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_cst_70 : Ref sig .tc := ⟨.hbm, 307, rfl⟩
abbrev main_v202 : Ref sig .tc := ⟨.hbm, 308, rfl⟩
abbrev main_v203 : Ref sig .tc := ⟨.hbm, 309, rfl⟩
abbrev main_cst_71 : Ref sig .tc := ⟨.hbm, 310, rfl⟩
abbrev main_v204 : Ref sig .tc := ⟨.hbm, 311, rfl⟩
abbrev main_v205 : Ref sig .tc := ⟨.hbm, 312, rfl⟩
abbrev main_cst_72 : Ref sig .tc := ⟨.hbm, 313, rfl⟩
abbrev main_v206 : Ref sig .tc := ⟨.hbm, 314, rfl⟩
abbrev main_v207 : Ref sig .tc := ⟨.hbm, 315, rfl⟩
abbrev main_v208 : Ref sig .tc := ⟨.hbm, 316, rfl⟩
abbrev main_cst_73 : Ref sig .tc := ⟨.hbm, 317, rfl⟩
abbrev main_v209 : Ref sig .tc := ⟨.hbm, 318, rfl⟩
abbrev main_v210 : Ref sig .tc := ⟨.hbm, 319, rfl⟩
abbrev main_v211 : Ref sig .tc := ⟨.hbm, 320, rfl⟩
abbrev main_cst_74 : Ref sig .tc := ⟨.hbm, 321, rfl⟩
abbrev main_v212 : Ref sig .tc := ⟨.hbm, 322, rfl⟩
abbrev main_v213 : Ref sig .tc := ⟨.hbm, 323, rfl⟩
abbrev main_v214 : Ref sig .tc := ⟨.hbm, 324, rfl⟩
abbrev main_cst_75 : Ref sig .tc := ⟨.hbm, 325, rfl⟩
abbrev main_v215 : Ref sig .tc := ⟨.hbm, 326, rfl⟩
abbrev main_v216 : Ref sig .tc := ⟨.hbm, 327, rfl⟩
abbrev main_cst_76 : Ref sig .tc := ⟨.hbm, 328, rfl⟩
abbrev main_v217 : Ref sig .tc := ⟨.hbm, 329, rfl⟩
abbrev main_v218 : Ref sig .tc := ⟨.hbm, 330, rfl⟩
abbrev main_v219 : Ref sig .tc := ⟨.hbm, 331, rfl⟩
abbrev main_cst_77 : Ref sig .tc := ⟨.hbm, 332, rfl⟩
abbrev main_v220 : Ref sig .tc := ⟨.hbm, 333, rfl⟩
abbrev main_v221 : Ref sig .tc := ⟨.hbm, 334, rfl⟩
abbrev main_v222 : Ref sig .tc := ⟨.hbm, 335, rfl⟩
abbrev main_cst_78 : Ref sig .tc := ⟨.hbm, 336, rfl⟩
abbrev main_v223 : Ref sig .tc := ⟨.hbm, 337, rfl⟩
abbrev main_v224 : Ref sig .tc := ⟨.hbm, 338, rfl⟩
abbrev main_v225 : Ref sig .tc := ⟨.hbm, 339, rfl⟩
abbrev main_cst_79 : Ref sig .tc := ⟨.hbm, 340, rfl⟩
abbrev main_v226 : Ref sig .tc := ⟨.hbm, 341, rfl⟩
abbrev main_v227 : Ref sig .tc := ⟨.hbm, 342, rfl⟩
abbrev main_cst_80 : Ref sig .tc := ⟨.hbm, 343, rfl⟩
abbrev main_v228 : Ref sig .tc := ⟨.hbm, 344, rfl⟩
abbrev main_v229 : Ref sig .tc := ⟨.hbm, 345, rfl⟩
abbrev main_cst_81 : Ref sig .tc := ⟨.hbm, 346, rfl⟩
abbrev main_v230 : Ref sig .tc := ⟨.hbm, 347, rfl⟩
abbrev main_v231 : Ref sig .tc := ⟨.hbm, 348, rfl⟩
abbrev main_v232 : Ref sig .tc := ⟨.hbm, 349, rfl⟩
abbrev main_cst_82 : Ref sig .tc := ⟨.hbm, 350, rfl⟩
abbrev main_v233 : Ref sig .tc := ⟨.hbm, 351, rfl⟩
abbrev main_v234 : Ref sig .tc := ⟨.hbm, 352, rfl⟩
abbrev main_v235 : Ref sig .tc := ⟨.hbm, 353, rfl⟩
abbrev main_cst_83 : Ref sig .tc := ⟨.hbm, 354, rfl⟩
abbrev main_v236 : Ref sig .tc := ⟨.hbm, 355, rfl⟩
abbrev main_v237 : Ref sig .tc := ⟨.hbm, 356, rfl⟩
abbrev main_v238 : Ref sig .tc := ⟨.hbm, 357, rfl⟩
abbrev main_cst_84 : Ref sig .tc := ⟨.hbm, 358, rfl⟩
abbrev main_v239 : Ref sig .tc := ⟨.hbm, 359, rfl⟩
abbrev main_v240 : Ref sig .tc := ⟨.hbm, 360, rfl⟩
abbrev main_cst_85 : Ref sig .tc := ⟨.hbm, 361, rfl⟩
abbrev main_v241 : Ref sig .tc := ⟨.hbm, 362, rfl⟩
abbrev main_v242 : Ref sig .tc := ⟨.hbm, 363, rfl⟩
abbrev main_v243 : Ref sig .tc := ⟨.hbm, 364, rfl⟩
abbrev main_cst_86 : Ref sig .tc := ⟨.hbm, 365, rfl⟩
abbrev main_v244 : Ref sig .tc := ⟨.hbm, 366, rfl⟩
abbrev main_v245 : Ref sig .tc := ⟨.hbm, 367, rfl⟩
abbrev main_v246 : Ref sig .tc := ⟨.hbm, 368, rfl⟩
abbrev main_cst_87 : Ref sig .tc := ⟨.hbm, 369, rfl⟩
abbrev main_v247 : Ref sig .tc := ⟨.hbm, 370, rfl⟩
abbrev main_v248 : Ref sig .tc := ⟨.hbm, 371, rfl⟩
abbrev main_v249 : Ref sig .tc := ⟨.hbm, 372, rfl⟩
abbrev main_cst_88 : Ref sig .tc := ⟨.hbm, 373, rfl⟩
abbrev main_v250 : Ref sig .tc := ⟨.hbm, 374, rfl⟩
abbrev main_v251 : Ref sig .tc := ⟨.hbm, 375, rfl⟩
abbrev main_v252 : Ref sig .tc := ⟨.hbm, 376, rfl⟩
abbrev main_cst_89 : Ref sig .tc := ⟨.hbm, 377, rfl⟩
abbrev main_v253 : Ref sig .tc := ⟨.hbm, 378, rfl⟩
abbrev main_v254 : Ref sig .tc := ⟨.hbm, 379, rfl⟩

abbrev nD : Nat := 1
abbrev τ : Topo := Topo.v7x

variable {F : FTy → Type} [FloatOps F]
-- ==== Proof.Norm.lean ====
/- The norm by the root of the mean square, for one token, and the gradient through it: the short form a kernel computes and
   the long form differentiation writes are equal. A row is a function of the column. Everything is over the extended
   reals, where every cast is the identity; the constants of the programs are read here too. -/
module

public import Idealize.ShloMosaic.PureOps.Ideal.Laws
public import Idealize.ShloMosaic.Lib.IdealHost
public import Mathlib.Analysis.SpecialFunctions.Trigonometric.DerivHyp
public import Mathlib.Data.EReal.Operations

@[expose] public section

noncomputable section

namespace Cert.Norm

open Idealize.ShloMosaic

/-! ## The constants of the programs -/

theorem lit_half : Ideal.ofBits .f32 0x3F000000#32 = ((1 / 2 : ℝ) : EReal) := by
  simp [Ideal.ofBits, Ideal.ieee, -EReal.coe_mul, -EReal.coe_neg]; norm_num

theorem lit_neg_half : Ideal.ofBits .f32 0xBF000000#32 = ((-(1 / 2) : ℝ) : EReal) := by
  simp [Ideal.ofBits, Ideal.ieee, -EReal.coe_mul, -EReal.coe_neg]; norm_num

theorem lit_two : Ideal.ofBits .f32 0x40000000#32 = ((2 : ℝ) : EReal) := by
  simp [Ideal.ofBits, Ideal.ieee, -EReal.coe_mul, -EReal.coe_neg]; norm_num

theorem lit_width : Ideal.ofBits .f32 0x44800000#32 = ((1024 : ℝ) : EReal) := by
  simp [Ideal.ofBits, Ideal.ieee, -EReal.coe_mul, -EReal.coe_neg]; norm_num

theorem lit_two_widths : Ideal.ofBits .f32 0x45000000#32 = ((2048 : ℝ) : EReal) := by
  simp [Ideal.ofBits, Ideal.ieee, -EReal.coe_mul, -EReal.coe_neg]; norm_num

theorem lit_inv_width : Ideal.ofBits .f32 0x3A800000#32 = ((1 / 1024 : ℝ) : EReal) := by
  simp [Ideal.ofBits, Ideal.ieee, -EReal.coe_mul, -EReal.coe_neg]; norm_num

/-- The norm's added constant, the float nearest one millionth. -/
def eps : EReal := Ideal.ofBits .f32 0x358637BD#32

theorem eps_real : ∃ e : ℝ, 0 < e ∧ eps = (e : EReal) := by
  refine ⟨8796093 * (2 : ℝ) ^ (-43 : Int), by positivity, ?_⟩
  simp [eps, Ideal.ofBits, Ideal.ieee, -EReal.coe_mul, -EReal.coe_neg]

/-! ## Products with a finite factor -/

/-- A nonnegative real factor moves into a sum of extended reals. -/
theorem sum_mul_real {n : Nat} (f : Fin n → EReal) {r : ℝ} (hr : 0 ≤ r) :
    (∑ k, f k) * (r : EReal) = ∑ k, f k * (r : EReal) := by
  have h0 : (0 : EReal) ≤ (r : EReal) := by exact_mod_cast hr
  induction (Finset.univ : Finset (Fin n)) using Finset.cons_induction with
  | empty => simp
  | cons a s ha ih =>
    rw [Finset.sum_cons, Finset.sum_cons, ← ih, mul_comm, mul_comm (f a), mul_comm (Finset.sum s f)]
    exact EReal.left_distrib_of_nonneg_of_ne_top h0 (EReal.coe_ne_top r) _ _

theorem div_real (x : EReal) {r : ℝ} (hr : r ≠ 0) : Ideal.div x (r : EReal) = x * ((r⁻¹ : ℝ) : EReal) := by
  have h : (r : EReal) ≠ 0 := by exact_mod_cast hr
  rw [Ideal.div, if_neg h, EReal.coe_inv]

theorem two_mul_add (x : EReal) : x + x = x * ((2 : ℝ) : EReal) := by
  induction x using EReal.rec with
  | bot => rw [EReal.bot_mul_coe_of_pos (by norm_num)]; rfl
  | top => rw [EReal.top_mul_coe_of_pos (by norm_num)]; rfl
  | coe r => norm_cast; ring

theorem neg_add_neg (x : EReal) : -x + -x = -(x * ((2 : ℝ) : EReal)) := by
  rw [two_mul_add, neg_mul]

/-! ## The reciprocal root of the mean square -/

theorem rsqrt_of_pos {x : ℝ} (h : 0 < x) : Ideal.rsqrt (x : EReal) = ((Real.sqrt x)⁻¹ : ℝ) := by
  show (if x < 0 then (⊥ : EReal) else if x = 0 then ⊤ else ((Real.sqrt x)⁻¹ : ℝ)) = _
  rw [if_neg h.not_gt, if_neg h.ne']

/-- Of an argument above zero the reciprocal root is a finite number at or above zero, and its cube
is the root's quotient by the argument. -/
theorem rsqrt_real {v : EReal} (hv : 0 < v) :
    ∃ r : ℝ, 0 ≤ r ∧ Ideal.rsqrt v = (r : EReal) ∧ Ideal.div (Ideal.rsqrt v) v = ((r * r * r : ℝ) : EReal) := by
  induction v using EReal.rec with
  | bot => simp at hv
  | top =>
    refine ⟨0, le_rfl, rfl, ?_⟩
    simp [Ideal.rsqrt, Ideal.div]
  | coe x =>
    have hx : 0 < x := by exact_mod_cast hv
    refine ⟨(Real.sqrt x)⁻¹, by positivity, ?_, ?_⟩
    · exact rsqrt_of_pos hx
    · rw [rsqrt_of_pos hx, div_real _ hx.ne', ← EReal.coe_mul]
      congr 1
      have h := Real.mul_self_sqrt hx.le
      have hs := Real.sqrt_pos.mpr hx
      rw [← mul_inv, ← mul_inv, h, mul_comm, mul_inv]

theorem sq_nonneg (x : EReal) : 0 ≤ x * x := by
  induction x using EReal.rec with
  | bot => simp
  | top => simp
  | coe r => norm_cast; exact mul_self_nonneg r

/-! ## A row's norm and the gradient through it -/

/-- The mean square of a row and the norm's constant, the reciprocal root of that, the normed row; and the gradient by the
row, from the gradient `d` by the normed row. -/
def meanSq (x : Fin 1024 → EReal) : EReal := Ideal.div (∑ k, x k * x k) ((1024 : ℝ) : EReal) + eps
def scale (x : Fin 1024 → EReal) : EReal := Ideal.rsqrt (meanSq x)
def unit (x : Fin 1024 → EReal) (k : Fin 1024) : EReal := x k * scale x
def back (x d : Fin 1024 → EReal) (k : Fin 1024) : EReal :=
  scale x * (d k - unit x k * Ideal.div (∑ j, d j * unit x j) ((1024 : ℝ) : EReal))

variable (x d : Fin 1024 → EReal)

theorem meanSq_pos : 0 < meanSq x := by
  obtain ⟨e, he, h⟩ := eps_real
  have h1 : 0 ≤ Ideal.div (∑ k, x k * x k) ((1024 : ℝ) : EReal) := by
    rw [div_real _ (by norm_num)]
    refine mul_nonneg (Finset.sum_nonneg fun k _ => sq_nonneg _) ?_
    exact_mod_cast (by positivity : (0 : ℝ) ≤ (1024 : ℝ)⁻¹)
  have h2 : (0 : EReal) < eps := by rw [h]; exact_mod_cast he
  exact lt_of_lt_of_le h2 (le_add_of_nonneg_left h1)

/-- The gradient by the row as differentiation writes it: through the mean square and the derivative of the reciprocal
root. -/
theorem back_eq (k : Fin 1024) (w : EReal)
    (hw : w = Ideal.div ((∑ j, x j * d j) * (((-(1 / 2) : ℝ) : EReal) * Ideal.div (scale x) (meanSq x))) ((1024 : ℝ) : EReal)) :
    d k * scale x + x k * w + w * x k = back x d k := by
  obtain ⟨r, hr, h1, h2⟩ := rsqrt_real (meanSq_pos x)
  have hs : scale x = (r : EReal) := h1
  have hq : Ideal.div (scale x) (meanSq x) = ((r * r * r : ℝ) : EReal) := h2
  have h0 : (0 : EReal) ≤ (r : EReal) := by exact_mod_cast hr
  have hsum : ∑ j, d j * unit x j = (∑ j, x j * d j) * (r : EReal) := by
    rw [sum_mul_real _ hr]
    refine Finset.sum_congr rfl fun j _ => ?_
    rw [unit, hs]; ac_rfl
  have hw' : w = -((∑ j, x j * d j) * ((r * r * r / 2048 : ℝ) : EReal)) := by
    rw [hw, hq, div_real _ (by norm_num), ← EReal.coe_mul, mul_assoc, ← EReal.coe_mul, ← mul_neg, ← EReal.coe_neg]
    congr 2; ring
  rw [back, hsum, hs, div_real _ (by norm_num), sub_eq_add_neg,
    EReal.left_distrib_of_nonneg_of_ne_top h0 (EReal.coe_ne_top r), add_assoc, mul_comm w, hw', mul_neg, neg_add_neg,
    mul_neg, unit, hs, mul_comm (r : EReal)]
  congr 2
  generalize ∑ j, x j * d j = S
  have e : ((r * r * r / 2048 : ℝ) : EReal) * ((2 : ℝ) : EReal) = (r : EReal) * (r : EReal) * ((r : EReal) * (((1024 : ℝ)⁻¹ : ℝ) : EReal)) := by
    rw [← EReal.coe_mul, ← EReal.coe_mul, ← EReal.coe_mul, ← EReal.coe_mul]; congr 1; ring
  rw [mul_assoc, mul_assoc S, e]
  ac_rfl

end Cert.Norm
-- ==== Proof.MergeRow.lean ====
/- The merge of the two branches, the output product, the final norm and the loss, for one token.
   A token's row of each array is a function of the column; the weights are functions of a row and
   a column. Everything is over the extended reals, where every cast is the identity. -/
module

public import proofs.«01_k».proof.Proof.Norm
public import Mathlib.Analysis.SpecialFunctions.Trigonometric.DerivHyp

@[expose] public section

noncomputable section

namespace Cert.Merge

open Idealize.ShloMosaic Cert.Norm

/-! ## The gate -/

theorem tanh_real (x : ℝ) : Ideal.tanh (x : EReal) = (Real.tanh x : ℝ) := rfl
theorem exp_real (x : ℝ) : Ideal.exp (x : EReal) = (Real.exp x : ℝ) := rfl
/-- The kernel's gate, through the hyperbolic tangent of half the argument, is the logistic function. -/
theorem gate_eq (v : EReal) :
    ((1 / 2 : ℝ) : EReal) * Ideal.tanh (((1 / 2 : ℝ) : EReal) * v) + ((1 / 2 : ℝ) : EReal) = Ideal.logistic v := by
  induction v using EReal.rec with
  | bot =>
    rw [EReal.coe_mul_bot_of_pos (by norm_num), Ideal.logistic, EReal.neg_bot, show Ideal.tanh ⊥ = ((-1 : ℝ) : EReal) from rfl,
      show Ideal.exp ⊤ = ⊤ from rfl, ← EReal.coe_mul, ← EReal.coe_add]
    have h : (1 : EReal) + ⊤ = ⊤ := rfl
    rw [h, Ideal.div, if_neg (by simp), EReal.inv_top, mul_zero]
    norm_num
  | top =>
    rw [EReal.coe_mul_top_of_pos (by norm_num), Ideal.logistic, EReal.neg_top, show Ideal.tanh ⊤ = ((1 : ℝ) : EReal) from rfl,
      show Ideal.exp ⊥ = 0 from rfl, add_zero, ← EReal.coe_mul, ← EReal.coe_add, ← EReal.coe_one, div_real _ one_ne_zero,
      ← EReal.coe_mul]
    norm_num
  | coe x =>
    have e : (1 : EReal) + Ideal.exp (-(x : EReal)) = ((1 + Real.exp (-x) : ℝ) : EReal) := by
      rw [← EReal.coe_neg, exp_real, EReal.coe_add, EReal.coe_one]
    have hp : (1 + Real.exp (-x) : ℝ) ≠ 0 := by positivity
    rw [Ideal.logistic, e, div_real _ hp, ← EReal.coe_mul, tanh_real, ← EReal.coe_one, ← EReal.coe_mul, ← EReal.coe_mul,
      ← EReal.coe_add]
    congr 1
    rw [Real.tanh_eq_sinh_div_cosh, Real.sinh_eq, Real.cosh_eq]
    have h1 : Real.exp (-x) = Real.exp (-(1 / 2 * x)) * Real.exp (-(1 / 2 * x)) := by rw [← Real.exp_add]; ring_nf
    have h2 : Real.exp (1 / 2 * x) * Real.exp (-(1 / 2 * x)) = 1 := by rw [← Real.exp_add]; simp
    have p1 := Real.exp_pos (1 / 2 * x)
    have p2 := Real.exp_pos (-(1 / 2 * x))
    rw [h1]
    set a := Real.exp (1 / 2 * x)
    set b := Real.exp (-(1 / 2 * x))
    have ha : a = b⁻¹ := eq_inv_of_mul_eq_one_left h2
    rw [ha]
    field_simp
    ring

/-! ## One token -/

/-- One token's rows: the residual, the target, the two gates before the logistic function, and the
two branches. -/
structure Row where
  (x t mr ma yr ya : Fin 1024 → EReal)

/-- The two branches' output weights, the weight of the merged row and the norm's scale. -/
structure Wts where
  (wr wa wo : Fin 1024 → Fin 1024 → EReal)
  (g : Fin 1024 → EReal)

variable (W : Wts) (R : Row)

def sr (k : Fin 1024) : EReal := Ideal.logistic (R.mr k)
def sa (k : Fin 1024) : EReal := Ideal.logistic (R.ma k)
def pr (k : Fin 1024) : EReal := ∑ j, R.yr j * W.wr j k
def pa (k : Fin 1024) : EReal := ∑ j, R.ya j * W.wa j k
/-- The merged row: each branch by its gate. -/
def merged (k : Fin 1024) : EReal := sr R k * pr W R k + sa R k * pa W R k
/-- The row after the output product and the residual. -/
def x2 (k : Fin 1024) : EReal := R.x k + ∑ j, merged W R j * W.wo j k
/-- The mean square and the norm's constant. -/
def var : EReal := Ideal.div (∑ k, x2 W R k * x2 W R k) ((1024 : ℝ) : EReal) + eps
def rstd : EReal := Ideal.rsqrt (var W R)
def xh (k : Fin 1024) : EReal := x2 W R k * rstd W R
/-- The difference of the normed row from the target. -/
def err (k : Fin 1024) : EReal := xh W R k * W.g k - R.t k
/-- The loss's derivative by the normed row. -/
def dy (k : Fin 1024) : EReal := err W R k * ((1 / 1024 : ℝ) : EReal)
def dxn (k : Fin 1024) : EReal := dy W R k * W.g k
/-- The derivative by the row before the norm. -/
def dx2 (k : Fin 1024) : EReal :=
  rstd W R * (dxn W R k - xh W R k * Ideal.div (∑ j, dxn W R j * xh W R j) ((1024 : ℝ) : EReal))
/-- The derivative by the merged row. -/
def dm (k : Fin 1024) : EReal := ∑ j, dx2 W R j * W.wo k j
def dpr (k : Fin 1024) : EReal := dm W R k * sr R k
def dpa (k : Fin 1024) : EReal := dm W R k * sa R k
def dyr (k : Fin 1024) : EReal := ∑ j, dpr W R j * W.wr k j
def dya (k : Fin 1024) : EReal := ∑ j, dpa W R j * W.wa k j
def dmr (k : Fin 1024) : EReal := dm W R k * pr W R k * (sr R k * (1 - sr R k))
def dma (k : Fin 1024) : EReal := dm W R k * pa W R k * (sa R k * (1 - sa R k))
/-- What the token adds to the sum of squared differences, and to the scale's gradient. -/
def sqerr : EReal := ∑ k, err W R k * err W R k
def gg (k : Fin 1024) : EReal := dy W R k * xh W R k

/-- The loss's derivative as differentiation writes it. -/
theorem dy_eq (k : Fin 1024) :
    Ideal.div (((1 / 2 : ℝ) : EReal) * 1) ((1024 : ℝ) : EReal) * (((2 : ℝ) : EReal) * err W R k) = dy W R k := by
  rw [dy, div_real _ (by norm_num), mul_one, ← mul_assoc, ← EReal.coe_mul, ← EReal.coe_mul, mul_comm]
  norm_num

/-- The derivative by the row before the norm as differentiation writes it: through the mean square
and the derivative of the reciprocal root. -/
theorem dx2_eq (k : Fin 1024) (w : EReal)
    (hw : w = Ideal.div ((∑ j, x2 W R j * dxn W R j) * (((-(1 / 2) : ℝ) : EReal) * Ideal.div (rstd W R) (var W R)))
      ((1024 : ℝ) : EReal)) :
    dxn W R k * rstd W R + x2 W R k * w + w * x2 W R k = dx2 W R k :=
  back_eq (x2 W R) (dxn W R) k w hw

/-- The loss by twice the width is the sum of the squared differences. -/
theorem loss_eq {n : Nat} (f : Fin n → EReal) (hf : ∀ r, 0 ≤ f r) :
    ((2048 : ℝ) : EReal) * (((1 / 2 : ℝ) : EReal) * ∑ r, Ideal.div (f r) ((1024 : ℝ) : EReal)) = ∑ r, f r := by
  have h : ∀ r, Ideal.div (f r) ((1024 : ℝ) : EReal) = f r * (((1024 : ℝ)⁻¹ : ℝ) : EReal) := fun r => div_real _ (by norm_num)
  simp only [h]
  rw [← sum_mul_real _ (by norm_num), ← mul_assoc, ← EReal.coe_mul, mul_comm, mul_assoc, ← EReal.coe_mul]
  norm_num

theorem sqerr_nonneg : 0 ≤ sqerr W R := Finset.sum_nonneg fun _ _ => sq_nonneg _

end Cert.Merge
-- ==== Proof.MergeBlk.lean ====
/- What one block of 512 tokens computes: the payloads of the kernel's stores, read at an index, are
   the formulas of one token. -/
module

public import proofs.«01_k».proof.Proof.MergeRow
public import proofs.«01_k».proof.Proof.Gen.KernelIdeal.Skeleton
public import Idealize.ShloMosaic.Lib.Pointwise

@[expose] public section

noncomputable section

namespace Cert.KernelIdeal.Merge

open Cert.KernelIdeal Cert.KernelIdeal.Gen Cert.Merge Cert.Norm Idealize.ShloMosaic

variable {F : FTy → Type} [FloatOps F]

/-- The blocks one grid point loads: 512 tokens' rows, each gate in two halves of its columns, and
the weights whole. -/
structure Blk (F : FTy → Type) [FloatOps F] where
  x : Vec F S512x1024 .f32
  t : Vec F S512x1024 .f32
  (mr0 mr1 ma0 ma1 : Vec F S512x512 .bf16)
  (yr ya : Vec F S512x1024 .bf16)
  (wr wa wo : Vec F S1024x1024 .bf16)
  g : Vec F S1x1024 .f32

namespace Blk

variable (b : Blk F)

/-! ## What the kernel computes of them, in its own terms -/

def gr : FVec F S512x1024 .f32 := k0_pay6 b.mr0 b.mr1
def ga : FVec F S512x1024 .f32 := k0_pay7 b.ma0 b.ma1
def br : FVec F S512x1024 .f32 := k0_pay8 b.yr b.wr
def ba : FVec F S512x1024 .f32 := k0_pay9 b.ya b.wa
def gbr : FVec F S512x1024 .f32 := k0_pay10 b.mr0 b.mr1 b.yr b.wr
def mg : FVec F S512x1024 .bf16 := k0_pay11 b.ga b.ba b.gbr
def rs : FVec F S512x1 .f32 := k0_pay13 b.ga b.ba b.gbr b.x b.wo
def nx : FVec F S512x1024 .f32 := k0_pay14 b.ga b.ba b.gbr b.x b.wo
def dn : FVec F S512x1024 .f32 := k0_pay17 b.ga b.ba b.gbr b.x b.wo b.g b.t
def dx : FVec F S512x1024 .f32 := k0_pay21 b.rs b.nx b.g b.dn
def dmg : FVec F S512x1024 .f32 := k0_pay23 b.rs b.nx b.g b.dn b.wo
def dbr : FVec F S512x1024 .bf16 := k0_pay25 b.gr b.rs b.nx b.g b.dn b.wo
def dba : FVec F S512x1024 .bf16 := k0_pay28 b.ga b.dmg
def dyr : FVec F S512x1024 .bf16 := k0_pay26 b.gr b.rs b.nx b.g b.dn b.wo b.wr
def dya : FVec F S512x1024 .bf16 := k0_pay29 b.ga b.dmg b.wa
def dmr : FVec F S512x1024 .bf16 := k0_pay31 b.gr b.br b.dmg
def dma : FVec F S512x1024 .bf16 := k0_pay32 b.ga b.ba b.dmg
/-- The sum of squared differences so far, this block's added. -/
def loss (acc : Vec F S8x1024 .f32) : FVec F S8x1024 .f32 := k0_pay16 b.ga b.ba b.gbr b.x b.wo b.g b.t acc
/-- The scale's gradient so far, this block's added. -/
def gscale (acc : Vec F S1x1024 .f32) : FVec F S1x1024 .f32 :=
  k0_pay20 (k0_pay18 acc) (k0_pay19 b.ga b.ba b.gbr b.x b.wo b.g b.t)
/-- The three weights' gradients so far, this block's added. -/
def gwr (acc : Vec F S1024x1024 .f32) : FVec F S1024x1024 .f32 := k0_pay27 b.dbr acc b.yr
def gwa (acc : Vec F S1024x1024 .f32) : FVec F S1024x1024 .f32 := k0_pay30 b.ga b.dmg acc b.ya
def gwo (acc : Vec F S1024x1024 .f32) : FVec F S1024x1024 .f32 := k0_pay24 b.mg b.rs b.nx b.g b.dn acc

end Blk

/-! ## At an index, over the extended reals -/

namespace Blk

/-- A column of the gate, from the half that holds it. -/
def cols (u v : Vec Ideal S512x512 .bf16) (r : Fin 512) (k : Fin 1024) : EReal :=
  if h : k.val < 512 then u (ix2 r ⟨k.val, h⟩) else v (ix2 r ⟨k.val - 512, by omega⟩)

variable (b : Blk Ideal)

def wts : Wts where
  wr i j := b.wr (ix2 i j)
  wa i j := b.wa (ix2 i j)
  wo i j := b.wo (ix2 i j)
  g k := b.g (ix2 0 k)

def row (r : Fin 512) : Row where
  x k := b.x (ix2 r k)
  t k := b.t (ix2 r k)
  mr := cols b.mr0 b.mr1 r
  ma := cols b.ma0 b.ma1 r
  yr k := b.yr (ix2 r k)
  ya k := b.ya (ix2 r k)

theorem gr_at (r : Fin 512) (k : Fin 1024) : b.gr (ix2 r k) = sr (b.row r) k := by
  rw [sr, ← gate_eq, ← lit_half]
  unfold gr k0_pay6
  pointwise
  rfl

theorem ga_at (r : Fin 512) (k : Fin 1024) : b.ga (ix2 r k) = sa (b.row r) k := by
  rw [sa, ← gate_eq, ← lit_half]
  unfold ga k0_pay7
  pointwise
  rfl

theorem br_at (r : Fin 512) (k : Fin 1024) : b.br (ix2 r k) = pr b.wts (b.row r) k := by
  unfold br k0_pay8
  pointwise
  rfl

theorem ba_at (r : Fin 512) (k : Fin 1024) : b.ba (ix2 r k) = pa b.wts (b.row r) k := by
  unfold ba k0_pay9
  pointwise
  rfl

theorem gbr_at (r : Fin 512) (k : Fin 1024) : b.gbr (ix2 r k) = sr (b.row r) k * pr b.wts (b.row r) k := by
  unfold gbr k0_pay10
  pointwise
  exact congrArg₂ (· * ·) (b.gr_at r k) (b.br_at r k)

theorem mg_at (r : Fin 512) (k : Fin 1024) : b.mg (ix2 r k) = merged b.wts (b.row r) k := by
  unfold mg k0_pay11
  pointwise
  rw [b.gbr_at, b.ga_at, b.ba_at]
  rfl

/-- The row before the norm. -/
theorem xo_at (r : Fin 512) (k : Fin 1024) :
    k0_pay12 b.ga b.ba b.gbr b.x b.wo (ix2 r k) = x2 b.wts (b.row r) k := by
  have h : ∀ j, k0_pay11 b.ga b.ba b.gbr (ix2 r j) = merged b.wts (b.row r) j := b.mg_at r
  unfold k0_pay12
  pointwise
  simp only [h]
  rfl

theorem rs_at (r : Fin 512) (j : Fin 1) : b.rs (ix2 r j) = rstd b.wts (b.row r) := by
  unfold rs k0_pay13
  pointwise
  simp only [xo_at, lit_width]
  rfl

theorem nx_at (r : Fin 512) (k : Fin 1024) : b.nx (ix2 r k) = xh b.wts (b.row r) k := by
  have h : ∀ j, k0_pay13 b.ga b.ba b.gbr b.x b.wo (ix2 r j) = rstd b.wts (b.row r) := b.rs_at r
  unfold nx k0_pay14
  pointwise
  simp only [xo_at, h]
  rfl

theorem err_at (r : Fin 512) (k : Fin 1024) :
    k0_pay15 b.ga b.ba b.gbr b.x b.wo b.g b.t (ix2 r k) = err b.wts (b.row r) k := by
  have h : ∀ j, k0_pay14 b.ga b.ba b.gbr b.x b.wo (ix2 r j) = xh b.wts (b.row r) j := b.nx_at r
  unfold k0_pay15
  pointwise
  simp only [h]
  rfl

theorem dn_at (r : Fin 512) (k : Fin 1024) : b.dn (ix2 r k) = dy b.wts (b.row r) k := by
  unfold dn k0_pay17
  pointwise
  simp only [err_at, lit_inv_width]
  rfl

theorem dx_at (r : Fin 512) (k : Fin 1024) : b.dx (ix2 r k) = dx2 b.wts (b.row r) k := by
  unfold dx k0_pay21
  pointwise
  simp only [dn_at, nx_at, rs_at, lit_width]
  rfl

theorem dmg_at (r : Fin 512) (k : Fin 1024) : b.dmg (ix2 r k) = dm b.wts (b.row r) k := by
  have h : ∀ j, k0_pay21 b.rs b.nx b.g b.dn (ix2 r j) = dx2 b.wts (b.row r) j := b.dx_at r
  unfold dmg k0_pay23 k0_pay22
  pointwise
  simp only [h]
  rfl

theorem dbr_at (r : Fin 512) (k : Fin 1024) : b.dbr (ix2 r k) = dpr b.wts (b.row r) k := by
  have h : ∀ j, k0_pay23 b.rs b.nx b.g b.dn b.wo (ix2 r j) = dm b.wts (b.row r) j := b.dmg_at r
  unfold dbr k0_pay25
  pointwise
  simp only [h, gr_at]
  rfl

theorem dba_at (r : Fin 512) (k : Fin 1024) : b.dba (ix2 r k) = dpa b.wts (b.row r) k := by
  unfold dba k0_pay28
  pointwise
  simp only [dmg_at, ga_at]
  rfl

theorem dyr_at (r : Fin 512) (k : Fin 1024) : b.dyr (ix2 r k) = Merge.dyr b.wts (b.row r) k := by
  have h : ∀ j, k0_pay25 b.gr b.rs b.nx b.g b.dn b.wo (ix2 r j) = dpr b.wts (b.row r) j := b.dbr_at r
  unfold dyr k0_pay26
  pointwise
  simp only [h]
  rfl

theorem dya_at (r : Fin 512) (k : Fin 1024) : b.dya (ix2 r k) = Merge.dya b.wts (b.row r) k := by
  have h : ∀ j, k0_pay28 b.ga b.dmg (ix2 r j) = dpa b.wts (b.row r) j := b.dba_at r
  unfold dya k0_pay29
  pointwise
  simp only [h]
  rfl

theorem dmr_at (r : Fin 512) (k : Fin 1024) : b.dmr (ix2 r k) = Merge.dmr b.wts (b.row r) k := by
  unfold dmr k0_pay31
  pointwise
  simp only [dmg_at, gr_at, br_at]
  rfl

theorem dma_at (r : Fin 512) (k : Fin 1024) : b.dma (ix2 r k) = Merge.dma b.wts (b.row r) k := by
  unfold dma k0_pay32
  pointwise
  simp only [dmg_at, ga_at, ba_at]
  rfl

/-- The block's squared differences are added to every element. -/
theorem loss_at (acc : Vec Ideal S8x1024 .f32) (i : Fin 8) (k : Fin 1024) :
    b.loss acc (ix2 i k) = acc (ix2 i k) + ∑ r : Fin 512, sqerr b.wts (b.row r) := by
  unfold loss k0_pay16
  pointwise
  simp only [err_at]
  rfl

theorem gscale_at (acc : Vec Ideal S1x1024 .f32) (i : Fin 1) (k : Fin 1024) :
    b.gscale acc (ix2 i k) = acc (ix2 i k) + ∑ r : Fin 512, gg b.wts (b.row r) k := by
  have h1 : ∀ r j, k0_pay17 b.ga b.ba b.gbr b.x b.wo b.g b.t (ix2 r j) = dy b.wts (b.row r) j := b.dn_at
  have h2 : ∀ r j, k0_pay14 b.ga b.ba b.gbr b.x b.wo (ix2 r j) = xh b.wts (b.row r) j := b.nx_at
  unfold gscale k0_pay20 k0_pay18 k0_pay19
  pointwise
  simp only [h1, h2]
  rfl

theorem gwr_at (acc : Vec Ideal S1024x1024 .f32) (i j : Fin 1024) :
    b.gwr acc (ix2 i j) = acc (ix2 i j) + ∑ r : Fin 512, (b.row r).yr i * dpr b.wts (b.row r) j := by
  unfold gwr k0_pay27
  pointwise
  simp only [dbr_at]
  rfl

theorem gwa_at (acc : Vec Ideal S1024x1024 .f32) (i j : Fin 1024) :
    b.gwa acc (ix2 i j) = acc (ix2 i j) + ∑ r : Fin 512, (b.row r).ya i * dpa b.wts (b.row r) j := by
  have h : ∀ r k, k0_pay28 b.ga b.dmg (ix2 r k) = dpa b.wts (b.row r) k := b.dba_at
  unfold gwa k0_pay30
  pointwise
  simp only [h]
  rfl

theorem gwo_at (acc : Vec Ideal S1024x1024 .f32) (i j : Fin 1024) :
    b.gwo acc (ix2 i j) = acc (ix2 i j) + ∑ r : Fin 512, merged b.wts (b.row r) i * dx2 b.wts (b.row r) j := by
  have h : ∀ r k, k0_pay21 b.rs b.nx b.g b.dn (ix2 r k) = dx2 b.wts (b.row r) k := b.dx_at
  unfold gwo k0_pay24 k0_pay22
  pointwise
  simp only [h, mg_at]

end Blk

end Cert.KernelIdeal.Merge
-- ==== Proof.MergePoint.lean ====
/- What one grid point leaves in each array it writes: every store of a whole array leaves its
   payload there, the loss and the four gradients over what the point before left in them. -/
module

public import proofs.«01_k».proof.Proof.MergeBlk
public import proofs.«01_k».proof.Proof.Gen.KernelIdeal.Frame.RunC
public import Idealize.ShloMosaic.Lib.VecWindow

@[expose] public section

noncomputable section

namespace Cert.KernelIdeal.Merge

open Cert.KernelIdeal Cert.KernelIdeal.Gen Idealize.ShloMosaic Idealize.ShloMosaic.TcCoe
open Idealize.ShloMosaic.Tactic Idealize.SL.Sem

variable {F : FTy → Type} [FloatOps F] (m : (ℓ : Loc nD τ sig) → Buf (Elt F) ℓ)

/-- The blocks point `t` loads. -/
def blk (c : Dev nD) (t : Fin cfg0.N) : Blk F where
  x := iblk m c 0 t
  t := iblk m c 1 t
  mr0 := iblk m c 2 t
  mr1 := iblk m c 3 t
  ma0 := iblk m c 4 t
  ma1 := iblk m c 5 t
  yr := iblk m c 6 t
  ya := iblk m c 7 t
  wr := iblk m c 8 t
  wa := iblk m c 9 t
  wo := iblk m c 10 t
  g := iblk m c 11 t

/-- What the kernel keeps from point to point: the sum of squared differences, the scale's gradient
(in its first row) and the three weights' gradients. -/
structure Sums (F : FTy → Type) [FloatOps F] where
  (loss gs : Vec F S8x1024 .f32)
  (gr ga go : Vec F S1024x1024 .f32)

/-- The first row of the eight, read and replaced. -/
abbrev firstRow : Rect S8x1024 := Rect.unit ![0, 0] S1x1024.size inb_S8x1024_S1x1024_0_0

/-- What the first point starts from. -/
def Sums.zero : Sums F := ⟨k0_pay1, k0_pay2, k0_pay3, k0_pay4, k0_pay5⟩

/-- A point's block added. -/
def Blk.add (b : Blk F) (s : Sums F) : Sums F where
  loss := b.loss s.loss
  gs := VecWindow.put s.gs ![0, 0] S1x1024.size (b.gscale (View.ld s.gs firstRow))
  gr := b.gwr s.gr
  ga := b.gwa s.ga
  go := b.gwo s.go

theorem hz : (![0, 0] : Fin 2 → Nat) = fun _ => 0 := funext fun a => by fin_cases a <;> rfl

/-- The run of the first point, of an inner point and of the last one, at the buffers the pipeline
passes and the blocks the point loads. -/
abbrev runA (c : Dev nD) (t : Fin cfg0.N) (h0 : t.val % 8 = 0) (h1 : ¬t.val % 8 = 7) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _)
    ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

abbrev runB (c : Dev nD) (t : Fin cfg0.N) (h0 : ¬t.val % 8 = 0) (h1 : ¬t.val % 8 = 7) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _)
    (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

abbrev runC (c : Dev nD) (t : Fin cfg0.N) (h0 : ¬t.val % 8 = 0) (h1 : t.val % 8 = 7) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _)
    (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- A whole buffer filled to read as `v` reads as `v`. -/
theorem read_filled (b : Ref sig .tc) (v) :
    View.read (Elt F) (View.whole b) ((Memref.isWhole_whole b).unread v) = v :=
  (Memref.isWhole_whole b).read_unread v
/-- The stores of a point leave the block's payloads and the sums `s`, whatever the arrays held;
the scale's gradient is left to the theorems below, for its store spares seven rows. -/
structure Leaves (b : Blk F) (s : Sums F)
    (L12 : List (View.Piece (Elt F) S512x1024 .f32)) (L13 L14 L15 L16 : List (View.Piece (Elt F) S512x1024 .bf16))
    (L17 : List (View.Piece (Elt F) S8x1024 .f32)) (LS0 LS1 LS2 : List (View.Piece (Elt F) S1024x1024 .f32)) : Prop where
  dx : ∀ (M : Memref sig .tc .vmem S512x1024 .f32) f, M.view.read (Elt F) (M.view.writes (Elt F) f L12) = b.dx
  dyr : ∀ (M : Memref sig .tc .vmem S512x1024 .bf16) f, M.view.read (Elt F) (M.view.writes (Elt F) f L13) = b.dyr
  dya : ∀ (M : Memref sig .tc .vmem S512x1024 .bf16) f, M.view.read (Elt F) (M.view.writes (Elt F) f L14) = b.dya
  dmr : ∀ (M : Memref sig .tc .vmem S512x1024 .bf16) f, M.view.read (Elt F) (M.view.writes (Elt F) f L15) = b.dmr
  dma : ∀ (M : Memref sig .tc .vmem S512x1024 .bf16) f, M.view.read (Elt F) (M.view.writes (Elt F) f L16) = b.dma
  loss : ∀ (M : Memref sig .tc .vmem S8x1024 .f32) f, M.view.read (Elt F) (M.view.writes (Elt F) f L17) = s.loss
  gr : ∀ (M : Memref sig .tc .vmem S1024x1024 .f32) f, M.view.read (Elt F) (M.view.writes (Elt F) f LS0) = s.gr
  ga : ∀ (M : Memref sig .tc .vmem S1024x1024 .f32) f, M.view.read (Elt F) (M.view.writes (Elt F) f LS1) = s.ga
  go : ∀ (M : Memref sig .tc .vmem S1024x1024 .f32) f, M.view.read (Elt F) (M.view.writes (Elt F) f LS2) = s.go

set_option maxHeartbeats 1000000 in
theorem leavesA (c : Dev nD) (t : Fin cfg0.N) (h0 : t.val % 8 = 0) (h1 : ¬t.val % 8 = 7) (w0 w1 w2) :
    Leaves (blk m c t) ((blk m c t).add Sums.zero)
      (runA m c t h0 h1 w0 w1 w2).1 (runA m c t h0 h1 w0 w1 w2).2.1 (runA m c t h0 h1 w0 w1 w2).2.2.1 (runA m c t h0 h1 w0 w1 w2).2.2.2.1 (runA m c t h0 h1 w0 w1 w2).2.2.2.2.1 (runA m c t h0 h1 w0 w1 w2).2.2.2.2.2.1 (runA m c t h0 h1 w0 w1 w2).2.2.2.2.2.2.2.1 (runA m c t h0 h1 w0 w1 w2).2.2.2.2.2.2.2.2.1 (runA m c t h0 h1 w0 w1 w2).2.2.2.2.2.2.2.2.2.1 := by
  unfold runA kernelRun0_A
  constructor <;> intro M f <;> dsimp only <;> sl_unfold_words <;> rw [View.read_writes_full] <;>
    simp only [View.readAt_eq_ld, Memref.IsWhole.read_unread, View.ld_unit_zero (S := S512x1024) hz,
      View.ld_unit_zero (S := S512x512) hz, View.ld_unit_zero (S := S1024x1024) hz,
      View.ld_unit_zero (S := S1x1024) hz, View.ld_unit_zero (S := S8x1024) hz,
      View.readCov_unit_zero (S := S8x1024) _ hz, View.readCov_unit_zero (S := S1024x1024) _ hz, read_filled, shapeCast_self] <;>
    rfl

set_option maxHeartbeats 1000000 in
theorem gscaleA (c : Dev nD) (t : Fin cfg0.N) (h0 : t.val % 8 = 0) (h1 : ¬t.val % 8 = 7) (w0 w1 w2)
    (M : Memref sig .tc .vmem S8x1024 .f32) (f) :
    M.view.read (Elt F) (M.view.writes (Elt F) f (runA m c t h0 h1 w0 w1 w2).2.2.2.2.2.2.1)
      = ((blk m c t).add Sums.zero).gs := by
  unfold runA kernelRun0_A
  dsimp only
  sl_unfold_words
  rw [View.read_writes_cons_put _ _ _ _ _ rfl, View.read_writes_full, View.readCov_eq_canon',
    View.canon_unit_zero hz]
  simp only [View.readAt_eq_ld, Memref.IsWhole.read_unread, View.ld_unit_zero (S := S512x1024) hz,
      View.ld_unit_zero (S := S512x512) hz, View.ld_unit_zero (S := S1024x1024) hz,
      View.ld_unit_zero (S := S1x1024) hz, View.ld_unit_zero (S := S8x1024) hz,
      View.readCov_unit_zero (S := S8x1024) _ hz, View.readCov_unit_zero (S := S1024x1024) _ hz, read_filled, shapeCast_self]
  rfl

/-- The results left in the outer memory are as before. -/
theorem heldA (c : Dev nD) (t : Fin cfg0.N) (h0 : t.val % 8 = 0) (h1 : ¬t.val % 8 = 7) (w0 w1 w2) :
    (runA m c t h0 h1 w0 w1 w2).2.2.2.2.2.2.2.2.2.2.1 = w0 ∧ (runA m c t h0 h1 w0 w1 w2).2.2.2.2.2.2.2.2.2.2.2.1 = w1 ∧ (runA m c t h0 h1 w0 w1 w2).2.2.2.2.2.2.2.2.2.2.2.2.1 = w2 := by
  unfold runA kernelRun0_A
  exact ⟨rfl, rfl, rfl⟩

set_option maxHeartbeats 1000000 in
theorem leavesB (c : Dev nD) (t : Fin cfg0.N) (h0 : ¬t.val % 8 = 0) (h1 : ¬t.val % 8 = 7) (s : Sums F) (w0 w1 w2) :
    Leaves (blk m c t) ((blk m c t).add s)
      (runB m c t h0 h1 s.loss s.gs s.gr s.ga s.go w0 w1 w2).1 (runB m c t h0 h1 s.loss s.gs s.gr s.ga s.go w0 w1 w2).2.1 (runB m c t h0 h1 s.loss s.gs s.gr s.ga s.go w0 w1 w2).2.2.1 (runB m c t h0 h1 s.loss s.gs s.gr s.ga s.go w0 w1 w2).2.2.2.1 (runB m c t h0 h1 s.loss s.gs s.gr s.ga s.go w0 w1 w2).2.2.2.2.1 (runB m c t h0 h1 s.loss s.gs s.gr s.ga s.go w0 w1 w2).2.2.2.2.2.1 (runB m c t h0 h1 s.loss s.gs s.gr s.ga s.go w0 w1 w2).2.2.2.2.2.2.2.1 (runB m c t h0 h1 s.loss s.gs s.gr s.ga s.go w0 w1 w2).2.2.2.2.2.2.2.2.1 (runB m c t h0 h1 s.loss s.gs s.gr s.ga s.go w0 w1 w2).2.2.2.2.2.2.2.2.2.1 := by
  unfold runB kernelRun0_B
  constructor <;> intro M f <;> dsimp only <;> sl_unfold_words <;> rw [View.read_writes_full] <;>
    simp only [View.readAt_eq_ld, Memref.IsWhole.read_unread, View.ld_unit_zero (S := S512x1024) hz,
      View.ld_unit_zero (S := S512x512) hz, View.ld_unit_zero (S := S1024x1024) hz,
      View.ld_unit_zero (S := S1x1024) hz, View.ld_unit_zero (S := S8x1024) hz,
      View.readCov_unit_zero (S := S8x1024) _ hz, View.readCov_unit_zero (S := S1024x1024) _ hz, read_filled, shapeCast_self] <;>
    rfl

set_option maxHeartbeats 1000000 in
theorem gscaleB (c : Dev nD) (t : Fin cfg0.N) (h0 : ¬t.val % 8 = 0) (h1 : ¬t.val % 8 = 7) (s : Sums F) (w0 w1 w2)
    (M : Memref sig .tc .vmem S8x1024 .f32) (f) (hf : M.view.read (Elt F) f = s.gs) :
    M.view.read (Elt F) (M.view.writes (Elt F) f (runB m c t h0 h1 s.loss s.gs s.gr s.ga s.go w0 w1 w2).2.2.2.2.2.2.1)
      = ((blk m c t).add s).gs := by
  unfold runB kernelRun0_B
  dsimp only
  sl_unfold_words
  rw [View.read_writes_cons_put _ _ _ _ _ rfl, View.writes_nil, hf]
  simp only [View.readAt_eq_ld, Memref.IsWhole.read_unread, View.ld_unit_zero (S := S512x1024) hz,
      View.ld_unit_zero (S := S512x512) hz, View.ld_unit_zero (S := S1024x1024) hz,
      View.ld_unit_zero (S := S1x1024) hz, View.ld_unit_zero (S := S8x1024) hz,
      View.readCov_unit_zero (S := S8x1024) _ hz, View.readCov_unit_zero (S := S1024x1024) _ hz, read_filled, shapeCast_self]
  rfl

/-- The results left in the outer memory are as before. -/
theorem heldB (c : Dev nD) (t : Fin cfg0.N) (h0 : ¬t.val % 8 = 0) (h1 : ¬t.val % 8 = 7) (s : Sums F) (w0 w1 w2) :
    (runB m c t h0 h1 s.loss s.gs s.gr s.ga s.go w0 w1 w2).2.2.2.2.2.2.2.2.2.2.1 = w0 ∧ (runB m c t h0 h1 s.loss s.gs s.gr s.ga s.go w0 w1 w2).2.2.2.2.2.2.2.2.2.2.2.1 = w1 ∧ (runB m c t h0 h1 s.loss s.gs s.gr s.ga s.go w0 w1 w2).2.2.2.2.2.2.2.2.2.2.2.2.1 = w2 := by
  unfold runB kernelRun0_B
  exact ⟨rfl, rfl, rfl⟩

set_option maxHeartbeats 1000000 in
theorem leavesC (c : Dev nD) (t : Fin cfg0.N) (h0 : ¬t.val % 8 = 0) (h1 : t.val % 8 = 7) (s : Sums F) (w0 w1 w2) :
    Leaves (blk m c t) ((blk m c t).add s)
      (runC m c t h0 h1 s.loss s.gs s.gr s.ga s.go w0 w1 w2).1 (runC m c t h0 h1 s.loss s.gs s.gr s.ga s.go w0 w1 w2).2.1 (runC m c t h0 h1 s.loss s.gs s.gr s.ga s.go w0 w1 w2).2.2.1 (runC m c t h0 h1 s.loss s.gs s.gr s.ga s.go w0 w1 w2).2.2.2.1 (runC m c t h0 h1 s.loss s.gs s.gr s.ga s.go w0 w1 w2).2.2.2.2.1 (runC m c t h0 h1 s.loss s.gs s.gr s.ga s.go w0 w1 w2).2.2.2.2.2.1 (runC m c t h0 h1 s.loss s.gs s.gr s.ga s.go w0 w1 w2).2.2.2.2.2.2.2.1 (runC m c t h0 h1 s.loss s.gs s.gr s.ga s.go w0 w1 w2).2.2.2.2.2.2.2.2.1 (runC m c t h0 h1 s.loss s.gs s.gr s.ga s.go w0 w1 w2).2.2.2.2.2.2.2.2.2.1 := by
  unfold runC kernelRun0_C
  constructor <;> intro M f <;> dsimp only <;> sl_unfold_words <;> rw [View.read_writes_full] <;>
    simp only [View.readAt_eq_ld, Memref.IsWhole.read_unread, View.ld_unit_zero (S := S512x1024) hz,
      View.ld_unit_zero (S := S512x512) hz, View.ld_unit_zero (S := S1024x1024) hz,
      View.ld_unit_zero (S := S1x1024) hz, View.ld_unit_zero (S := S8x1024) hz,
      View.readCov_unit_zero (S := S8x1024) _ hz, View.readCov_unit_zero (S := S1024x1024) _ hz, read_filled, shapeCast_self] <;>
    rfl

set_option maxHeartbeats 1000000 in
theorem gscaleC (c : Dev nD) (t : Fin cfg0.N) (h0 : ¬t.val % 8 = 0) (h1 : t.val % 8 = 7) (s : Sums F) (w0 w1 w2)
    (M : Memref sig .tc .vmem S8x1024 .f32) (f) (hf : M.view.read (Elt F) f = s.gs) :
    M.view.read (Elt F) (M.view.writes (Elt F) f (runC m c t h0 h1 s.loss s.gs s.gr s.ga s.go w0 w1 w2).2.2.2.2.2.2.1)
      = ((blk m c t).add s).gs := by
  unfold runC kernelRun0_C
  dsimp only
  sl_unfold_words
  rw [View.read_writes_cons_put _ _ _ _ _ rfl, View.writes_nil, hf]
  simp only [View.readAt_eq_ld, Memref.IsWhole.read_unread, View.ld_unit_zero (S := S512x1024) hz,
      View.ld_unit_zero (S := S512x512) hz, View.ld_unit_zero (S := S1024x1024) hz,
      View.ld_unit_zero (S := S1x1024) hz, View.ld_unit_zero (S := S8x1024) hz,
      View.readCov_unit_zero (S := S8x1024) _ hz, View.readCov_unit_zero (S := S1024x1024) _ hz, read_filled, shapeCast_self]
  rfl

set_option maxHeartbeats 1000000 in
/-- The copies out leave the three weights' gradients in the results. -/
theorem heldC (c : Dev nD) (t : Fin cfg0.N) (h0 : ¬t.val % 8 = 0) (h1 : t.val % 8 = 7) (s : Sums F) (w0 w1 w2) :
    (runC m c t h0 h1 s.loss s.gs s.gr s.ga s.go w0 w1 w2).2.2.2.2.2.2.2.2.2.2.1 = ((blk m c t).add s).gr ∧ (runC m c t h0 h1 s.loss s.gs s.gr s.ga s.go w0 w1 w2).2.2.2.2.2.2.2.2.2.2.2.1 = ((blk m c t).add s).ga
      ∧ (runC m c t h0 h1 s.loss s.gs s.gr s.ga s.go w0 w1 w2).2.2.2.2.2.2.2.2.2.2.2.2.1 = ((blk m c t).add s).go := by
  have h := leavesC m c t h0 h1 s w0 w1 w2
  refine ⟨?_, ?_, ?_⟩
  · refine Eq.trans ?_ (h.gr scM0_0 ((Memref.isWhole_whole _).unread s.gr))
    unfold runC kernelRun0_C
    dsimp only
    sl_unfold_words
    exact View.write_whole_univ _ _ _
  · refine Eq.trans ?_ (h.ga scM0_1 ((Memref.isWhole_whole _).unread s.ga))
    unfold runC kernelRun0_C
    dsimp only
    sl_unfold_words
    exact View.write_whole_univ _ _ _
  · refine Eq.trans ?_ (h.go scM0_2 ((Memref.isWhole_whole _).unread s.go))
    unfold runC kernelRun0_C
    dsimp only
    sl_unfold_words
    exact View.write_whole_univ _ _ _

end Cert.KernelIdeal.Merge

end
-- ==== Proof.MergeFrame.lean ====
/- The run of the whole grid: what the buffers hold after each point, the body's obligation at every
   point, and the launch.  The values are the blocks' own payloads and the sums kept so far. -/
module

public import proofs.«01_k».proof.Proof.MergePoint
public import Idealize.ShloMosaic.Lib.Claim

@[expose] public section

set_option maxRecDepth 16384

noncomputable section

namespace Cert.KernelIdeal.Merge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What is kept after each point -/

/-- The sums after point `n`. -/
def sums (c : Dev nD) : (n : ℕ) → n < cfg0.N → Sums F
  | 0, h => (blk m c ⟨0, h⟩).add Sums.zero
  | n + 1, h => (blk m c ⟨n + 1, h⟩).add (sums c n (Nat.lt_of_succ_lt h))

theorem sums_first (c : Dev nD) (t : Fin cfg0.N) (h : t.val = 0) :
    sums m c t.val t.isLt = (blk m c t).add Sums.zero := by
  obtain ⟨n, hn⟩ := t
  subst h
  rfl

theorem sums_next (c : Dev nD) (t : Fin cfg0.N) (h : t.val ≠ 0) :
    sums m c t.val t.isLt
      = (blk m c t).add (sums m c (t.val - 1) (Nat.lt_of_le_of_lt (Nat.sub_le _ _) t.isLt)) := by
  obtain ⟨n, hn⟩ := t
  cases n with
  | zero => exact absurd rfl h
  | succ n => rfl

/-- The three results in the outer memory after point `n`: as launched until the last point copies the
weights' gradients out. -/
def held0 (c : Dev nD) (n : ℕ) (h : n < cfg0.N) : HbBuf0 (F := F) c hbM0_0 :=
  if n % 8 = 7 then (sums m c n h).gr else V m c main_v0_7
def held1 (c : Dev nD) (n : ℕ) (h : n < cfg0.N) : HbBuf0 (F := F) c hbM0_1 :=
  if n % 8 = 7 then (sums m c n h).ga else V m c main_v0_8
def held2 (c : Dev nD) (n : ℕ) (h : n < cfg0.N) : HbBuf0 (F := F) c hbM0_2 :=
  if n % 8 = 7 then (sums m c n h).go else V m c main_v0_9

/-- The kernel's own buffers holding `s` in the scratch and `w0`, `w1`, `w2` in the results. -/
def kept (c : Dev nD) (s : Sums F) (w0 : HbBuf0 (F := F) c hbM0_0) (w1 : HbBuf0 (F := F) c hbM0_1)
    (w2 : HbBuf0 (F := F) c hbM0_2) : sProp 𝕄 :=
  iprop(iprop(owns (c : Thread nD τ) scM0_0 fullShare s.gr ∗ owns (c : Thread nD τ) scM0_1 fullShare s.ga ∗ owns (c : Thread nD τ) scM0_2 fullShare s.go)
    ∗ (∃ r, prngReg c r)
    ∗ iprop(semVal ((c : Thread nD τ), SemLoc.dma 32) 0 ∗ semVal ((c : Thread nD τ), SemLoc.dma 33) 0 ∗ semVal ((c : Thread nD τ), SemLoc.dma 34) 0)
    ∗ iprop(emp) ∗ iprop(hbPt0 c hbM0_0 w0 ∗ hbPt0 c hbM0_1 w1 ∗ hbPt0 c hbM0_2 w2))

/-- The invariant before point `n`: as launched before the first, afterwards what the point before kept. -/
def inv (c : Dev nD) : (n : ℕ) → n ≤ cfg0.N → sProp 𝕄
  | 0, _ => Pipeline.ΦDRG osem0 spec0 H0 R0 (V m) (V m) c
  | n + 1, h => kept c (sums m c n h) (held0 m c n h) (held1 m c n h) (held2 m c n h)

theorem inv_first (c : Dev nD) (n : ℕ) (h : n ≤ cfg0.N) (hn : n = 0) :
    inv m c n h = Pipeline.ΦDRG osem0 spec0 H0 R0 (V m) (V m) c := by
  subst hn; rfl

theorem inv_next (c : Dev nD) (n : ℕ) (h : n ≤ cfg0.N) (hn : n ≠ 0) :
    inv m c n h = kept c (sums m c (n - 1) (by omega)) (held0 m c (n - 1) (by omega)) (held1 m c (n - 1) (by omega))
      (held2 m c (n - 1) (by omega)) := by
  cases n with
  | zero => exact absurd rfl hn
  | succ n => rfl

/-! ## The pipeline's data -/

/-- After the body at point `t`: each input's buffer at its block, each output's at its payload or sum. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (blk m c t).dx
    | ⟨13, _⟩ => (blk m c t).dyr
    | ⟨14, _⟩ => (blk m c t).dya
    | ⟨15, _⟩ => (blk m c t).dmr
    | ⟨16, _⟩ => (blk m c t).dma
    | ⟨17, _⟩ => (sums m c t.val t.isLt).loss
    | ⟨18, _⟩ => (sums m c t.val t.isLt).gs
    | ⟨_ + 19, h⟩ => absurd h (Nat.not_lt.2 (Nat.le_add_left _ _))
  Φ t := inv m c t.val (Nat.le_of_lt_succ t.isLt)
  q w := Pipeline.shareOf spec0 w
  owed _ := 0

theorem arr_eq (c : Dev nD) (w : Fin cfg0.W) : (dats m 0 c).A w = V m c (Pipeline.arrRef spec0 w) := by
  dsimp only [dats]

theorem inv_at (c : Dev nD) (t : Fin cfg0.N) : (dats m 0 c).Φ t.castSucc = inv m c t.val (Nat.le_of_lt t.isLt) := by
  dsimp only [dats]; exact Pipeline.Dat.Φ_castSucc (inv m c) t

/-- Past the first point the loss buffer and the scale's gradient hold what the point before left. -/
theorem before_loss (c : Dev nD) (t : Fin cfg0.N) (h0 : t.val ≠ 0) (d) :
    (dats m 0 c).before 17 t d = (sums m c (t.val - 1) (Nat.lt_of_le_of_lt (Nat.sub_le _ _) t.isLt)).loss := by
  have hN : t.val < 8 := lt_of_lt_of_eq t.isLt (show cfg0.N = 8 from N_0)
  rw [Dat.before_out_kept _ 17 rfl t h0
    (Bool.eq_false_iff.mpr fun h => by have := (flush0_17 _).mp h; dsimp only at this; omega) (fun _ => rfl) (fun _ _ => rfl)]
  dsimp only [dats]

theorem before_gs (c : Dev nD) (t : Fin cfg0.N) (h0 : t.val ≠ 0) (d) :
    (dats m 0 c).before 18 t d = (sums m c (t.val - 1) (Nat.lt_of_le_of_lt (Nat.sub_le _ _) t.isLt)).gs := by
  have hN : t.val < 8 := lt_of_lt_of_eq t.isLt (show cfg0.N = 8 from N_0)
  rw [Dat.before_out_kept _ 18 rfl t h0
    (Bool.eq_false_iff.mpr fun h => by have := (flush0_18 _).mp h; dsimp only at this; omega) (fun _ => rfl) (fun _ _ => rfl)]
  dsimp only [dats]

/-! ## The body at a point -/

/-- A buffer whose stores read as `v` is owned at `v`. -/
theorem owns_stored (c : Dev nD) {S : Shape} {e : EltTy} {M : Memref sig .tc .vmem S e}
    {f} {L : List (View.Piece (Elt F) S e)} {v} (h : M.view.read (Elt F) (M.view.writes (Elt F) f L) = v) :
    iprop(M.view.loc (c : Thread nD τ) ↦[M.view.set]{fullShare} M.view.writes (Elt F) f L)
      ⊢ (owns (c : Thread nD τ) M fullShare v : sProp 𝕄) := by
  iintro H
  unfold owns
  iexists _
  isplitr
  swap; · iexact H
  ipureintro; exact h

/-- A result's cells at one of two equal contents are the cells at the other. -/
theorem held_eq (c : Dev nD) {sp S e} (M : Memref sig .tc sp S e) {a b : HbBuf0 (F := F) c M} (h : a = b) : hbPt0 c M a ⊢ (hbPt0 c M b : sProp 𝕄) := by
  rw [h]

set_option maxHeartbeats 2000000 in
/-- The body at the first point, from buffers of any contents. -/
theorem bodyA (c : Dev nD) (t : Fin cfg0.N) (h0 : t.val % 8 = 0) (h1 : ¬t.val % 8 = 7) (w0 w1 w2) (W : Waits sig Unit) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t)
      ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) (ms0_15 t) fullShare d) ∗ (∃ d, owns (c : Thread nD τ) (ms0_16 t) fullShare d)
      ∗ (∃ d, owns (c : Thread nD τ) (ms0_17 t) fullShare d) ∗ (∃ d, owns (c : Thread nD τ) (ms0_18 t) fullShare d)
      ∗ (∃ d, owns (c : Thread nD τ) scM0_0 fullShare d) ∗ (∃ d, owns (c : Thread nD τ) scM0_1 fullShare d) ∗ (∃ d, owns (c : Thread nD τ) scM0_2 fullShare d)
      ∗ semVal ((c : Thread nD τ), SemLoc.dma 32) 0 ∗ semVal ((c : Thread nD τ), SemLoc.dma 33) 0 ∗ semVal ((c : Thread nD τ), SemLoc.dma 34) 0
      ∗ hbPt0 c hbM0_0 w0 ∗ hbPt0 c hbM0_1 w1 ∗ hbPt0 c hbM0_2 w2 ∗ owes (c : Thread nD τ) 0 W
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t)
        ∗ owns (c : Thread nD τ) (ms0_12 t) fullShare ((blk m c t).dx) ∗ owns (c : Thread nD τ) (ms0_13 t) fullShare ((blk m c t).dyr) ∗ owns (c : Thread nD τ) (ms0_14 t) fullShare ((blk m c t).dya) ∗ owns (c : Thread nD τ) (ms0_15 t) fullShare ((blk m c t).dmr) ∗ owns (c : Thread nD τ) (ms0_16 t) fullShare ((blk m c t).dma) ∗ owns (c : Thread nD τ) (ms0_17 t) fullShare (((blk m c t).add Sums.zero).loss) ∗ owns (c : Thread nD τ) (ms0_18 t) fullShare (((blk m c t).add Sums.zero).gs)
        ∗ owns (c : Thread nD τ) scM0_0 fullShare ((blk m c t).add Sums.zero).gr ∗ owns (c : Thread nD τ) scM0_1 fullShare ((blk m c t).add Sums.zero).ga ∗ owns (c : Thread nD τ) scM0_2 fullShare ((blk m c t).add Sums.zero).go
        ∗ semVal ((c : Thread nD τ), SemLoc.dma 32) 0 ∗ semVal ((c : Thread nD τ), SemLoc.dma 33) 0 ∗ semVal ((c : Thread nD τ), SemLoc.dma 34) 0
        ∗ hbPt0 c hbM0_0 (w0) ∗ hbPt0 c hbM0_1 (w1) ∗ hbPt0 c hbM0_2 (w2) ∗ (∃ W', owes (c : Thread nD τ) 0 W')) -∗ K ⟨⟩))
      ⊢ wp frame (wpE (defs₀ (F := F)) Variants.none c none) Set.univ (bodyAt0 t) K := by
  have hl := leavesA m c t h0 h1 w0 w1 w2
  have hg := gscaleA m c t h0 h1 w0 w1 w2 (ms0_18 t)
  obtain ⟨e0, e1, e2⟩ := heldA m c t h0 h1 w0 w1 w2
  unfold bodyAt0
  iintro ⟨H0, H1, H2, H3, H4, H5, H6, H7, H8, H9, H10, H11, H12, H13, H14, H15, H16, H17, H18, HS0, HS1, HS2, Hq0, Hq1, Hq2, Hh0, Hh1, Hh2, HW, Hk⟩
  iapply ((runA m c t h0 h1 w0 w1 w2).2.2.2.2.2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%es0, HS0⟩, ⟨%es1, HS1⟩, ⟨%es2, HS2⟩, Hq0, Hq1, Hq2, Hh0, Hh1, Hh2, HW⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (owns_stored c (hl.dx (ms0_12 t) _)); iexact H12
  isplitl [H13]; · iapply (owns_stored c (hl.dyr (ms0_13 t) _)); iexact H13
  isplitl [H14]; · iapply (owns_stored c (hl.dya (ms0_14 t) _)); iexact H14
  isplitl [H15]; · iapply (owns_stored c (hl.dmr (ms0_15 t) _)); iexact H15
  isplitl [H16]; · iapply (owns_stored c (hl.dma (ms0_16 t) _)); iexact H16
  isplitl [H17]; · iapply (owns_stored c (hl.loss (ms0_17 t) _)); iexact H17
  isplitl [H18]; · iapply (owns_stored c (hg _)); iexact H18
  isplitl [HS0]; · iapply (owns_stored c (hl.gr scM0_0 _)); iexact HS0
  isplitl [HS1]; · iapply (owns_stored c (hl.ga scM0_1 _)); iexact HS1
  isplitl [HS2]; · iapply (owns_stored c (hl.go scM0_2 _)); iexact HS2
  isplitl [Hq0]; · iexact Hq0
  isplitl [Hq1]; · iexact Hq1
  isplitl [Hq2]; · iexact Hq2
  isplitl [Hh0]; · iapply (held_eq c hbM0_0 e0); iexact Hh0
  isplitl [Hh1]; · iapply (held_eq c hbM0_1 e1); iexact Hh1
  isplitl [Hh2]; · iapply (held_eq c hbM0_2 e2); iexact Hh2
  iexact HW

set_option maxHeartbeats 2000000 in
/-- The body at an inner point, from what the point before kept. -/
theorem bodyB (c : Dev nD) (t : Fin cfg0.N) (h0 : ¬t.val % 8 = 0) (h1 : ¬t.val % 8 = 7) (s : Sums F) (w0 w1 w2) (W : Waits sig Unit) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t)
      ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) (ms0_15 t) fullShare d) ∗ (∃ d, owns (c : Thread nD τ) (ms0_16 t) fullShare d)
      ∗ owns (c : Thread nD τ) (ms0_17 t) fullShare s.loss ∗ owns (c : Thread nD τ) (ms0_18 t) fullShare s.gs
      ∗ owns (c : Thread nD τ) scM0_0 fullShare s.gr ∗ owns (c : Thread nD τ) scM0_1 fullShare s.ga ∗ owns (c : Thread nD τ) scM0_2 fullShare s.go
      ∗ semVal ((c : Thread nD τ), SemLoc.dma 32) 0 ∗ semVal ((c : Thread nD τ), SemLoc.dma 33) 0 ∗ semVal ((c : Thread nD τ), SemLoc.dma 34) 0
      ∗ hbPt0 c hbM0_0 w0 ∗ hbPt0 c hbM0_1 w1 ∗ hbPt0 c hbM0_2 w2 ∗ owes (c : Thread nD τ) 0 W
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t)
        ∗ owns (c : Thread nD τ) (ms0_12 t) fullShare ((blk m c t).dx) ∗ owns (c : Thread nD τ) (ms0_13 t) fullShare ((blk m c t).dyr) ∗ owns (c : Thread nD τ) (ms0_14 t) fullShare ((blk m c t).dya) ∗ owns (c : Thread nD τ) (ms0_15 t) fullShare ((blk m c t).dmr) ∗ owns (c : Thread nD τ) (ms0_16 t) fullShare ((blk m c t).dma) ∗ owns (c : Thread nD τ) (ms0_17 t) fullShare (((blk m c t).add s).loss) ∗ owns (c : Thread nD τ) (ms0_18 t) fullShare (((blk m c t).add s).gs)
        ∗ owns (c : Thread nD τ) scM0_0 fullShare ((blk m c t).add s).gr ∗ owns (c : Thread nD τ) scM0_1 fullShare ((blk m c t).add s).ga ∗ owns (c : Thread nD τ) scM0_2 fullShare ((blk m c t).add s).go
        ∗ semVal ((c : Thread nD τ), SemLoc.dma 32) 0 ∗ semVal ((c : Thread nD τ), SemLoc.dma 33) 0 ∗ semVal ((c : Thread nD τ), SemLoc.dma 34) 0
        ∗ hbPt0 c hbM0_0 (w0) ∗ hbPt0 c hbM0_1 (w1) ∗ hbPt0 c hbM0_2 (w2) ∗ (∃ W', owes (c : Thread nD τ) 0 W')) -∗ K ⟨⟩))
      ⊢ wp frame (wpE (defs₀ (F := F)) Variants.none c none) Set.univ (bodyAt0 t) K := by
  have hl := leavesB m c t h0 h1 s w0 w1 w2
  have hg := gscaleB m c t h0 h1 s w0 w1 w2 (ms0_18 t)
  obtain ⟨e0, e1, e2⟩ := heldB m c t h0 h1 s w0 w1 w2
  unfold bodyAt0
  iintro ⟨H0, H1, H2, H3, H4, H5, H6, H7, H8, H9, H10, H11, H12, H13, H14, H15, H16, H17, H18, HS0, HS1, HS2, Hq0, Hq1, Hq2, Hh0, Hh1, Hh2, HW, Hk⟩
  iapply ((runB m c t h0 h1 s.loss s.gs s.gr s.ga s.go w0 w1 w2).2.2.2.2.2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, H18, ⟨%es0, HS0⟩, ⟨%es1, HS1⟩, ⟨%es2, HS2⟩, Hq0, Hq1, Hq2, Hh0, Hh1, Hh2, HW⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (owns_stored c (hl.dx (ms0_12 t) _)); iexact H12
  isplitl [H13]; · iapply (owns_stored c (hl.dyr (ms0_13 t) _)); iexact H13
  isplitl [H14]; · iapply (owns_stored c (hl.dya (ms0_14 t) _)); iexact H14
  isplitl [H15]; · iapply (owns_stored c (hl.dmr (ms0_15 t) _)); iexact H15
  isplitl [H16]; · iapply (owns_stored c (hl.dma (ms0_16 t) _)); iexact H16
  isplitl [H17]; · iapply (owns_stored c (hl.loss (ms0_17 t) _)); iexact H17
  isplitl [H18]; · iapply (owns_stored c (hg _ ((hs0_18 t).read_unread _))); iexact H18
  isplitl [HS0]; · iapply (owns_stored c (hl.gr scM0_0 _)); iexact HS0
  isplitl [HS1]; · iapply (owns_stored c (hl.ga scM0_1 _)); iexact HS1
  isplitl [HS2]; · iapply (owns_stored c (hl.go scM0_2 _)); iexact HS2
  isplitl [Hq0]; · iexact Hq0
  isplitl [Hq1]; · iexact Hq1
  isplitl [Hq2]; · iexact Hq2
  isplitl [Hh0]; · iapply (held_eq c hbM0_0 e0); iexact Hh0
  isplitl [Hh1]; · iapply (held_eq c hbM0_1 e1); iexact Hh1
  isplitl [Hh2]; · iapply (held_eq c hbM0_2 e2); iexact Hh2
  iexact HW

set_option maxHeartbeats 2000000 in
/-- The body at the last point, from what the point before kept; the results are copied out. -/
theorem bodyC (c : Dev nD) (t : Fin cfg0.N) (h0 : ¬t.val % 8 = 0) (h1 : t.val % 8 = 7) (s : Sums F) (w0 w1 w2) (W : Waits sig Unit) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t)
      ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) (ms0_15 t) fullShare d) ∗ (∃ d, owns (c : Thread nD τ) (ms0_16 t) fullShare d)
      ∗ owns (c : Thread nD τ) (ms0_17 t) fullShare s.loss ∗ owns (c : Thread nD τ) (ms0_18 t) fullShare s.gs
      ∗ owns (c : Thread nD τ) scM0_0 fullShare s.gr ∗ owns (c : Thread nD τ) scM0_1 fullShare s.ga ∗ owns (c : Thread nD τ) scM0_2 fullShare s.go
      ∗ semVal ((c : Thread nD τ), SemLoc.dma 32) 0 ∗ semVal ((c : Thread nD τ), SemLoc.dma 33) 0 ∗ semVal ((c : Thread nD τ), SemLoc.dma 34) 0
      ∗ hbPt0 c hbM0_0 w0 ∗ hbPt0 c hbM0_1 w1 ∗ hbPt0 c hbM0_2 w2 ∗ owes (c : Thread nD τ) 0 W
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t)
        ∗ owns (c : Thread nD τ) (ms0_12 t) fullShare ((blk m c t).dx) ∗ owns (c : Thread nD τ) (ms0_13 t) fullShare ((blk m c t).dyr) ∗ owns (c : Thread nD τ) (ms0_14 t) fullShare ((blk m c t).dya) ∗ owns (c : Thread nD τ) (ms0_15 t) fullShare ((blk m c t).dmr) ∗ owns (c : Thread nD τ) (ms0_16 t) fullShare ((blk m c t).dma) ∗ owns (c : Thread nD τ) (ms0_17 t) fullShare (((blk m c t).add s).loss) ∗ owns (c : Thread nD τ) (ms0_18 t) fullShare (((blk m c t).add s).gs)
        ∗ owns (c : Thread nD τ) scM0_0 fullShare ((blk m c t).add s).gr ∗ owns (c : Thread nD τ) scM0_1 fullShare ((blk m c t).add s).ga ∗ owns (c : Thread nD τ) scM0_2 fullShare ((blk m c t).add s).go
        ∗ semVal ((c : Thread nD τ), SemLoc.dma 32) 0 ∗ semVal ((c : Thread nD τ), SemLoc.dma 33) 0 ∗ semVal ((c : Thread nD τ), SemLoc.dma 34) 0
        ∗ hbPt0 c hbM0_0 (((blk m c t).add s).gr) ∗ hbPt0 c hbM0_1 (((blk m c t).add s).ga) ∗ hbPt0 c hbM0_2 (((blk m c t).add s).go) ∗ (∃ W', owes (c : Thread nD τ) 0 W')) -∗ K ⟨⟩))
      ⊢ wp frame (wpE (defs₀ (F := F)) Variants.none c none) Set.univ (bodyAt0 t) K := by
  have hl := leavesC m c t h0 h1 s w0 w1 w2
  have hg := gscaleC m c t h0 h1 s w0 w1 w2 (ms0_18 t)
  obtain ⟨e0, e1, e2⟩ := heldC m c t h0 h1 s w0 w1 w2
  unfold bodyAt0
  iintro ⟨H0, H1, H2, H3, H4, H5, H6, H7, H8, H9, H10, H11, H12, H13, H14, H15, H16, H17, H18, HS0, HS1, HS2, Hq0, Hq1, Hq2, Hh0, Hh1, Hh2, HW, Hk⟩
  iapply ((runC m c t h0 h1 s.loss s.gs s.gr s.ga s.go w0 w1 w2).2.2.2.2.2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, H18, ⟨%es0, HS0⟩, ⟨%es1, HS1⟩, ⟨%es2, HS2⟩, Hq0, Hq1, Hq2, Hh0, Hh1, Hh2, HW⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (owns_stored c (hl.dx (ms0_12 t) _)); iexact H12
  isplitl [H13]; · iapply (owns_stored c (hl.dyr (ms0_13 t) _)); iexact H13
  isplitl [H14]; · iapply (owns_stored c (hl.dya (ms0_14 t) _)); iexact H14
  isplitl [H15]; · iapply (owns_stored c (hl.dmr (ms0_15 t) _)); iexact H15
  isplitl [H16]; · iapply (owns_stored c (hl.dma (ms0_16 t) _)); iexact H16
  isplitl [H17]; · iapply (owns_stored c (hl.loss (ms0_17 t) _)); iexact H17
  isplitl [H18]; · iapply (owns_stored c (hg _ ((hs0_18 t).read_unread _))); iexact H18
  isplitl [HS0]; · iapply (owns_stored c (hl.gr scM0_0 _)); iexact HS0
  isplitl [HS1]; · iapply (owns_stored c (hl.ga scM0_1 _)); iexact HS1
  isplitl [HS2]; · iapply (owns_stored c (hl.go scM0_2 _)); iexact HS2
  isplitl [Hq0]; · iexact Hq0
  isplitl [Hq1]; · iexact Hq1
  isplitl [Hq2]; · iexact Hq2
  isplitl [Hh0]; · iapply (held_eq c hbM0_0 e0); iexact Hh0
  isplitl [Hh1]; · iapply (held_eq c hbM0_1 e1); iexact Hh1
  isplitl [Hh2]; · iapply (held_eq c hbM0_2 e2); iexact Hh2
  iexact HW

end Cert.KernelIdeal.Merge

end
-- ==== Proof.MergeLaunch.lean ====
/- The launch: the body's obligation at every point from the three cases, and from it the run of the
   whole program and its frame. -/
module

public import proofs.«01_k».proof.Proof.MergeFrame
public import Idealize.ShloMosaic.Lib.Claim

@[expose] public section

set_option maxRecDepth 16384

noncomputable section

namespace Cert.KernelIdeal.Merge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's obligation -/

theorem before_in0 (c : Dev nD) (t : Fin cfg0.N) (d) : (dats m 0 c).before 0 t d = iblk m c 0 t :=
  before0_0_of m (dats m 0 c) (arr_eq m c 0) (fun _ => by dsimp only [dats]) t d
theorem before_in1 (c : Dev nD) (t : Fin cfg0.N) (d) : (dats m 0 c).before 1 t d = iblk m c 1 t :=
  before0_1_of m (dats m 0 c) (arr_eq m c 1) (fun _ => by dsimp only [dats]) t d
theorem before_in2 (c : Dev nD) (t : Fin cfg0.N) (d) : (dats m 0 c).before 2 t d = iblk m c 2 t :=
  before0_2_of m (dats m 0 c) (arr_eq m c 2) (fun _ => by dsimp only [dats]) t d
theorem before_in3 (c : Dev nD) (t : Fin cfg0.N) (d) : (dats m 0 c).before 3 t d = iblk m c 3 t :=
  before0_3_of m (dats m 0 c) (arr_eq m c 3) (fun _ => by dsimp only [dats]) t d
theorem before_in4 (c : Dev nD) (t : Fin cfg0.N) (d) : (dats m 0 c).before 4 t d = iblk m c 4 t :=
  before0_4_of m (dats m 0 c) (arr_eq m c 4) (fun _ => by dsimp only [dats]) t d
theorem before_in5 (c : Dev nD) (t : Fin cfg0.N) (d) : (dats m 0 c).before 5 t d = iblk m c 5 t :=
  before0_5_of m (dats m 0 c) (arr_eq m c 5) (fun _ => by dsimp only [dats]) t d
theorem before_in6 (c : Dev nD) (t : Fin cfg0.N) (d) : (dats m 0 c).before 6 t d = iblk m c 6 t :=
  before0_6_of m (dats m 0 c) (arr_eq m c 6) (fun _ => by dsimp only [dats]) t d
theorem before_in7 (c : Dev nD) (t : Fin cfg0.N) (d) : (dats m 0 c).before 7 t d = iblk m c 7 t :=
  before0_7_of m (dats m 0 c) (arr_eq m c 7) (fun _ => by dsimp only [dats]) t d
theorem before_in8 (c : Dev nD) (t : Fin cfg0.N) (d) : (dats m 0 c).before 8 t d = iblk m c 8 t :=
  before0_8_of m (dats m 0 c) (arr_eq m c 8) (fun _ => by dsimp only [dats]) t d
theorem before_in9 (c : Dev nD) (t : Fin cfg0.N) (d) : (dats m 0 c).before 9 t d = iblk m c 9 t :=
  before0_9_of m (dats m 0 c) (arr_eq m c 9) (fun _ => by dsimp only [dats]) t d
theorem before_in10 (c : Dev nD) (t : Fin cfg0.N) (d) : (dats m 0 c).before 10 t d = iblk m c 10 t :=
  before0_10_of m (dats m 0 c) (arr_eq m c 10) (fun _ => by dsimp only [dats]) t d
theorem before_in11 (c : Dev nD) (t : Fin cfg0.N) (d) : (dats m 0 c).before 11 t d = iblk m c 11 t :=
  before0_11_of m (dats m 0 c) (arr_eq m c 11) (fun _ => by dsimp only [dats]) t d
theorem after_0 (c : Dev nD) (t : Fin cfg0.N) : (dats m 0 c).after 0 t = iblk m c 0 t := by
  dsimp only [dats]
theorem after_1 (c : Dev nD) (t : Fin cfg0.N) : (dats m 0 c).after 1 t = iblk m c 1 t := by
  dsimp only [dats]
theorem after_2 (c : Dev nD) (t : Fin cfg0.N) : (dats m 0 c).after 2 t = iblk m c 2 t := by
  dsimp only [dats]
theorem after_3 (c : Dev nD) (t : Fin cfg0.N) : (dats m 0 c).after 3 t = iblk m c 3 t := by
  dsimp only [dats]
theorem after_4 (c : Dev nD) (t : Fin cfg0.N) : (dats m 0 c).after 4 t = iblk m c 4 t := by
  dsimp only [dats]
theorem after_5 (c : Dev nD) (t : Fin cfg0.N) : (dats m 0 c).after 5 t = iblk m c 5 t := by
  dsimp only [dats]
theorem after_6 (c : Dev nD) (t : Fin cfg0.N) : (dats m 0 c).after 6 t = iblk m c 6 t := by
  dsimp only [dats]
theorem after_7 (c : Dev nD) (t : Fin cfg0.N) : (dats m 0 c).after 7 t = iblk m c 7 t := by
  dsimp only [dats]
theorem after_8 (c : Dev nD) (t : Fin cfg0.N) : (dats m 0 c).after 8 t = iblk m c 8 t := by
  dsimp only [dats]
theorem after_9 (c : Dev nD) (t : Fin cfg0.N) : (dats m 0 c).after 9 t = iblk m c 9 t := by
  dsimp only [dats]
theorem after_10 (c : Dev nD) (t : Fin cfg0.N) : (dats m 0 c).after 10 t = iblk m c 10 t := by
  dsimp only [dats]
theorem after_11 (c : Dev nD) (t : Fin cfg0.N) : (dats m 0 c).after 11 t = iblk m c 11 t := by
  dsimp only [dats]
theorem after_12 (c : Dev nD) (t : Fin cfg0.N) : (dats m 0 c).after 12 t = (blk m c t).dx := by
  dsimp only [dats]
theorem after_13 (c : Dev nD) (t : Fin cfg0.N) : (dats m 0 c).after 13 t = (blk m c t).dyr := by
  dsimp only [dats]
theorem after_14 (c : Dev nD) (t : Fin cfg0.N) : (dats m 0 c).after 14 t = (blk m c t).dya := by
  dsimp only [dats]
theorem after_15 (c : Dev nD) (t : Fin cfg0.N) : (dats m 0 c).after 15 t = (blk m c t).dmr := by
  dsimp only [dats]
theorem after_16 (c : Dev nD) (t : Fin cfg0.N) : (dats m 0 c).after 16 t = (blk m c t).dma := by
  dsimp only [dats]
theorem after_17 (c : Dev nD) (t : Fin cfg0.N) : (dats m 0 c).after 17 t = (sums m c t.val t.isLt).loss := by
  dsimp only [dats]
theorem after_18 (c : Dev nD) (t : Fin cfg0.N) : (dats m 0 c).after 18 t = (sums m c t.val t.isLt).gs := by
  dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

theorem inv_succ (c : Dev nD) (t : Fin cfg0.N) : (dats m 0 c).Φ t.succ
    = kept c (sums m c t.val t.isLt) (held0 m c t.val t.isLt) (held1 m c t.val t.isLt) (held2 m c t.val t.isLt) := rfl

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [inv_succ]
  simp only [before_in0, before_in1, before_in2, before_in3, before_in4, before_in5, before_in6, before_in7, before_in8, before_in9, before_in10, before_in11, after_0, after_1, after_2, after_3, after_4, after_5, after_6, after_7, after_8, after_9, after_10, after_11, after_12, after_13, after_14, after_15, after_16, after_17, after_18]
  unfold Dat.owesAt Pipeline.owesWithin
  rw [show (dats m 0 c).owed t.castSucc = 0 from rfl, show (dats m 0 c).owed t.succ = 0 from rfl, inv_at]
  have hN : t.val < 8 := lt_of_lt_of_eq t.isLt (show cfg0.N = 8 from N_0)
  by_cases h0 : t.val % 8 = 0
  · have h1 : ¬t.val % 8 = 7 := by omega
    have hz : t.val = 0 := by omega
    rw [inv_first m c _ _ hz, PhiDRG0_in_eq, sums_first m c t hz, held0, held1, held2, if_neg h1, if_neg h1, if_neg h1]
    unfold kept
    iintro ⟨⟨⟨HS0, HS1, HS2⟩, Hg, ⟨Hq0, Hq1, Hq2⟩, -, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (bodyA m c t h0 h1 _ _ _ W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    isplitl [HW]; · iexact HW
    iintro ⟨H0, H1, H2, H3, H4, H5, H6, H7, H8, H9, H10, H11, H12, H13, H14, H15, H16, H17, H18, HS0, HS1, HS2, Hq0, Hq1, Hq2, Hh0, Hh1, Hh2, ⟨%W', HW⟩⟩
    isplitl [HS0 HS1 HS2 Hg Hq0 Hq1 Hq2 Hh0 Hh1 Hh2]
    · isplitl [HS0 HS1 HS2]
      · isplitl [HS0]; · iexact HS0
        isplitl [HS1]; · iexact HS1
        iexact HS2
      isplitl [Hg]; · iexact Hg
      isplitl [Hq0 Hq1 Hq2]
      · isplitl [Hq0]; · iexact Hq0
        isplitl [Hq1]; · iexact Hq1
        iexact Hq2
      isplitr; · iempintro
      isplitl [Hh0]; · iexact Hh0
      isplitl [Hh1]; · iexact Hh1
      iexact Hh2
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · by_cases h1 : t.val % 8 = 7
    · have hz : t.val ≠ 0 := by omega
      simp only [before_loss m c t hz, before_gs m c t hz]
      have hp : ¬(t.val - 1) % 8 = 7 := by omega
      rw [inv_next m c _ _ hz, held0, held1, held2, if_neg hp, if_neg hp, if_neg hp, held0, held1, held2, if_pos h1, if_pos h1, if_pos h1, sums_next m c t hz]
      unfold kept
      iintro ⟨⟨⟨HS0, HS1, HS2⟩, Hg, ⟨Hq0, Hq1, Hq2⟩, -, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (bodyC m c t h0 h1 (sums m c (t.val - 1) (Nat.lt_of_le_of_lt (Nat.sub_le _ _) t.isLt)) _ _ _ W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexact H17
      isplitl [H18]; · iexact H18
      isplitl [HS0]; · iexact HS0
      isplitl [HS1]; · iexact HS1
      isplitl [HS2]; · iexact HS2
      isplitl [Hq0]; · iexact Hq0
      isplitl [Hq1]; · iexact Hq1
      isplitl [Hq2]; · iexact Hq2
      isplitl [Hh0]; · iexact Hh0
      isplitl [Hh1]; · iexact Hh1
      isplitl [Hh2]; · iexact Hh2
      isplitl [HW]; · iexact HW
      iintro ⟨H0, H1, H2, H3, H4, H5, H6, H7, H8, H9, H10, H11, H12, H13, H14, H15, H16, H17, H18, HS0, HS1, HS2, Hq0, Hq1, Hq2, Hh0, Hh1, Hh2, ⟨%W', HW⟩⟩
      isplitl [HS0 HS1 HS2 Hg Hq0 Hq1 Hq2 Hh0 Hh1 Hh2]
      · isplitl [HS0 HS1 HS2]
        · isplitl [HS0]; · iexact HS0
          isplitl [HS1]; · iexact HS1
          iexact HS2
        isplitl [Hg]; · iexact Hg
        isplitl [Hq0 Hq1 Hq2]
        · isplitl [Hq0]; · iexact Hq0
          isplitl [Hq1]; · iexact Hq1
          iexact Hq2
        isplitr; · iempintro
        isplitl [Hh0]; · iexact Hh0
        isplitl [Hh1]; · iexact Hh1
        iexact Hh2
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · have hz : t.val ≠ 0 := by omega
      simp only [before_loss m c t hz, before_gs m c t hz]
      have hp : ¬(t.val - 1) % 8 = 7 := by omega
      rw [inv_next m c _ _ hz, held0, held1, held2, if_neg hp, if_neg hp, if_neg hp, held0, held1, held2, if_neg h1, if_neg h1, if_neg h1, sums_next m c t hz]
      unfold kept
      iintro ⟨⟨⟨HS0, HS1, HS2⟩, Hg, ⟨Hq0, Hq1, Hq2⟩, -, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (bodyB m c t h0 h1 (sums m c (t.val - 1) (Nat.lt_of_le_of_lt (Nat.sub_le _ _) t.isLt)) _ _ _ W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexact H17
      isplitl [H18]; · iexact H18
      isplitl [HS0]; · iexact HS0
      isplitl [HS1]; · iexact HS1
      isplitl [HS2]; · iexact HS2
      isplitl [Hq0]; · iexact Hq0
      isplitl [Hq1]; · iexact Hq1
      isplitl [Hq2]; · iexact Hq2
      isplitl [Hh0]; · iexact Hh0
      isplitl [Hh1]; · iexact Hh1
      isplitl [Hh2]; · iexact Hh2
      isplitl [HW]; · iexact HW
      iintro ⟨H0, H1, H2, H3, H4, H5, H6, H7, H8, H9, H10, H11, H12, H13, H14, H15, H16, H17, H18, HS0, HS1, HS2, Hq0, Hq1, Hq2, Hh0, Hh1, Hh2, ⟨%W', HW⟩⟩
      isplitl [HS0 HS1 HS2 Hg Hq0 Hq1 Hq2 Hh0 Hh1 Hh2]
      · isplitl [HS0 HS1 HS2]
        · isplitl [HS0]; · iexact HS0
          isplitl [HS1]; · iexact HS1
          iexact HS2
        isplitl [Hg]; · iexact Hg
        isplitl [Hq0 Hq1 Hq2]
        · isplitl [Hq0]; · iexact Hq0
          isplitl [Hq1]; · iexact Hq1
          iexact Hq2
        isplitr; · iempintro
        isplitl [Hh0]; · iexact Hh0
        isplitl [Hh1]; · iexact Hh1
        iexact Hh2
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18

/-- The body table's row at point `t`'s slots is the body's call there. -/
theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## After the last point -/

theorem last_lt : 7 < cfg0.N := by rw [show cfg0.N = 8 from N_0]; decide

/-- The outer memory after the run: as launched but for the three weights' gradients, at the last sums. -/
def after (c : Dev nD) : (b : Ref sig .tc) → Buf (Elt F) ((c : Thread nD τ).loc b) :=
  Function.update (Function.update (Function.update ((V m) c) main_v0_7 (sums m c 7 last_lt).gr) main_v0_8
    (sums m c 7 last_lt).ga) main_v0_9 (sums m c 7 last_lt).go

theorem after_gr (c : Dev nD) : after m c main_v0_7 = (sums m c 7 last_lt).gr := by
  unfold after
  simp only [Function.update_of_ne (show (main_v0_7 : Ref sig .tc) ≠ main_v0_8 by decide),
    Function.update_of_ne (show (main_v0_7 : Ref sig .tc) ≠ main_v0_9 by decide), Function.update_self]

theorem after_ga (c : Dev nD) : after m c main_v0_8 = (sums m c 7 last_lt).ga := by
  unfold after
  simp only [Function.update_of_ne (show (main_v0_8 : Ref sig .tc) ≠ main_v0_9 by decide), Function.update_self]

theorem after_go (c : Dev nD) : after m c main_v0_9 = (sums m c 7 last_lt).go := by
  unfold after
  simp only [Function.update_self]

/-- The three results' cells at their last contents, listed. -/
theorem results_eq (c : Dev nD) : (Pipeline.routed R0 c (after m c) : sProp 𝕄)
    = iprop(hbPt0 c hbM0_0 (sums m c 7 last_lt).gr ∗ hbPt0 c hbM0_1 (sums m c 7 last_lt).ga
      ∗ hbPt0 c hbM0_2 (sums m c 7 last_lt).go) := by
  unfold Pipeline.routed
  rw [BI.bigSep_eq_bigSepL_of_eq [main_v0_7, main_v0_8, main_v0_9] (by decide) (by decide)]
  simp only [BI.bigSepL_cons_cons, BI.bigSepL_singleton, after_gr, after_ga, after_go]
  rfl

/-- What the launch takes back, listed. -/
theorem back_eq (c : Dev nD) : (Pipeline.ΦDRG osem0 spec0 H0 R0 (V m) (after m) c : sProp 𝕄)
    = iprop(iprop((∃ d, owns (c : Thread nD τ) scM0_0 fullShare d) ∗ (∃ d, owns (c : Thread nD τ) scM0_1 fullShare d) ∗ (∃ d, owns (c : Thread nD τ) scM0_2 fullShare d))
      ∗ (∃ r, prngReg c r)
      ∗ iprop(semVal ((c : Thread nD τ), SemLoc.dma 32) 0 ∗ semVal ((c : Thread nD τ), SemLoc.dma 33) 0 ∗ semVal ((c : Thread nD τ), SemLoc.dma 34) 0)
      ∗ iprop(emp) ∗ iprop(hbPt0 c hbM0_0 (sums m c 7 last_lt).gr ∗ hbPt0 c hbM0_1 (sums m c 7 last_lt).ga
      ∗ hbPt0 c hbM0_2 (sums m c 7 last_lt).go)) := by
  rw [Pipeline.ΦDRG_eq, scopedRest0_eq, ownSems00_eq, hbmPts0_eq, results_eq]
  simp only [scM0_0, scM0_1, scM0_2, owns_whole]
  try rfl

theorem enter (c : Dev nD) : Pipeline.ΦDRG osem0 spec0 H0 R0 (V m) (V m) c ⊢ (dats m 0 c).Φ 0 := by
  rw [show (dats m 0 c).Φ 0 = inv m c 0 (Nat.zero_le _) from rfl, inv_first m c 0 _ rfl]

theorem inv_last (c : Dev nD) : (dats m 0 c).Φ (Fin.last cfg0.N)
    = kept c (sums m c 7 last_lt) (sums m c 7 last_lt).gr (sums m c 7 last_lt).ga (sums m c 7 last_lt).go := by
  have h : ∀ n (h : n ≤ cfg0.N), n = 8 → inv m c n h
      = kept c (sums m c 7 last_lt) (sums m c 7 last_lt).gr (sums m c 7 last_lt).ga (sums m c 7 last_lt).go := by
    intro n h e
    subst e
    show kept _ _ (held0 m c 7 _) (held1 m c 7 _) (held2 m c 7 _) = _
    rw [held0, held1, held2, if_pos rfl, if_pos rfl, if_pos rfl]
  exact h _ (Nat.le_of_lt_succ (Fin.last cfg0.N).isLt) (by rw [Fin.val_last]; exact N_0)

theorem leave (c : Dev nD) : (dats m 0 c).Φ (Fin.last cfg0.N) ⊢ Pipeline.ΦDRG osem0 spec0 H0 R0 (V m) (after m) c := by
  rw [inv_last, back_eq]
  unfold kept
  iintro ⟨⟨HS0, HS1, HS2⟩, Hrest⟩
  isplitl [HS0 HS1 HS2]
  · isplitl [HS0]; · iexists _; iexact HS0
    isplitl [HS1]; · iexists _; iexact HS1
    iexists _; iexact HS2
  iexact Hrest

/-! ## The run and the frame -/

set_option backward.isDefEq.respectTransparency.types false in
/-- Every run ends with the pipeline's arrays as the data say, the results at the last sums, and every counter at zero. -/
theorem run : θ_run defs (onTc (τ := τ) (main (F := F))) (s₀ m ρ)
    (fun r => (Pipeline.FramePostRG cfgs (dats m) 0 R0 (V m) (after m)) r ∧ r.2.sem = fun _ => 0) :=
  Pipeline.θ_run_frame_dmaRG_shared (Q' := _) cfgs (dats m) (0 : Fin 1) launch₀0 osem0 defs₀ Variants.none ownSemFacts0 H0 R0
    H0_sub R0_sub m ρ main (hbody := fun c => (obligation m c).loose) (hq := fun _ _ _ => rfl) (howed := fun _ _ => rfl)
    (V := V m) (hmain := hmain m Variants.none) (hA := arr_eq m) (G := after m) (hin := enter m) (hout := leave m)

/-- Every run ends with the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (arr_eq m) ((θ_run defs _ _).mono (fun _ h => h.1.toR) (run m ρ))

/-- Every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run m ρ))

end Cert.KernelIdeal.Merge

end
-- ==== Proof.MergeSame.lean ====
/- The kernel as printed and its idealization are one program: no rewrite was applied, so their functions, windows and body
   tables are equal at every instance of the floats. The frame proved of the idealization is therefore the frame of both. -/
module

public import proofs.«01_k».proof.Proof.Gen.Kernel
public import proofs.«01_k».proof.Proof.Gen.KernelIdeal
public import proofs.«01_k».proof.Proof.MergeLaunch

@[expose] public section

open Idealize.ShloMosaic Idealize.SL.Sem

namespace Cert.Kernel.Merge

variable {F : FTy → Type} [FloatOps F]

theorem part1_eq : @Cert.Kernel.k0_part1 F _ _ = @Cert.KernelIdeal.k0_part1 F _ _ := rfl
theorem part2_eq : @Cert.Kernel.k0_part2 F _ _ = @Cert.KernelIdeal.k0_part2 F _ _ := rfl
theorem part3_eq : @Cert.Kernel.k0_part3 F _ _ = @Cert.KernelIdeal.k0_part3 F _ _ := rfl
theorem part4_eq : @Cert.Kernel.k0_part4 F _ _ = @Cert.KernelIdeal.k0_part4 F _ _ := rfl

set_option maxHeartbeats 1000000 in
/-- The two bodies are one function. -/
theorem body_eq : @Cert.Kernel.cc0_merge_and_head F _ _ = @Cert.KernelIdeal.cc0_merge_and_head F _ _ := by
  delta Cert.Kernel.cc0_merge_and_head Cert.KernelIdeal.cc0_merge_and_head
  rfl

set_option maxHeartbeats 1000000 in
/-- The two body tables are one. -/
theorem defs₀_eq : @Cert.Kernel.defs₀ F _ _ = @Cert.KernelIdeal.defs₀ F _ _ := by
  delta Cert.Kernel.defs₀ Cert.KernelIdeal.defs₀
  rw [body_eq]
  generalize @Cert.KernelIdeal.cc0_merge_and_head F _ _ = f
  refine congrArg Defs.onTc (funext fun l => funext fun a => ?_)
  match l, a with
  | 0, (t, s) => rfl

theorem defs_eq : @Cert.Kernel.defs F _ _ = @Cert.KernelIdeal.defs F _ _ := congrArg (Pipeline.defs _) defs₀_eq

theorem main_eq : Cert.Kernel.main (F := F) = Cert.KernelIdeal.main (F := F) := rfl

/-- A run of the idealization is a run of the kernel as printed. -/
theorem run_eq (s : MemSt nD τ sig (Elt F)) (Q : PUnit × MemSt nD τ sig (Elt F) → Prop)
    (h : θ_run (Cert.KernelIdeal.defs (F := F)) (onTc (τ := Cert.KernelIdeal.τ) (Cert.KernelIdeal.main (F := F))) s Q) :
    θ_run (Cert.Kernel.defs (F := F)) (onTc (τ := τ) (Cert.Kernel.main (F := F))) s Q := by
  rw [defs_eq, main_eq]
  exact h

end Cert.Kernel.Merge

end
-- ==== Proof.MergeRef.lean ====
/- What the reference computes, one token at a time: each of its arrays read at an index is the
   formula of the token the row names. -/
module

public import proofs.«01_k».proof.Proof.MergeRow
public import proofs.«01_k».proof.Proof.Gen.ReferenceIdeal.Read
public import Idealize.ShloMosaic.Lib.Pointwise

@[expose] public section

noncomputable section

namespace Cert.ReferenceIdeal.Merge

open Cert.ReferenceIdeal Cert.ReferenceIdeal.Gen Cert.ReferenceIdeal.Read Cert.Merge Cert.Norm Idealize.ShloMosaic

/-- The arguments of the two programs. -/
structure Args where
  (x t : Vec Ideal S4096x1024 .f32)
  proj : Vec Ideal S4096x6656 .bf16
  (yr ya : Vec Ideal S4096x1024 .bf16)
  (wr wa wo : Vec Ideal S1024x1024 .bf16)
  g : Vec Ideal S1x1024 .f32

namespace Args

variable (a : Args)

def wts : Wts where
  wr i j := a.wr (ix2 i j)
  wa i j := a.wa (ix2 i j)
  wo i j := a.wo (ix2 i j)
  g k := a.g (ix2 0 k)

/-- The token in row `r`: the gates are the last two kilocolumns of the projection. -/
def row (r : Fin 4096) : Row where
  x k := a.x (ix2 r k)
  t k := a.t (ix2 r k)
  mr k := a.proj (ix2 r ⟨4608 + k.val, by omega⟩)
  ma k := a.proj (ix2 r ⟨5632 + k.val, by omega⟩)
  yr k := a.yr (ix2 r k)
  ya k := a.ya (ix2 r k)

theorem sr_at (r : Fin 4096) (k : Fin 1024) : val_main_v14 (F := Ideal) a.proj (ix2 r k) = sr (a.row r) k := by
  unfold val_main_v14 val_main_v13 val_main_v12 val_main_v11 val_main_v10 val_main_v9 val_main_v2 val_main_v0 val_main_cst val_main_cst_0
  pointwise
  rfl

theorem sa_at (r : Fin 4096) (k : Fin 1024) : val_main_v25 (F := Ideal) a.proj (ix2 r k) = sa (a.row r) k := by
  unfold val_main_v25 val_main_v24 val_main_v23 val_main_v22 val_main_v21 val_main_v20 val_main_v3 val_main_v1 val_main_cst_2 val_main_cst_3
  pointwise
  rfl

theorem pr_at (r : Fin 4096) (k : Fin 1024) : val_main_v18 (F := Ideal) a.yr a.wr (ix2 r k) = pr a.wts (a.row r) k := by
  unfold val_main_v18 val_main_v4 val_main_v6
  pointwise
  rfl

theorem pa_at (r : Fin 4096) (k : Fin 1024) : val_main_v29 (F := Ideal) a.ya a.wa (ix2 r k) = pa a.wts (a.row r) k := by
  unfold val_main_v29 val_main_v5 val_main_v7
  pointwise
  rfl

theorem merged_at (r : Fin 4096) (k : Fin 1024) : val_main_v31 (F := Ideal) a.proj a.yr a.ya a.wr a.wa (ix2 r k) = merged a.wts (a.row r) k := by
  unfold val_main_v31 val_main_v19 val_main_v30
  pointwise
  simp only [sr_at, sa_at, pr_at, pa_at]
  rfl

theorem x2_at (r : Fin 4096) (k : Fin 1024) : val_main_v33 (F := Ideal) a.x a.proj a.yr a.ya a.wr a.wa a.wo (ix2 r k) = x2 a.wts (a.row r) k := by
  unfold val_main_v33 val_main_v32 val_main_v8
  pointwise
  simp only [merged_at]
  rfl

theorem var_at (r : Fin 4096) (j : Fin 1) : val_main_v40 (F := Ideal) a.x a.proj a.yr a.ya a.wr a.wa a.wo (ix2 r j) = var a.wts (a.row r) := by
  unfold val_main_v40 val_main_v39 val_main_v38 val_main_v37 val_main_v36 val_main_v35 val_main_v34 val_main_cst_5
    val_main_cst_6 val_main_cst_7
  pointwise
  simp only [x2_at, lit_width]
  rfl

theorem rstd_at (r : Fin 4096) (j : Fin 1) : val_main_v41 (F := Ideal) a.x a.proj a.yr a.ya a.wr a.wa a.wo (ix2 r j) = rstd a.wts (a.row r) := by
  unfold val_main_v41
  pointwise
  simp only [var_at]
  rfl

theorem xh_at (r : Fin 4096) (k : Fin 1024) : val_main_v46 (F := Ideal) a.x a.proj a.yr a.ya a.wr a.wa a.wo (ix2 r k) = xh a.wts (a.row r) k := by
  unfold val_main_v46 val_main_v45
  pointwise
  simp only [x2_at, rstd_at]
  rfl

theorem err_at (r : Fin 4096) (k : Fin 1024) : val_main_v49 (F := Ideal) a.x a.t a.proj a.yr a.ya a.wr a.wa a.wo a.g (ix2 r k) = err a.wts (a.row r) k := by
  unfold val_main_v49 val_main_v48 val_main_v47
  pointwise
  simp only [xh_at]
  rfl

theorem dy_at (r : Fin 4096) (k : Fin 1024) : val_main_v63 (F := Ideal) a.x a.t a.proj a.yr a.ya a.wr a.wa a.wo a.g (ix2 r k) = dy a.wts (a.row r) k := by
  rw [← dy_eq]
  unfold val_main_v63 val_main_v62 val_main_v61 val_main_v60 val_main_v59 val_main_v58 val_main_v52 val_main_v51
    val_main_cst_9 val_main_cst_14 val_main_cst_15 val_main_cst_16
  pointwise
  simp only [err_at, lit_half, lit_two, lit_width]

theorem dxn_at (r : Fin 4096) (k : Fin 1024) : val_main_v68 (F := Ideal) a.x a.t a.proj a.yr a.ya a.wr a.wa a.wo a.g (ix2 r k) = dxn a.wts (a.row r) k := by
  unfold val_main_v68 val_main_v67
  pointwise
  simp only [dy_at]
  rfl

/-- The derivative through the mean square, the same for every column of a token. -/
theorem through_at (r : Fin 4096) (k : Fin 1024) : val_main_v78 (F := Ideal) a.x a.t a.proj a.yr a.ya a.wr a.wa a.wo a.g (ix2 r k) =
    Ideal.div ((∑ j, x2 a.wts (a.row r) j * dxn a.wts (a.row r) j)
      * (((-(1 / 2) : ℝ) : EReal) * Ideal.div (rstd a.wts (a.row r)) (var a.wts (a.row r)))) ((1024 : ℝ) : EReal) := by
  unfold val_main_v78 val_main_v77 val_main_v76 val_main_v75 val_main_v74 val_main_v71 val_main_v70 val_main_v69
    val_main_v44 val_main_v43 val_main_v42 val_main_cst_8 val_main_cst_18 val_main_cst_19 val_main_cst_20
  pointwise
  simp only [x2_at, dxn_at, rstd_at, var_at, lit_neg_half, lit_width]
  exact Fin.sum_univ_one _

theorem dx2_at (r : Fin 4096) (k : Fin 1024) : val_main_v82 (F := Ideal) a.x a.t a.proj a.yr a.ya a.wr a.wa a.wo a.g (ix2 r k) = dx2 a.wts (a.row r) k := by
  rw [← dx2_eq a.wts (a.row r) k _ rfl]
  unfold val_main_v82 val_main_v81 val_main_v80 val_main_v79 val_main_v73 val_main_v72
  pointwise
  simp only [x2_at, dxn_at, rstd_at, through_at]

theorem dm_at (r : Fin 4096) (k : Fin 1024) : val_main_v85 (F := Ideal) a.x a.t a.proj a.yr a.ya a.wr a.wa a.wo a.g (ix2 r k) = dm a.wts (a.row r) k := by
  unfold val_main_v85 val_main_v8
  pointwise
  simp only [dx2_at]
  rfl

theorem dpr_at (r : Fin 4096) (k : Fin 1024) : val_main_v92 (F := Ideal) a.x a.t a.proj a.yr a.ya a.wr a.wa a.wo a.g (ix2 r k) = dpr a.wts (a.row r) k := by
  unfold val_main_v92
  pointwise
  simp only [dm_at, sr_at]
  exact mul_comm _ _

theorem dpa_at (r : Fin 4096) (k : Fin 1024) : val_main_v86 (F := Ideal) a.x a.t a.proj a.yr a.ya a.wr a.wa a.wo a.g (ix2 r k) = dpa a.wts (a.row r) k := by
  unfold val_main_v86
  pointwise
  simp only [dm_at, sa_at]
  exact mul_comm _ _

/-! ## The results -/

theorem dyr_at (r : Fin 4096) (k : Fin 1024) : val_main_v98 (F := Ideal) a.x a.t a.proj a.yr a.ya a.wr a.wa a.wo a.g (ix2 r k) = dyr a.wts (a.row r) k := by
  unfold val_main_v98 val_main_v96 val_main_v6
  pointwise
  simp only [dpr_at]
  rfl

theorem dya_at (r : Fin 4096) (k : Fin 1024) : val_main_v99 (F := Ideal) a.x a.t a.proj a.yr a.ya a.wr a.wa a.wo a.g (ix2 r k) = dya a.wts (a.row r) k := by
  unfold val_main_v99 val_main_v90 val_main_v7
  pointwise
  simp only [dpa_at]
  rfl

theorem dmr_at (r : Fin 4096) (k : Fin 1024) : val_main_v100 (F := Ideal) a.x a.t a.proj a.yr a.ya a.wr a.wa a.wo a.g (ix2 r k) = dmr a.wts (a.row r) k := by
  unfold val_main_v100 val_main_v97 val_main_v93 val_main_v17 val_main_v16 val_main_v15 val_main_cst_1
  pointwise
  simp only [dm_at, pr_at, sr_at]
  rfl

theorem dma_at (r : Fin 4096) (k : Fin 1024) : val_main_v101 (F := Ideal) a.x a.t a.proj a.yr a.ya a.wr a.wa a.wo a.g (ix2 r k) = dma a.wts (a.row r) k := by
  unfold val_main_v101 val_main_v91 val_main_v87 val_main_v28 val_main_v27 val_main_v26 val_main_cst_4
  pointwise
  simp only [dm_at, pa_at, sa_at]
  rfl

/-- Every element of the loss array is the sum of the tokens' squared differences. -/
theorem loss_at (i : Fin 8) (k : Fin 1024) : val_main_v103 (F := Ideal) a.x a.t a.proj a.yr a.ya a.wr a.wa a.wo a.g (ix2 i k) = ∑ r, sqerr a.wts (a.row r) := by
  rw [← loss_eq _ fun r => sqerr_nonneg a.wts (a.row r)]
  unfold val_main_v103 val_main_v102 val_main_v57 val_main_v56 val_main_v55 val_main_v54 val_main_v53 val_main_v50
    val_main_cst_10 val_main_cst_11 val_main_cst_12 val_main_cst_13 val_main_cst_21
  pointwise
  simp only [err_at, lit_half, lit_two_widths, lit_width]
  rfl

/-- The scale's gradient stands in the first row, the other rows are zero. -/
theorem gscale_at (i : Fin 8) (k : Fin 1024) :
    val_main_v105 (F := Ideal) a.x a.t a.proj a.yr a.ya a.wr a.wa a.wo a.g (ix2 i k) = if i.val < 1 then ∑ r, gg a.wts (a.row r) k else 0 := by
  unfold val_main_v105 val_main_v104 val_main_v66 val_main_v65 val_main_v64 val_main_cst_17 val_main_cst_22
  pointwise
  simp only [dy_at, xh_at]
  exact if_congr Iff.rfl (Finset.sum_congr rfl fun r _ => mul_comm _ _) rfl

theorem gwr_at (i j : Fin 1024) : val_main_v95 (F := Ideal) a.x a.t a.proj a.yr a.ya a.wr a.wa a.wo a.g (ix2 i j) = ∑ r, (a.row r).yr i * dpr a.wts (a.row r) j := by
  unfold val_main_v95 val_main_v94 val_main_v4
  pointwise
  simp only [dpr_at]
  exact Finset.sum_congr rfl fun r _ => mul_comm _ _

theorem gwa_at (i j : Fin 1024) : val_main_v89 (F := Ideal) a.x a.t a.proj a.yr a.ya a.wr a.wa a.wo a.g (ix2 i j) = ∑ r, (a.row r).ya i * dpa a.wts (a.row r) j := by
  unfold val_main_v89 val_main_v88 val_main_v5
  pointwise
  simp only [dpa_at]
  exact Finset.sum_congr rfl fun r _ => mul_comm _ _

theorem gwo_at (i j : Fin 1024) : val_main_v84 (F := Ideal) a.x a.t a.proj a.yr a.ya a.wr a.wa a.wo a.g (ix2 i j) = ∑ r, merged a.wts (a.row r) i * dx2 a.wts (a.row r) j := by
  unfold val_main_v84 val_main_v83
  pointwise
  simp only [dx2_at, merged_at]
  exact Finset.sum_congr rfl fun r _ => mul_comm _ _

end Args

end Cert.ReferenceIdeal.Merge
-- ==== Proof.Tokens.lean ====
/- Sums over 4096 tokens taken in eight blocks of 512, and indices of two-dimensional arrays. -/
module

public import Idealize.ShloMosaic.PureOps.Ideal.Laws
public import Idealize.ShloMosaic.Lib.Pointwise
public import Mathlib.Algebra.BigOperators.Fin

@[expose] public section

noncomputable section

namespace Cert.Tokens

open Idealize.ShloMosaic

/-- An index of a two-dimensional array is its two coordinates. -/
theorem two {a b : ℕ} (y : (⟨2, ![a, b]⟩ : Shape).Idx) : ∃ i j, y = ix2 i j :=
  ⟨y 0, y 1, funext fun a => match a with | 0 => rfl | 1 => rfl⟩

/-- What starts at the first block's sum and grows by each further block's is, after the eighth, the sum over all. -/
theorem total {N : ℕ} {f : Fin 4096 → EReal} {tok : Fin N → Fin 512 → Fin 4096} (place : ∀ t r, (tok t r).val = 512 * t.val + r.val)
    {u : (n : ℕ) → n < N → EReal} (first : ∀ h, u 0 h = 0 + ∑ r, f (tok ⟨0, h⟩ r))
    (next : ∀ n h, u (n + 1) h = u n (Nat.lt_of_succ_lt h) + ∑ r, f (tok ⟨n + 1, h⟩ r)) (h7 : 7 < N) :
    u 7 h7 = ∑ q, f q := by
  have split : ∀ n (h : n < N), ∑ r, f (tok ⟨n, h⟩ r)
      = ∑ x ∈ Finset.range 512, if hx : 512 * n + x < 4096 then f ⟨512 * n + x, hx⟩ else 0 := by
    intro n h
    rw [Finset.sum_range]
    refine Finset.sum_congr rfl fun r _ => ?_
    have hq : 512 * n + r.val < 4096 := place ⟨n, h⟩ r ▸ (tok ⟨n, h⟩ r).isLt
    rw [dif_pos hq]
    exact congrArg f (Fin.ext (place _ _))
  have upto : ∀ n (h : n < N), u n h = ∑ q ∈ Finset.range (512 * (n + 1)), if hq : q < 4096 then f ⟨q, hq⟩ else 0 := by
    intro n
    induction n with
    | zero => intro h; rw [first, zero_add, split]; simp only [Nat.mul_zero, Nat.zero_add, Nat.mul_one]
    | succ n ih => intro h; rw [next, ih, split, Nat.mul_succ 512 (n + 1), Finset.sum_range_add]
  rw [upto, Finset.sum_range]
  exact Finset.sum_congr rfl fun q _ => dif_pos q.isLt

end Cert.Tokens
-- ==== Proof.MergeTokens.lean ====
/- The blocks of a grid point are the tokens the point names, and the sums after the last point run
   over all of them. -/
module

public import proofs.«01_k».proof.Proof.MergeFrame
public import proofs.«01_k».proof.Proof.MergeRef
public import proofs.«01_k».proof.Proof.Tokens
public import Idealize.ShloMosaic.Lib.Pipeline.ValueKit.Geometry
public import Mathlib.Algebra.BigOperators.Fin

@[expose] public section

noncomputable section

namespace Cert.KernelIdeal.Merge

open Cert.KernelIdeal Cert.KernelIdeal.Gen Cert.Merge Idealize.ShloMosaic Idealize.ShloMosaic.TcCoe Idealize.SL.Sem
open Cert.ReferenceIdeal.Merge (Args)

variable (m : (ℓ : Loc nD τ sig) → Buf (Elt Ideal) ℓ) (c : Dev nD)

/-- The arguments, as the launch finds them. -/
def args : Args where
  x := m ((c : Thread nD τ).loc main_arg0)
  t := m ((c : Thread nD τ).loc main_arg1)
  proj := m ((c : Thread nD τ).loc main_arg2)
  yr := m ((c : Thread nD τ).loc main_arg3)
  ya := m ((c : Thread nD τ).loc main_arg4)
  wr := m ((c : Thread nD τ).loc main_arg5)
  wa := m ((c : Thread nD τ).loc main_arg6)
  wo := m ((c : Thread nD τ).loc main_arg7)
  g := m ((c : Thread nD τ).loc main_arg8)

theorem points (t : Fin cfg0.N) : t.val < 8 := lt_of_lt_of_eq t.isLt (show cfg0.N = 8 from N_0)

/-- The token in row `r` of point `t`'s blocks. -/
def tok (t : Fin cfg0.N) (r : Fin 512) : Fin 4096 := ⟨512 * t.val + r.val, by have := points t; omega⟩

/-! ## The blocks' places -/

theorem place0 : ∀ t : Fin cfg0.N, win0_0.index t 0 = t.val ∧ win0_0.index t 1 = 0 :=
  (by decide +kernel : ∀ t : Fin grid0.N, win0_0.index t 0 = t.val ∧ win0_0.index t 1 = 0)
theorem blk_x (t : Fin cfg0.N) (r : Fin 512) (k : Fin 1024) : (blk m c t).x (ix2 r k) = (args m c).x (ix2 (tok t r) k) := by
  obtain ⟨h0, h1⟩ := place0 t
  exact congrArg (V m c main_arg0) (funext fun a => Fin.ext (match a with
    | 0 => by show win0_0.index t 0 * 512 + 1 * r.val = 512 * t.val + r.val; rw [h0]; omega
    | 1 => by show win0_0.index t 1 * 1024 + 1 * k.val = k.val; rw [h1]; omega))

theorem place1 : ∀ t : Fin cfg0.N, win0_1.index t 0 = t.val ∧ win0_1.index t 1 = 0 :=
  (by decide +kernel : ∀ t : Fin grid0.N, win0_1.index t 0 = t.val ∧ win0_1.index t 1 = 0)
theorem blk_t (t : Fin cfg0.N) (r : Fin 512) (k : Fin 1024) : (blk m c t).t (ix2 r k) = (args m c).t (ix2 (tok t r) k) := by
  obtain ⟨h0, h1⟩ := place1 t
  exact congrArg (V m c main_arg1) (funext fun a => Fin.ext (match a with
    | 0 => by show win0_1.index t 0 * 512 + 1 * r.val = 512 * t.val + r.val; rw [h0]; omega
    | 1 => by show win0_1.index t 1 * 1024 + 1 * k.val = k.val; rw [h1]; omega))

theorem place2 : ∀ t : Fin cfg0.N, win0_2.index t 0 = t.val ∧ win0_2.index t 1 = 9 :=
  (by decide +kernel : ∀ t : Fin grid0.N, win0_2.index t 0 = t.val ∧ win0_2.index t 1 = 9)
theorem blk_mr0 (t : Fin cfg0.N) (r : Fin 512) (k : Fin 512) : (blk m c t).mr0 (ix2 r k) = (args m c).proj (ix2 (tok t r) ⟨4608 + k.val, by omega⟩) := by
  obtain ⟨h0, h1⟩ := place2 t
  exact congrArg (V m c main_arg2) (funext fun a => Fin.ext (match a with
    | 0 => by show win0_2.index t 0 * 512 + 1 * r.val = 512 * t.val + r.val; rw [h0]; omega
    | 1 => by show win0_2.index t 1 * 512 + 1 * k.val = 4608 + k.val; rw [h1]; omega))

theorem place3 : ∀ t : Fin cfg0.N, win0_3.index t 0 = t.val ∧ win0_3.index t 1 = 10 :=
  (by decide +kernel : ∀ t : Fin grid0.N, win0_3.index t 0 = t.val ∧ win0_3.index t 1 = 10)
theorem blk_mr1 (t : Fin cfg0.N) (r : Fin 512) (k : Fin 512) : (blk m c t).mr1 (ix2 r k) = (args m c).proj (ix2 (tok t r) ⟨5120 + k.val, by omega⟩) := by
  obtain ⟨h0, h1⟩ := place3 t
  exact congrArg (V m c main_arg2) (funext fun a => Fin.ext (match a with
    | 0 => by show win0_3.index t 0 * 512 + 1 * r.val = 512 * t.val + r.val; rw [h0]; omega
    | 1 => by show win0_3.index t 1 * 512 + 1 * k.val = 5120 + k.val; rw [h1]; omega))

theorem place4 : ∀ t : Fin cfg0.N, win0_4.index t 0 = t.val ∧ win0_4.index t 1 = 11 :=
  (by decide +kernel : ∀ t : Fin grid0.N, win0_4.index t 0 = t.val ∧ win0_4.index t 1 = 11)
theorem blk_ma0 (t : Fin cfg0.N) (r : Fin 512) (k : Fin 512) : (blk m c t).ma0 (ix2 r k) = (args m c).proj (ix2 (tok t r) ⟨5632 + k.val, by omega⟩) := by
  obtain ⟨h0, h1⟩ := place4 t
  exact congrArg (V m c main_arg2) (funext fun a => Fin.ext (match a with
    | 0 => by show win0_4.index t 0 * 512 + 1 * r.val = 512 * t.val + r.val; rw [h0]; omega
    | 1 => by show win0_4.index t 1 * 512 + 1 * k.val = 5632 + k.val; rw [h1]; omega))

theorem place5 : ∀ t : Fin cfg0.N, win0_5.index t 0 = t.val ∧ win0_5.index t 1 = 12 :=
  (by decide +kernel : ∀ t : Fin grid0.N, win0_5.index t 0 = t.val ∧ win0_5.index t 1 = 12)
theorem blk_ma1 (t : Fin cfg0.N) (r : Fin 512) (k : Fin 512) : (blk m c t).ma1 (ix2 r k) = (args m c).proj (ix2 (tok t r) ⟨6144 + k.val, by omega⟩) := by
  obtain ⟨h0, h1⟩ := place5 t
  exact congrArg (V m c main_arg2) (funext fun a => Fin.ext (match a with
    | 0 => by show win0_5.index t 0 * 512 + 1 * r.val = 512 * t.val + r.val; rw [h0]; omega
    | 1 => by show win0_5.index t 1 * 512 + 1 * k.val = 6144 + k.val; rw [h1]; omega))

theorem place6 : ∀ t : Fin cfg0.N, win0_6.index t 0 = t.val ∧ win0_6.index t 1 = 0 :=
  (by decide +kernel : ∀ t : Fin grid0.N, win0_6.index t 0 = t.val ∧ win0_6.index t 1 = 0)
theorem blk_yr (t : Fin cfg0.N) (r : Fin 512) (k : Fin 1024) : (blk m c t).yr (ix2 r k) = (args m c).yr (ix2 (tok t r) k) := by
  obtain ⟨h0, h1⟩ := place6 t
  exact congrArg (V m c main_arg3) (funext fun a => Fin.ext (match a with
    | 0 => by show win0_6.index t 0 * 512 + 1 * r.val = 512 * t.val + r.val; rw [h0]; omega
    | 1 => by show win0_6.index t 1 * 1024 + 1 * k.val = k.val; rw [h1]; omega))

theorem place7 : ∀ t : Fin cfg0.N, win0_7.index t 0 = t.val ∧ win0_7.index t 1 = 0 :=
  (by decide +kernel : ∀ t : Fin grid0.N, win0_7.index t 0 = t.val ∧ win0_7.index t 1 = 0)
theorem blk_ya (t : Fin cfg0.N) (r : Fin 512) (k : Fin 1024) : (blk m c t).ya (ix2 r k) = (args m c).ya (ix2 (tok t r) k) := by
  obtain ⟨h0, h1⟩ := place7 t
  exact congrArg (V m c main_arg4) (funext fun a => Fin.ext (match a with
    | 0 => by show win0_7.index t 0 * 512 + 1 * r.val = 512 * t.val + r.val; rw [h0]; omega
    | 1 => by show win0_7.index t 1 * 1024 + 1 * k.val = k.val; rw [h1]; omega))

theorem place8 : ∀ t : Fin cfg0.N, win0_8.index t 0 = 0 ∧ win0_8.index t 1 = 0 :=
  (by decide +kernel : ∀ t : Fin grid0.N, win0_8.index t 0 = 0 ∧ win0_8.index t 1 = 0)
theorem blk_wr (t : Fin cfg0.N) (r : Fin 1024) (k : Fin 1024) : (blk m c t).wr (ix2 r k) = (args m c).wr (ix2 r k) := by
  obtain ⟨h0, h1⟩ := place8 t
  exact congrArg (V m c main_arg5) (funext fun a => Fin.ext (match a with
    | 0 => by show win0_8.index t 0 * 1024 + 1 * r.val = r.val; rw [h0]; omega
    | 1 => by show win0_8.index t 1 * 1024 + 1 * k.val = k.val; rw [h1]; omega))

theorem place9 : ∀ t : Fin cfg0.N, win0_9.index t 0 = 0 ∧ win0_9.index t 1 = 0 :=
  (by decide +kernel : ∀ t : Fin grid0.N, win0_9.index t 0 = 0 ∧ win0_9.index t 1 = 0)
theorem blk_wa (t : Fin cfg0.N) (r : Fin 1024) (k : Fin 1024) : (blk m c t).wa (ix2 r k) = (args m c).wa (ix2 r k) := by
  obtain ⟨h0, h1⟩ := place9 t
  exact congrArg (V m c main_arg6) (funext fun a => Fin.ext (match a with
    | 0 => by show win0_9.index t 0 * 1024 + 1 * r.val = r.val; rw [h0]; omega
    | 1 => by show win0_9.index t 1 * 1024 + 1 * k.val = k.val; rw [h1]; omega))

theorem place10 : ∀ t : Fin cfg0.N, win0_10.index t 0 = 0 ∧ win0_10.index t 1 = 0 :=
  (by decide +kernel : ∀ t : Fin grid0.N, win0_10.index t 0 = 0 ∧ win0_10.index t 1 = 0)
theorem blk_wo (t : Fin cfg0.N) (r : Fin 1024) (k : Fin 1024) : (blk m c t).wo (ix2 r k) = (args m c).wo (ix2 r k) := by
  obtain ⟨h0, h1⟩ := place10 t
  exact congrArg (V m c main_arg7) (funext fun a => Fin.ext (match a with
    | 0 => by show win0_10.index t 0 * 1024 + 1 * r.val = r.val; rw [h0]; omega
    | 1 => by show win0_10.index t 1 * 1024 + 1 * k.val = k.val; rw [h1]; omega))

theorem place11 : ∀ t : Fin cfg0.N, win0_11.index t 0 = 0 ∧ win0_11.index t 1 = 0 :=
  (by decide +kernel : ∀ t : Fin grid0.N, win0_11.index t 0 = 0 ∧ win0_11.index t 1 = 0)
theorem blk_g (t : Fin cfg0.N) (r : Fin 1) (k : Fin 1024) : (blk m c t).g (ix2 r k) = (args m c).g (ix2 r k) := by
  obtain ⟨h0, h1⟩ := place11 t
  exact congrArg (V m c main_arg8) (funext fun a => Fin.ext (match a with
    | 0 => by show win0_11.index t 0 * 1 + 1 * r.val = r.val; rw [h0]; omega
    | 1 => by show win0_11.index t 1 * 1024 + 1 * k.val = k.val; rw [h1]; omega))

/-! ## The blocks are the tokens -/

theorem wts_eq (t : Fin cfg0.N) : (blk m c t).wts = (args m c).wts := by
  unfold Blk.wts Args.wts
  congr 1
  · funext i j; exact blk_wr m c t i j
  · funext i j; exact blk_wa m c t i j
  · funext i j; exact blk_wo m c t i j
  · funext k; exact blk_g m c t 0 k

theorem row_eq_token (t : Fin cfg0.N) (r : Fin 512) : (blk m c t).row r = (args m c).row (tok t r) := by
  unfold Blk.row Args.row
  congr 1
  · funext k; exact blk_x m c t r k
  · funext k; exact blk_t m c t r k
  · funext k
    unfold Blk.cols
    split
    · exact blk_mr0 m c t r _
    · refine (blk_mr1 m c t r _).trans (congrArg _ (congrArg _ (Fin.ext ?_)))
      show 5120 + (k.val - 512) = 4608 + k.val
      omega
  · funext k
    unfold Blk.cols
    split
    · exact blk_ma0 m c t r _
    · refine (blk_ma1 m c t r _).trans (congrArg _ (congrArg _ (Fin.ext ?_)))
      show 6144 + (k.val - 512) = 5632 + k.val
      omega
  · funext k; exact blk_yr m c t r k
  · funext k; exact blk_ya m c t r k

/-! ## The sums after the last point -/

theorem sums_zero (h : 0 < cfg0.N) : sums m c 0 h = (blk m c ⟨0, h⟩).add Sums.zero := rfl
theorem sums_succ (n : ℕ) (h : n + 1 < cfg0.N) :
    sums m c (n + 1) h = (blk m c ⟨n + 1, h⟩).add (sums m c n (Nat.lt_of_succ_lt h)) := rfl

theorem zero_loss (i : Fin 8) (k : Fin 1024) : (Sums.zero (F := Ideal)).loss (ix2 i k) = 0 := by
  unfold Sums.zero k0_pay1; pointwise
theorem zero_gs (i : Fin 8) (k : Fin 1024) : (Sums.zero (F := Ideal)).gs (ix2 i k) = 0 := by
  unfold Sums.zero k0_pay2; pointwise
theorem zero_gr (i j : Fin 1024) : (Sums.zero (F := Ideal)).gr (ix2 i j) = 0 := by
  unfold Sums.zero k0_pay3; pointwise
theorem zero_ga (i j : Fin 1024) : (Sums.zero (F := Ideal)).ga (ix2 i j) = 0 := by
  unfold Sums.zero k0_pay4; pointwise
theorem zero_go (i j : Fin 1024) : (Sums.zero (F := Ideal)).go (ix2 i j) = 0 := by
  unfold Sums.zero k0_pay5; pointwise

theorem loss_total (h7 : 7 < cfg0.N) (i : Fin 8) (k : Fin 1024) :
    (sums m c 7 h7).loss (ix2 i k) = ∑ q, sqerr (args m c).wts ((args m c).row q) := by
  refine Tokens.total (tok := tok) (fun _ _ => rfl) (u := fun n h => (sums m c n h).loss (ix2 i k)) (fun h => ?_) (fun n h => ?_) h7
  · simp only [sums_zero, Blk.add, Blk.loss_at, zero_loss, wts_eq, row_eq_token]
  · simp only [sums_succ, Blk.add, Blk.loss_at, wts_eq, row_eq_token]

theorem gr_total (h7 : 7 < cfg0.N) (i j : Fin 1024) :
    (sums m c 7 h7).gr (ix2 i j) = ∑ q, ((args m c).row q).yr i * dpr (args m c).wts ((args m c).row q) j := by
  refine Tokens.total (tok := tok) (fun _ _ => rfl) (u := fun n h => (sums m c n h).gr (ix2 i j))
    (f := fun q => ((args m c).row q).yr i * dpr (args m c).wts ((args m c).row q) j) (fun h => ?_) (fun n h => ?_) h7
  · simp only [sums_zero, Blk.add, Blk.gwr_at, zero_gr, wts_eq, row_eq_token]
  · simp only [sums_succ, Blk.add, Blk.gwr_at, wts_eq, row_eq_token]

theorem ga_total (h7 : 7 < cfg0.N) (i j : Fin 1024) :
    (sums m c 7 h7).ga (ix2 i j) = ∑ q, ((args m c).row q).ya i * dpa (args m c).wts ((args m c).row q) j := by
  refine Tokens.total (tok := tok) (fun _ _ => rfl) (u := fun n h => (sums m c n h).ga (ix2 i j))
    (f := fun q => ((args m c).row q).ya i * dpa (args m c).wts ((args m c).row q) j) (fun h => ?_) (fun n h => ?_) h7
  · simp only [sums_zero, Blk.add, Blk.gwa_at, zero_ga, wts_eq, row_eq_token]
  · simp only [sums_succ, Blk.add, Blk.gwa_at, wts_eq, row_eq_token]

theorem go_total (h7 : 7 < cfg0.N) (i j : Fin 1024) :
    (sums m c 7 h7).go (ix2 i j)
      = ∑ q, merged (args m c).wts ((args m c).row q) i * dx2 (args m c).wts ((args m c).row q) j := by
  refine Tokens.total (tok := tok) (fun _ _ => rfl) (u := fun n h => (sums m c n h).go (ix2 i j))
    (f := fun q => merged (args m c).wts ((args m c).row q) i * dx2 (args m c).wts ((args m c).row q) j) (fun h => ?_) (fun n h => ?_) h7
  · simp only [sums_zero, Blk.add, Blk.gwo_at, zero_go, wts_eq, row_eq_token]
  · simp only [sums_succ, Blk.add, Blk.gwo_at, wts_eq, row_eq_token]

/-- The first row of the scale's gradient grows by the block's sum; the others stay. -/
theorem add_gs (b : Blk Ideal) (s : Sums Ideal) (i : Fin 8) (k : Fin 1024) : (b.add s).gs (ix2 i k)
    = if i.val < 1 then s.gs (ix2 i k) + ∑ r, gg b.wts (b.row r) k else s.gs (ix2 i k) := by
  unfold Blk.add
  dsimp only
  unfold VecWindow.put
  by_cases hi : i.val < 1
  · have hi0 : i = 0 := Fin.ext (by show i.val = 0; omega)
    subst hi0
    rw [dif_pos (fun a => by fin_cases a <;> simp <;> exact k.isLt), if_pos hi]
    refine Eq.trans (congrArg _ (funext fun a => Fin.ext ?_)) ((b.gscale_at _ 0 k).trans (congrArg (· + _) (congrArg s.gs (funext fun a => Fin.ext ?_))))
    · match a with
      | 0 => rfl
      | 1 => exact Nat.sub_zero _
    · match a with
      | 0 => rfl
      | 1 => show 0 + 1 * k.val = k.val; omega
  · rw [dif_neg (fun h => hi (by have := (h 0).2; simpa using this)), if_neg hi]

theorem gs_total (h7 : 7 < cfg0.N) (i : Fin 8) (k : Fin 1024) : (sums m c 7 h7).gs (ix2 i k)
    = if i.val < 1 then ∑ q, gg (args m c).wts ((args m c).row q) k else 0 := by
  by_cases hi : i.val < 1
  · rw [if_pos hi]
    refine Tokens.total (tok := tok) (fun _ _ => rfl) (u := fun n h => (sums m c n h).gs (ix2 i k))
      (f := fun q => gg (args m c).wts ((args m c).row q) k) (fun h => ?_) (fun n h => ?_) h7
    · simp only [sums_zero, add_gs, if_pos hi, zero_gs, wts_eq, row_eq_token]
    · simp only [sums_succ, add_gs, if_pos hi, wts_eq, row_eq_token]
  · rw [if_neg hi]
    have h : ∀ n (h : n < cfg0.N), (sums m c n h).gs (ix2 i k) = 0 := by
      intro n
      induction n with
      | zero => intro h; rw [sums_zero, add_gs, if_neg hi, zero_gs]
      | succ n ih => intro h; rw [sums_succ, add_gs, if_neg hi, ih]
    exact h 7 h7

end Cert.KernelIdeal.Merge

end
-- ==== Proof.MergeValue.lean ====
/- What the ten results hold after the run: the reference's arrays. -/
module

public import proofs.«01_k».proof.Proof.MergeTokens
public import proofs.«01_k».proof.Proof.MergeLaunch

@[expose] public section

noncomputable section

namespace Cert.KernelIdeal.Merge

open Cert.KernelIdeal Cert.KernelIdeal.Gen Cert.Merge Idealize.ShloMosaic Idealize.ShloMosaic.TcCoe Idealize.SL.Sem
open Cert.ReferenceIdeal.Read
open Cert.ReferenceIdeal.Merge (Args)
open Cert.Tokens (two)

variable (m : (ℓ : Loc nD τ sig) → Buf (Elt Ideal) ℓ) (ρ : Dev nD → PrngReg) (c : Dev nD)

/-! ## The reference's arrays of the same arguments -/

def out_dx (a : Args) : Vec Ideal S4096x1024 .f32 := val_main_v82 (F := Ideal) a.x a.t a.proj a.yr a.ya a.wr a.wa a.wo a.g
def out_dyr (a : Args) : Vec Ideal S4096x1024 .bf16 := val_main_v98 (F := Ideal) a.x a.t a.proj a.yr a.ya a.wr a.wa a.wo a.g
def out_dya (a : Args) : Vec Ideal S4096x1024 .bf16 := val_main_v99 (F := Ideal) a.x a.t a.proj a.yr a.ya a.wr a.wa a.wo a.g
def out_dmr (a : Args) : Vec Ideal S4096x1024 .bf16 := val_main_v100 (F := Ideal) a.x a.t a.proj a.yr a.ya a.wr a.wa a.wo a.g
def out_dma (a : Args) : Vec Ideal S4096x1024 .bf16 := val_main_v101 (F := Ideal) a.x a.t a.proj a.yr a.ya a.wr a.wa a.wo a.g
def out_loss (a : Args) : Vec Ideal S8x1024 .f32 := val_main_v103 (F := Ideal) a.x a.t a.proj a.yr a.ya a.wr a.wa a.wo a.g
def out_gs (a : Args) : Vec Ideal S8x1024 .f32 := val_main_v105 (F := Ideal) a.x a.t a.proj a.yr a.ya a.wr a.wa a.wo a.g
def out_gr (a : Args) : Vec Ideal S1024x1024 .f32 := val_main_v95 (F := Ideal) a.x a.t a.proj a.yr a.ya a.wr a.wa a.wo a.g
def out_ga (a : Args) : Vec Ideal S1024x1024 .f32 := val_main_v89 (F := Ideal) a.x a.t a.proj a.yr a.ya a.wr a.wa a.wo a.g
def out_go (a : Args) : Vec Ideal S1024x1024 .f32 := val_main_v84 (F := Ideal) a.x a.t a.proj a.yr a.ya a.wr a.wa a.wo a.g

/-! ## The blocked results: each point's block is the reference's at the point's tokens -/

theorem place12 : ∀ t : Fin cfg0.N, win0_12.index t 0 = t.val ∧ win0_12.index t 1 = 0 :=
  (by decide +kernel : ∀ t : Fin grid0.N, win0_12.index t 0 = t.val ∧ win0_12.index t 1 = 0)

theorem array_dx : (dats m 0 c).arrAt 12 cfg0.N = out_dx (args m c) := by
  refine (dats m 0 c).arrAt_eq_of_covers 12 _ (by decide +kernel) fun t _ y => ?_
  obtain ⟨r, k, rfl⟩ : ∃ (r : Fin 512) (k : Fin 1024), y = ix2 r k := two y
  obtain ⟨h0, h1⟩ := place12 t
  have e : ((cfg0.win 12).blk t).view.emb (ix2 r k) = ix2 (tok t r) k := funext fun a => Fin.ext (match a with
    | 0 => by show win0_12.index t 0 * 512 + 1 * r.val = 512 * t.val + r.val; rw [h0]; omega
    | 1 => by show win0_12.index t 1 * 1024 + 1 * k.val = k.val; rw [h1]; omega)
  show (blk m c t).dx (ix2 r k) = out_dx (args m c) (((cfg0.win 12).blk t).view.emb (ix2 r k))
  rw [e, Blk.dx_at, wts_eq, row_eq_token]
  exact ((args m c).dx2_at _ _).symm

theorem place13 : ∀ t : Fin cfg0.N, win0_13.index t 0 = t.val ∧ win0_13.index t 1 = 0 :=
  (by decide +kernel : ∀ t : Fin grid0.N, win0_13.index t 0 = t.val ∧ win0_13.index t 1 = 0)

theorem array_dyr : (dats m 0 c).arrAt 13 cfg0.N = out_dyr (args m c) := by
  refine (dats m 0 c).arrAt_eq_of_covers 13 _ (by decide +kernel) fun t _ y => ?_
  obtain ⟨r, k, rfl⟩ : ∃ (r : Fin 512) (k : Fin 1024), y = ix2 r k := two y
  obtain ⟨h0, h1⟩ := place13 t
  have e : ((cfg0.win 13).blk t).view.emb (ix2 r k) = ix2 (tok t r) k := funext fun a => Fin.ext (match a with
    | 0 => by show win0_13.index t 0 * 512 + 1 * r.val = 512 * t.val + r.val; rw [h0]; omega
    | 1 => by show win0_13.index t 1 * 1024 + 1 * k.val = k.val; rw [h1]; omega)
  show (blk m c t).dyr (ix2 r k) = out_dyr (args m c) (((cfg0.win 13).blk t).view.emb (ix2 r k))
  rw [e, Blk.dyr_at, wts_eq, row_eq_token]
  exact ((args m c).dyr_at _ _).symm

theorem place14 : ∀ t : Fin cfg0.N, win0_14.index t 0 = t.val ∧ win0_14.index t 1 = 0 :=
  (by decide +kernel : ∀ t : Fin grid0.N, win0_14.index t 0 = t.val ∧ win0_14.index t 1 = 0)

theorem array_dya : (dats m 0 c).arrAt 14 cfg0.N = out_dya (args m c) := by
  refine (dats m 0 c).arrAt_eq_of_covers 14 _ (by decide +kernel) fun t _ y => ?_
  obtain ⟨r, k, rfl⟩ : ∃ (r : Fin 512) (k : Fin 1024), y = ix2 r k := two y
  obtain ⟨h0, h1⟩ := place14 t
  have e : ((cfg0.win 14).blk t).view.emb (ix2 r k) = ix2 (tok t r) k := funext fun a => Fin.ext (match a with
    | 0 => by show win0_14.index t 0 * 512 + 1 * r.val = 512 * t.val + r.val; rw [h0]; omega
    | 1 => by show win0_14.index t 1 * 1024 + 1 * k.val = k.val; rw [h1]; omega)
  show (blk m c t).dya (ix2 r k) = out_dya (args m c) (((cfg0.win 14).blk t).view.emb (ix2 r k))
  rw [e, Blk.dya_at, wts_eq, row_eq_token]
  exact ((args m c).dya_at _ _).symm

theorem place15 : ∀ t : Fin cfg0.N, win0_15.index t 0 = t.val ∧ win0_15.index t 1 = 0 :=
  (by decide +kernel : ∀ t : Fin grid0.N, win0_15.index t 0 = t.val ∧ win0_15.index t 1 = 0)

theorem array_dmr : (dats m 0 c).arrAt 15 cfg0.N = out_dmr (args m c) := by
  refine (dats m 0 c).arrAt_eq_of_covers 15 _ (by decide +kernel) fun t _ y => ?_
  obtain ⟨r, k, rfl⟩ : ∃ (r : Fin 512) (k : Fin 1024), y = ix2 r k := two y
  obtain ⟨h0, h1⟩ := place15 t
  have e : ((cfg0.win 15).blk t).view.emb (ix2 r k) = ix2 (tok t r) k := funext fun a => Fin.ext (match a with
    | 0 => by show win0_15.index t 0 * 512 + 1 * r.val = 512 * t.val + r.val; rw [h0]; omega
    | 1 => by show win0_15.index t 1 * 1024 + 1 * k.val = k.val; rw [h1]; omega)
  show (blk m c t).dmr (ix2 r k) = out_dmr (args m c) (((cfg0.win 15).blk t).view.emb (ix2 r k))
  rw [e, Blk.dmr_at, wts_eq, row_eq_token]
  exact ((args m c).dmr_at _ _).symm

theorem place16 : ∀ t : Fin cfg0.N, win0_16.index t 0 = t.val ∧ win0_16.index t 1 = 0 :=
  (by decide +kernel : ∀ t : Fin grid0.N, win0_16.index t 0 = t.val ∧ win0_16.index t 1 = 0)

theorem array_dma : (dats m 0 c).arrAt 16 cfg0.N = out_dma (args m c) := by
  refine (dats m 0 c).arrAt_eq_of_covers 16 _ (by decide +kernel) fun t _ y => ?_
  obtain ⟨r, k, rfl⟩ : ∃ (r : Fin 512) (k : Fin 1024), y = ix2 r k := two y
  obtain ⟨h0, h1⟩ := place16 t
  have e : ((cfg0.win 16).blk t).view.emb (ix2 r k) = ix2 (tok t r) k := funext fun a => Fin.ext (match a with
    | 0 => by show win0_16.index t 0 * 512 + 1 * r.val = 512 * t.val + r.val; rw [h0]; omega
    | 1 => by show win0_16.index t 1 * 1024 + 1 * k.val = k.val; rw [h1]; omega)
  show (blk m c t).dma (ix2 r k) = out_dma (args m c) (((cfg0.win 16).blk t).view.emb (ix2 r k))
  rw [e, Blk.dma_at, wts_eq, row_eq_token]
  exact ((args m c).dma_at _ _).symm

/-! ## The accumulated results -/

theorem array_loss : (dats m 0 c).arrAt 17 cfg0.N = out_loss (args m c) := by
  refine (dats m 0 c).arrAt_eq_of_after_last 17 ⟨7, last_lt⟩ (by decide +kernel) _ fun j => ?_
  obtain ⟨i, k, rfl⟩ : ∃ (i : Fin 8) (k : Fin 1024), j = ix2 i k := two j
  exact ((loss_total m c last_lt i k).trans ((args m c).loss_at i k).symm)

theorem array_gs : (dats m 0 c).arrAt 18 cfg0.N = out_gs (args m c) := by
  refine (dats m 0 c).arrAt_eq_of_after_last 18 ⟨7, last_lt⟩ (by decide +kernel) _ fun j => ?_
  obtain ⟨i, k, rfl⟩ : ∃ (i : Fin 8) (k : Fin 1024), j = ix2 i k := two j
  exact ((gs_total m c last_lt i k).trans ((args m c).gscale_at i k).symm)

theorem sum_gr : (sums m c 7 last_lt).gr = out_gr (args m c) := by
  funext j
  obtain ⟨i, k, rfl⟩ : ∃ (i k : Fin 1024), j = ix2 i k := two j
  exact (gr_total m c last_lt i k).trans ((args m c).gwr_at i k).symm

theorem sum_ga : (sums m c 7 last_lt).ga = out_ga (args m c) := by
  funext j
  obtain ⟨i, k, rfl⟩ : ∃ (i k : Fin 1024), j = ix2 i k := two j
  exact (ga_total m c last_lt i k).trans ((args m c).gwa_at i k).symm

theorem sum_go : (sums m c 7 last_lt).go = out_go (args m c) := by
  funext j
  obtain ⟨i, k, rfl⟩ : ∃ (i k : Fin 1024), j = ix2 i k := two j
  exact (go_total m c last_lt i k).trans ((args m c).gwo_at i k).symm

/-! ## The run -/

/-- Every run ends with the ten results at the reference's arrays of the arguments, and the arguments as they were. -/
theorem values : θ_run defs (onTc (τ := τ) (main (F := Ideal))) ⟨m, fun _ => 0, ρ⟩ (fun r => ∀ c : Dev nD,
      r.2.mem ((c.tc : Thread nD τ).loc main_v0_0) = out_dx (args m c)
      ∧ r.2.mem ((c.tc : Thread nD τ).loc main_v0_1) = out_dyr (args m c)
      ∧ r.2.mem ((c.tc : Thread nD τ).loc main_v0_2) = out_dya (args m c)
      ∧ r.2.mem ((c.tc : Thread nD τ).loc main_v0_3) = out_dmr (args m c)
      ∧ r.2.mem ((c.tc : Thread nD τ).loc main_v0_4) = out_dma (args m c)
      ∧ r.2.mem ((c.tc : Thread nD τ).loc main_v0_5) = out_loss (args m c)
      ∧ r.2.mem ((c.tc : Thread nD τ).loc main_v0_6) = out_gs (args m c)
      ∧ r.2.mem ((c.tc : Thread nD τ).loc main_v0_7) = out_gr (args m c)
      ∧ r.2.mem ((c.tc : Thread nD τ).loc main_v0_8) = out_ga (args m c)
      ∧ r.2.mem ((c.tc : Thread nD τ).loc main_v0_9) = out_go (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (run m ρ)
  have hr := (h.1.toR c).1
  exact ⟨(hr 12).trans (array_dx m c),
    (hr 13).trans (array_dyr m c),
    (hr 14).trans (array_dya m c),
    (hr 15).trans (array_dmr m c),
    (hr 16).trans (array_dma m c),
    (hr 17).trans (array_loss m c),
    (hr 18).trans (array_gs m c),
    (h.1.written c (by decide : main_v0_7 ∈ R0)).trans ((after_gr m c).trans (sum_gr m c)),
    (h.1.written c (by decide : main_v0_8 ∈ R0)).trans ((after_ga m c).trans (sum_ga m c)),
    (h.1.written c (by decide : main_v0_9 ∈ R0)).trans ((after_go m c).trans (sum_go m c)),
    (hr 0).trans (((dats m 0 c).arrAt_in 0 rfl _).trans ((arr_eq m c 0).trans (V_main_arg0 m c))),
    (hr 1).trans (((dats m 0 c).arrAt_in 1 rfl _).trans ((arr_eq m c 1).trans (V_main_arg1 m c))),
    (hr 5).trans (((dats m 0 c).arrAt_in 5 rfl _).trans ((arr_eq m c 5).trans (V_main_arg2 m c))),
    (hr 6).trans (((dats m 0 c).arrAt_in 6 rfl _).trans ((arr_eq m c 6).trans (V_main_arg3 m c))),
    (hr 7).trans (((dats m 0 c).arrAt_in 7 rfl _).trans ((arr_eq m c 7).trans (V_main_arg4 m c))),
    (hr 8).trans (((dats m 0 c).arrAt_in 8 rfl _).trans ((arr_eq m c 8).trans (V_main_arg5 m c))),
    (hr 9).trans (((dats m 0 c).arrAt_in 9 rfl _).trans ((arr_eq m c 9).trans (V_main_arg6 m c))),
    (hr 10).trans (((dats m 0 c).arrAt_in 10 rfl _).trans ((arr_eq m c 10).trans (V_main_arg7 m c))),
    (hr 11).trans (((dats m 0 c).arrAt_in 11 rfl _).trans ((arr_eq m c 11).trans (V_main_arg8 m c)))⟩

end Cert.KernelIdeal.Merge

end
-- ==== Proof.MergeClaims.lean ====
/- The claims about the merge-and-head call: the reference ends with its counters at zero and its arguments untouched, and
   the kernel's ten result arrays are the reference's, as functions of the nine arguments. -/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import proofs.«01_k».proof.Proof.MergeValue

@[expose] public section

noncomputable section

open Idealize.ShloMosaic Idealize.SL.Sem

namespace Cert.ReferenceIdeal.Merge

open Cert.KernelIdeal.Merge

/-- The nine arrays the reference finds as its arguments on device `c`. -/
def given (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8)⟩

/-- What the reference leaves in its result `dx` is the result `dx` of its arguments. -/
theorem dx_given (m : (ℓ : Loc nD τ sig) → Buf (Elt Ideal) ℓ) (c : Dev nD) :
    Value.res_main_v82 m c = out_dx (given m c) := Read.val_main_v82_eq m c

/-- What the reference leaves in its result `dyr` is the result `dyr` of its arguments. -/
theorem dyr_given (m : (ℓ : Loc nD τ sig) → Buf (Elt Ideal) ℓ) (c : Dev nD) :
    Value.res_main_v98 m c = out_dyr (given m c) := Read.val_main_v98_eq m c

/-- What the reference leaves in its result `dya` is the result `dya` of its arguments. -/
theorem dya_given (m : (ℓ : Loc nD τ sig) → Buf (Elt Ideal) ℓ) (c : Dev nD) :
    Value.res_main_v99 m c = out_dya (given m c) := Read.val_main_v99_eq m c

/-- What the reference leaves in its result `dmr` is the result `dmr` of its arguments. -/
theorem dmr_given (m : (ℓ : Loc nD τ sig) → Buf (Elt Ideal) ℓ) (c : Dev nD) :
    Value.res_main_v100 m c = out_dmr (given m c) := Read.val_main_v100_eq m c

/-- What the reference leaves in its result `dma` is the result `dma` of its arguments. -/
theorem dma_given (m : (ℓ : Loc nD τ sig) → Buf (Elt Ideal) ℓ) (c : Dev nD) :
    Value.res_main_v101 m c = out_dma (given m c) := Read.val_main_v101_eq m c

/-- What the reference leaves in its result `loss` is the result `loss` of its arguments. -/
theorem loss_given (m : (ℓ : Loc nD τ sig) → Buf (Elt Ideal) ℓ) (c : Dev nD) :
    Value.res_main_v103 m c = out_loss (given m c) := Read.val_main_v103_eq m c

/-- What the reference leaves in its result `gs` is the result `gs` of its arguments. -/
theorem gs_given (m : (ℓ : Loc nD τ sig) → Buf (Elt Ideal) ℓ) (c : Dev nD) :
    Value.res_main_v105 m c = out_gs (given m c) := Read.val_main_v105_eq m c

/-- What the reference leaves in its result `gr` is the result `gr` of its arguments. -/
theorem gr_given (m : (ℓ : Loc nD τ sig) → Buf (Elt Ideal) ℓ) (c : Dev nD) :
    Value.res_main_v95 m c = out_gr (given m c) := Read.val_main_v95_eq m c

/-- What the reference leaves in its result `ga` is the result `ga` of its arguments. -/
theorem ga_given (m : (ℓ : Loc nD τ sig) → Buf (Elt Ideal) ℓ) (c : Dev nD) :
    Value.res_main_v89 m c = out_ga (given m c) := Read.val_main_v89_eq m c

/-- What the reference leaves in its result `go` is the result `go` of its arguments. -/
theorem go_given (m : (ℓ : Loc nD τ sig) → Buf (Elt Ideal) ℓ) (c : Dev nD) :
    Value.res_main_v84 m c = out_go (given m c) := Read.val_main_v84_eq m c

end Cert.ReferenceIdeal.Merge

namespace Cert.Proof.MergeClaims

open Cert.KernelIdeal.Merge Cert.ReferenceIdeal.Merge

/-- The reference touches none of its arguments, and it has no counter to leave raised. -/
theorem frame_reference : Cert.quiescent_ReferenceIdeal := fun m ρ _ =>
  (θ_run Cert.ReferenceIdeal.defs _ _).mono
    (fun r h => ⟨fun c => (h c).2.2.2.2.2.2.2.2.2.2, sem_eq_zero_of_no_sems (by decide) r.2⟩)
    (Cert.ReferenceIdeal.Value.run (F := Ideal) m ρ)

/-- Arguments that agree on a device are one record. -/
theorem given_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    : given m' c = args m c := by
  unfold given
  rw [h0, h1, h2, h3, h4, h5, h6, h7, h8]
  rfl

/-- The kernel's ten results are the reference's. -/
theorem algebraic : Cert.algebraic_KernelIdeal_ReferenceIdeal := by
  intro m g m' g' _ h
  have e : ∀ c, given m' c = args m c := fun c => by
    obtain ⟨h0, h1, h2, h3, h4, h5, h6, h7, h8⟩ := h c
    exact given_eq m m' c h0 h1 h2 h3 h4 h5 h6 h7 h8
  refine ⟨fun c => out_dx (args m c), fun c => out_dyr (args m c), fun c => out_dya (args m c), fun c => out_dmr (args m c), fun c => out_dma (args m c), fun c => out_loss (args m c), fun c => out_gs (args m c), fun c => out_gr (args m c), fun c => out_ga (args m c), fun c => out_go (args m c), values m g, ?_⟩
  refine (θ_run Cert.ReferenceIdeal.defs _ _).mono (fun r hr c => ?_) (Cert.ReferenceIdeal.Value.run (F := Ideal) m' g')
  obtain ⟨r0, r1, r2, r3, r4, r5, r6, r7, r8, r9, kept⟩ := hr c
  exact ⟨r0.trans ((dx_given m' c).trans (congrArg out_dx (e c))), r1.trans ((dyr_given m' c).trans (congrArg out_dyr (e c))), r2.trans ((dya_given m' c).trans (congrArg out_dya (e c))), r3.trans ((dmr_given m' c).trans (congrArg out_dmr (e c))), r4.trans ((dma_given m' c).trans (congrArg out_dma (e c))), r5.trans ((loss_given m' c).trans (congrArg out_loss (e c))), r6.trans ((gs_given m' c).trans (congrArg out_gs (e c))), r7.trans ((gr_given m' c).trans (congrArg out_gr (e c))), r8.trans ((ga_given m' c).trans (congrArg out_ga (e c))), r9.trans ((go_given m' c).trans (congrArg out_go (e c))), kept⟩

end Cert.Proof.MergeClaims

end
-- ==== Proof.InputRow.lean ====
/- The gradient by the block's input, one token at a time: the seven gradients by the parts of the
   projection are carried back through its weights, then through the norm, and the residual path's
   gradient is added. -/
module

public import proofs.«01_k».proof.Proof.Norm
public import Mathlib.Algebra.BigOperators.Fin

@[expose] public section

noncomputable section

namespace Cert.Input

open Cert.Norm

/-- One token: the gradients by the seven parts of its projection, its input, and the gradient that
reaches the input along the residual path. -/
structure Token where
  (p0 p1 p2 : Fin 1024 → EReal)
  p3 : Fin 512 → EReal
  (p4 p5 p6 : Fin 1024 → EReal)
  (x res : Fin 1024 → EReal)

/-- The projection's weights, a row for each of its columns, and the norm's scale. -/
structure Weights where
  w : Fin 6656 → Fin 1024 → EReal
  g : Fin 1024 → EReal

variable (W : Weights) (T : Token)

/-- The gradient by the normed and scaled row: a sum for each part of the projection. -/
def dh (k : Fin 1024) : EReal :=
  ∑ j : Fin 1024, T.p0 j * W.w ⟨j.val, by omega⟩ k + ∑ j : Fin 1024, T.p1 j * W.w ⟨1024 + j.val, by omega⟩ k
    + ∑ j : Fin 1024, T.p2 j * W.w ⟨2048 + j.val, by omega⟩ k + ∑ j : Fin 512, T.p3 j * W.w ⟨3072 + j.val, by omega⟩ k
    + ∑ j : Fin 1024, T.p4 j * W.w ⟨3584 + j.val, by omega⟩ k + ∑ j : Fin 1024, T.p5 j * W.w ⟨4608 + j.val, by omega⟩ k
    + ∑ j : Fin 1024, T.p6 j * W.w ⟨5632 + j.val, by omega⟩ k

/-- The gradient by the normed row, by the input, and the token's part of the gradient by the scale. -/
def dn (k : Fin 1024) : EReal := dh W T k * W.g k
def dx (k : Fin 1024) : EReal := T.res k + back T.x (dn W T) k
def dg (k : Fin 1024) : EReal := dh W T k * unit T.x k

/-! ## One sum over the whole projection -/

/-- A sum over `a + b` columns, the last `b` of them apart. -/
theorem sum_apart (a b : Nat) {n : Nat} (h : n = a + b) (f : Fin n → EReal) :
    ∑ j, f j = ∑ i : Fin a, f ⟨i.val, by omega⟩ + ∑ i : Fin b, f ⟨a + i.val, by omega⟩ := by
  subst h
  exact Fin.sum_univ_add f

/-- If a row of 6656 is the seven parts one after another, its sum against the weights is `dh`. -/
theorem dh_eq (f : Fin 6656 → EReal) (k : Fin 1024)
    (h0 : ∀ i : Fin 1024, f ⟨i.val, by omega⟩ = T.p0 i) (h1 : ∀ i : Fin 1024, f ⟨1024 + i.val, by omega⟩ = T.p1 i)
    (h2 : ∀ i : Fin 1024, f ⟨2048 + i.val, by omega⟩ = T.p2 i) (h3 : ∀ i : Fin 512, f ⟨3072 + i.val, by omega⟩ = T.p3 i)
    (h4 : ∀ i : Fin 1024, f ⟨3584 + i.val, by omega⟩ = T.p4 i) (h5 : ∀ i : Fin 1024, f ⟨4608 + i.val, by omega⟩ = T.p5 i)
    (h6 : ∀ i : Fin 1024, f ⟨5632 + i.val, by omega⟩ = T.p6 i) :
    ∑ j, f j * W.w j k = dh W T k := by
  rw [sum_apart 5632 1024 rfl, sum_apart 4608 1024 rfl, sum_apart 3584 1024 rfl, sum_apart 3072 512 rfl,
    sum_apart 2048 1024 rfl, sum_apart 1024 1024 rfl]
  simp only [h0, h1, h2, h3, h4, h5, h6]
  rfl

end Cert.Input
-- ==== Proof.InputBlk.lean ====
/- What one block of 512 tokens computes of the input's gradient: the payloads of the kernel's
   stores, read at an index, are the formulas of one token. -/
module

public import proofs.«01_k».proof.Proof.InputRow
public import proofs.«01_k».proof.Proof.Gen.Kernel2Ideal.Skeleton
public import Idealize.ShloMosaic.Lib.Pointwise

@[expose] public section

noncomputable section

namespace Cert.Kernel2Ideal.Input

open Cert.Kernel2Ideal Cert.Kernel2Ideal.Gen Cert.Input Cert.Norm Idealize.ShloMosaic

variable {F : FTy → Type} [FloatOps F]

/-- The blocks one grid point loads: 512 tokens' rows, and the weights whole. -/
structure Blk (F : FTy → Type) [FloatOps F] where
  (p0 p1 p2 : Vec F S512x1024 .bf16)
  p3 : Vec F S512x512 .bf16
  (p4 p5 p6 : Vec F S512x1024 .bf16)
  w : Vec F S6656x1024 .bf16
  (x res : Vec F S512x1024 .f32)
  g : Vec F S1x1024 .f32

namespace Blk

variable (b : Blk F)

/-- The weights' rows that belong to each part. -/
def w0 : Vec F S1024x1024 .bf16 := View.ld b.w (Rect.unit (s := S6656x1024) ![0, 0] S1024x1024.size inb_S6656x1024_S1024x1024_0_0)
def w1 : Vec F S1024x1024 .bf16 := View.ld b.w (Rect.unit (s := S6656x1024) ![1024, 0] S1024x1024.size inb_S6656x1024_S1024x1024_1024_0)
def w2 : Vec F S1024x1024 .bf16 := View.ld b.w (Rect.unit (s := S6656x1024) ![2048, 0] S1024x1024.size inb_S6656x1024_S1024x1024_2048_0)
def w3 : Vec F S512x1024 .bf16 := View.ld b.w (Rect.unit (s := S6656x1024) ![3072, 0] S512x1024.size inb_S6656x1024_S512x1024_3072_0)
def w4 : Vec F S1024x1024 .bf16 := View.ld b.w (Rect.unit (s := S6656x1024) ![3584, 0] S1024x1024.size inb_S6656x1024_S1024x1024_3584_0)
def w5 : Vec F S1024x1024 .bf16 := View.ld b.w (Rect.unit (s := S6656x1024) ![4608, 0] S1024x1024.size inb_S6656x1024_S1024x1024_4608_0)
def w6 : Vec F S1024x1024 .bf16 := View.ld b.w (Rect.unit (s := S6656x1024) ![5632, 0] S1024x1024.size inb_S6656x1024_S1024x1024_5632_0)

/-! ## What the kernel computes of them, in its own terms -/

/-- The first six parts' products, summed. -/
def six : FVec F S512x1024 .f32 := k0_pay2 b.p0 b.w0 b.p1 b.w1 b.p2 b.w2 b.p3 b.w3 b.p4 b.w4 b.p5 b.w5
def dh : FVec F S512x1024 .f32 := k0_pay3 b.six b.p6 b.w6
def dx : FVec F S512x1024 .f32 := k0_pay7 b.six b.p6 b.w6 b.x b.g b.res
/-- The scale's gradient so far, this block's added. -/
def gscale (acc : Vec F S1x1024 .f32) : FVec F S1x1024 .f32 := k0_pay6 b.six b.p6 b.w6 b.x acc

end Blk

/-! ## At an index, over the extended reals -/

namespace Blk

variable (b : Blk Ideal)

def weights : Weights where
  w i j := b.w (ix2 i j)
  g k := b.g (ix2 0 k)

def token (r : Fin 512) : Token where
  p0 k := b.p0 (ix2 r k)
  p1 k := b.p1 (ix2 r k)
  p2 k := b.p2 (ix2 r k)
  p3 k := b.p3 (ix2 r k)
  p4 k := b.p4 (ix2 r k)
  p5 k := b.p5 (ix2 r k)
  p6 k := b.p6 (ix2 r k)
  x k := b.x (ix2 r k)
  res k := b.res (ix2 r k)

theorem w0_at (i k : Fin 1024) : b.w0 (ix2 i k) = b.w (ix2 ⟨i.val, by omega⟩ k) :=
  congrArg b.w (funext fun a => Fin.ext (match a with
    | 0 => by show 0 + 1 * i.val = i.val; omega
    | 1 => by show 0 + 1 * k.val = k.val; omega))

theorem w1_at (i k : Fin 1024) : b.w1 (ix2 i k) = b.w (ix2 ⟨1024 + i.val, by omega⟩ k) :=
  congrArg b.w (funext fun a => Fin.ext (match a with
    | 0 => by show 1024 + 1 * i.val = 1024 + i.val; omega
    | 1 => by show 0 + 1 * k.val = k.val; omega))

theorem w2_at (i k : Fin 1024) : b.w2 (ix2 i k) = b.w (ix2 ⟨2048 + i.val, by omega⟩ k) :=
  congrArg b.w (funext fun a => Fin.ext (match a with
    | 0 => by show 2048 + 1 * i.val = 2048 + i.val; omega
    | 1 => by show 0 + 1 * k.val = k.val; omega))

theorem w3_at (i : Fin 512) (k : Fin 1024) : b.w3 (ix2 i k) = b.w (ix2 ⟨3072 + i.val, by omega⟩ k) :=
  congrArg b.w (funext fun a => Fin.ext (match a with
    | 0 => by show 3072 + 1 * i.val = 3072 + i.val; omega
    | 1 => by show 0 + 1 * k.val = k.val; omega))

theorem w4_at (i k : Fin 1024) : b.w4 (ix2 i k) = b.w (ix2 ⟨3584 + i.val, by omega⟩ k) :=
  congrArg b.w (funext fun a => Fin.ext (match a with
    | 0 => by show 3584 + 1 * i.val = 3584 + i.val; omega
    | 1 => by show 0 + 1 * k.val = k.val; omega))

theorem w5_at (i k : Fin 1024) : b.w5 (ix2 i k) = b.w (ix2 ⟨4608 + i.val, by omega⟩ k) :=
  congrArg b.w (funext fun a => Fin.ext (match a with
    | 0 => by show 4608 + 1 * i.val = 4608 + i.val; omega
    | 1 => by show 0 + 1 * k.val = k.val; omega))

theorem w6_at (i k : Fin 1024) : b.w6 (ix2 i k) = b.w (ix2 ⟨5632 + i.val, by omega⟩ k) :=
  congrArg b.w (funext fun a => Fin.ext (match a with
    | 0 => by show 5632 + 1 * i.val = 5632 + i.val; omega
    | 1 => by show 0 + 1 * k.val = k.val; omega))

theorem dh_at (r : Fin 512) (k : Fin 1024) : b.dh (ix2 r k) = Cert.Input.dh b.weights (b.token r) k := by
  unfold dh six k0_pay3 k0_pay2
  pointwise
  simp only [w0_at, w1_at, w2_at, w3_at, w4_at, w5_at, w6_at]
  rfl

theorem scale_at (r : Fin 512) (j : Fin 1) : k0_pay4 b.x (ix2 r j) = scale (b.token r).x := by
  unfold k0_pay4
  pointwise
  simp only [lit_width]
  rfl

theorem unit_at (r : Fin 512) (k : Fin 1024) : k0_pay5 b.x (ix2 r k) = unit (b.token r).x k := by
  unfold k0_pay5
  pointwise
  simp only [scale_at]
  rfl

theorem dx_at (r : Fin 512) (k : Fin 1024) : b.dx (ix2 r k) = Cert.Input.dx b.weights (b.token r) k := by
  have h : ∀ j, k0_pay3 b.six b.p6 b.w6 (ix2 r j) = Cert.Input.dh b.weights (b.token r) j := b.dh_at r
  unfold dx k0_pay7
  pointwise
  simp only [h, unit_at, scale_at, lit_width]
  rfl

theorem gscale_at (acc : Vec Ideal S1x1024 .f32) (i : Fin 1) (k : Fin 1024) :
    b.gscale acc (ix2 i k) = acc (ix2 i k) + ∑ r : Fin 512, dg b.weights (b.token r) k := by
  have h : ∀ r j, k0_pay3 b.six b.p6 b.w6 (ix2 r j) = Cert.Input.dh b.weights (b.token r) j := b.dh_at
  unfold gscale k0_pay6
  pointwise
  simp only [h, unit_at]
  rfl

end Blk

end Cert.Kernel2Ideal.Input
-- ==== Proof.InputPoint.lean ====
/- What one grid point leaves in the two arrays it writes: the input's gradient for the point's
   tokens, and the scale's gradient over what the point before left. -/
module

public import proofs.«01_k».proof.Proof.InputBlk
public import proofs.«01_k».proof.Proof.Gen.Kernel2Ideal.Frame
public import Idealize.ShloMosaic.Lib.VecWindow

@[expose] public section

noncomputable section

namespace Cert.Kernel2Ideal.Input

open Cert.Kernel2Ideal Cert.Kernel2Ideal.Gen Idealize.ShloMosaic Idealize.ShloMosaic.TcCoe
open Idealize.ShloMosaic.Tactic Idealize.SL.Sem

variable {F : FTy → Type} [FloatOps F] (m : (ℓ : Loc nD τ sig) → Buf (Elt F) ℓ)

/-- The blocks point `t` loads. -/
def blk (c : Dev nD) (t : Fin cfg0.N) : Blk F where
  p0 := iblk m c 0 t
  p1 := iblk m c 1 t
  p2 := iblk m c 2 t
  p3 := iblk m c 3 t
  p4 := iblk m c 4 t
  p5 := iblk m c 5 t
  p6 := iblk m c 6 t
  w := iblk m c 7 t
  x := iblk m c 8 t
  res := iblk m c 9 t
  g := iblk m c 10 t

/-- The first row of the eight, read and replaced. -/
abbrev firstRow : Rect S8x1024 := Rect.unit ![0, 0] S1x1024.size inb_S8x1024_S1x1024_0_0

/-- The scale's gradient, in the first of eight rows, with a point's block added. -/
def Blk.add (b : Blk F) (s : Vec F S8x1024 .f32) : Vec F S8x1024 .f32 :=
  VecWindow.put s ![0, 0] S1x1024.size (b.gscale (View.ld s firstRow))

/-- The scale's gradient after point `n`. -/
def sums (c : Dev nD) : (n : ℕ) → n < cfg0.N → Vec F S8x1024 .f32
  | 0, h => (blk m c ⟨0, h⟩).add k0_pay1
  | n + 1, h => (blk m c ⟨n + 1, h⟩).add (sums c n (Nat.lt_of_succ_lt h))

theorem hz : (![0, 0] : Fin 2 → Nat) = fun _ => 0 := funext fun a => by fin_cases a <;> rfl

set_option maxHeartbeats 1000000 in
theorem dxA (c : Dev nD) (t : Fin cfg0.N) (h0 : t.val % 8 = 0) :
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) = (blk m c t).dx := by
  unfold out0_A_11 kernelRun0_A
  dsimp only
  sl_unfold_words
  rw [View.read_writes_full]
  simp only [View.readAt_eq_ld, Memref.IsWhole.read_unread, View.ld_unit_zero (S := S512x1024) hz,
    View.ld_unit_zero (S := S512x512) hz, View.ld_unit_zero (S := S1x1024) hz, View.ld_unit_zero (S := S8x1024) hz,
    View.readCov_unit_zero (S := S8x1024) _ hz, shapeCast_self]
  rfl

set_option maxHeartbeats 1000000 in
theorem gscaleA (c : Dev nD) (t : Fin cfg0.N) (h0 : t.val % 8 = 0) :
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) = (blk m c t).add k0_pay1 := by
  unfold out0_A_12 kernelRun0_A
  dsimp only
  sl_unfold_words
  rw [View.read_writes_cons_put _ _ _ _ _ rfl, View.read_writes_full, View.readCov_eq_canon',
    View.canon_unit_zero hz]
  simp only [View.readAt_eq_ld, Memref.IsWhole.read_unread, View.ld_unit_zero (S := S512x1024) hz,
    View.ld_unit_zero (S := S512x512) hz, View.ld_unit_zero (S := S1x1024) hz, View.ld_unit_zero (S := S8x1024) hz,
    View.readCov_unit_zero (S := S8x1024) _ hz, shapeCast_self]
  rfl

set_option maxHeartbeats 1000000 in
theorem dxB (c : Dev nD) (t : Fin cfg0.N) (h0 : ¬t.val % 8 = 0) (s : Vec F S8x1024 .f32) :
    out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) s = (blk m c t).dx := by
  unfold out0_B_11 kernelRun0_B
  dsimp only
  sl_unfold_words
  rw [View.read_writes_full]
  simp only [View.readAt_eq_ld, Memref.IsWhole.read_unread, View.ld_unit_zero (S := S512x1024) hz,
    View.ld_unit_zero (S := S512x512) hz, View.ld_unit_zero (S := S1x1024) hz, View.ld_unit_zero (S := S8x1024) hz,
    View.readCov_unit_zero (S := S8x1024) _ hz, shapeCast_self]
  rfl

set_option maxHeartbeats 1000000 in
theorem gscaleB (c : Dev nD) (t : Fin cfg0.N) (h0 : ¬t.val % 8 = 0) (s : Vec F S8x1024 .f32) :
    out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) s = (blk m c t).add s := by
  unfold out0_B_12 kernelRun0_B
  dsimp only
  sl_unfold_words
  rw [View.read_writes_cons_put _ _ _ _ _ rfl, View.writes_nil, Memref.IsWhole.read_unread]
  simp only [View.readAt_eq_ld, Memref.IsWhole.read_unread, View.ld_unit_zero (S := S512x1024) hz,
    View.ld_unit_zero (S := S512x512) hz, View.ld_unit_zero (S := S1x1024) hz, View.ld_unit_zero (S := S8x1024) hz,
    View.readCov_unit_zero (S := S8x1024) _ hz, shapeCast_self]
  rfl

/-! ## After each point -/

theorem points (t : Fin cfg0.N) : t.val < 8 := lt_of_lt_of_eq t.isLt (show cfg0.N = 8 from N_0)

theorem after_eq (c : Dev nD) : ∀ (n : ℕ) (h : n < cfg0.N), outsAt0 m c n h = ((blk m c ⟨n, h⟩).dx, sums m c n h)
  | 0, h => (outsAt0_A m c ⟨0, h⟩ rfl).trans (congrArg₂ Prod.mk (dxA m c ⟨0, h⟩ rfl) (gscaleA m c ⟨0, h⟩ rfl))
  | n + 1, h => by
    have h0 : ¬(n + 1) % 8 = 0 := by have := points ⟨n + 1, h⟩; dsimp only at this; omega
    refine (outsAt0_B m c ⟨n + 1, h⟩ h0).trans (congrArg₂ Prod.mk (dxB m c ⟨n + 1, h⟩ h0 _) ?_)
    refine (gscaleB m c ⟨n + 1, h⟩ h0 _).trans (congrArg (blk m c ⟨n + 1, h⟩).add ?_)
    exact congrArg Prod.snd (after_eq c n (Nat.lt_of_succ_lt h))

end Cert.Kernel2Ideal.Input

end
-- ==== Proof.InputRef.lean ====
/- What the reference of the input's gradient computes, one token at a time. -/
module

public import proofs.«01_k».proof.Proof.InputRow
public import proofs.«01_k».proof.Proof.Gen.Reference2Ideal.Read
public import Idealize.ShloMosaic.Lib.Pointwise

@[expose] public section

noncomputable section

namespace Cert.Reference2Ideal.Input

open Cert.Reference2Ideal Cert.Reference2Ideal.Gen Cert.Reference2Ideal.Read Cert.Input Cert.Norm Idealize.ShloMosaic

/-- The arguments of the two programs. -/
structure Args where
  (p0 p1 p2 : Vec Ideal S4096x1024 .bf16)
  p3 : Vec Ideal S4096x512 .bf16
  (p4 p5 p6 : Vec Ideal S4096x1024 .bf16)
  w : Vec Ideal S6656x1024 .bf16
  (x res : Vec Ideal S4096x1024 .f32)
  g : Vec Ideal S1x1024 .f32

namespace Args

variable (a : Args)

def weights : Weights where
  w i j := a.w (ix2 i j)
  g k := a.g (ix2 0 k)

/-- The token in row `r`. -/
def token (r : Fin 4096) : Token where
  p0 k := a.p0 (ix2 r k)
  p1 k := a.p1 (ix2 r k)
  p2 k := a.p2 (ix2 r k)
  p3 k := a.p3 (ix2 r k)
  p4 k := a.p4 (ix2 r k)
  p5 k := a.p5 (ix2 r k)
  p6 k := a.p6 (ix2 r k)
  x k := a.x (ix2 r k)
  res k := a.res (ix2 r k)

theorem dh_at (r : Fin 4096) (k : Fin 1024) :
    val_main_v19 (F := Ideal) a.p0 a.p1 a.p2 a.p3 a.p4 a.p5 a.p6 a.w (ix2 r k) = dh a.weights (a.token r) k := by
  unfold val_main_v19 val_main_v1 val_main_v2
  pointwise
  refine dh_eq a.weights (a.token r)
    (fun j => val_main_v0 (F := Ideal) a.p0 a.p1 a.p2 a.p3 a.p4 a.p5 a.p6 (ix2 r j)) k ?_ ?_ ?_ ?_ ?_ ?_ ?_ <;>
    intro i <;> unfold val_main_v0 token <;> pointwise <;> split_ifs <;>
    first | omega | exact congrArg _ (congrArg (ix2 r) (Fin.ext (by dsimp only; omega)))

theorem mean_at (r : Fin 4096) (j : Fin 1) : val_main_v9 (F := Ideal) a.x (ix2 r j) = meanSq (a.token r).x := by
  unfold val_main_v9 val_main_v8 val_main_v7 val_main_v6 val_main_v5 val_main_v4 val_main_v3 val_main_cst val_main_cst_0
    val_main_cst_1
  pointwise
  simp only [lit_width]
  rfl

theorem scale_at (r : Fin 4096) (j : Fin 1) : val_main_v10 (F := Ideal) a.x (ix2 r j) = scale (a.token r).x := by
  unfold val_main_v10
  pointwise
  simp only [mean_at]
  rfl

theorem unit_at (r : Fin 4096) (k : Fin 1024) : val_main_v15 (F := Ideal) a.x (ix2 r k) = unit (a.token r).x k := by
  unfold val_main_v15 val_main_v14
  pointwise
  simp only [scale_at]
  rfl

theorem dn_at (r : Fin 4096) (k : Fin 1024) :
    val_main_v24 (F := Ideal) a.p0 a.p1 a.p2 a.p3 a.p4 a.p5 a.p6 a.w a.g (ix2 r k) = dn a.weights (a.token r) k := by
  unfold val_main_v24 val_main_v23
  pointwise
  simp only [dh_at]
  rfl

/-- The derivative through the mean square, the same for every column of a token. -/
theorem through_at (r : Fin 4096) (k : Fin 1024) :
    val_main_v35 (F := Ideal) a.p0 a.p1 a.p2 a.p3 a.p4 a.p5 a.p6 a.w a.x a.g (ix2 r k) =
      Ideal.div ((∑ j, (a.token r).x j * dn a.weights (a.token r) j)
        * (((-(1 / 2) : ℝ) : EReal) * Ideal.div (scale (a.token r).x) (meanSq (a.token r).x))) ((1024 : ℝ) : EReal) := by
  unfold val_main_v35 val_main_v34 val_main_v33 val_main_v32 val_main_v31 val_main_v27 val_main_v26 val_main_v25
    val_main_v13 val_main_v12 val_main_v11 val_main_cst_2 val_main_cst_4 val_main_cst_5 val_main_cst_6
  pointwise
  simp only [dn_at, scale_at, mean_at, lit_neg_half, lit_width]
  exact Fin.sum_univ_one _

/-! ## The results -/

theorem dx_at (r : Fin 4096) (k : Fin 1024) :
    val_main_v39 (F := Ideal) a.p0 a.p1 a.p2 a.p3 a.p4 a.p5 a.p6 a.w a.x a.res a.g (ix2 r k) = dx a.weights (a.token r) k := by
  rw [dx, ← back_eq _ _ k _ rfl, ← add_assoc, ← add_assoc]
  unfold val_main_v39 val_main_v38 val_main_v37 val_main_v36 val_main_v30 val_main_v29 val_main_v28
  pointwise
  simp only [dn_at, scale_at, through_at]
  rfl

/-- The scale's gradient: the tokens' parts in the first row, zeros below it. -/
theorem dg_at (i : Fin 8) (k : Fin 1024) :
    val_main_v41 (F := Ideal) a.p0 a.p1 a.p2 a.p3 a.p4 a.p5 a.p6 a.w a.x (ix2 i k)
      = if i.val < 1 then ∑ r, dg a.weights (a.token r) k else 0 := by
  unfold val_main_v41 val_main_v40 val_main_v22 val_main_v21 val_main_v20 val_main_cst_3 val_main_cst_7
  pointwise
  simp only [unit_at, dh_at]
  exact if_congr Iff.rfl (Finset.sum_congr rfl fun r _ => mul_comm _ _) rfl

end Args

end Cert.Reference2Ideal.Input
-- ==== Proof.InputValue.lean ====
/- What the two results hold after the run of the input's gradient: the reference's arrays. The blocks
   of a grid point are the tokens the point names, and the scale's gradient after the last point
   runs over all of them. -/
module

public import proofs.«01_k».proof.Proof.InputPoint
public import proofs.«01_k».proof.Proof.InputRef
public import proofs.«01_k».proof.Proof.Tokens
public import proofs.«01_k».proof.Proof.Gen.Kernel2Ideal.Value
public import Idealize.ShloMosaic.Lib.Pipeline.ValueKit.Geometry

@[expose] public section

noncomputable section

namespace Cert.Kernel2Ideal.Input

open Cert.Kernel2Ideal Cert.Kernel2Ideal.Gen Cert.Input Idealize.ShloMosaic Idealize.ShloMosaic.TcCoe Idealize.SL.Sem
open Cert.Reference2Ideal.Read
open Cert.Reference2Ideal.Input (Args)
open Cert.Tokens (two)

variable (m : (ℓ : Loc nD τ sig) → Buf (Elt Ideal) ℓ) (ρ : Dev nD → PrngReg) (c : Dev nD)

/-- The arguments, as the launch finds them. -/
def args : Args where
  p0 := m ((c : Thread nD τ).loc main_arg0)
  p1 := m ((c : Thread nD τ).loc main_arg1)
  p2 := m ((c : Thread nD τ).loc main_arg2)
  p3 := m ((c : Thread nD τ).loc main_arg3)
  p4 := m ((c : Thread nD τ).loc main_arg4)
  p5 := m ((c : Thread nD τ).loc main_arg5)
  p6 := m ((c : Thread nD τ).loc main_arg6)
  w := m ((c : Thread nD τ).loc main_arg7)
  x := m ((c : Thread nD τ).loc main_arg8)
  res := m ((c : Thread nD τ).loc main_arg9)
  g := m ((c : Thread nD τ).loc main_arg10)

/-- The token in row `r` of point `t`'s blocks. -/
def tok (t : Fin cfg0.N) (r : Fin 512) : Fin 4096 := ⟨512 * t.val + r.val, by have := points t; omega⟩

/-! ## The blocks' places -/

theorem place0 : ∀ t : Fin cfg0.N, win0_0.index t 0 = t.val ∧ win0_0.index t 1 = 0 :=
  (by decide +kernel : ∀ t : Fin grid0.N, win0_0.index t 0 = t.val ∧ win0_0.index t 1 = 0)
theorem blk_p0 (t : Fin cfg0.N) (r : Fin 512) (k : Fin 1024) : (blk m c t).p0 (ix2 r k) = (args m c).p0 (ix2 (tok t r) k) := by
  obtain ⟨h0, h1⟩ := place0 t
  exact congrArg (V m c main_arg0) (funext fun a => Fin.ext (match a with
    | 0 => by show win0_0.index t 0 * 512 + 1 * r.val = 512 * t.val + r.val; rw [h0]; omega
    | 1 => by show win0_0.index t 1 * 1024 + 1 * k.val = k.val; rw [h1]; omega))

theorem place1 : ∀ t : Fin cfg0.N, win0_1.index t 0 = t.val ∧ win0_1.index t 1 = 0 :=
  (by decide +kernel : ∀ t : Fin grid0.N, win0_1.index t 0 = t.val ∧ win0_1.index t 1 = 0)
theorem blk_p1 (t : Fin cfg0.N) (r : Fin 512) (k : Fin 1024) : (blk m c t).p1 (ix2 r k) = (args m c).p1 (ix2 (tok t r) k) := by
  obtain ⟨h0, h1⟩ := place1 t
  exact congrArg (V m c main_arg1) (funext fun a => Fin.ext (match a with
    | 0 => by show win0_1.index t 0 * 512 + 1 * r.val = 512 * t.val + r.val; rw [h0]; omega
    | 1 => by show win0_1.index t 1 * 1024 + 1 * k.val = k.val; rw [h1]; omega))

theorem place2 : ∀ t : Fin cfg0.N, win0_2.index t 0 = t.val ∧ win0_2.index t 1 = 0 :=
  (by decide +kernel : ∀ t : Fin grid0.N, win0_2.index t 0 = t.val ∧ win0_2.index t 1 = 0)
theorem blk_p2 (t : Fin cfg0.N) (r : Fin 512) (k : Fin 1024) : (blk m c t).p2 (ix2 r k) = (args m c).p2 (ix2 (tok t r) k) := by
  obtain ⟨h0, h1⟩ := place2 t
  exact congrArg (V m c main_arg2) (funext fun a => Fin.ext (match a with
    | 0 => by show win0_2.index t 0 * 512 + 1 * r.val = 512 * t.val + r.val; rw [h0]; omega
    | 1 => by show win0_2.index t 1 * 1024 + 1 * k.val = k.val; rw [h1]; omega))

theorem place3 : ∀ t : Fin cfg0.N, win0_3.index t 0 = t.val ∧ win0_3.index t 1 = 0 :=
  (by decide +kernel : ∀ t : Fin grid0.N, win0_3.index t 0 = t.val ∧ win0_3.index t 1 = 0)
theorem blk_p3 (t : Fin cfg0.N) (r : Fin 512) (k : Fin 512) : (blk m c t).p3 (ix2 r k) = (args m c).p3 (ix2 (tok t r) k) := by
  obtain ⟨h0, h1⟩ := place3 t
  exact congrArg (V m c main_arg3) (funext fun a => Fin.ext (match a with
    | 0 => by show win0_3.index t 0 * 512 + 1 * r.val = 512 * t.val + r.val; rw [h0]; omega
    | 1 => by show win0_3.index t 1 * 512 + 1 * k.val = k.val; rw [h1]; omega))

theorem place4 : ∀ t : Fin cfg0.N, win0_4.index t 0 = t.val ∧ win0_4.index t 1 = 0 :=
  (by decide +kernel : ∀ t : Fin grid0.N, win0_4.index t 0 = t.val ∧ win0_4.index t 1 = 0)
theorem blk_p4 (t : Fin cfg0.N) (r : Fin 512) (k : Fin 1024) : (blk m c t).p4 (ix2 r k) = (args m c).p4 (ix2 (tok t r) k) := by
  obtain ⟨h0, h1⟩ := place4 t
  exact congrArg (V m c main_arg4) (funext fun a => Fin.ext (match a with
    | 0 => by show win0_4.index t 0 * 512 + 1 * r.val = 512 * t.val + r.val; rw [h0]; omega
    | 1 => by show win0_4.index t 1 * 1024 + 1 * k.val = k.val; rw [h1]; omega))

theorem place5 : ∀ t : Fin cfg0.N, win0_5.index t 0 = t.val ∧ win0_5.index t 1 = 0 :=
  (by decide +kernel : ∀ t : Fin grid0.N, win0_5.index t 0 = t.val ∧ win0_5.index t 1 = 0)
theorem blk_p5 (t : Fin cfg0.N) (r : Fin 512) (k : Fin 1024) : (blk m c t).p5 (ix2 r k) = (args m c).p5 (ix2 (tok t r) k) := by
  obtain ⟨h0, h1⟩ := place5 t
  exact congrArg (V m c main_arg5) (funext fun a => Fin.ext (match a with
    | 0 => by show win0_5.index t 0 * 512 + 1 * r.val = 512 * t.val + r.val; rw [h0]; omega
    | 1 => by show win0_5.index t 1 * 1024 + 1 * k.val = k.val; rw [h1]; omega))

theorem place6 : ∀ t : Fin cfg0.N, win0_6.index t 0 = t.val ∧ win0_6.index t 1 = 0 :=
  (by decide +kernel : ∀ t : Fin grid0.N, win0_6.index t 0 = t.val ∧ win0_6.index t 1 = 0)
theorem blk_p6 (t : Fin cfg0.N) (r : Fin 512) (k : Fin 1024) : (blk m c t).p6 (ix2 r k) = (args m c).p6 (ix2 (tok t r) k) := by
  obtain ⟨h0, h1⟩ := place6 t
  exact congrArg (V m c main_arg6) (funext fun a => Fin.ext (match a with
    | 0 => by show win0_6.index t 0 * 512 + 1 * r.val = 512 * t.val + r.val; rw [h0]; omega
    | 1 => by show win0_6.index t 1 * 1024 + 1 * k.val = k.val; rw [h1]; omega))

theorem place7 : ∀ t : Fin cfg0.N, win0_7.index t 0 = 0 ∧ win0_7.index t 1 = 0 :=
  (by decide +kernel : ∀ t : Fin grid0.N, win0_7.index t 0 = 0 ∧ win0_7.index t 1 = 0)
theorem blk_w (t : Fin cfg0.N) (r : Fin 6656) (k : Fin 1024) : (blk m c t).w (ix2 r k) = (args m c).w (ix2 r k) := by
  obtain ⟨h0, h1⟩ := place7 t
  exact congrArg (V m c main_arg7) (funext fun a => Fin.ext (match a with
    | 0 => by show win0_7.index t 0 * 6656 + 1 * r.val = r.val; rw [h0]; omega
    | 1 => by show win0_7.index t 1 * 1024 + 1 * k.val = k.val; rw [h1]; omega))

theorem place8 : ∀ t : Fin cfg0.N, win0_8.index t 0 = t.val ∧ win0_8.index t 1 = 0 :=
  (by decide +kernel : ∀ t : Fin grid0.N, win0_8.index t 0 = t.val ∧ win0_8.index t 1 = 0)
theorem blk_x (t : Fin cfg0.N) (r : Fin 512) (k : Fin 1024) : (blk m c t).x (ix2 r k) = (args m c).x (ix2 (tok t r) k) := by
  obtain ⟨h0, h1⟩ := place8 t
  exact congrArg (V m c main_arg8) (funext fun a => Fin.ext (match a with
    | 0 => by show win0_8.index t 0 * 512 + 1 * r.val = 512 * t.val + r.val; rw [h0]; omega
    | 1 => by show win0_8.index t 1 * 1024 + 1 * k.val = k.val; rw [h1]; omega))

theorem place9 : ∀ t : Fin cfg0.N, win0_9.index t 0 = t.val ∧ win0_9.index t 1 = 0 :=
  (by decide +kernel : ∀ t : Fin grid0.N, win0_9.index t 0 = t.val ∧ win0_9.index t 1 = 0)
theorem blk_res (t : Fin cfg0.N) (r : Fin 512) (k : Fin 1024) : (blk m c t).res (ix2 r k) = (args m c).res (ix2 (tok t r) k) := by
  obtain ⟨h0, h1⟩ := place9 t
  exact congrArg (V m c main_arg9) (funext fun a => Fin.ext (match a with
    | 0 => by show win0_9.index t 0 * 512 + 1 * r.val = 512 * t.val + r.val; rw [h0]; omega
    | 1 => by show win0_9.index t 1 * 1024 + 1 * k.val = k.val; rw [h1]; omega))

theorem place10 : ∀ t : Fin cfg0.N, win0_10.index t 0 = 0 ∧ win0_10.index t 1 = 0 :=
  (by decide +kernel : ∀ t : Fin grid0.N, win0_10.index t 0 = 0 ∧ win0_10.index t 1 = 0)
theorem blk_g (t : Fin cfg0.N) (r : Fin 1) (k : Fin 1024) : (blk m c t).g (ix2 r k) = (args m c).g (ix2 r k) := by
  obtain ⟨h0, h1⟩ := place10 t
  exact congrArg (V m c main_arg10) (funext fun a => Fin.ext (match a with
    | 0 => by show win0_10.index t 0 * 1 + 1 * r.val = r.val; rw [h0]; omega
    | 1 => by show win0_10.index t 1 * 1024 + 1 * k.val = k.val; rw [h1]; omega))

/-! ## The blocks are the tokens -/

theorem weights_eq (t : Fin cfg0.N) : (blk m c t).weights = (args m c).weights := by
  unfold Blk.weights Args.weights
  congr 1
  · funext i j; exact blk_w m c t i j
  · funext k; exact blk_g m c t 0 k

theorem token_eq (t : Fin cfg0.N) (r : Fin 512) : (blk m c t).token r = (args m c).token (tok t r) := by
  unfold Blk.token Args.token
  congr 1
  · funext k; exact blk_p0 m c t r k
  · funext k; exact blk_p1 m c t r k
  · funext k; exact blk_p2 m c t r k
  · funext k; exact blk_p3 m c t r k
  · funext k; exact blk_p4 m c t r k
  · funext k; exact blk_p5 m c t r k
  · funext k; exact blk_p6 m c t r k
  · funext k; exact blk_x m c t r k
  · funext k; exact blk_res m c t r k

/-! ## The scale's gradient after the last point -/

/-- The first row grows by the block's sum; the others stay. -/
theorem add_at (b : Blk Ideal) (s : Vec Ideal S8x1024 .f32) (i : Fin 8) (k : Fin 1024) : b.add s (ix2 i k)
    = if i.val < 1 then s (ix2 i k) + ∑ r, dg b.weights (b.token r) k else s (ix2 i k) := by
  unfold Blk.add
  unfold VecWindow.put
  by_cases hi : i.val < 1
  · have hi0 : i = 0 := Fin.ext (by show i.val = 0; omega)
    subst hi0
    rw [dif_pos (fun a => by fin_cases a <;> simp <;> exact k.isLt), if_pos hi]
    refine Eq.trans (congrArg _ (funext fun a => Fin.ext ?_)) ((b.gscale_at _ 0 k).trans (congrArg (· + _) (congrArg s (funext fun a => Fin.ext ?_))))
    · match a with
      | 0 => rfl
      | 1 => exact Nat.sub_zero _
    · match a with
      | 0 => rfl
      | 1 => show 0 + 1 * k.val = k.val; omega
  · rw [dif_neg (fun h => hi (by have := (h 0).2; simpa using this)), if_neg hi]

theorem zero_at (i : Fin 8) (k : Fin 1024) : k0_pay1 (F := Ideal) (ix2 i k) = 0 := by
  unfold k0_pay1; pointwise

theorem last_lt : 7 < cfg0.N := lt_of_lt_of_eq (by decide) (show (8 : ℕ) = cfg0.N from N_0.symm)

theorem sums_zero (h : 0 < cfg0.N) : sums m c 0 h = (blk m c ⟨0, h⟩).add (k0_pay1 (F := Ideal)) := rfl
theorem sums_succ (n : ℕ) (h : n + 1 < cfg0.N) :
    sums m c (n + 1) h = (blk m c ⟨n + 1, h⟩).add (sums m c n (Nat.lt_of_succ_lt h)) := rfl

theorem sums_last (i : Fin 8) (k : Fin 1024) : sums m c 7 last_lt (ix2 i k)
    = if i.val < 1 then ∑ q, dg (args m c).weights ((args m c).token q) k else 0 := by
  by_cases hi : i.val < 1
  · rw [if_pos hi]
    refine Tokens.total (tok := tok) (fun _ _ => rfl) (u := fun n h => sums m c n h (ix2 i k))
      (f := fun q => dg (args m c).weights ((args m c).token q) k) (fun h => ?_) (fun n h => ?_) last_lt
    · simp only [sums_zero, add_at, if_pos hi, zero_at, weights_eq, token_eq]
    · simp only [sums_succ, add_at, if_pos hi, weights_eq, token_eq]
  · rw [if_neg hi]
    have h : ∀ n (h : n < cfg0.N), sums m c n h (ix2 i k) = 0 := by
      intro n
      induction n with
      | zero => intro h; rw [sums_zero, add_at, if_neg hi, zero_at]
      | succ n ih => intro h; rw [sums_succ, add_at, if_neg hi, ih]
    exact h 7 last_lt

/-! ## The results -/

/-- The reference's arrays of the same arguments. -/
def out_dx (a : Args) : Vec Ideal S4096x1024 .f32 :=
  val_main_v39 (F := Ideal) a.p0 a.p1 a.p2 a.p3 a.p4 a.p5 a.p6 a.w a.x a.res a.g
def out_dg (a : Args) : Vec Ideal S8x1024 .f32 :=
  val_main_v41 (F := Ideal) a.p0 a.p1 a.p2 a.p3 a.p4 a.p5 a.p6 a.w a.x

theorem place11 : ∀ t : Fin cfg0.N, win0_11.index t 0 = t.val ∧ win0_11.index t 1 = 0 :=
  (by decide +kernel : ∀ t : Fin grid0.N, win0_11.index t 0 = t.val ∧ win0_11.index t 1 = 0)

theorem array_dx : (dats m 0 c).arrAt 11 cfg0.N = out_dx (args m c) := by
  refine (dats m 0 c).arrAt_eq_of_covers 11 _ (by decide +kernel) fun t _ y => ?_
  obtain ⟨r, k, rfl⟩ : ∃ (r : Fin 512) (k : Fin 1024), y = ix2 r k := two y
  obtain ⟨h0, h1⟩ := place11 t
  have e : ((cfg0.win 11).blk t).view.emb (ix2 r k) = ix2 (tok t r) k := funext fun a => Fin.ext (match a with
    | 0 => by show win0_11.index t 0 * 512 + 1 * r.val = 512 * t.val + r.val; rw [h0]; omega
    | 1 => by show win0_11.index t 1 * 1024 + 1 * k.val = k.val; rw [h1]; omega)
  show (outsAt0 m c t.val t.isLt).1 (ix2 r k) = out_dx (args m c) (((cfg0.win 11).blk t).view.emb (ix2 r k))
  rw [e, after_eq]
  refine (Blk.dx_at _ r k).trans ?_
  rw [weights_eq, token_eq]
  exact ((args m c).dx_at _ _).symm

theorem array_dg : (dats m 0 c).arrAt 12 cfg0.N = out_dg (args m c) := by
  refine (dats m 0 c).arrAt_eq_of_after_last 12 ⟨7, last_lt⟩ (by decide +kernel) _ fun j => ?_
  obtain ⟨i, k, rfl⟩ : ∃ (i : Fin 8) (k : Fin 1024), j = ix2 i k := two j
  have h : (dats m 0 c).after 12 ⟨7, last_lt⟩ = sums m c 7 last_lt :=
    (after0_12 m c _).trans (congrArg Prod.snd (after_eq m c 7 last_lt))
  rw [h]
  exact (sums_last m c i k).trans ((args m c).dg_at i k).symm

/-- Every run ends with the two results at the reference's arrays of the arguments, and the arguments as they were. -/
theorem values : θ_run defs (onTc (τ := τ) (main (F := Ideal))) ⟨m, fun _ => 0, ρ⟩ (fun r => ∀ c : Dev nD,
      r.2.mem ((c.tc : Thread nD τ).loc main_v0_0) = out_dx (args m c)
      ∧ r.2.mem ((c.tc : Thread nD τ).loc main_v0_1) = out_dg (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono
    (fun _ h c => ⟨(h c).1.trans (array_dx m c), (h c).2.1.trans (array_dg m c), (h c).2.2⟩)
    (Value.run_blocks m ρ)

end Cert.Kernel2Ideal.Input

end
-- ==== Proof.InputClaims.lean ====
/- The claims about the input's gradient: the reference ends with its counters at zero and its arguments untouched, and
   the kernel's two result arrays are the reference's, as functions of the eleven arguments. -/
module

public import proofs.«01_k».proof.Defs
public import proofs.«01_k».proof.Proof.Gen.Reference2Ideal
public import proofs.«01_k».proof.Proof.Gen.Reference2Ideal.Run
public import proofs.«01_k».proof.Proof.Gen.Reference2Ideal.Read
public import proofs.«01_k».proof.Proof.InputValue

@[expose] public section

noncomputable section

open Idealize.ShloMosaic Idealize.SL.Sem

namespace Cert.Reference2Ideal.Input

open Cert.Kernel2Ideal.Input

/-- The eleven arrays the reference finds as its arguments on device `c`. -/
def given (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10)⟩

/-- What the reference leaves in its first result is that result of its arguments. -/
theorem dx_given (m : (ℓ : Loc nD τ sig) → Buf (Elt Ideal) ℓ) (c : Dev nD) :
    Value.res_main_v39 m c = out_dx (given m c) := Read.val_main_v39_eq m c

end Cert.Reference2Ideal.Input

namespace Cert.Proof.InputClaims

open Cert.Kernel2Ideal.Input Cert.Reference2Ideal.Input

/-- The reference touches none of its arguments, and it has no counter to leave raised. -/
theorem frame_reference : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run (F := Ideal) m ρ)

/-- Arguments that agree on a device are one record. -/
theorem given_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (h7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (h8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8))
    (h9 : m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9))
    (h10 : m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10))
    : given m' c = args m c := by
  unfold given
  rw [h0, h1, h2, h3, h4, h5, h6, h7, h8, h9, h10]
  rfl

/-- The kernel's two results are the reference's. -/
theorem algebraic : Cert.algebraic_Kernel2Ideal_Reference2Ideal := by
  intro m g m' g' _ h
  have e : ∀ c, given m' c = args m c := fun c => by
    obtain ⟨h0, h1, h2, h3, h4, h5, h6, h7, h8, h9, h10⟩ := h c
    exact given_eq m m' c h0 h1 h2 h3 h4 h5 h6 h7 h8 h9 h10
  refine ⟨fun c => out_dx (args m c), fun c => out_dg (args m c), values m g, ?_⟩
  refine (θ_run Cert.Reference2Ideal.defs _ _).mono (fun r hr c => ?_) (Cert.Reference2Ideal.Value.run (F := Ideal) m' g')
  obtain ⟨r0, r1, kept⟩ := hr c
  refine ⟨r0.trans ((dx_given m' c).trans (congrArg out_dx (e c))), r1.trans (Eq.trans ?_ (congrArg out_dg (e c))), kept⟩
  exact Cert.Reference2Ideal.Read.val_main_v41_eq (F := Ideal) _ _ _ _ _ _ _ _ _

end Cert.Proof.InputClaims

end
-- ==== Proof.WinPoint.lean ====
/- What one grid point of the weight's gradient leaves: the accumulator with the point's tokens
   added, over zeros where the point is the first of its block of rows, and at the second point
   the block of rows itself. The seven sections of the weight differ only in which array the point
   reads. -/
module

public import proofs.«01_k».proof.Proof.Gen.Kernel3Ideal.Frame
public import Idealize.ShloMosaic.Lib.VecWindow
public import Idealize.ShloMosaic.Lib.Pointwise

@[expose] public section

noncomputable section

namespace Cert.Kernel3Ideal.Win

open Cert.Kernel3Ideal Cert.Kernel3Ideal.Gen Idealize.ShloMosaic Idealize.ShloMosaic.TcCoe
open Idealize.ShloMosaic.Tactic Idealize.SL.Sem

variable {F : FTy → Type} [FloatOps F] (m : (ℓ : Loc nD τ sig) → Buf (Elt F) ℓ)

/-- The half of the tokens' rows a point reads: 2048 of the 4096. -/
def half (i : grid0.Coords) (h : Vec F S4096x1024 .bf16) : Vec F S2048x1024 .bf16 :=
  View.ld h (Rect.unit (s := S4096x1024) (k0_off1 i) S2048x1024.size (k0_off1_inb i))

/-- The section's columns that point `t` reads. -/
def cols (c : Dev nD) (t : Fin cfg0.N) : Vec F S2048x512 .bf16 :=
  if t.val < 4 then iblk m c 0 t else if t.val < 8 then iblk m c 1 t else if t.val < 12 then iblk m c 2 t
  else if t.val < 14 then iblk m c 3 t else if t.val < 18 then iblk m c 4 t else if t.val < 22 then iblk m c 5 t
  else iblk m c 6 t

/-- The accumulator with point `t`'s tokens added. -/
def add (c : Dev nD) (t : Fin cfg0.N) (s : Vec F S512x1024 .f32) : Vec F S512x1024 .f32 :=
  k0_pay5 (half (grid0.coords t) (iblk m c 7 t)) s (cols m c t)

theorem hz : (![0, 0] : Fin 2 → Nat) = fun _ => 0 := funext fun a => by fin_cases a <;> rfl

theorem points (t : Fin cfg0.N) : t.val < 26 := lt_of_lt_of_eq t.isLt (show cfg0.N = 26 from N_0)

/-- The accumulator, read back whole, is what was left in it. -/
theorem kept (s : Vec F S512x1024 .f32) :
    View.read (Elt F) (View.whole cc0_scratch0) ((Memref.isWhole_whole cc0_scratch0).unread s) = s :=
  Memref.IsWhole.read_unread (Memref.isWhole_whole cc0_scratch0) s

set_option maxHeartbeats 4000000 in
/-- The first point of a block of rows leaves the first half's sum in the accumulator. -/
theorem first (c : Dev nD) (t : Fin cfg0.N) (e : t.val % 2 = 0) : (outsAt0 m c t.val t.isLt).2 = add m c t k0_pay4 := by
  have := points t
  unfold add cols
  split_ifs with h0 h1 h2 h3 h4 h5
  refine (congrArg Prod.snd (outsAt0_A m c t e h0 (by omega) (by omega) (by omega) (by omega) (by omega) (by omega) (by omega))).trans ?_
  dsimp only; unfold sout0_A_0 kernelRun0_A; dsimp only; sl_unfold_words; rotate_left
  refine (congrArg Prod.snd (outsAt0_C m c t e h0 (by omega) (by omega) (by omega) (by omega) (by omega) (by omega) (by omega))).trans ?_
  dsimp only; unfold sout0_C_0 kernelRun0_C; dsimp only; sl_unfold_words; rotate_left
  refine (congrArg Prod.snd (outsAt0_E m c t e h0 (by omega) (by omega) (by omega) (by omega) (by omega) (by omega) (by omega))).trans ?_
  dsimp only; unfold sout0_E_0 kernelRun0_E; dsimp only; sl_unfold_words; rotate_left
  refine (congrArg Prod.snd (outsAt0_G m c t e h0 (by omega) (by omega) (by omega) (by omega) (by omega) (by omega) (by omega))).trans ?_
  dsimp only; unfold sout0_G_0 kernelRun0_G; dsimp only; sl_unfold_words; rotate_left
  refine (congrArg Prod.snd (outsAt0_I m c t e h0 (by omega) (by omega) (by omega) (by omega) (by omega) (by omega) (by omega))).trans ?_
  dsimp only; unfold sout0_I_0 kernelRun0_I; dsimp only; sl_unfold_words; rotate_left
  refine (congrArg Prod.snd (outsAt0_K m c t e h0 (by omega) (by omega) (by omega) (by omega) (by omega) (by omega) (by omega))).trans ?_
  dsimp only; unfold sout0_K_0 kernelRun0_K; dsimp only; sl_unfold_words; rotate_left
  refine (congrArg Prod.snd (outsAt0_M m c t e h0 (by omega) (by omega) (by omega) (by omega) (by omega) (by omega) (by omega))).trans ?_
  dsimp only; unfold sout0_M_0 kernelRun0_M; dsimp only; sl_unfold_words; rotate_left
  all_goals
    rw [View.read_writes_full]
    simp only [View.readAt_eq_ld, Memref.IsWhole.read_unread, View.ld_unit_zero (S := S2048x512) hz,
      View.ld_unit_zero (S := S512x1024) hz, View.readCov_unit_zero (S := S512x1024) _ hz, shapeCast_self]
    rfl

set_option maxHeartbeats 4000000 in
/-- The second point leaves the block of rows: what the first left, the second half's sum added. -/
theorem second (c : Dev nD) (t : Fin cfg0.N) (e : ¬t.val % 2 = 0) : (outsAt0 m c t.val t.isLt).1
    = k0_pay3 (add m c t (outsAt0 m c (t.val - 1) (Nat.lt_of_le_of_lt (Nat.sub_le _ _) t.isLt)).2) := by
  have := points t
  unfold add cols
  split_ifs with h0 h1 h2 h3 h4 h5
  refine (congrArg Prod.fst (outsAt0_B m c t e h0 (by omega) (by omega) (by omega) (by omega) (by omega) (by omega) (by omega))).trans ?_
  dsimp only; unfold out0_B_8 kernelRun0_B; dsimp only; sl_unfold_words; rotate_left
  refine (congrArg Prod.fst (outsAt0_D m c t e h0 (by omega) (by omega) (by omega) (by omega) (by omega) (by omega) (by omega))).trans ?_
  dsimp only; unfold out0_D_8 kernelRun0_D; dsimp only; sl_unfold_words; rotate_left
  refine (congrArg Prod.fst (outsAt0_F m c t e h0 (by omega) (by omega) (by omega) (by omega) (by omega) (by omega) (by omega))).trans ?_
  dsimp only; unfold out0_F_8 kernelRun0_F; dsimp only; sl_unfold_words; rotate_left
  refine (congrArg Prod.fst (outsAt0_H m c t e h0 (by omega) (by omega) (by omega) (by omega) (by omega) (by omega) (by omega))).trans ?_
  dsimp only; unfold out0_H_8 kernelRun0_H; dsimp only; sl_unfold_words; rotate_left
  refine (congrArg Prod.fst (outsAt0_J m c t e h0 (by omega) (by omega) (by omega) (by omega) (by omega) (by omega) (by omega))).trans ?_
  dsimp only; unfold out0_J_8 kernelRun0_J; dsimp only; sl_unfold_words; rotate_left
  refine (congrArg Prod.fst (outsAt0_L m c t e h0 (by omega) (by omega) (by omega) (by omega) (by omega) (by omega) (by omega))).trans ?_
  dsimp only; unfold out0_L_8 kernelRun0_L; dsimp only; sl_unfold_words; rotate_left
  refine (congrArg Prod.fst (outsAt0_N m c t e h0 (by omega) (by omega) (by omega) (by omega) (by omega) (by omega) (by omega))).trans ?_
  dsimp only; unfold out0_N_8 kernelRun0_N; dsimp only; sl_unfold_words; rotate_left
  all_goals
    rw [View.read_writes_full]
    simp only [View.readAt_eq_ld, Memref.IsWhole.read_unread, View.ld_unit_zero (S := S2048x512) hz,
      View.ld_unit_zero (S := S512x1024) hz, View.readCov_unit_zero (S := S512x1024) _ hz, shapeCast_self]
    exact congrArg k0_pay3 (congrArg (fun s => k0_pay5 (half (grid0.coords t) (iblk m c 7 t)) s _) (kept _))

end Cert.Kernel3Ideal.Win

end
-- ==== Proof.WinRef.lean ====
/- What the reference of the weight's gradient computes: every entry is a sum over all tokens, of the
   token's entry in the seven sections laid side by side and its entry of the hidden array. -/
module

public import proofs.«01_k».proof.Proof.Gen.Reference3Ideal.Read
public import Idealize.ShloMosaic.Lib.Pointwise

@[expose] public section

noncomputable section

namespace Cert.Reference3Ideal.Win

open Cert.Reference3Ideal Cert.Reference3Ideal.Gen Cert.Reference3Ideal.Read Idealize.ShloMosaic

/-- The arguments of the two programs: the seven sections' gradients, and the hidden array. -/
structure Args where
  (p0 p1 p2 : Vec Ideal S4096x1024 .bf16)
  p3 : Vec Ideal S4096x512 .bf16
  (p4 p5 p6 h : Vec Ideal S4096x1024 .bf16)

namespace Args

variable (a : Args)

/-- The seven sections side by side. -/
def all : Vec Ideal S4096x6656 .bf16 := val_main_v0 (F := Ideal) a.p0 a.p1 a.p2 a.p3 a.p4 a.p5 a.p6

/-- The reference's result. -/
def out : Vec Ideal S6656x1024 .bf16 := val_main_v6 (F := Ideal) a.p0 a.p1 a.p2 a.p3 a.p4 a.p5 a.p6 a.h

theorem out_at (j : Fin 6656) (k : Fin 1024) : a.out (ix2 j k) = ∑ q : Fin 4096, a.all (ix2 q j) * a.h (ix2 q k) := by
  unfold out val_main_v6 val_main_v5 val_main_v1 val_main_v3
  pointwise
  rfl

/-! ## Where each section lies -/

theorem all_0 (q : Fin 4096) (j : Fin 6656) (k : Fin 1024) (e : j.val = k.val) : a.all (ix2 q j) = a.p0 (ix2 q k) := by
  unfold all val_main_v0
  pointwise
  split_ifs <;> first | omega | exact congrArg _ (congrArg (ix2 q) (Fin.ext (by dsimp only; omega)))

theorem all_1 (q : Fin 4096) (j : Fin 6656) (k : Fin 1024) (e : j.val = 1024 + k.val) : a.all (ix2 q j) = a.p1 (ix2 q k) := by
  unfold all val_main_v0
  pointwise
  split_ifs <;> first | omega | exact congrArg _ (congrArg (ix2 q) (Fin.ext (by dsimp only; omega)))

theorem all_2 (q : Fin 4096) (j : Fin 6656) (k : Fin 1024) (e : j.val = 2048 + k.val) : a.all (ix2 q j) = a.p2 (ix2 q k) := by
  unfold all val_main_v0
  pointwise
  split_ifs <;> first | omega | exact congrArg _ (congrArg (ix2 q) (Fin.ext (by dsimp only; omega)))

theorem all_3 (q : Fin 4096) (j : Fin 6656) (k : Fin 512) (e : j.val = 3072 + k.val) : a.all (ix2 q j) = a.p3 (ix2 q k) := by
  unfold all val_main_v0
  pointwise
  split_ifs <;> first | omega | exact congrArg _ (congrArg (ix2 q) (Fin.ext (by dsimp only; omega)))

theorem all_4 (q : Fin 4096) (j : Fin 6656) (k : Fin 1024) (e : j.val = 3584 + k.val) : a.all (ix2 q j) = a.p4 (ix2 q k) := by
  unfold all val_main_v0
  pointwise
  split_ifs <;> first | omega | exact congrArg _ (congrArg (ix2 q) (Fin.ext (by dsimp only; omega)))

theorem all_5 (q : Fin 4096) (j : Fin 6656) (k : Fin 1024) (e : j.val = 4608 + k.val) : a.all (ix2 q j) = a.p5 (ix2 q k) := by
  unfold all val_main_v0
  pointwise
  split_ifs <;> first | omega | exact congrArg _ (congrArg (ix2 q) (Fin.ext (by dsimp only; omega)))

theorem all_6 (q : Fin 4096) (j : Fin 6656) (k : Fin 1024) (e : j.val = 5632 + k.val) : a.all (ix2 q j) = a.p6 (ix2 q k) := by
  unfold all val_main_v0
  pointwise
  split_ifs <;> first | omega | exact congrArg _ (congrArg (ix2 q) (Fin.ext (by dsimp only; omega)))

end Args

end Cert.Reference3Ideal.Win

end
-- ==== Proof.WinValue.lean ====
/- What the result holds after the run of the weight's gradient: the reference's array. A block of
   rows is the sum over the first half of the tokens and the sum over the second, and the columns
   read for it are those of one section, where they lie among all seven side by side. -/
module

public import proofs.«01_k».proof.Proof.WinPoint
public import proofs.«01_k».proof.Proof.WinRef
public import proofs.«01_k».proof.Proof.Tokens
public import proofs.«01_k».proof.Proof.Gen.Kernel3Ideal.Value
public import Idealize.ShloMosaic.Lib.Pipeline.ValueKit.Geometry

@[expose] public section

noncomputable section

namespace Cert.Kernel3Ideal.Win

open Cert.Kernel3Ideal Cert.Kernel3Ideal.Gen Idealize.ShloMosaic Idealize.ShloMosaic.TcCoe Idealize.SL.Sem
open Cert.Reference3Ideal.Win (Args)
open Cert.Tokens (two)

variable (m : (ℓ : Loc nD τ sig) → Buf (Elt Ideal) ℓ) (ρ : Dev nD → PrngReg) (c : Dev nD)

/-- The arguments, as the launch finds them. -/
def args : Args where
  p0 := m ((c : Thread nD τ).loc main_arg0)
  p1 := m ((c : Thread nD τ).loc main_arg1)
  p2 := m ((c : Thread nD τ).loc main_arg2)
  p3 := m ((c : Thread nD τ).loc main_arg3)
  p4 := m ((c : Thread nD τ).loc main_arg4)
  p5 := m ((c : Thread nD τ).loc main_arg5)
  p6 := m ((c : Thread nD τ).loc main_arg6)
  h := m ((c : Thread nD τ).loc main_arg7)

/-- The token in row `r` of the half that point `t` reads. -/
def tok (t : Fin cfg0.N) (r : Fin 2048) : Fin 4096 := ⟨2048 * (t.val % 2) + r.val, by omega⟩

/-- The row of the weight's gradient that is row `e` of the block point `t` works on. -/
def row (t : Fin cfg0.N) (e : Fin 512) : Fin 6656 := ⟨512 * (t.val / 2) + e.val, by have := points t; omega⟩

/-! ## What a point reads -/

theorem place7 : ∀ t : Fin cfg0.N, win0_7.index t 0 = 0 ∧ win0_7.index t 1 = 0
    ∧ k0_off1 (grid0.coords t) 0 = 2048 * (t.val % 2) ∧ k0_off1 (grid0.coords t) 1 = 0 :=
  (by decide +kernel : ∀ t : Fin grid0.N, win0_7.index t 0 = 0 ∧ win0_7.index t 1 = 0
    ∧ k0_off1 (grid0.coords t) 0 = 2048 * (t.val % 2) ∧ k0_off1 (grid0.coords t) 1 = 0)

theorem half_at (t : Fin cfg0.N) (r : Fin 2048) (k : Fin 1024) :
    half (grid0.coords t) (iblk m c 7 t) (ix2 r k) = (args m c).h (ix2 (tok t r) k) := by
  obtain ⟨h0, h1, h2, h3⟩ := place7 t
  exact congrArg (V m c main_arg7) (funext fun a => Fin.ext (match a with
    | 0 => by
      show win0_7.index t 0 * 4096 + 1 * (k0_off1 (grid0.coords t) 0 + 1 * r.val) = 2048 * (t.val % 2) + r.val
      rw [h0, h2]; omega
    | 1 => by
      show win0_7.index t 1 * 1024 + 1 * (k0_off1 (grid0.coords t) 1 + 1 * k.val) = k.val
      rw [h1, h3]; omega))

theorem place0 : ∀ t : Fin cfg0.N, 0 ≤ t.val → t.val < 4 → win0_0.index t 0 = t.val % 2 ∧ win0_0.index t 1 + 0 = t.val / 2 :=
  (by decide +kernel : ∀ t : Fin grid0.N, 0 ≤ t.val → t.val < 4 → win0_0.index t 0 = t.val % 2 ∧ win0_0.index t 1 + 0 = t.val / 2)
theorem cols_0 (t : Fin cfg0.N) (lo : 0 ≤ t.val) (hi : t.val < 4) (r : Fin 2048) (e : Fin 512) :
    (iblk m c 0 t : Vec Ideal S2048x512 .bf16) (ix2 r e) = (args m c).all (ix2 (tok t r) (row t e)) := by
  obtain ⟨h0, h1⟩ := place0 t lo hi
  rw [(args m c).all_0 (tok t r) (row t e) ⟨512 * (t.val / 2) + e.val - 0, by omega⟩
    (by show 512 * (t.val / 2) + e.val = (512 * (t.val / 2) + e.val - 0); omega)]
  exact congrArg (V m c main_arg0) (funext fun a => Fin.ext (match a with
    | 0 => by show win0_0.index t 0 * 2048 + 1 * r.val = 2048 * (t.val % 2) + r.val; rw [h0]; omega
    | 1 => by show win0_0.index t 1 * 512 + 1 * e.val = 512 * (t.val / 2) + e.val - 0; omega))

theorem place1 : ∀ t : Fin cfg0.N, 4 ≤ t.val → t.val < 8 → win0_1.index t 0 = t.val % 2 ∧ win0_1.index t 1 + 2 = t.val / 2 :=
  (by decide +kernel : ∀ t : Fin grid0.N, 4 ≤ t.val → t.val < 8 → win0_1.index t 0 = t.val % 2 ∧ win0_1.index t 1 + 2 = t.val / 2)
theorem cols_1 (t : Fin cfg0.N) (lo : 4 ≤ t.val) (hi : t.val < 8) (r : Fin 2048) (e : Fin 512) :
    (iblk m c 1 t : Vec Ideal S2048x512 .bf16) (ix2 r e) = (args m c).all (ix2 (tok t r) (row t e)) := by
  obtain ⟨h0, h1⟩ := place1 t lo hi
  rw [(args m c).all_1 (tok t r) (row t e) ⟨512 * (t.val / 2) + e.val - 1024, by omega⟩
    (by show 512 * (t.val / 2) + e.val = 1024 + (512 * (t.val / 2) + e.val - 1024); omega)]
  exact congrArg (V m c main_arg1) (funext fun a => Fin.ext (match a with
    | 0 => by show win0_1.index t 0 * 2048 + 1 * r.val = 2048 * (t.val % 2) + r.val; rw [h0]; omega
    | 1 => by show win0_1.index t 1 * 512 + 1 * e.val = 512 * (t.val / 2) + e.val - 1024; omega))

theorem place2 : ∀ t : Fin cfg0.N, 8 ≤ t.val → t.val < 12 → win0_2.index t 0 = t.val % 2 ∧ win0_2.index t 1 + 4 = t.val / 2 :=
  (by decide +kernel : ∀ t : Fin grid0.N, 8 ≤ t.val → t.val < 12 → win0_2.index t 0 = t.val % 2 ∧ win0_2.index t 1 + 4 = t.val / 2)
theorem cols_2 (t : Fin cfg0.N) (lo : 8 ≤ t.val) (hi : t.val < 12) (r : Fin 2048) (e : Fin 512) :
    (iblk m c 2 t : Vec Ideal S2048x512 .bf16) (ix2 r e) = (args m c).all (ix2 (tok t r) (row t e)) := by
  obtain ⟨h0, h1⟩ := place2 t lo hi
  rw [(args m c).all_2 (tok t r) (row t e) ⟨512 * (t.val / 2) + e.val - 2048, by omega⟩
    (by show 512 * (t.val / 2) + e.val = 2048 + (512 * (t.val / 2) + e.val - 2048); omega)]
  exact congrArg (V m c main_arg2) (funext fun a => Fin.ext (match a with
    | 0 => by show win0_2.index t 0 * 2048 + 1 * r.val = 2048 * (t.val % 2) + r.val; rw [h0]; omega
    | 1 => by show win0_2.index t 1 * 512 + 1 * e.val = 512 * (t.val / 2) + e.val - 2048; omega))

theorem place3 : ∀ t : Fin cfg0.N, 12 ≤ t.val → t.val < 14 → win0_3.index t 0 = t.val % 2 ∧ win0_3.index t 1 + 6 = t.val / 2 :=
  (by decide +kernel : ∀ t : Fin grid0.N, 12 ≤ t.val → t.val < 14 → win0_3.index t 0 = t.val % 2 ∧ win0_3.index t 1 + 6 = t.val / 2)
theorem cols_3 (t : Fin cfg0.N) (lo : 12 ≤ t.val) (hi : t.val < 14) (r : Fin 2048) (e : Fin 512) :
    (iblk m c 3 t : Vec Ideal S2048x512 .bf16) (ix2 r e) = (args m c).all (ix2 (tok t r) (row t e)) := by
  obtain ⟨h0, h1⟩ := place3 t lo hi
  rw [(args m c).all_3 (tok t r) (row t e) ⟨512 * (t.val / 2) + e.val - 3072, by omega⟩
    (by show 512 * (t.val / 2) + e.val = 3072 + (512 * (t.val / 2) + e.val - 3072); omega)]
  exact congrArg (V m c main_arg3) (funext fun a => Fin.ext (match a with
    | 0 => by show win0_3.index t 0 * 2048 + 1 * r.val = 2048 * (t.val % 2) + r.val; rw [h0]; omega
    | 1 => by show win0_3.index t 1 * 512 + 1 * e.val = 512 * (t.val / 2) + e.val - 3072; omega))

theorem place4 : ∀ t : Fin cfg0.N, 14 ≤ t.val → t.val < 18 → win0_4.index t 0 = t.val % 2 ∧ win0_4.index t 1 + 7 = t.val / 2 :=
  (by decide +kernel : ∀ t : Fin grid0.N, 14 ≤ t.val → t.val < 18 → win0_4.index t 0 = t.val % 2 ∧ win0_4.index t 1 + 7 = t.val / 2)
theorem cols_4 (t : Fin cfg0.N) (lo : 14 ≤ t.val) (hi : t.val < 18) (r : Fin 2048) (e : Fin 512) :
    (iblk m c 4 t : Vec Ideal S2048x512 .bf16) (ix2 r e) = (args m c).all (ix2 (tok t r) (row t e)) := by
  obtain ⟨h0, h1⟩ := place4 t lo hi
  rw [(args m c).all_4 (tok t r) (row t e) ⟨512 * (t.val / 2) + e.val - 3584, by omega⟩
    (by show 512 * (t.val / 2) + e.val = 3584 + (512 * (t.val / 2) + e.val - 3584); omega)]
  exact congrArg (V m c main_arg4) (funext fun a => Fin.ext (match a with
    | 0 => by show win0_4.index t 0 * 2048 + 1 * r.val = 2048 * (t.val % 2) + r.val; rw [h0]; omega
    | 1 => by show win0_4.index t 1 * 512 + 1 * e.val = 512 * (t.val / 2) + e.val - 3584; omega))

theorem place5 : ∀ t : Fin cfg0.N, 18 ≤ t.val → t.val < 22 → win0_5.index t 0 = t.val % 2 ∧ win0_5.index t 1 + 9 = t.val / 2 :=
  (by decide +kernel : ∀ t : Fin grid0.N, 18 ≤ t.val → t.val < 22 → win0_5.index t 0 = t.val % 2 ∧ win0_5.index t 1 + 9 = t.val / 2)
theorem cols_5 (t : Fin cfg0.N) (lo : 18 ≤ t.val) (hi : t.val < 22) (r : Fin 2048) (e : Fin 512) :
    (iblk m c 5 t : Vec Ideal S2048x512 .bf16) (ix2 r e) = (args m c).all (ix2 (tok t r) (row t e)) := by
  obtain ⟨h0, h1⟩ := place5 t lo hi
  rw [(args m c).all_5 (tok t r) (row t e) ⟨512 * (t.val / 2) + e.val - 4608, by omega⟩
    (by show 512 * (t.val / 2) + e.val = 4608 + (512 * (t.val / 2) + e.val - 4608); omega)]
  exact congrArg (V m c main_arg5) (funext fun a => Fin.ext (match a with
    | 0 => by show win0_5.index t 0 * 2048 + 1 * r.val = 2048 * (t.val % 2) + r.val; rw [h0]; omega
    | 1 => by show win0_5.index t 1 * 512 + 1 * e.val = 512 * (t.val / 2) + e.val - 4608; omega))

theorem place6 : ∀ t : Fin cfg0.N, 22 ≤ t.val → t.val < 26 → win0_6.index t 0 = t.val % 2 ∧ win0_6.index t 1 + 11 = t.val / 2 :=
  (by decide +kernel : ∀ t : Fin grid0.N, 22 ≤ t.val → t.val < 26 → win0_6.index t 0 = t.val % 2 ∧ win0_6.index t 1 + 11 = t.val / 2)
theorem cols_6 (t : Fin cfg0.N) (lo : 22 ≤ t.val) (hi : t.val < 26) (r : Fin 2048) (e : Fin 512) :
    (iblk m c 6 t : Vec Ideal S2048x512 .bf16) (ix2 r e) = (args m c).all (ix2 (tok t r) (row t e)) := by
  obtain ⟨h0, h1⟩ := place6 t lo hi
  rw [(args m c).all_6 (tok t r) (row t e) ⟨512 * (t.val / 2) + e.val - 5632, by omega⟩
    (by show 512 * (t.val / 2) + e.val = 5632 + (512 * (t.val / 2) + e.val - 5632); omega)]
  exact congrArg (V m c main_arg6) (funext fun a => Fin.ext (match a with
    | 0 => by show win0_6.index t 0 * 2048 + 1 * r.val = 2048 * (t.val % 2) + r.val; rw [h0]; omega
    | 1 => by show win0_6.index t 1 * 512 + 1 * e.val = 512 * (t.val / 2) + e.val - 5632; omega))

theorem cols_at (t : Fin cfg0.N) (r : Fin 2048) (e : Fin 512) :
    cols m c t (ix2 r e) = (args m c).all (ix2 (tok t r) (row t e)) := by
  have := points t
  unfold cols
  split_ifs with h0 h1 h2 h3 h4 h5
  · exact cols_0 m c t (by omega) (by omega) r e
  · exact cols_1 m c t (by omega) (by omega) r e
  · exact cols_2 m c t (by omega) (by omega) r e
  · exact cols_3 m c t (by omega) (by omega) r e
  · exact cols_4 m c t (by omega) (by omega) r e
  · exact cols_5 m c t (by omega) (by omega) r e
  · exact cols_6 m c t (by omega) (by omega) r e

/-! ## The sums -/

theorem add_at (t : Fin cfg0.N) (s : Vec Ideal S512x1024 .f32) (e : Fin 512) (k : Fin 1024) : add m c t s (ix2 e k)
    = s (ix2 e k) + ∑ r, (args m c).all (ix2 (tok t r) (row t e)) * (args m c).h (ix2 (tok t r) k) := by
  unfold add k0_pay5
  pointwise
  simp only [cols_at, half_at]

theorem zero_at (e : Fin 512) (k : Fin 1024) : k0_pay4 (F := Ideal) (ix2 e k) = 0 := by
  unfold k0_pay4; pointwise

theorem narrow_at (s : Vec Ideal S512x1024 .f32) (e : Fin 512) (k : Fin 1024) : k0_pay3 s (ix2 e k) = s (ix2 e k) := by
  unfold k0_pay3; pointwise

/-- A sum over the tokens is the sum over the first half and the sum over the second. -/
theorem halves (f : Fin 4096 → EReal) {u v : Fin 2048 → Fin 4096} (hu : ∀ r, (u r).val = r.val)
    (hv : ∀ r, (v r).val = 2048 + r.val) : (∑ r, f (u r)) + ∑ r, f (v r) = ∑ q, f q :=
  (congrArg₂ (· + ·)
    (Finset.sum_congr rfl fun r _ => congrArg f (Fin.ext (hu r)))
    (Finset.sum_congr rfl fun r _ => congrArg f (Fin.ext (hv r)))).trans
    (Fin.sum_univ_add (a := 2048) (b := 2048) f).symm

/-- The second point of a block of rows leaves the reference's rows. -/
theorem block_at (t : Fin cfg0.N) (o : t.val % 2 = 1) (e : Fin 512) (k : Fin 1024) :
    (outsAt0 m c t.val t.isLt).1 (ix2 e k) = (args m c).out (ix2 (row t e) k) := by
  have lt : t.val - 1 < cfg0.N := Nat.lt_of_le_of_lt (Nat.sub_le _ _) t.isLt
  have p : (outsAt0 m c (t.val - 1) lt).2 = add m c ⟨t.val - 1, lt⟩ (k0_pay4 (F := Ideal)) :=
    first m c ⟨t.val - 1, lt⟩ (by show (t.val - 1) % 2 = 0; omega)
  have same : row ⟨t.val - 1, lt⟩ e = row t e := Fin.ext (by
    show 512 * ((t.val - 1) / 2) + e.val = 512 * (t.val / 2) + e.val; omega)
  rw [second m c t (by omega), narrow_at, add_at, p, add_at, zero_at, zero_add, same, Args.out_at]
  exact halves (fun q => (args m c).all (ix2 q (row t e)) * (args m c).h (ix2 q k))
    (fun r => by show 2048 * ((t.val - 1) % 2) + r.val = r.val; omega)
    (fun r => by show 2048 * (t.val % 2) + r.val = 2048 + r.val; omega)

/-! ## The result -/

theorem place8 : ∀ t : Fin cfg0.N, win0_8.index t 0 = t.val / 2 ∧ win0_8.index t 1 = 0 :=
  (by decide +kernel : ∀ t : Fin grid0.N, win0_8.index t 0 = t.val / 2 ∧ win0_8.index t 1 = 0)

theorem array : (dats m 0 c).arrAt 8 cfg0.N = (args m c).out := by
  refine (dats m 0 c).arrAt_eq_of_covers 8 _ (by decide +kernel) fun t ht y => ?_
  obtain ⟨e, k, rfl⟩ : ∃ (e : Fin 512) (k : Fin 1024), y = ix2 e k := two y
  obtain ⟨h0, h1⟩ := place8 t
  have p : ((cfg0.win 8).blk t).view.emb (ix2 e k) = ix2 (row t e) k := funext fun a => Fin.ext (match a with
    | 0 => by show win0_8.index t 0 * 512 + 1 * e.val = 512 * (t.val / 2) + e.val; rw [h0]; omega
    | 1 => by show win0_8.index t 1 * 1024 + 1 * k.val = k.val; rw [h1]; omega)
  show (outsAt0 m c t.val t.isLt).1 (ix2 e k) = (args m c).out (((cfg0.win 8).blk t).view.emb (ix2 e k))
  rw [p]
  exact block_at m c t ((flush0_8 t).mp ht) e k

/-- Every run ends with the result at the reference's array of the arguments, and the arguments as they were. -/
theorem values : θ_run defs (onTc (τ := τ) (main (F := Ideal))) ⟨m, fun _ => 0, ρ⟩ (fun r => ∀ c : Dev nD,
      r.2.mem ((c.tc : Thread nD τ).loc main_v0) = (args m c).out
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (array m c), (h c).2⟩) (Value.run_blocks m ρ)

end Cert.Kernel3Ideal.Win

end
-- ==== Proof.WinClaims.lean ====
/- The claims about the weight's gradient: the reference ends with its counters at zero and its arguments untouched, and
   the kernel's result array is the reference's, as a function of the eight arguments. -/
module

public import proofs.«01_k».proof.Defs
public import proofs.«01_k».proof.Proof.Gen.Reference3Ideal
public import proofs.«01_k».proof.Proof.Gen.Reference3Ideal.Run
public import proofs.«01_k».proof.Proof.Gen.Reference3Ideal.Read
public import proofs.«01_k».proof.Proof.WinValue

@[expose] public section

noncomputable section

open Idealize.ShloMosaic Idealize.SL.Sem

namespace Cert.Reference3Ideal.Win

/-- The eight arrays the reference finds as its arguments on device `c`. -/
def given (m : (ℓ : Loc nD τ sig) → Buf (Elt Ideal) ℓ) (c : Dev nD) : Args :=
  ⟨m ((c.tc : Thread nD τ).loc main_arg0),
    m ((c.tc : Thread nD τ).loc main_arg1),
    m ((c.tc : Thread nD τ).loc main_arg2),
    m ((c.tc : Thread nD τ).loc main_arg3),
    m ((c.tc : Thread nD τ).loc main_arg4),
    m ((c.tc : Thread nD τ).loc main_arg5),
    m ((c.tc : Thread nD τ).loc main_arg6),
    m ((c.tc : Thread nD τ).loc main_arg7)⟩

end Cert.Reference3Ideal.Win

namespace Cert.Proof.WinClaims

open Cert.Kernel3Ideal.Win Cert.Reference3Ideal.Win

/-- The reference touches none of its arguments, and it has no counter to leave raised. -/
theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- Arguments that agree on a device are one record. -/
theorem given_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))
    : given m' c = args m c := by
  unfold given
  rw [h0, h1, h2, h3, h4, h5, h6, h7]
  rfl

/-- The kernel's result is the reference's. -/
theorem algebraic : Cert.algebraic_Kernel3Ideal_Reference3Ideal := by
  intro m g m' g' _ h
  have e : ∀ c, given m' c = args m c := fun c => by
    obtain ⟨h0, h1, h2, h3, h4, h5, h6, h7⟩ := h c
    exact given_eq m m' c h0 h1 h2 h3 h4 h5 h6 h7
  refine ⟨fun c => (args m c).out, values m g, ?_⟩
  refine (θ_run Cert.Reference3Ideal.defs _ _).mono (fun r hr c => ?_) (Cert.Reference3Ideal.Value.run (F := Ideal) m' g')
  obtain ⟨r0, kept⟩ := hr c
  refine ⟨r0.trans (Eq.trans ?_ (congrArg Args.out (e c))), kept⟩
  exact Cert.Reference3Ideal.Read.val_main_v6_eq (F := Ideal) _ _ _ _ _ _ _ _

end Cert.Proof.WinClaims

end
-- ==== Proof.AdamRow.lean ====
/- One entry of a weight's AdamW step: from the gradient, the weight and the two moments, the new moments and the
   weight's change. The constants are the words both programs carry. Everything is over the extended reals. -/
module

public import Idealize.ShloMosaic.PureOps.Ideal.Laws
public import Idealize.ShloMosaic.Lib.IdealHost

@[expose] public section

noncomputable section

namespace Cert.Adam

open Idealize.ShloMosaic

/-- The new first moment: nine tenths of the old one and a tenth of the gradient. -/
def first (g m : EReal) : EReal := Ideal.ofBits .f32 0x3F666666#32 * m + Ideal.ofBits .f32 0x3DCCCCCD#32 * g

/-- The new second moment: 0.999 of the old one and 0.001 of the gradient's square. -/
def second (g v : EReal) : EReal := Ideal.ofBits .f32 0x3F7FBE77#32 * v + Ideal.ofBits .f32 0x3A83126F#32 * (g * g)

/-- The weight's change: the corrected first moment over the root of the corrected second one, and the weight's decay,
    times minus the rate. The corrections are those of the tenth step. -/
def change (w m v : EReal) : EReal :=
  Ideal.ofBits .f32 0xBA83126F#32
    * (Ideal.div (Ideal.div m (Ideal.ofBits .f32 0x3F26BD02#32))
          (Ideal.sqrt (Ideal.div v (Ideal.ofBits .f32 0x3C231ACC#32)) + Ideal.ofBits .f32 0x322BCC77#32)
        + Ideal.ofBits .f32 0x3C23D70A#32 * w)

/-- The weight's change from the gradient, the weight and the old moments. -/
def delta (g w m v : EReal) : EReal := change w (first g m) (second g v)

end Cert.Adam

end
-- ==== Proof.AdamInRef.lean ====
/- What the reference of the input projection's optimiser step holds in each entry: the sum of the four chips' gradients,
   and the AdamW step of it. -/
module

public import proofs.«01_k».proof.Proof.AdamRow
public import proofs.«01_k».proof.Proof.Gen.Reference4Ideal.Read
public import Idealize.ShloMosaic.Lib.Pointwise

@[expose] public section

noncomputable section

namespace Cert.Reference4Ideal.Adam

open Cert.Reference4Ideal Cert.Reference4Ideal.Gen Cert.Reference4Ideal.Read Idealize.ShloMosaic
open Idealize.ShloMosaic.TcCoe Idealize.SL.Sem

/-- The arguments: this chip's gradient, the other three chips', the weight, and its two moments. -/
structure Args where
  own : Vec Ideal S832x1024 .bf16
  others : Vec Ideal S3x832x1024 .bf16
  w : Vec Ideal S832x1024 .f32
  m : Vec Ideal S832x1024 .f32
  v : Vec Ideal S832x1024 .f32

variable (a : Args) (r : Fin 832) (k : Fin 1024)

/-- The whole gradient of one entry. -/
def Args.grad : EReal :=
  a.own (ix2 r k) + a.others (ix3 0 r k) + a.others (ix3 1 r k) + a.others (ix3 2 r k)

/-- The four results. -/
def Args.outG : Vec Ideal S832x1024 .f32 := val_main_v3 (F := Ideal) a.own a.others
def Args.outD : Vec Ideal S832x1024 .f32 := val_main_v27 (F := Ideal) a.own a.others a.w a.m a.v
def Args.outM : Vec Ideal S832x1024 .f32 := val_main_v8 (F := Ideal) a.own a.others a.m
def Args.outV : Vec Ideal S832x1024 .f32 := val_main_v14 (F := Ideal) a.own a.others a.v

theorem Args.outG_at : a.outG (ix2 r k) = a.grad r k := by
  unfold Args.outG Args.grad
  rw [val_main_v3_apply, Fin.sum_univ_four]
  unfold val_main_v2 val_main_v1 val_main_v0 val_main_cst
  pointwise

theorem Args.outM_at : a.outM (ix2 r k) = Cert.Adam.first (a.grad r k) (a.m (ix2 r k)) := by
  rw [← a.outG_at]
  unfold Args.outM Args.outG Cert.Adam.first val_main_v8 val_main_v7 val_main_v6 val_main_cst_1 val_main_v5 val_main_v4
    val_main_cst_0
  pointwise

theorem Args.outV_at : a.outV (ix2 r k) = Cert.Adam.second (a.grad r k) (a.v (ix2 r k)) := by
  rw [← a.outG_at]
  unfold Args.outV Args.outG Cert.Adam.second val_main_v14 val_main_v13 val_main_v12 val_main_cst_3 val_main_v11
    val_main_v10 val_main_v9 val_main_cst_2
  pointwise

theorem Args.outD_at : a.outD (ix2 r k) = Cert.Adam.delta (a.grad r k) (a.w (ix2 r k)) (a.m (ix2 r k)) (a.v (ix2 r k)) := by
  unfold Cert.Adam.delta
  rw [← a.outM_at, ← a.outV_at]
  unfold Args.outD Args.outM Args.outV Cert.Adam.change val_main_v27 val_main_v26 val_main_cst_8 val_main_v25 val_main_v24
    val_main_v23 val_main_cst_7 val_main_v22 val_main_v21 val_main_v20 val_main_cst_6 val_main_v19 val_main_v18
    val_main_v17 val_main_cst_5 val_main_v16 val_main_v15 val_main_cst_4
  pointwise

end Cert.Reference4Ideal.Adam

end
-- ==== Proof.AdamInValue.lean ====
/- What the four results of the input projection's optimiser step hold after the run: the reference's arrays. Each of
   the four grid points does 208 of the 832 rows, every entry for itself. -/
module

public import proofs.«01_k».proof.Proof.AdamInRef
public import proofs.«01_k».proof.Proof.Tokens
public import proofs.«01_k».proof.Proof.Gen.Kernel4Ideal.Value
public import Idealize.ShloMosaic.Lib.VecWindow
public import Idealize.ShloMosaic.Lib.Pointwise
public import Idealize.ShloMosaic.Lib.Pipeline.ValueKit.Geometry

@[expose] public section

noncomputable section

namespace Cert.Kernel4Ideal.Adam

open Cert.Kernel4Ideal Cert.Kernel4Ideal.Gen Idealize.ShloMosaic Idealize.ShloMosaic.TcCoe Idealize.SL.Sem
open Cert.Reference4Ideal.Adam (Args)
open Cert.Tokens (two)

/-! ## One block of rows -/

/-- The blocks of one grid point. -/
structure Blk where
  own : Vec Ideal S208x1024 .bf16
  others : Vec Ideal S3x208x1024 .bf16
  w : Vec Ideal S208x1024 .f32
  m : Vec Ideal S208x1024 .f32
  v : Vec Ideal S208x1024 .f32

/-- The block of one of the other three chips. -/
def Blk.chip0 (b : Blk) : Vec Ideal S1x208x1024 .bf16 := View.ld b.others r0_1
def Blk.chip1 (b : Blk) : Vec Ideal S1x208x1024 .bf16 := View.ld b.others r0_2
def Blk.chip2 (b : Blk) : Vec Ideal S1x208x1024 .bf16 := View.ld b.others r0_3

/-- What the point writes: the gradient, the moments and the weight's change. -/
def Blk.outG (b : Blk) : Vec Ideal S208x1024 .f32 := k0_pay2 b.own b.chip0 b.chip1 b.chip2
def Blk.outM (b : Blk) : Vec Ideal S208x1024 .f32 := k0_pay3 b.own b.chip0 b.chip1 b.chip2 b.m
def Blk.outV (b : Blk) : Vec Ideal S208x1024 .f32 := k0_pay4 b.own b.chip0 b.chip1 b.chip2 b.v
def Blk.outD (b : Blk) : Vec Ideal S208x1024 .f32 :=
  k0_pay1 b.w (k0_pay5 b.own b.chip0 b.chip1 b.chip2 b.m) (k0_pay6 b.own b.chip0 b.chip1 b.chip2 b.v)

/-- The whole gradient of one entry. -/
def Blk.grad (b : Blk) (r : Fin 208) (k : Fin 1024) : EReal :=
  b.own (ix2 r k) + b.others (ix3 0 r k) + b.others (ix3 1 r k) + b.others (ix3 2 r k)

section
variable (b : Blk) (r : Fin 208) (k : Fin 1024)

theorem Blk.chip0_at : b.chip0 (ix3 0 r k) = b.others (ix3 0 r k) :=
  congrArg b.others (funext fun a => Fin.ext (match a with
    | 0 => rfl
    | 1 => by show 0 + 1 * r.val = r.val; omega
    | 2 => by show 0 + 1 * k.val = k.val; omega))
theorem Blk.chip1_at : b.chip1 (ix3 0 r k) = b.others (ix3 1 r k) :=
  congrArg b.others (funext fun a => Fin.ext (match a with
    | 0 => rfl
    | 1 => by show 0 + 1 * r.val = r.val; omega
    | 2 => by show 0 + 1 * k.val = k.val; omega))
theorem Blk.chip2_at : b.chip2 (ix3 0 r k) = b.others (ix3 2 r k) :=
  congrArg b.others (funext fun a => Fin.ext (match a with
    | 0 => rfl
    | 1 => by show 0 + 1 * r.val = r.val; omega
    | 2 => by show 0 + 1 * k.val = k.val; omega))

theorem Blk.outG_at : b.outG (ix2 r k) = b.grad r k := by
  unfold Blk.grad
  rw [← b.chip0_at, ← b.chip1_at, ← b.chip2_at]
  unfold Blk.outG k0_pay2
  pointwise

theorem Blk.outM_at : b.outM (ix2 r k) = Cert.Adam.first (b.grad r k) (b.m (ix2 r k)) := by
  rw [← b.outG_at]
  unfold Blk.outM Blk.outG Cert.Adam.first k0_pay3
  pointwise

theorem Blk.outV_at : b.outV (ix2 r k) = Cert.Adam.second (b.grad r k) (b.v (ix2 r k)) := by
  rw [← b.outG_at]
  unfold Blk.outV Blk.outG Cert.Adam.second k0_pay4
  pointwise

theorem Blk.outD_at : b.outD (ix2 r k)
    = Cert.Adam.delta (b.grad r k) (b.w (ix2 r k)) (b.m (ix2 r k)) (b.v (ix2 r k)) := by
  unfold Cert.Adam.delta
  rw [← b.outM_at, ← b.outV_at]
  unfold Blk.outD Blk.outM Blk.outV Cert.Adam.change k0_pay1 k0_pay5 k0_pay6
  pointwise
end

/-! ## The blocks' places -/

variable (m : (ℓ : Loc nD τ sig) → Buf (Elt Ideal) ℓ) (ρ : Dev nD → PrngReg) (c : Dev nD)

/-- The arguments, as the launch finds them. -/
def args : Args where
  own := m ((c : Thread nD τ).loc main_arg0)
  others := m ((c : Thread nD τ).loc main_arg1)
  w := m ((c : Thread nD τ).loc main_arg2)
  m := m ((c : Thread nD τ).loc main_arg3)
  v := m ((c : Thread nD τ).loc main_arg4)

/-- The blocks point `t` loads. -/
def blk (t : Fin cfg0.N) : Blk where
  own := iblk m c 0 t
  others := iblk m c 1 t
  w := iblk m c 2 t
  m := iblk m c 3 t
  v := iblk m c 4 t

theorem points (t : Fin cfg0.N) : t.val < 4 := lt_of_lt_of_eq t.isLt (show cfg0.N = 4 from N_0)

/-- The array's row in row `r` of point `t`'s blocks. -/
def row (t : Fin cfg0.N) (r : Fin 208) : Fin 832 := ⟨208 * t.val + r.val, by have := points t; omega⟩

/-- The point reads and writes its own rows, all columns. -/
theorem place : ∀ t : Fin cfg0.N, (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_1.index t 0 = 0 ∧ win0_1.index t 1 = t.val ∧ win0_1.index t 2 = 0) :=
  (by decide +kernel : ∀ t : Fin grid0.N, (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_1.index t 0 = 0 ∧ win0_1.index t 1 = t.val ∧ win0_1.index t 2 = 0))

/-- A place in an array of the point's rows, from its two coordinates. -/
theorem at_row (t : Fin cfg0.N) (r : Fin 208) (k : Fin 1024) {i : S832x1024.Idx} {p q : ℕ} (hp : p = t.val) (hq : q = 0)
    (h0 : (i 0).val = p * 208 + 1 * r.val) (h1 : (i 1).val = q * 1024 + 1 * k.val) : i = ix2 (row t r) k :=
  funext fun a => Fin.ext (match a with
    | 0 => by show (i 0).val = 208 * t.val + r.val; rw [h0, hp]; omega
    | 1 => by show (i 1).val = k.val; rw [h1, hq]; omega)

theorem blk_own (t : Fin cfg0.N) (r : Fin 208) (k : Fin 1024) :
    (blk m c t).own (ix2 r k) = (args m c).own (ix2 (row t r) k) :=
  congrArg (V m c main_arg0) (at_row t r k (place t).1.1 (place t).1.2 rfl rfl)
theorem blk_others (t : Fin cfg0.N) (s : Fin 3) (r : Fin 208) (k : Fin 1024) :
    (blk m c t).others (ix3 s r k) = (args m c).others (ix3 s (row t r) k) := by
  obtain ⟨h0, h1, h2⟩ := (place t).2.2.2.2
  exact congrArg (V m c main_arg1) (funext fun a => Fin.ext (match a with
    | 0 => by show win0_1.index t 0 * 3 + 1 * s.val = s.val; rw [h0]; omega
    | 1 => by show win0_1.index t 1 * 208 + 1 * r.val = 208 * t.val + r.val; rw [h1]; omega
    | 2 => by show win0_1.index t 2 * 1024 + 1 * k.val = k.val; rw [h2]; omega))
theorem blk_w (t : Fin cfg0.N) (r : Fin 208) (k : Fin 1024) :
    (blk m c t).w (ix2 r k) = (args m c).w (ix2 (row t r) k) :=
  congrArg (V m c main_arg2) (at_row t r k (place t).2.1.1 (place t).2.1.2 rfl rfl)
theorem blk_m (t : Fin cfg0.N) (r : Fin 208) (k : Fin 1024) :
    (blk m c t).m (ix2 r k) = (args m c).m (ix2 (row t r) k) :=
  congrArg (V m c main_arg3) (at_row t r k (place t).2.2.1.1 (place t).2.2.1.2 rfl rfl)
theorem blk_v (t : Fin cfg0.N) (r : Fin 208) (k : Fin 1024) :
    (blk m c t).v (ix2 r k) = (args m c).v (ix2 (row t r) k) :=
  congrArg (V m c main_arg4) (at_row t r k (place t).2.2.2.1.1 (place t).2.2.2.1.2 rfl rfl)

theorem grad_eq (t : Fin cfg0.N) (r : Fin 208) (k : Fin 1024) : (blk m c t).grad r k = (args m c).grad (row t r) k := by
  unfold Blk.grad Args.grad
  rw [blk_own, blk_others, blk_others, blk_others]

/-! ## The results -/

theorem hz : (![0, 0] : Fin 2 → Nat) = fun _ => 0 := funext fun a => by fin_cases a <;> rfl

theorem place5 : ∀ t : Fin cfg0.N, win0_5.index t 0 = t.val ∧ win0_5.index t 1 = 0 :=
  (by decide +kernel : ∀ t : Fin grid0.N, win0_5.index t 0 = t.val ∧ win0_5.index t 1 = 0)

/-- The block the point writes is the one of its blocks. -/
theorem out5_eq (b : Blk) : out0_5 b.own b.others b.w b.m b.v = b.outG := by
  unfold out0_5
  rw [View.canon_unit_zero hz]
  simp only [View.ld_unit_zero (S := S208x1024) hz]
  rfl

theorem arrayG : (dats m 0 c).arrAt 5 cfg0.N = (args m c).outG := by
  refine (dats m 0 c).arrAt_eq_of_covers 5 _ (by decide +kernel) fun t _ y => ?_
  obtain ⟨r, k, rfl⟩ : ∃ (r : Fin 208) (k : Fin 1024), y = ix2 r k := two y
  obtain ⟨h0, h1⟩ := place5 t
  have e : ((cfg0.win 5).blk t).view.emb (ix2 r k) = ix2 (row t r) k := funext fun a => Fin.ext (match a with
    | 0 => by show win0_5.index t 0 * 208 + 1 * r.val = 208 * t.val + r.val; rw [h0]; omega
    | 1 => by show win0_5.index t 1 * 1024 + 1 * k.val = k.val; rw [h1]; omega)
  have h : (dats m 0 c).after 5 t = (blk m c t).outG := (after0_5 m c t).trans (out5_eq (blk m c t))
  show (dats m 0 c).after 5 t (ix2 r k) = (args m c).outG (((cfg0.win 5).blk t).view.emb (ix2 r k))
  rw [e, h, Blk.outG_at, Args.outG_at, grad_eq]

theorem place6 : ∀ t : Fin cfg0.N, win0_6.index t 0 = t.val ∧ win0_6.index t 1 = 0 :=
  (by decide +kernel : ∀ t : Fin grid0.N, win0_6.index t 0 = t.val ∧ win0_6.index t 1 = 0)

/-- The block the point writes is the one of its blocks. -/
theorem out6_eq (b : Blk) : out0_6 b.own b.others b.w b.m b.v = b.outD := by
  unfold out0_6
  rw [View.canon_unit_zero hz]
  simp only [View.ld_unit_zero (S := S208x1024) hz]
  rfl

theorem arrayD : (dats m 0 c).arrAt 6 cfg0.N = (args m c).outD := by
  refine (dats m 0 c).arrAt_eq_of_covers 6 _ (by decide +kernel) fun t _ y => ?_
  obtain ⟨r, k, rfl⟩ : ∃ (r : Fin 208) (k : Fin 1024), y = ix2 r k := two y
  obtain ⟨h0, h1⟩ := place6 t
  have e : ((cfg0.win 6).blk t).view.emb (ix2 r k) = ix2 (row t r) k := funext fun a => Fin.ext (match a with
    | 0 => by show win0_6.index t 0 * 208 + 1 * r.val = 208 * t.val + r.val; rw [h0]; omega
    | 1 => by show win0_6.index t 1 * 1024 + 1 * k.val = k.val; rw [h1]; omega)
  have h : (dats m 0 c).after 6 t = (blk m c t).outD := (after0_6 m c t).trans (out6_eq (blk m c t))
  show (dats m 0 c).after 6 t (ix2 r k) = (args m c).outD (((cfg0.win 6).blk t).view.emb (ix2 r k))
  rw [e, h, Blk.outD_at, Args.outD_at, grad_eq, blk_w, blk_m, blk_v]

theorem place7 : ∀ t : Fin cfg0.N, win0_7.index t 0 = t.val ∧ win0_7.index t 1 = 0 :=
  (by decide +kernel : ∀ t : Fin grid0.N, win0_7.index t 0 = t.val ∧ win0_7.index t 1 = 0)

/-- The block the point writes is the one of its blocks. -/
theorem out7_eq (b : Blk) : out0_7 b.own b.others b.w b.m b.v = b.outM := by
  unfold out0_7
  rw [View.canon_unit_zero hz]
  simp only [View.ld_unit_zero (S := S208x1024) hz]
  rfl

theorem arrayM : (dats m 0 c).arrAt 7 cfg0.N = (args m c).outM := by
  refine (dats m 0 c).arrAt_eq_of_covers 7 _ (by decide +kernel) fun t _ y => ?_
  obtain ⟨r, k, rfl⟩ : ∃ (r : Fin 208) (k : Fin 1024), y = ix2 r k := two y
  obtain ⟨h0, h1⟩ := place7 t
  have e : ((cfg0.win 7).blk t).view.emb (ix2 r k) = ix2 (row t r) k := funext fun a => Fin.ext (match a with
    | 0 => by show win0_7.index t 0 * 208 + 1 * r.val = 208 * t.val + r.val; rw [h0]; omega
    | 1 => by show win0_7.index t 1 * 1024 + 1 * k.val = k.val; rw [h1]; omega)
  have h : (dats m 0 c).after 7 t = (blk m c t).outM := (after0_7 m c t).trans (out7_eq (blk m c t))
  show (dats m 0 c).after 7 t (ix2 r k) = (args m c).outM (((cfg0.win 7).blk t).view.emb (ix2 r k))
  rw [e, h, Blk.outM_at, Args.outM_at, grad_eq, blk_m]

theorem place8 : ∀ t : Fin cfg0.N, win0_8.index t 0 = t.val ∧ win0_8.index t 1 = 0 :=
  (by decide +kernel : ∀ t : Fin grid0.N, win0_8.index t 0 = t.val ∧ win0_8.index t 1 = 0)

/-- The block the point writes is the one of its blocks. -/
theorem out8_eq (b : Blk) : out0_8 b.own b.others b.w b.m b.v = b.outV := by
  unfold out0_8
  rw [View.canon_unit_zero hz]
  simp only [View.ld_unit_zero (S := S208x1024) hz]
  rfl

theorem arrayV : (dats m 0 c).arrAt 8 cfg0.N = (args m c).outV := by
  refine (dats m 0 c).arrAt_eq_of_covers 8 _ (by decide +kernel) fun t _ y => ?_
  obtain ⟨r, k, rfl⟩ : ∃ (r : Fin 208) (k : Fin 1024), y = ix2 r k := two y
  obtain ⟨h0, h1⟩ := place8 t
  have e : ((cfg0.win 8).blk t).view.emb (ix2 r k) = ix2 (row t r) k := funext fun a => Fin.ext (match a with
    | 0 => by show win0_8.index t 0 * 208 + 1 * r.val = 208 * t.val + r.val; rw [h0]; omega
    | 1 => by show win0_8.index t 1 * 1024 + 1 * k.val = k.val; rw [h1]; omega)
  have h : (dats m 0 c).after 8 t = (blk m c t).outV := (after0_8 m c t).trans (out8_eq (blk m c t))
  show (dats m 0 c).after 8 t (ix2 r k) = (args m c).outV (((cfg0.win 8).blk t).view.emb (ix2 r k))
  rw [e, h, Blk.outV_at, Args.outV_at, grad_eq, blk_v]

/-- Every run ends with the four results at the reference's arrays of the arguments, and the arguments as they were. -/
theorem values : θ_run defs (onTc (τ := τ) (main (F := Ideal))) ⟨m, fun _ => 0, ρ⟩ (fun r => ∀ c : Dev nD,
      r.2.mem ((c.tc : Thread nD τ).loc main_v0_0) = (args m c).outG
      ∧ r.2.mem ((c.tc : Thread nD τ).loc main_v0_1) = (args m c).outD
      ∧ r.2.mem ((c.tc : Thread nD τ).loc main_v0_2) = (args m c).outM
      ∧ r.2.mem ((c.tc : Thread nD τ).loc main_v0_3) = (args m c).outV
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun _ h c => ⟨(h c).1.trans (arrayG m c), (h c).2.1.trans (arrayD m c), (h c).2.2.1.trans (arrayM m c),
      (h c).2.2.2.1.trans (arrayV m c), (h c).2.2.2.2⟩)
    (Value.run_blocks m ρ)

end Cert.Kernel4Ideal.Adam

end
-- ==== Proof.AdamInClaims.lean ====
/- The claims about the input projection's optimiser step: the reference ends with its counters at zero and its arguments
   untouched, and the kernel's four result arrays are the reference's, as functions of the five arguments. -/
module

public import proofs.«01_k».proof.Defs
public import proofs.«01_k».proof.Proof.Gen.Reference4Ideal
public import proofs.«01_k».proof.Proof.Gen.Reference4Ideal.Run
public import proofs.«01_k».proof.Proof.Gen.Reference4Ideal.Read
public import proofs.«01_k».proof.Proof.AdamInValue

@[expose] public section

noncomputable section

open Idealize.ShloMosaic Idealize.SL.Sem

namespace Cert.Reference4Ideal.Adam

/-- What the reference finds on device `c`. -/
def given (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4)⟩

end Cert.Reference4Ideal.Adam

namespace Cert.Proof.AdamInClaims

open Cert.Kernel4Ideal.Adam Cert.Reference4Ideal.Adam

/-- The reference touches none of its arguments, and it has no counter to leave raised. -/
theorem frame_reference : Cert.quiescent_Reference4Ideal := fun m ρ _ =>
  (θ_run Cert.Reference4Ideal.defs _ _).mono
    (fun r h => ⟨fun c => (h c).2.2.2.2, sem_eq_zero_of_no_sems (by decide) r.2⟩)
    (Cert.Reference4Ideal.Value.run (F := Ideal) m ρ)

/-- Arguments that agree on a device are one record. -/
theorem given_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ)
    (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) :
    given m' c = args m c := by
  unfold given
  rw [h0, h1, h2, h3, h4]
  rfl

/-- The kernel's four results are the reference's. -/
theorem algebraic : Cert.algebraic_Kernel4Ideal_Reference4Ideal := by
  intro m g m' g' _ h
  have e : ∀ c, given m' c = args m c := fun c => by
    obtain ⟨h0, h1, h2, h3, h4⟩ := h c
    exact given_eq m m' c h0 h1 h2 h3 h4
  refine ⟨fun c => (args m c).outG, fun c => (args m c).outD, fun c => (args m c).outM, fun c => (args m c).outV, values m g, ?_⟩
  refine (θ_run Cert.Reference4Ideal.defs _ _).mono (fun r hr c => ?_) (Cert.Reference4Ideal.Value.run (F := Ideal) m' g')
  obtain ⟨r0, r1, r2, r3, kept⟩ := hr c
  refine ⟨r0.trans (Eq.trans ?_ (congrArg Args.outG (e c))), r1.trans (Eq.trans ?_ (congrArg Args.outD (e c))), r2.trans (Eq.trans ?_ (congrArg Args.outM (e c))), r3.trans (Eq.trans ?_ (congrArg Args.outV (e c))), kept⟩
  · exact Cert.Reference4Ideal.Read.val_main_v3_eq (F := Ideal) _ _
  · exact Cert.Reference4Ideal.Read.val_main_v27_eq (F := Ideal) _ _ _ _ _
  · exact Cert.Reference4Ideal.Read.val_main_v8_eq (F := Ideal) _ _ _
  · exact Cert.Reference4Ideal.Read.val_main_v14_eq (F := Ideal) _ _ _

end Cert.Proof.AdamInClaims

end
-- ==== Proof.AdamOutRef.lean ====
/- What the reference of the optimiser step for the three output weights holds in each entry: the sum of the four
   chips' gradients, and the AdamW step of it. -/
module

public import proofs.«01_k».proof.Proof.AdamRow
public import proofs.«01_k».proof.Proof.Gen.Reference5Ideal.Read
public import Idealize.ShloMosaic.Lib.Pointwise

@[expose] public section

noncomputable section

namespace Cert.Reference5Ideal.Adam

open Cert.Reference5Ideal Cert.Reference5Ideal.Gen Cert.Reference5Ideal.Read Idealize.ShloMosaic
open Idealize.ShloMosaic.TcCoe Idealize.SL.Sem

/-- What the step takes for one weight: the four chips' gradients, the weight, and its two moments. -/
structure Args where
  p : Vec Ideal S4x128x1024 .bf16
  w : Vec Ideal S128x1024 .f32
  m : Vec Ideal S128x1024 .f32
  v : Vec Ideal S128x1024 .f32

/-- The four results of the first weight; the other two weights' are the same functions. -/
def Args.outG (a : Args) : Vec Ideal S128x1024 .f32 := val_main_v1 (F := Ideal) a.p
def Args.outD (a : Args) : Vec Ideal S128x1024 .f32 := val_main_v25 (F := Ideal) a.p a.w a.m a.v
def Args.outM (a : Args) : Vec Ideal S128x1024 .f32 := val_main_v6 (F := Ideal) a.p a.m
def Args.outV (a : Args) : Vec Ideal S128x1024 .f32 := val_main_v12 (F := Ideal) a.p a.v

section
variable (a : Args)

theorem Args.outG_2 : val_main_v27 (F := Ideal) a.p = a.outG := rfl
theorem Args.outD_2 : val_main_v51 (F := Ideal) a.p a.w a.m a.v = a.outD := rfl
theorem Args.outM_2 : val_main_v32 (F := Ideal) a.p a.m = a.outM := rfl
theorem Args.outV_2 : val_main_v38 (F := Ideal) a.p a.v = a.outV := rfl
theorem Args.outG_3 : val_main_v53 (F := Ideal) a.p = a.outG := rfl
theorem Args.outD_3 : val_main_v77 (F := Ideal) a.p a.w a.m a.v = a.outD := rfl
theorem Args.outM_3 : val_main_v58 (F := Ideal) a.p a.m = a.outM := rfl
theorem Args.outV_3 : val_main_v64 (F := Ideal) a.p a.v = a.outV := rfl
end

variable (a : Args) (r : Fin 128) (k : Fin 1024)

/-- The whole gradient of one entry. -/
def Args.grad : EReal := a.p (ix3 0 r k) + a.p (ix3 1 r k) + a.p (ix3 2 r k) + a.p (ix3 3 r k)

theorem chip (s : Fin 4) : idx_main_v1 (ix2 r k) s = ix3 s r k :=
  funext fun a => match a with
    | 0 => rfl
    | 1 => rfl
    | 2 => rfl

theorem Args.outG_at : a.outG (ix2 r k) = a.grad r k := by
  unfold Args.outG Args.grad
  rw [val_main_v1_apply, Fin.sum_univ_four]
  unfold val_main_v0 val_main_cst
  pointwise
  rw [chip, chip, chip, chip]

theorem Args.outM_at : a.outM (ix2 r k) = Cert.Adam.first (a.grad r k) (a.m (ix2 r k)) := by
  rw [← a.outG_at]
  unfold Args.outM Args.outG Cert.Adam.first val_main_v6 val_main_v5 val_main_v4 val_main_cst_1 val_main_v3 val_main_v2
    val_main_cst_0
  pointwise

theorem Args.outV_at : a.outV (ix2 r k) = Cert.Adam.second (a.grad r k) (a.v (ix2 r k)) := by
  rw [← a.outG_at]
  unfold Args.outV Args.outG Cert.Adam.second val_main_v12 val_main_v11 val_main_v10 val_main_cst_3 val_main_v9
    val_main_v8 val_main_v7 val_main_cst_2
  pointwise

theorem Args.outD_at : a.outD (ix2 r k) = Cert.Adam.delta (a.grad r k) (a.w (ix2 r k)) (a.m (ix2 r k)) (a.v (ix2 r k)) := by
  unfold Cert.Adam.delta
  rw [← a.outM_at, ← a.outV_at]
  unfold Args.outD Args.outM Args.outV Cert.Adam.change val_main_v25 val_main_v24 val_main_cst_8 val_main_v23
    val_main_v22 val_main_v21 val_main_cst_7 val_main_v20 val_main_v19 val_main_v18 val_main_cst_6 val_main_v17
    val_main_v16 val_main_v15 val_main_cst_5 val_main_v14 val_main_v13 val_main_cst_4
  pointwise

end Cert.Reference5Ideal.Adam

end
-- ==== Proof.AdamOutValue.lean ====
/- What the twelve results of the output weights' optimiser step hold after the run: the reference's arrays. One grid
   point does the three weights, one after another, each by the same computation. -/
module

public import proofs.«01_k».proof.Proof.AdamOutRef
public import proofs.«01_k».proof.Proof.Tokens
public import proofs.«01_k».proof.Proof.Gen.Kernel5Ideal.Value
public import Idealize.ShloMosaic.Lib.VecWindow
public import Idealize.ShloMosaic.Lib.Pointwise
public import Idealize.ShloMosaic.Lib.Pipeline.ValueKit.Geometry

@[expose] public section

noncomputable section

namespace Cert.Kernel5Ideal.Adam

open Cert.Kernel5Ideal Cert.Kernel5Ideal.Gen Idealize.ShloMosaic Idealize.ShloMosaic.TcCoe Idealize.SL.Sem
open Cert.Reference5Ideal.Adam (Args)
open Cert.Tokens (two)

/-! ## One weight -/

section
variable (a : Args) (r : Fin 128) (k : Fin 1024)

/-- What the kernel writes for one weight: the gradient, the moments and the weight's change. -/
def payG : Vec Ideal S128x1024 .f32 := k0_pay2 (View.ld a.p r0_0) (View.ld a.p r0_1) (View.ld a.p r0_2) (View.ld a.p r0_3)
def payM : Vec Ideal S128x1024 .f32 := k0_pay9 (payG a) a.m
def payV : Vec Ideal S128x1024 .f32 := k0_pay10 (payG a) a.v
def payD : Vec Ideal S128x1024 .f32 := k0_pay11 (payG a) a.w a.m a.v

/-- Each chip's gradient is one slab of the four. -/
theorem chip0 : View.ld a.p r0_0 (ix3 0 r k) = a.p (ix3 0 r k) :=
  congrArg a.p (funext fun a => Fin.ext (match a with
    | 0 => rfl
    | 1 => by show 0 + 1 * r.val = r.val; omega
    | 2 => by show 0 + 1 * k.val = k.val; omega))
theorem chip1 : View.ld a.p r0_1 (ix3 0 r k) = a.p (ix3 1 r k) :=
  congrArg a.p (funext fun a => Fin.ext (match a with
    | 0 => rfl
    | 1 => by show 0 + 1 * r.val = r.val; omega
    | 2 => by show 0 + 1 * k.val = k.val; omega))
theorem chip2 : View.ld a.p r0_2 (ix3 0 r k) = a.p (ix3 2 r k) :=
  congrArg a.p (funext fun a => Fin.ext (match a with
    | 0 => rfl
    | 1 => by show 0 + 1 * r.val = r.val; omega
    | 2 => by show 0 + 1 * k.val = k.val; omega))
theorem chip3 : View.ld a.p r0_3 (ix3 0 r k) = a.p (ix3 3 r k) :=
  congrArg a.p (funext fun a => Fin.ext (match a with
    | 0 => rfl
    | 1 => by show 0 + 1 * r.val = r.val; omega
    | 2 => by show 0 + 1 * k.val = k.val; omega))

theorem payG_at : payG a (ix2 r k) = a.grad r k := by
  unfold Args.grad
  rw [← chip0, ← chip1, ← chip2, ← chip3]
  unfold payG k0_pay2
  pointwise

theorem payM_at : payM a (ix2 r k) = Cert.Adam.first (a.grad r k) (a.m (ix2 r k)) := by
  rw [← payG_at]
  unfold payM Cert.Adam.first k0_pay9
  pointwise

theorem payV_at : payV a (ix2 r k) = Cert.Adam.second (a.grad r k) (a.v (ix2 r k)) := by
  rw [← payG_at]
  unfold payV Cert.Adam.second k0_pay10
  pointwise

theorem payD_at : payD a (ix2 r k) = Cert.Adam.delta (a.grad r k) (a.w (ix2 r k)) (a.m (ix2 r k)) (a.v (ix2 r k)) := by
  unfold Cert.Adam.delta
  rw [← payM_at, ← payV_at]
  unfold payD payM payV Cert.Adam.change k0_pay11
  pointwise
end

/-- Arrays with the same entries are one. -/
theorem same {x y : Vec Ideal S128x1024 .f32} (h : ∀ (r : Fin 128) (k : Fin 1024), x (ix2 r k) = y (ix2 r k)) : x = y :=
  funext fun i => by
    obtain ⟨r, k, rfl⟩ : ∃ (r : Fin 128) (k : Fin 1024), i = ix2 r k := two i
    exact h r k

theorem payG_eq (a : Args) : payG a = a.outG := same fun r k => (payG_at a r k).trans (a.outG_at r k).symm
theorem payM_eq (a : Args) : payM a = a.outM := same fun r k => (payM_at a r k).trans (a.outM_at r k).symm
theorem payV_eq (a : Args) : payV a = a.outV := same fun r k => (payV_at a r k).trans (a.outV_at r k).symm
theorem payD_eq (a : Args) : payD a = a.outD := same fun r k => (payD_at a r k).trans (a.outD_at r k).symm

/-! ## The three weights -/

theorem hz : (![0, 0] : Fin 2 → Nat) = fun _ => 0 := funext fun a => by fin_cases a <;> rfl

section
variable (x0 x1 x2 : Vec Ideal S4x128x1024 .bf16) (x3 x4 x5 x6 x7 x8 x9 x10 x11 : Vec Ideal S128x1024 .f32)

theorem out12 : out0_12 x0 x1 x2 x3 x4 x5 x6 x7 x8 x9 x10 x11 = Args.outG ⟨x0, x3, x6, x9⟩ := by
  rw [← payG_eq]
  unfold out0_12
  rw [View.canon_unit_zero hz]
  rfl

theorem out13 : out0_13 x0 x1 x2 x3 x4 x5 x6 x7 x8 x9 x10 x11 = Args.outD ⟨x0, x3, x6, x9⟩ := by
  rw [← payD_eq]
  unfold out0_13 k0_pay17
  rw [View.canon_unit_zero hz]
  simp only [View.ld_unit_zero (S := S128x1024) hz]
  rfl

theorem out14 : out0_14 x0 x1 x2 x3 x4 x5 x6 x7 x8 x9 x10 x11 = Args.outM ⟨x0, x3, x6, x9⟩ := by
  rw [← payM_eq]
  unfold out0_14
  rw [View.canon_unit_zero hz]
  simp only [View.ld_unit_zero (S := S128x1024) hz]
  rfl

theorem out15 : out0_15 x0 x1 x2 x3 x4 x5 x6 x7 x8 x9 x10 x11 = Args.outV ⟨x0, x3, x6, x9⟩ := by
  rw [← payV_eq]
  unfold out0_15 k0_pay17
  rw [View.canon_unit_zero hz]
  simp only [View.ld_unit_zero (S := S128x1024) hz]
  rfl

theorem out16 : out0_16 x0 x1 x2 x3 x4 x5 x6 x7 x8 x9 x10 x11 = Args.outG ⟨x1, x4, x7, x10⟩ := by
  rw [← payG_eq]
  unfold out0_16
  rw [View.canon_unit_zero hz]
  rfl

theorem out17 : out0_17 x0 x1 x2 x3 x4 x5 x6 x7 x8 x9 x10 x11 = Args.outD ⟨x1, x4, x7, x10⟩ := by
  rw [← payD_eq]
  unfold out0_17
  rw [View.canon_unit_zero hz]
  simp only [View.ld_unit_zero (S := S128x1024) hz]
  rfl

theorem out18 : out0_18 x0 x1 x2 x3 x4 x5 x6 x7 x8 x9 x10 x11 = Args.outM ⟨x1, x4, x7, x10⟩ := by
  rw [← payM_eq]
  unfold out0_18
  rw [View.canon_unit_zero hz]
  simp only [View.ld_unit_zero (S := S128x1024) hz]
  rfl

theorem out19 : out0_19 x0 x1 x2 x3 x4 x5 x6 x7 x8 x9 x10 x11 = Args.outV ⟨x1, x4, x7, x10⟩ := by
  rw [← payV_eq]
  unfold out0_19
  rw [View.canon_unit_zero hz]
  simp only [View.ld_unit_zero (S := S128x1024) hz]
  rfl

theorem out20 : out0_20 x0 x1 x2 x3 x4 x5 x6 x7 x8 x9 x10 x11 = Args.outG ⟨x2, x5, x8, x11⟩ := by
  rw [← payG_eq]
  unfold out0_20
  rw [View.canon_unit_zero hz]
  rfl

theorem out21 : out0_21 x0 x1 x2 x3 x4 x5 x6 x7 x8 x9 x10 x11 = Args.outD ⟨x2, x5, x8, x11⟩ := by
  rw [← payD_eq]
  unfold out0_21
  rw [View.canon_unit_zero hz]
  simp only [View.ld_unit_zero (S := S128x1024) hz]
  rfl

theorem out22 : out0_22 x0 x1 x2 x3 x4 x5 x6 x7 x8 x9 x10 x11 = Args.outM ⟨x2, x5, x8, x11⟩ := by
  rw [← payM_eq]
  unfold out0_22
  rw [View.canon_unit_zero hz]
  simp only [View.ld_unit_zero (S := S128x1024) hz]
  rfl

theorem out23 : out0_23 x0 x1 x2 x3 x4 x5 x6 x7 x8 x9 x10 x11 = Args.outV ⟨x2, x5, x8, x11⟩ := by
  rw [← payV_eq]
  unfold out0_23
  rw [View.canon_unit_zero hz]
  simp only [View.ld_unit_zero (S := S128x1024) hz]
  rfl

end

/-! ## The arrays -/

variable (m : (ℓ : Loc nD τ sig) → Buf (Elt Ideal) ℓ) (ρ : Dev nD → PrngReg) (c : Dev nD)

/-- What the launch finds for each weight. -/
def rnn : Args := ⟨m ((c : Thread nD τ).loc main_arg0), m ((c : Thread nD τ).loc main_arg3), m ((c : Thread nD τ).loc main_arg6), m ((c : Thread nD τ).loc main_arg9)⟩
def attn : Args := ⟨m ((c : Thread nD τ).loc main_arg1), m ((c : Thread nD τ).loc main_arg4), m ((c : Thread nD τ).loc main_arg7), m ((c : Thread nD τ).loc main_arg10)⟩
def o : Args := ⟨m ((c : Thread nD τ).loc main_arg2), m ((c : Thread nD τ).loc main_arg5), m ((c : Thread nD τ).loc main_arg8), m ((c : Thread nD τ).loc main_arg11)⟩

/-- The one point's block of an argument is the whole of it. -/
theorem blk0 (t : Fin cfg0.N) : iblk m c 0 t = m ((c : Thread nD τ).loc main_arg0) :=
  funext fun y => congrArg (V m c main_arg0) (funext fun a => Fin.ext (by
    show 0 * _ + 1 * (y a).val = (y a).val; omega))
theorem blk1 (t : Fin cfg0.N) : iblk m c 1 t = m ((c : Thread nD τ).loc main_arg1) :=
  funext fun y => congrArg (V m c main_arg1) (funext fun a => Fin.ext (by
    show 0 * _ + 1 * (y a).val = (y a).val; omega))
theorem blk2 (t : Fin cfg0.N) : iblk m c 2 t = m ((c : Thread nD τ).loc main_arg2) :=
  funext fun y => congrArg (V m c main_arg2) (funext fun a => Fin.ext (by
    show 0 * _ + 1 * (y a).val = (y a).val; omega))
theorem blk3 (t : Fin cfg0.N) : iblk m c 3 t = m ((c : Thread nD τ).loc main_arg3) :=
  funext fun y => congrArg (V m c main_arg3) (funext fun a => Fin.ext (by
    show 0 * _ + 1 * (y a).val = (y a).val; omega))
theorem blk4 (t : Fin cfg0.N) : iblk m c 4 t = m ((c : Thread nD τ).loc main_arg4) :=
  funext fun y => congrArg (V m c main_arg4) (funext fun a => Fin.ext (by
    show 0 * _ + 1 * (y a).val = (y a).val; omega))
theorem blk5 (t : Fin cfg0.N) : iblk m c 5 t = m ((c : Thread nD τ).loc main_arg5) :=
  funext fun y => congrArg (V m c main_arg5) (funext fun a => Fin.ext (by
    show 0 * _ + 1 * (y a).val = (y a).val; omega))
theorem blk6 (t : Fin cfg0.N) : iblk m c 6 t = m ((c : Thread nD τ).loc main_arg6) :=
  funext fun y => congrArg (V m c main_arg6) (funext fun a => Fin.ext (by
    show 0 * _ + 1 * (y a).val = (y a).val; omega))
theorem blk7 (t : Fin cfg0.N) : iblk m c 7 t = m ((c : Thread nD τ).loc main_arg7) :=
  funext fun y => congrArg (V m c main_arg7) (funext fun a => Fin.ext (by
    show 0 * _ + 1 * (y a).val = (y a).val; omega))
theorem blk8 (t : Fin cfg0.N) : iblk m c 8 t = m ((c : Thread nD τ).loc main_arg8) :=
  funext fun y => congrArg (V m c main_arg8) (funext fun a => Fin.ext (by
    show 0 * _ + 1 * (y a).val = (y a).val; omega))
theorem blk9 (t : Fin cfg0.N) : iblk m c 9 t = m ((c : Thread nD τ).loc main_arg9) :=
  funext fun y => congrArg (V m c main_arg9) (funext fun a => Fin.ext (by
    show 0 * _ + 1 * (y a).val = (y a).val; omega))
theorem blk10 (t : Fin cfg0.N) : iblk m c 10 t = m ((c : Thread nD τ).loc main_arg10) :=
  funext fun y => congrArg (V m c main_arg10) (funext fun a => Fin.ext (by
    show 0 * _ + 1 * (y a).val = (y a).val; omega))
theorem blk11 (t : Fin cfg0.N) : iblk m c 11 t = m ((c : Thread nD τ).loc main_arg11) :=
  funext fun y => congrArg (V m c main_arg11) (funext fun a => Fin.ext (by
    show 0 * _ + 1 * (y a).val = (y a).val; omega))

theorem array12 : (dats m 0 c).arrAt 12 cfg0.N = (rnn m c).outG := by
  refine (dats m 0 c).arrAt_eq_of_covers 12 _ (by decide +kernel) fun t _ y => ?_
  have e : ((cfg0.win 12).blk t).view.emb y = y := funext fun a => Fin.ext (by
    show 0 * _ + 1 * (y a).val = (y a).val; omega)
  show (dats m 0 c).after 12 t y = (rnn m c).outG (((cfg0.win 12).blk t).view.emb y)
  rw [e, after0_12, out12, blk0, blk3, blk6, blk9]
  rfl

theorem array13 : (dats m 0 c).arrAt 13 cfg0.N = (rnn m c).outD := by
  refine (dats m 0 c).arrAt_eq_of_covers 13 _ (by decide +kernel) fun t _ y => ?_
  have e : ((cfg0.win 13).blk t).view.emb y = y := funext fun a => Fin.ext (by
    show 0 * _ + 1 * (y a).val = (y a).val; omega)
  show (dats m 0 c).after 13 t y = (rnn m c).outD (((cfg0.win 13).blk t).view.emb y)
  rw [e, after0_13, out13, blk0, blk3, blk6, blk9]
  rfl

theorem array14 : (dats m 0 c).arrAt 14 cfg0.N = (rnn m c).outM := by
  refine (dats m 0 c).arrAt_eq_of_covers 14 _ (by decide +kernel) fun t _ y => ?_
  have e : ((cfg0.win 14).blk t).view.emb y = y := funext fun a => Fin.ext (by
    show 0 * _ + 1 * (y a).val = (y a).val; omega)
  show (dats m 0 c).after 14 t y = (rnn m c).outM (((cfg0.win 14).blk t).view.emb y)
  rw [e, after0_14, out14, blk0, blk3, blk6, blk9]
  rfl

theorem array15 : (dats m 0 c).arrAt 15 cfg0.N = (rnn m c).outV := by
  refine (dats m 0 c).arrAt_eq_of_covers 15 _ (by decide +kernel) fun t _ y => ?_
  have e : ((cfg0.win 15).blk t).view.emb y = y := funext fun a => Fin.ext (by
    show 0 * _ + 1 * (y a).val = (y a).val; omega)
  show (dats m 0 c).after 15 t y = (rnn m c).outV (((cfg0.win 15).blk t).view.emb y)
  rw [e, after0_15, out15, blk0, blk3, blk6, blk9]
  rfl

theorem array16 : (dats m 0 c).arrAt 16 cfg0.N = (attn m c).outG := by
  refine (dats m 0 c).arrAt_eq_of_covers 16 _ (by decide +kernel) fun t _ y => ?_
  have e : ((cfg0.win 16).blk t).view.emb y = y := funext fun a => Fin.ext (by
    show 0 * _ + 1 * (y a).val = (y a).val; omega)
  show (dats m 0 c).after 16 t y = (attn m c).outG (((cfg0.win 16).blk t).view.emb y)
  rw [e, after0_16, out16, blk1, blk4, blk7, blk10]
  rfl

theorem array17 : (dats m 0 c).arrAt 17 cfg0.N = (attn m c).outD := by
  refine (dats m 0 c).arrAt_eq_of_covers 17 _ (by decide +kernel) fun t _ y => ?_
  have e : ((cfg0.win 17).blk t).view.emb y = y := funext fun a => Fin.ext (by
    show 0 * _ + 1 * (y a).val = (y a).val; omega)
  show (dats m 0 c).after 17 t y = (attn m c).outD (((cfg0.win 17).blk t).view.emb y)
  rw [e, after0_17, out17, blk1, blk4, blk7, blk10]
  rfl

theorem array18 : (dats m 0 c).arrAt 18 cfg0.N = (attn m c).outM := by
  refine (dats m 0 c).arrAt_eq_of_covers 18 _ (by decide +kernel) fun t _ y => ?_
  have e : ((cfg0.win 18).blk t).view.emb y = y := funext fun a => Fin.ext (by
    show 0 * _ + 1 * (y a).val = (y a).val; omega)
  show (dats m 0 c).after 18 t y = (attn m c).outM (((cfg0.win 18).blk t).view.emb y)
  rw [e, after0_18, out18, blk1, blk4, blk7, blk10]
  rfl

theorem array19 : (dats m 0 c).arrAt 19 cfg0.N = (attn m c).outV := by
  refine (dats m 0 c).arrAt_eq_of_covers 19 _ (by decide +kernel) fun t _ y => ?_
  have e : ((cfg0.win 19).blk t).view.emb y = y := funext fun a => Fin.ext (by
    show 0 * _ + 1 * (y a).val = (y a).val; omega)
  show (dats m 0 c).after 19 t y = (attn m c).outV (((cfg0.win 19).blk t).view.emb y)
  rw [e, after0_19, out19, blk1, blk4, blk7, blk10]
  rfl

theorem array20 : (dats m 0 c).arrAt 20 cfg0.N = (o m c).outG := by
  refine (dats m 0 c).arrAt_eq_of_covers 20 _ (by decide +kernel) fun t _ y => ?_
  have e : ((cfg0.win 20).blk t).view.emb y = y := funext fun a => Fin.ext (by
    show 0 * _ + 1 * (y a).val = (y a).val; omega)
  show (dats m 0 c).after 20 t y = (o m c).outG (((cfg0.win 20).blk t).view.emb y)
  rw [e, after0_20, out20, blk2, blk5, blk8, blk11]
  rfl

theorem array21 : (dats m 0 c).arrAt 21 cfg0.N = (o m c).outD := by
  refine (dats m 0 c).arrAt_eq_of_covers 21 _ (by decide +kernel) fun t _ y => ?_
  have e : ((cfg0.win 21).blk t).view.emb y = y := funext fun a => Fin.ext (by
    show 0 * _ + 1 * (y a).val = (y a).val; omega)
  show (dats m 0 c).after 21 t y = (o m c).outD (((cfg0.win 21).blk t).view.emb y)
  rw [e, after0_21, out21, blk2, blk5, blk8, blk11]
  rfl

theorem array22 : (dats m 0 c).arrAt 22 cfg0.N = (o m c).outM := by
  refine (dats m 0 c).arrAt_eq_of_covers 22 _ (by decide +kernel) fun t _ y => ?_
  have e : ((cfg0.win 22).blk t).view.emb y = y := funext fun a => Fin.ext (by
    show 0 * _ + 1 * (y a).val = (y a).val; omega)
  show (dats m 0 c).after 22 t y = (o m c).outM (((cfg0.win 22).blk t).view.emb y)
  rw [e, after0_22, out22, blk2, blk5, blk8, blk11]
  rfl

theorem array23 : (dats m 0 c).arrAt 23 cfg0.N = (o m c).outV := by
  refine (dats m 0 c).arrAt_eq_of_covers 23 _ (by decide +kernel) fun t _ y => ?_
  have e : ((cfg0.win 23).blk t).view.emb y = y := funext fun a => Fin.ext (by
    show 0 * _ + 1 * (y a).val = (y a).val; omega)
  show (dats m 0 c).after 23 t y = (o m c).outV (((cfg0.win 23).blk t).view.emb y)
  rw [e, after0_23, out23, blk2, blk5, blk8, blk11]
  rfl

/-- Every run ends with the twelve results at the reference's arrays of the arguments, and the arguments as they were. -/
theorem values : θ_run defs (onTc (τ := τ) (main (F := Ideal))) ⟨m, fun _ => 0, ρ⟩ (fun r => ∀ c : Dev nD,
      r.2.mem ((c.tc : Thread nD τ).loc main_v0_0) = (rnn m c).outG ∧
      r.2.mem ((c.tc : Thread nD τ).loc main_v0_1) = (rnn m c).outD ∧
      r.2.mem ((c.tc : Thread nD τ).loc main_v0_2) = (rnn m c).outM ∧
      r.2.mem ((c.tc : Thread nD τ).loc main_v0_3) = (rnn m c).outV ∧
      r.2.mem ((c.tc : Thread nD τ).loc main_v0_4) = (attn m c).outG ∧
      r.2.mem ((c.tc : Thread nD τ).loc main_v0_5) = (attn m c).outD ∧
      r.2.mem ((c.tc : Thread nD τ).loc main_v0_6) = (attn m c).outM ∧
      r.2.mem ((c.tc : Thread nD τ).loc main_v0_7) = (attn m c).outV ∧
      r.2.mem ((c.tc : Thread nD τ).loc main_v0_8) = (o m c).outG ∧
      r.2.mem ((c.tc : Thread nD τ).loc main_v0_9) = (o m c).outD ∧
      r.2.mem ((c.tc : Thread nD τ).loc main_v0_10) = (o m c).outM ∧
      r.2.mem ((c.tc : Thread nD τ).loc main_v0_11) = (o m c).outV
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run defs _ _).mono (fun _ h c => ?_) (Value.run_blocks m ρ)
  obtain ⟨h12, h13, h14, h15, h16, h17, h18, h19, h20, h21, h22, h23, kept⟩ := h c
  exact ⟨h12.trans (array12 m c), h13.trans (array13 m c), h14.trans (array14 m c), h15.trans (array15 m c), h16.trans (array16 m c), h17.trans (array17 m c), h18.trans (array18 m c), h19.trans (array19 m c), h20.trans (array20 m c), h21.trans (array21 m c), h22.trans (array22 m c), h23.trans (array23 m c), kept⟩

end Cert.Kernel5Ideal.Adam

end
-- ==== Proof.AdamOutClaims.lean ====
/- The claims about the output weights' optimiser step: the reference ends with its counters at zero and its arguments
   untouched, and the kernel's twelve result arrays are the reference's, as functions of the twelve arguments. -/
module

public import proofs.«01_k».proof.Defs
public import proofs.«01_k».proof.Proof.Gen.Reference5Ideal
public import proofs.«01_k».proof.Proof.Gen.Reference5Ideal.Run
public import proofs.«01_k».proof.Proof.Gen.Reference5Ideal.Read
public import proofs.«01_k».proof.Proof.AdamOutValue

@[expose] public section

noncomputable section

open Idealize.ShloMosaic Idealize.SL.Sem

namespace Cert.Reference5Ideal.Adam

/-- What the reference finds on device `c` for one weight. -/
def givenRnn (m : (ℓ : Loc nD τ sig) → Buf (Elt Ideal) ℓ) (c : Dev nD) : Args :=
  ⟨m ((c.tc : Thread nD τ).loc main_arg0), m ((c.tc : Thread nD τ).loc main_arg3), m ((c.tc : Thread nD τ).loc main_arg6), m ((c.tc : Thread nD τ).loc main_arg9)⟩

/-- What the reference finds on device `c` for one weight. -/
def givenAttn (m : (ℓ : Loc nD τ sig) → Buf (Elt Ideal) ℓ) (c : Dev nD) : Args :=
  ⟨m ((c.tc : Thread nD τ).loc main_arg1), m ((c.tc : Thread nD τ).loc main_arg4), m ((c.tc : Thread nD τ).loc main_arg7), m ((c.tc : Thread nD τ).loc main_arg10)⟩

/-- What the reference finds on device `c` for one weight. -/
def givenO (m : (ℓ : Loc nD τ sig) → Buf (Elt Ideal) ℓ) (c : Dev nD) : Args :=
  ⟨m ((c.tc : Thread nD τ).loc main_arg2), m ((c.tc : Thread nD τ).loc main_arg5), m ((c.tc : Thread nD τ).loc main_arg8), m ((c.tc : Thread nD τ).loc main_arg11)⟩

end Cert.Reference5Ideal.Adam

namespace Cert.Proof.AdamOutClaims

open Cert.Kernel5Ideal.Adam Cert.Reference5Ideal.Adam

/-- The reference touches none of its arguments, and it has no counter to leave raised. -/
theorem frame_reference : Cert.quiescent_Reference5Ideal := fun m ρ _ =>
  (θ_run Cert.Reference5Ideal.defs _ _).mono
    (fun r h => ⟨fun c => (h c).2.2.2.2.2.2.2.2.2.2.2.2, sem_eq_zero_of_no_sems (by decide) r.2⟩)
    (Cert.Reference5Ideal.Value.run (F := Ideal) m ρ)

/-- Arguments that agree on a device are one record. -/
theorem givenRnn_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ)
    (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3))
    (h6 : m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6))
    (h9 : m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) :
    givenRnn m' c = rnn m c := by
  unfold givenRnn
  rw [h0, h3, h6, h9]
  rfl

/-- Arguments that agree on a device are one record. -/
theorem givenAttn_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ)
    (c : Dev Cert.Kernel5Ideal.nD)
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h4 : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4))
    (h7 : m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7))
    (h10 : m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) :
    givenAttn m' c = attn m c := by
  unfold givenAttn
  rw [h1, h4, h7, h10]
  rfl

/-- Arguments that agree on a device are one record. -/
theorem givenO_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ)
    (c : Dev Cert.Kernel5Ideal.nD)
    (h2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (h5 : m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5))
    (h8 : m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8))
    (h11 : m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) :
    givenO m' c = o m c := by
  unfold givenO
  rw [h2, h5, h8, h11]
  rfl

/-- The kernel's twelve results are the reference's. -/
theorem algebraic : Cert.algebraic_Kernel5Ideal_Reference5Ideal := by
  intro m g m' g' _ h
  have eRnn : ∀ c, givenRnn m' c = rnn m c := fun c => by
    obtain ⟨h0, h1, h2, h3, h4, h5, h6, h7, h8, h9, h10, h11⟩ := h c
    exact givenRnn_eq m m' c h0 h3 h6 h9
  have eAttn : ∀ c, givenAttn m' c = attn m c := fun c => by
    obtain ⟨h0, h1, h2, h3, h4, h5, h6, h7, h8, h9, h10, h11⟩ := h c
    exact givenAttn_eq m m' c h1 h4 h7 h10
  have eO : ∀ c, givenO m' c = o m c := fun c => by
    obtain ⟨h0, h1, h2, h3, h4, h5, h6, h7, h8, h9, h10, h11⟩ := h c
    exact givenO_eq m m' c h2 h5 h8 h11
  refine ⟨fun c => (rnn m c).outG, fun c => (rnn m c).outD, fun c => (rnn m c).outM, fun c => (rnn m c).outV, fun c => (attn m c).outG, fun c => (attn m c).outD, fun c => (attn m c).outM, fun c => (attn m c).outV, fun c => (o m c).outG, fun c => (o m c).outD, fun c => (o m c).outM, fun c => (o m c).outV, values m g, ?_⟩
  refine (θ_run Cert.Reference5Ideal.defs _ _).mono (fun r hr c => ?_) (Cert.Reference5Ideal.Value.run (F := Ideal) m' g')
  obtain ⟨r0, r1, r2, r3, r4, r5, r6, r7, r8, r9, r10, r11, kept⟩ := hr c
  refine ⟨r0.trans (Eq.trans ?_ (congrArg Args.outG (eRnn c))), r1.trans (Eq.trans ?_ (congrArg Args.outD (eRnn c))), r2.trans (Eq.trans ?_ (congrArg Args.outM (eRnn c))), r3.trans (Eq.trans ?_ (congrArg Args.outV (eRnn c))), r4.trans (Eq.trans ?_ (congrArg Args.outG (eAttn c))), r5.trans (Eq.trans ?_ (congrArg Args.outD (eAttn c))), r6.trans (Eq.trans ?_ (congrArg Args.outM (eAttn c))), r7.trans (Eq.trans ?_ (congrArg Args.outV (eAttn c))), r8.trans (Eq.trans ?_ (congrArg Args.outG (eO c))), r9.trans (Eq.trans ?_ (congrArg Args.outD (eO c))), r10.trans (Eq.trans ?_ (congrArg Args.outM (eO c))), r11.trans (Eq.trans ?_ (congrArg Args.outV (eO c))), kept⟩
  · exact Cert.Reference5Ideal.Read.val_main_v1_eq (F := Ideal) _
  · exact Cert.Reference5Ideal.Read.val_main_v25_eq (F := Ideal) _ _ _ _
  · exact Cert.Reference5Ideal.Read.val_main_v6_eq (F := Ideal) _ _
  · exact Cert.Reference5Ideal.Read.val_main_v12_eq (F := Ideal) _ _
  · exact Cert.Reference5Ideal.Read.val_main_v27_eq (F := Ideal) _
  · exact Cert.Reference5Ideal.Read.val_main_v51_eq (F := Ideal) _ _ _ _
  · exact Cert.Reference5Ideal.Read.val_main_v32_eq (F := Ideal) _ _
  · exact Cert.Reference5Ideal.Read.val_main_v38_eq (F := Ideal) _ _
  · exact Cert.Reference5Ideal.Read.val_main_v53_eq (F := Ideal) _
  · exact Cert.Reference5Ideal.Read.val_main_v77_eq (F := Ideal) _ _ _ _
  · exact Cert.Reference5Ideal.Read.val_main_v58_eq (F := Ideal) _ _
  · exact Cert.Reference5Ideal.Read.val_main_v64_eq (F := Ideal) _ _

end Cert.Proof.AdamOutClaims

end
-- ==== Proof.SmallBody.lean ====
/- What one run of the small weights' optimiser step leaves in its buffers. The call has no grid: it loads every
   array whole or by rows and blocks, and stores each result once, the two block-diagonal weights' results in
   eight slabs. Every weight's results are the same functions of its gradient, its moments and itself. -/
module

public import proofs.«01_k».proof.Proof.Gen.Kernel7Ideal.Launch
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic

@[expose] public section

set_option maxRecDepth 16384

noncomputable section

namespace Cert.Kernel7Ideal.Small

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles -/

/-- Columns `128 k … 128 k + 127` of a block-diagonal weight's summed gradient. -/
abbrev colR (k : Fin 8) : Rect S128x1024 :=
  Rect.unit (s := S128x1024) ![0, 128 * k.val] S128x128.size (by revert k; decide)
/-- Slab `k` of a block-diagonal weight. -/
abbrev slabR (k : Fin 8) : Rect S8x128x128 :=
  Rect.unit (s := S8x128x128) ![k.val, 0, 0] S1x128x128.size (by revert k; decide)
/-- Row `k` of the summed rows. -/
abbrev rowR (k : Fin 32) : Rect S64x1024 :=
  Rect.unit (s := S64x1024) ![k.val, 0] S1x1024.size (by revert k; decide)

/-! ## The results -/

/-- Eight slabs as one array. -/
def slabs (p : Fin 8 → Vec F S1x128x128 .f32) : Vec F S8x128x128 .f32 :=
  View.canon [⟨slabR 7, p 7⟩, ⟨slabR 6, p 6⟩, ⟨slabR 5, p 5⟩, ⟨slabR 4, p 4⟩, ⟨slabR 3, p 3⟩, ⟨slabR 2, p 2⟩,
    ⟨slabR 1, p 1⟩, ⟨slabR 0, p 0⟩]

/-- A block-diagonal weight's gradient, change and moments. -/
def slabG (g : Vec F S128x1024 .f32) : Vec F S8x128x128 .f32 := slabs fun k => k0_pay5 (View.ld g (colR k))
def slabD (g : Vec F S128x1024 .f32) (w m v : Vec F S8x128x128 .f32) : Vec F S8x128x128 .f32 :=
  slabs fun k => k0_pay6 (k0_pay4 (View.ld g (colR k)) (View.ld w (slabR k)) (View.ld m (slabR k)) (View.ld v (slabR k)))
def slabM (g : Vec F S128x1024 .f32) (m : Vec F S8x128x128 .f32) : Vec F S8x128x128 .f32 :=
  slabs fun k => k0_pay7 (k0_pay2 (View.ld g (colR k)) (View.ld m (slabR k)))
def slabV (g : Vec F S128x1024 .f32) (v : Vec F S8x128x128 .f32) : Vec F S8x128x128 .f32 :=
  slabs fun k => k0_pay8 (k0_pay3 (View.ld g (colR k)) (View.ld v (slabR k)))

/-- An array of two axes loaded whole. -/
abbrev all {n k : ℕ} (x : Vec F ⟨2, ![n, k]⟩ .f32) : Vec F ⟨2, ![n, k]⟩ .f32 :=
  View.ld x (Rect.unit (s := ⟨2, ![n, k]⟩) ![0, 0] ![n, k] (fun a => match a with | 0 => (Nat.zero_add n).le | 1 => (Nat.zero_add k).le))

/-- A row weight's gradient, change and moments. -/
def row (s : Vec F S64x1024 .f32) (k : Fin 32) : Vec F S1x1024 .f32 := View.ld s (rowR k)
def rowD (g w m v : Vec F S1x1024 .f32) : Vec F S1x1024 .f32 := k0_pay131 g (all w) (all m) (all v)
def rowM (g m : Vec F S1x1024 .f32) : Vec F S1x1024 .f32 := k0_pay129 g (all m)
def rowV (g v : Vec F S1x1024 .f32) : Vec F S1x1024 .f32 := k0_pay130 g (all v)

/-- The attention sinks' gradient, change and moments. -/
def sinksG (s : Vec F S64x1024 .f32) : Vec F S1x16 .f32 :=
  View.ld s (Rect.unit (s := S64x1024) ![24, 0] S1x16.size (by decide))
def sinksD (g w m v : Vec F S1x16 .f32) : Vec F S1x16 .f32 := k0_pay149 g (all w) (all m) (all v)
def sinksM (g m : Vec F S1x16 .f32) : Vec F S1x16 .f32 := k0_pay147 g (all m)
def sinksV (g v : Vec F S1x16 .f32) : Vec F S1x16 .f32 := k0_pay148 g (all v)

/-- The convolution's gradient, change and moments. -/
def convG (s : Vec F S8x128 .f32) : Vec F S4x128 .f32 :=
  View.ld s (Rect.unit (s := S8x128) ![0, 0] S4x128.size (by decide))
def convD (g w m v : Vec F S4x128 .f32) : Vec F S4x128 .f32 := k0_pay152 g (all w) (all m) (all v)
def convM (g m : Vec F S4x128 .f32) : Vec F S4x128 .f32 := k0_pay150 g (all m)
def convV (g v : Vec F S4x128 .f32) : Vec F S4x128 .f32 := k0_pay151 g (all v)

/-- The loss. -/
def lossOf (s : Vec F S64x1024 .f32) : Vec F S8x128 .f32 :=
  k0_pay1 (View.ld s (Rect.unit (s := S64x1024) ![32, 0] S8x128.size (by decide)))

/-! ## A buffer after its stores -/

/-- A buffer owned at contents, or at some contents. -/
abbrev Own (c : Dev nD) {S : Shape} (a : Memref sig .tc .vmem S .f32) (x : Vec F S .f32) : sProp 𝕄 :=
  owns (c : Thread nD τ) a fullShare x
abbrev Any (c : Dev nD) {S : Shape} (a : Memref sig .tc .vmem S .f32) : sProp 𝕄 :=
  iprop(∃ d, owns (c : Thread nD τ) a fullShare d)

/-- A buffer untouched is left at what it reads. -/
theorem left_as (c : Dev nD) {S : Shape} {e : EltTy} {M : Memref sig .tc .vmem S e} {f} :
    iprop(M.view.loc (c : Thread nD τ) ↦[M.view.set]{fullShare} f)
      ⊢ (iprop(∃ g, ⌜M.view.read (Elt F) g = M.view.read (Elt F) f⌝
        ∗ M.view.loc (c : Thread nD τ) ↦[M.view.set]{fullShare} g) : sProp 𝕄) := by
  iintro H
  iexists f
  isplitr
  swap; · iexact H
  ipureintro; rfl

theorem zero2 : (![0, 0] : Fin 2 → ℕ) = fun _ => 0 := by decide

/-- One store over the whole buffer leaves its payload. -/
theorem stored_whole {S : Shape} (M : Memref sig .tc .vmem S .f32) (f) {off : Fin S.rank → ℕ}
    (hz : off = fun _ => 0) (inb : ∀ a, off a + S.size a ≤ S.size a) (p : Vec F S .f32) :
    M.view.read (Elt F) (M.view.writes (Elt F) f [⟨Rect.unit off S.size inb, p⟩]) = p :=
  (View.read_writes_eq_canon _ _ _ (by
    subst hz
    exact fun y => ⟨_, List.mem_singleton_self _, (Finset.ext_iff.mp (Rect.set_whole S) y).mpr (Finset.mem_univ y)⟩)).trans (View.canon_unit_zero hz inb p)

/-- Eight stores, one per slab, leave the eight slabs. -/
theorem stored_slabs (M : Memref sig .tc .vmem S8x128x128 .f32) (f) (p7 p6 p5 p4 p3 p2 p1 p0 : Vec F S1x128x128 .f32) :
    M.view.read (Elt F) (M.view.writes (Elt F) f [⟨slabR 7, p7⟩, ⟨slabR 6, p6⟩, ⟨slabR 5, p5⟩, ⟨slabR 4, p4⟩,
      ⟨slabR 3, p3⟩, ⟨slabR 2, p2⟩, ⟨slabR 1, p1⟩, ⟨slabR 0, p0⟩])
      = slabs ![p0, p1, p2, p3, p4, p5, p6, p7] :=
  View.read_writes_eq_canon _ _ _ (View.cover_of_tiled [⟨slabR 7, p7⟩, ⟨slabR 6, p6⟩, ⟨slabR 5, p5⟩, ⟨slabR 4, p4⟩,
    ⟨slabR 3, p3⟩, ⟨slabR 2, p2⟩, ⟨slabR 1, p1⟩, ⟨slabR 0, p0⟩] S1x128x128.size (by rfl))

/-! ## The body -/

set_option maxHeartbeats 4000000 in
/-- The body, from its arguments' buffers holding `x…` and its results' holding anything. -/
theorem body (c : Dev nD)
    (a0 a1 : Memref sig .tc .vmem S128x1024 .f32)
    (a2 : Memref sig .tc .vmem S64x1024 .f32)
    (a3 : Memref sig .tc .vmem S8x128 .f32)
    (a4 a5 a6 a7 a8 a9 : Memref sig .tc .vmem S8x128x128 .f32)
    (a10 a11 a12 a13 a14 a15 a16 a17 a18 a19 a20 a21 a22 a23 a24 a25 a26 a27 : Memref sig .tc .vmem S1x1024 .f32)
    (a28 a29 a30 : Memref sig .tc .vmem S1x16 .f32)
    (a31 a32 a33 : Memref sig .tc .vmem S4x128 .f32)
    (a34 a35 a36 a37 a38 a39 a40 a41 : Memref sig .tc .vmem S8x128x128 .f32)
    (a42 a43 a44 a45 a46 a47 a48 a49 a50 a51 a52 a53 a54 a55 a56 a57 a58 a59 a60 a61 a62 a63 a64 a65 : Memref sig .tc .vmem S1x1024 .f32)
    (a66 a67 a68 a69 : Memref sig .tc .vmem S1x16 .f32)
    (a70 a71 a72 a73 : Memref sig .tc .vmem S4x128 .f32)
    (a74 : Memref sig .tc .vmem S8x128 .f32)
    (h0 : a0.IsWhole) (h1 : a1.IsWhole) (h2 : a2.IsWhole) (h3 : a3.IsWhole) (h4 : a4.IsWhole)
    (h5 : a5.IsWhole) (h6 : a6.IsWhole) (h7 : a7.IsWhole) (h8 : a8.IsWhole) (h9 : a9.IsWhole)
    (h10 : a10.IsWhole) (h11 : a11.IsWhole) (h12 : a12.IsWhole) (h13 : a13.IsWhole) (h14 : a14.IsWhole)
    (h15 : a15.IsWhole) (h16 : a16.IsWhole) (h17 : a17.IsWhole) (h18 : a18.IsWhole) (h19 : a19.IsWhole)
    (h20 : a20.IsWhole) (h21 : a21.IsWhole) (h22 : a22.IsWhole) (h23 : a23.IsWhole) (h24 : a24.IsWhole)
    (h25 : a25.IsWhole) (h26 : a26.IsWhole) (h27 : a27.IsWhole) (h28 : a28.IsWhole) (h29 : a29.IsWhole)
    (h30 : a30.IsWhole) (h31 : a31.IsWhole) (h32 : a32.IsWhole) (h33 : a33.IsWhole) (h34 : a34.IsWhole)
    (h35 : a35.IsWhole) (h36 : a36.IsWhole) (h37 : a37.IsWhole) (h38 : a38.IsWhole) (h39 : a39.IsWhole)
    (h40 : a40.IsWhole) (h41 : a41.IsWhole) (h42 : a42.IsWhole) (h43 : a43.IsWhole) (h44 : a44.IsWhole)
    (h45 : a45.IsWhole) (h46 : a46.IsWhole) (h47 : a47.IsWhole) (h48 : a48.IsWhole) (h49 : a49.IsWhole)
    (h50 : a50.IsWhole) (h51 : a51.IsWhole) (h52 : a52.IsWhole) (h53 : a53.IsWhole) (h54 : a54.IsWhole)
    (h55 : a55.IsWhole) (h56 : a56.IsWhole) (h57 : a57.IsWhole) (h58 : a58.IsWhole) (h59 : a59.IsWhole)
    (h60 : a60.IsWhole) (h61 : a61.IsWhole) (h62 : a62.IsWhole) (h63 : a63.IsWhole) (h64 : a64.IsWhole)
    (h65 : a65.IsWhole) (h66 : a66.IsWhole) (h67 : a67.IsWhole) (h68 : a68.IsWhole) (h69 : a69.IsWhole)
    (h70 : a70.IsWhole) (h71 : a71.IsWhole) (h72 : a72.IsWhole) (h73 : a73.IsWhole) (h74 : a74.IsWhole)
    (x0 x1 : Vec F S128x1024 .f32)
    (x2 : Vec F S64x1024 .f32)
    (x3 : Vec F S8x128 .f32)
    (x4 x5 x6 x7 x8 x9 : Vec F S8x128x128 .f32)
    (x10 x11 x12 x13 x14 x15 x16 x17 x18 x19 x20 x21 x22 x23 x24 x25 x26 x27 : Vec F S1x1024 .f32)
    (x28 x29 x30 : Vec F S1x16 .f32)
    (x31 x32 x33 : Vec F S4x128 .f32)
    (K : PUnit → sProp 𝕄) :
    iprop(iprop(Own c a0 x0 ∗ Own c a1 x1 ∗ Own c a2 x2 ∗ Own c a3 x3 ∗ Own c a4 x4 ∗ Own c a5 x5
      ∗ Own c a6 x6 ∗ Own c a7 x7 ∗ Own c a8 x8 ∗ Own c a9 x9 ∗ Own c a10 x10 ∗ Own c a11 x11
      ∗ Own c a12 x12 ∗ Own c a13 x13 ∗ Own c a14 x14 ∗ Own c a15 x15 ∗ Own c a16 x16 ∗ Own c a17 x17
      ∗ Own c a18 x18 ∗ Own c a19 x19 ∗ Own c a20 x20 ∗ Own c a21 x21 ∗ Own c a22 x22 ∗ Own c a23 x23
      ∗ Own c a24 x24 ∗ Own c a25 x25 ∗ Own c a26 x26 ∗ Own c a27 x27 ∗ Own c a28 x28 ∗ Own c a29 x29
      ∗ Own c a30 x30 ∗ Own c a31 x31 ∗ Own c a32 x32 ∗ Own c a33 x33
      ∗ Any c a34 ∗ Any c a35 ∗ Any c a36 ∗ Any c a37 ∗ Any c a38 ∗ Any c a39 ∗ Any c a40 ∗ Any c a41
      ∗ Any c a42 ∗ Any c a43 ∗ Any c a44 ∗ Any c a45 ∗ Any c a46 ∗ Any c a47 ∗ Any c a48 ∗ Any c a49
      ∗ Any c a50 ∗ Any c a51 ∗ Any c a52 ∗ Any c a53 ∗ Any c a54 ∗ Any c a55 ∗ Any c a56 ∗ Any c a57
      ∗ Any c a58 ∗ Any c a59 ∗ Any c a60 ∗ Any c a61 ∗ Any c a62 ∗ Any c a63 ∗ Any c a64 ∗ Any c a65
      ∗ Any c a66 ∗ Any c a67 ∗ Any c a68 ∗ Any c a69 ∗ Any c a70 ∗ Any c a71 ∗ Any c a72 ∗ Any c a73
      ∗ Any c a74)
      ∗ (iprop(Own c a0 x0 ∗ Own c a1 x1 ∗ Own c a2 x2 ∗ Own c a3 x3 ∗ Own c a4 x4 ∗ Own c a5 x5
        ∗ Own c a6 x6 ∗ Own c a7 x7 ∗ Own c a8 x8 ∗ Own c a9 x9 ∗ Own c a10 x10 ∗ Own c a11 x11
        ∗ Own c a12 x12 ∗ Own c a13 x13 ∗ Own c a14 x14 ∗ Own c a15 x15 ∗ Own c a16 x16 ∗ Own c a17 x17
        ∗ Own c a18 x18 ∗ Own c a19 x19 ∗ Own c a20 x20 ∗ Own c a21 x21 ∗ Own c a22 x22 ∗ Own c a23 x23
        ∗ Own c a24 x24 ∗ Own c a25 x25 ∗ Own c a26 x26 ∗ Own c a27 x27 ∗ Own c a28 x28 ∗ Own c a29 x29
        ∗ Own c a30 x30 ∗ Own c a31 x31 ∗ Own c a32 x32 ∗ Own c a33 x33
        ∗ Own c a34 (slabG x0) ∗ Own c a35 (slabD x0 x4 x5 x6)
        ∗ Own c a36 (slabM x0 x5) ∗ Own c a37 (slabV x0 x6)
        ∗ Own c a38 (slabG x1) ∗ Own c a39 (slabD x1 x7 x8 x9)
        ∗ Own c a40 (slabM x1 x8) ∗ Own c a41 (slabV x1 x9)
        ∗ Own c a42 (row x2 0) ∗ Own c a43 (rowD (row x2 0) x10 x11 x12)
        ∗ Own c a44 (rowM (row x2 0) x11) ∗ Own c a45 (rowV (row x2 0) x12)
        ∗ Own c a46 (row x2 1) ∗ Own c a47 (rowD (row x2 1) x13 x14 x15)
        ∗ Own c a48 (rowM (row x2 1) x14) ∗ Own c a49 (rowV (row x2 1) x15)
        ∗ Own c a50 (row x2 2) ∗ Own c a51 (rowD (row x2 2) x16 x17 x18)
        ∗ Own c a52 (rowM (row x2 2) x17) ∗ Own c a53 (rowV (row x2 2) x18)
        ∗ Own c a54 (row x2 3) ∗ Own c a55 (rowD (row x2 3) x19 x20 x21)
        ∗ Own c a56 (rowM (row x2 3) x20) ∗ Own c a57 (rowV (row x2 3) x21)
        ∗ Own c a58 (row x2 8) ∗ Own c a59 (rowD (row x2 8) x22 x23 x24)
        ∗ Own c a60 (rowM (row x2 8) x23) ∗ Own c a61 (rowV (row x2 8) x24)
        ∗ Own c a62 (row x2 16) ∗ Own c a63 (rowD (row x2 16) x25 x26 x27)
        ∗ Own c a64 (rowM (row x2 16) x26) ∗ Own c a65 (rowV (row x2 16) x27)
        ∗ Own c a66 (sinksG x2) ∗ Own c a67 (sinksD (sinksG x2) x28 x29 x30)
        ∗ Own c a68 (sinksM (sinksG x2) x29) ∗ Own c a69 (sinksV (sinksG x2) x30)
        ∗ Own c a70 (convG x3) ∗ Own c a71 (convD (convG x3) x31 x32 x33)
        ∗ Own c a72 (convM (convG x3) x32) ∗ Own c a73 (convV (convG x3) x33)
        ∗ Own c a74 (lossOf x2)) -∗ K ⟨⟩))
      ⊢ wp frame (wpE (defs₀ (F := F)) Variants.none c none) Set.univ
        (cc0_small_adamw a0 h0 a1 h1 a2 h2 a3 h3 a4 h4 a5 h5 a6 h6 a7 h7 a8 h8 a9 h9
        a10 h10 a11 h11 a12 h12 a13 h13 a14 h14 a15 h15 a16 h16 a17 h17 a18 h18 a19 h19
        a20 h20 a21 h21 a22 h22 a23 h23 a24 h24 a25 h25 a26 h26 a27 h27 a28 h28 a29 h29
        a30 h30 a31 h31 a32 h32 a33 h33 a34 h34 a35 h35 a36 h36 a37 h37 a38 h38 a39 h39
        a40 h40 a41 h41 a42 h42 a43 h43 a44 h44 a45 h45 a46 h46 a47 h47 a48 h48 a49 h49
        a50 h50 a51 h51 a52 h52 a53 h53 a54 h54 a55 h55 a56 h56 a57 h57 a58 h58 a59 h59
        a60 h60 a61 h61 a62 h62 a63 h63 a64 h64 a65 h65 a66 h66 a67 h67 a68 h68 a69 h69
        a70 h70 a71 h71 a72 h72 a73 h73 a74 h74) K := by
  simp only [cc0_small_adamw_eq_skeleton]; unfold cc0_small_adamw_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton,
    k0_part14_eq_skeleton, k0_part15_eq_skeleton, k0_part16_eq_skeleton, k0_part17_eq_skeleton,
    k0_part18_eq_skeleton, k0_part19_eq_skeleton, k0_part20_eq_skeleton, k0_part21_eq_skeleton,
    k0_part22_eq_skeleton, k0_part23_eq_skeleton, k0_part24_eq_skeleton, k0_part25_eq_skeleton,
    k0_part26_eq_skeleton, k0_part27_eq_skeleton, k0_part28_eq_skeleton, k0_part29_eq_skeleton]
  unfold Own Any owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6,
    %e6, H6⟩, ⟨%f7, %e7, H7⟩, ⟨%f8, %e8, H8⟩, ⟨%f9, %e9, H9⟩, ⟨%f10, %e10, H10⟩, ⟨%f11, %e11, H11⟩, ⟨%f12, %e12,
    H12⟩, ⟨%f13, %e13, H13⟩, ⟨%f14, %e14, H14⟩, ⟨%f15, %e15, H15⟩, ⟨%f16, %e16, H16⟩, ⟨%f17, %e17, H17⟩, ⟨%f18,
    %e18, H18⟩, ⟨%f19, %e19, H19⟩, ⟨%f20, %e20, H20⟩, ⟨%f21, %e21, H21⟩, ⟨%f22, %e22, H22⟩, ⟨%f23, %e23, H23⟩,
    ⟨%f24, %e24, H24⟩, ⟨%f25, %e25, H25⟩, ⟨%f26, %e26, H26⟩, ⟨%f27, %e27, H27⟩, ⟨%f28, %e28, H28⟩, ⟨%f29, %e29,
    H29⟩, ⟨%f30, %e30, H30⟩, ⟨%f31, %e31, H31⟩, ⟨%f32, %e32, H32⟩, ⟨%f33, %e33, H33⟩, ⟨%d34, %f34, %_, H34⟩, ⟨%d35,
    %f35, %_, H35⟩, ⟨%d36, %f36, %_, H36⟩, ⟨%d37, %f37, %_, H37⟩, ⟨%d38, %f38, %_, H38⟩, ⟨%d39, %f39, %_, H39⟩,
    ⟨%d40, %f40, %_, H40⟩, ⟨%d41, %f41, %_, H41⟩, ⟨%d42, %f42, %_, H42⟩, ⟨%d43, %f43, %_, H43⟩, ⟨%d44, %f44, %_,
    H44⟩, ⟨%d45, %f45, %_, H45⟩, ⟨%d46, %f46, %_, H46⟩, ⟨%d47, %f47, %_, H47⟩, ⟨%d48, %f48, %_, H48⟩, ⟨%d49, %f49,
    %_, H49⟩, ⟨%d50, %f50, %_, H50⟩, ⟨%d51, %f51, %_, H51⟩, ⟨%d52, %f52, %_, H52⟩, ⟨%d53, %f53, %_, H53⟩, ⟨%d54,
    %f54, %_, H54⟩, ⟨%d55, %f55, %_, H55⟩, ⟨%d56, %f56, %_, H56⟩, ⟨%d57, %f57, %_, H57⟩, ⟨%d58, %f58, %_, H58⟩,
    ⟨%d59, %f59, %_, H59⟩, ⟨%d60, %f60, %_, H60⟩, ⟨%d61, %f61, %_, H61⟩, ⟨%d62, %f62, %_, H62⟩, ⟨%d63, %f63, %_,
    H63⟩, ⟨%d64, %f64, %_, H64⟩, ⟨%d65, %f65, %_, H65⟩, ⟨%d66, %f66, %_, H66⟩, ⟨%d67, %f67, %_, H67⟩, ⟨%d68, %f68,
    %_, H68⟩, ⟨%d69, %f69, %_, H69⟩, ⟨%d70, %f70, %_, H70⟩, ⟨%d71, %f71, %_, H71⟩, ⟨%d72, %f72, %_, H72⟩, ⟨%d73,
    %f73, %_, H73⟩, ⟨%d74, %f74, %_, H74⟩⟩, Hk⟩
  subst e0 e1 e2 e3 e4 e5 e6 e7 e8 e9 e10 e11 e12 e13 e14 e15 e16 e17 e18 e19 e20 e21 e22 e23 e24 e25 e26 e27 e28
    e29 e30 e31 e32 e33
  sl_exec
  sl_step
  iapply Hk
  isplitl [H0]; · iapply (left_as c); iexact H0
  isplitl [H1]; · iapply (left_as c); iexact H1
  isplitl [H2]; · iapply (left_as c); iexact H2
  isplitl [H3]; · iapply (left_as c); iexact H3
  isplitl [H4]; · iapply (left_as c); iexact H4
  isplitl [H5]; · iapply (left_as c); iexact H5
  isplitl [H6]; · iapply (left_as c); iexact H6
  isplitl [H7]; · iapply (left_as c); iexact H7
  isplitl [H8]; · iapply (left_as c); iexact H8
  isplitl [H9]; · iapply (left_as c); iexact H9
  isplitl [H10]; · iapply (left_as c); iexact H10
  isplitl [H11]; · iapply (left_as c); iexact H11
  isplitl [H12]; · iapply (left_as c); iexact H12
  isplitl [H13]; · iapply (left_as c); iexact H13
  isplitl [H14]; · iapply (left_as c); iexact H14
  isplitl [H15]; · iapply (left_as c); iexact H15
  isplitl [H16]; · iapply (left_as c); iexact H16
  isplitl [H17]; · iapply (left_as c); iexact H17
  isplitl [H18]; · iapply (left_as c); iexact H18
  isplitl [H19]; · iapply (left_as c); iexact H19
  isplitl [H20]; · iapply (left_as c); iexact H20
  isplitl [H21]; · iapply (left_as c); iexact H21
  isplitl [H22]; · iapply (left_as c); iexact H22
  isplitl [H23]; · iapply (left_as c); iexact H23
  isplitl [H24]; · iapply (left_as c); iexact H24
  isplitl [H25]; · iapply (left_as c); iexact H25
  isplitl [H26]; · iapply (left_as c); iexact H26
  isplitl [H27]; · iapply (left_as c); iexact H27
  isplitl [H28]; · iapply (left_as c); iexact H28
  isplitl [H29]; · iapply (left_as c); iexact H29
  isplitl [H30]; · iapply (left_as c); iexact H30
  isplitl [H31]; · iapply (left_as c); iexact H31
  isplitl [H32]; · iapply (left_as c); iexact H32
  isplitl [H33]; · iapply (left_as c); iexact H33
  isplitl [H34]
  · iexists _; isplitr
    swap; · iexact H34
    ipureintro; exact (stored_slabs _ _ _ _ _ _ _ _ _ _).trans rfl
  isplitl [H35]
  · iexists _; isplitr
    swap; · iexact H35
    ipureintro; exact (stored_slabs _ _ _ _ _ _ _ _ _ _).trans rfl
  isplitl [H36]
  · iexists _; isplitr
    swap; · iexact H36
    ipureintro; exact (stored_slabs _ _ _ _ _ _ _ _ _ _).trans rfl
  isplitl [H37]
  · iexists _; isplitr
    swap; · iexact H37
    ipureintro; exact (stored_slabs _ _ _ _ _ _ _ _ _ _).trans rfl
  isplitl [H38]
  · iexists _; isplitr
    swap; · iexact H38
    ipureintro; exact (stored_slabs _ _ _ _ _ _ _ _ _ _).trans rfl
  isplitl [H39]
  · iexists _; isplitr
    swap; · iexact H39
    ipureintro; exact (stored_slabs _ _ _ _ _ _ _ _ _ _).trans rfl
  isplitl [H40]
  · iexists _; isplitr
    swap; · iexact H40
    ipureintro; exact (stored_slabs _ _ _ _ _ _ _ _ _ _).trans rfl
  isplitl [H41]
  · iexists _; isplitr
    swap; · iexact H41
    ipureintro; exact (stored_slabs _ _ _ _ _ _ _ _ _ _).trans rfl
  isplitl [H42]
  · iexists _; isplitr
    swap; · iexact H42
    ipureintro; exact (stored_whole _ _ zero2 _ _).trans rfl
  isplitl [H43]
  · iexists _; isplitr
    swap; · iexact H43
    ipureintro; exact (stored_whole _ _ zero2 _ _).trans rfl
  isplitl [H44]
  · iexists _; isplitr
    swap; · iexact H44
    ipureintro; exact (stored_whole _ _ zero2 _ _).trans rfl
  isplitl [H45]
  · iexists _; isplitr
    swap; · iexact H45
    ipureintro; exact (stored_whole _ _ zero2 _ _).trans rfl
  isplitl [H46]
  · iexists _; isplitr
    swap; · iexact H46
    ipureintro; exact (stored_whole _ _ zero2 _ _).trans rfl
  isplitl [H47]
  · iexists _; isplitr
    swap; · iexact H47
    ipureintro; exact (stored_whole _ _ zero2 _ _).trans rfl
  isplitl [H48]
  · iexists _; isplitr
    swap; · iexact H48
    ipureintro; exact (stored_whole _ _ zero2 _ _).trans rfl
  isplitl [H49]
  · iexists _; isplitr
    swap; · iexact H49
    ipureintro; exact (stored_whole _ _ zero2 _ _).trans rfl
  isplitl [H50]
  · iexists _; isplitr
    swap; · iexact H50
    ipureintro; exact (stored_whole _ _ zero2 _ _).trans rfl
  isplitl [H51]
  · iexists _; isplitr
    swap; · iexact H51
    ipureintro; exact (stored_whole _ _ zero2 _ _).trans rfl
  isplitl [H52]
  · iexists _; isplitr
    swap; · iexact H52
    ipureintro; exact (stored_whole _ _ zero2 _ _).trans rfl
  isplitl [H53]
  · iexists _; isplitr
    swap; · iexact H53
    ipureintro; exact (stored_whole _ _ zero2 _ _).trans rfl
  isplitl [H54]
  · iexists _; isplitr
    swap; · iexact H54
    ipureintro; exact (stored_whole _ _ zero2 _ _).trans rfl
  isplitl [H55]
  · iexists _; isplitr
    swap; · iexact H55
    ipureintro; exact (stored_whole _ _ zero2 _ _).trans rfl
  isplitl [H56]
  · iexists _; isplitr
    swap; · iexact H56
    ipureintro; exact (stored_whole _ _ zero2 _ _).trans rfl
  isplitl [H57]
  · iexists _; isplitr
    swap; · iexact H57
    ipureintro; exact (stored_whole _ _ zero2 _ _).trans rfl
  isplitl [H58]
  · iexists _; isplitr
    swap; · iexact H58
    ipureintro; exact (stored_whole _ _ zero2 _ _).trans rfl
  isplitl [H59]
  · iexists _; isplitr
    swap; · iexact H59
    ipureintro; exact (stored_whole _ _ zero2 _ _).trans rfl
  isplitl [H60]
  · iexists _; isplitr
    swap; · iexact H60
    ipureintro; exact (stored_whole _ _ zero2 _ _).trans rfl
  isplitl [H61]
  · iexists _; isplitr
    swap; · iexact H61
    ipureintro; exact (stored_whole _ _ zero2 _ _).trans rfl
  isplitl [H62]
  · iexists _; isplitr
    swap; · iexact H62
    ipureintro; exact (stored_whole _ _ zero2 _ _).trans rfl
  isplitl [H63]
  · iexists _; isplitr
    swap; · iexact H63
    ipureintro; exact (stored_whole _ _ zero2 _ _).trans rfl
  isplitl [H64]
  · iexists _; isplitr
    swap; · iexact H64
    ipureintro; exact (stored_whole _ _ zero2 _ _).trans rfl
  isplitl [H65]
  · iexists _; isplitr
    swap; · iexact H65
    ipureintro; exact (stored_whole _ _ zero2 _ _).trans rfl
  isplitl [H66]
  · iexists _; isplitr
    swap; · iexact H66
    ipureintro; exact (stored_whole _ _ zero2 _ _).trans rfl
  isplitl [H67]
  · iexists _; isplitr
    swap; · iexact H67
    ipureintro; exact (stored_whole _ _ zero2 _ _).trans rfl
  isplitl [H68]
  · iexists _; isplitr
    swap; · iexact H68
    ipureintro; exact (stored_whole _ _ zero2 _ _).trans rfl
  isplitl [H69]
  · iexists _; isplitr
    swap; · iexact H69
    ipureintro; exact (stored_whole _ _ zero2 _ _).trans rfl
  isplitl [H70]
  · iexists _; isplitr
    swap; · iexact H70
    ipureintro; exact (stored_whole _ _ zero2 _ _).trans rfl
  isplitl [H71]
  · iexists _; isplitr
    swap; · iexact H71
    ipureintro; exact (stored_whole _ _ zero2 _ _).trans rfl
  isplitl [H72]
  · iexists _; isplitr
    swap; · iexact H72
    ipureintro; exact (stored_whole _ _ zero2 _ _).trans rfl
  isplitl [H73]
  · iexists _; isplitr
    swap; · iexact H73
    ipureintro; exact (stored_whole _ _ zero2 _ _).trans rfl
  iexists _; isplitr
  swap; · iexact H74
  ipureintro; exact (stored_whole _ _ zero2 _ _).trans rfl

end Cert.Kernel7Ideal.Small

end
-- ==== Proof.SmallRun.lean ====
/- The run of the small weights' optimiser step and its frame: the call's one point finds every argument in its
   buffer, leaves the results the body computes from them, and nothing else is touched. -/
module

public import proofs.«01_k».proof.Proof.SmallBody

@[expose] public section

set_option maxRecDepth 16384

noncomputable section

namespace Cert.Kernel7Ideal.Small

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The buffers when the call is entered: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block of its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the body leaves: the results from the arguments' blocks, every argument as it was. -/
def left (c : Dev nD) (t : Fin cfg0.N) (w : Fin cfg0.W) : (cfg0.win w).block.Idx → Elt F (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => iblk m c 6 t
  | ⟨7, _⟩ => iblk m c 7 t
  | ⟨8, _⟩ => iblk m c 8 t
  | ⟨9, _⟩ => iblk m c 9 t
  | ⟨10, _⟩ => iblk m c 10 t
  | ⟨11, _⟩ => iblk m c 11 t
  | ⟨12, _⟩ => iblk m c 12 t
  | ⟨13, _⟩ => iblk m c 13 t
  | ⟨14, _⟩ => iblk m c 14 t
  | ⟨15, _⟩ => iblk m c 15 t
  | ⟨16, _⟩ => iblk m c 16 t
  | ⟨17, _⟩ => iblk m c 17 t
  | ⟨18, _⟩ => iblk m c 18 t
  | ⟨19, _⟩ => iblk m c 19 t
  | ⟨20, _⟩ => iblk m c 20 t
  | ⟨21, _⟩ => iblk m c 21 t
  | ⟨22, _⟩ => iblk m c 22 t
  | ⟨23, _⟩ => iblk m c 23 t
  | ⟨24, _⟩ => iblk m c 24 t
  | ⟨25, _⟩ => iblk m c 25 t
  | ⟨26, _⟩ => iblk m c 26 t
  | ⟨27, _⟩ => iblk m c 27 t
  | ⟨28, _⟩ => iblk m c 28 t
  | ⟨29, _⟩ => iblk m c 29 t
  | ⟨30, _⟩ => iblk m c 30 t
  | ⟨31, _⟩ => iblk m c 31 t
  | ⟨32, _⟩ => iblk m c 32 t
  | ⟨33, _⟩ => iblk m c 33 t
  | ⟨34, _⟩ => slabG (iblk m c 0 t)
  | ⟨35, _⟩ => slabD (iblk m c 0 t) (iblk m c 4 t) (iblk m c 5 t) (iblk m c 6 t)
  | ⟨36, _⟩ => slabM (iblk m c 0 t) (iblk m c 5 t)
  | ⟨37, _⟩ => slabV (iblk m c 0 t) (iblk m c 6 t)
  | ⟨38, _⟩ => slabG (iblk m c 1 t)
  | ⟨39, _⟩ => slabD (iblk m c 1 t) (iblk m c 7 t) (iblk m c 8 t) (iblk m c 9 t)
  | ⟨40, _⟩ => slabM (iblk m c 1 t) (iblk m c 8 t)
  | ⟨41, _⟩ => slabV (iblk m c 1 t) (iblk m c 9 t)
  | ⟨42, _⟩ => row (iblk m c 2 t) 0
  | ⟨43, _⟩ => rowD (row (iblk m c 2 t) 0) (iblk m c 10 t) (iblk m c 11 t) (iblk m c 12 t)
  | ⟨44, _⟩ => rowM (row (iblk m c 2 t) 0) (iblk m c 11 t)
  | ⟨45, _⟩ => rowV (row (iblk m c 2 t) 0) (iblk m c 12 t)
  | ⟨46, _⟩ => row (iblk m c 2 t) 1
  | ⟨47, _⟩ => rowD (row (iblk m c 2 t) 1) (iblk m c 13 t) (iblk m c 14 t) (iblk m c 15 t)
  | ⟨48, _⟩ => rowM (row (iblk m c 2 t) 1) (iblk m c 14 t)
  | ⟨49, _⟩ => rowV (row (iblk m c 2 t) 1) (iblk m c 15 t)
  | ⟨50, _⟩ => row (iblk m c 2 t) 2
  | ⟨51, _⟩ => rowD (row (iblk m c 2 t) 2) (iblk m c 16 t) (iblk m c 17 t) (iblk m c 18 t)
  | ⟨52, _⟩ => rowM (row (iblk m c 2 t) 2) (iblk m c 17 t)
  | ⟨53, _⟩ => rowV (row (iblk m c 2 t) 2) (iblk m c 18 t)
  | ⟨54, _⟩ => row (iblk m c 2 t) 3
  | ⟨55, _⟩ => rowD (row (iblk m c 2 t) 3) (iblk m c 19 t) (iblk m c 20 t) (iblk m c 21 t)
  | ⟨56, _⟩ => rowM (row (iblk m c 2 t) 3) (iblk m c 20 t)
  | ⟨57, _⟩ => rowV (row (iblk m c 2 t) 3) (iblk m c 21 t)
  | ⟨58, _⟩ => row (iblk m c 2 t) 8
  | ⟨59, _⟩ => rowD (row (iblk m c 2 t) 8) (iblk m c 22 t) (iblk m c 23 t) (iblk m c 24 t)
  | ⟨60, _⟩ => rowM (row (iblk m c 2 t) 8) (iblk m c 23 t)
  | ⟨61, _⟩ => rowV (row (iblk m c 2 t) 8) (iblk m c 24 t)
  | ⟨62, _⟩ => row (iblk m c 2 t) 16
  | ⟨63, _⟩ => rowD (row (iblk m c 2 t) 16) (iblk m c 25 t) (iblk m c 26 t) (iblk m c 27 t)
  | ⟨64, _⟩ => rowM (row (iblk m c 2 t) 16) (iblk m c 26 t)
  | ⟨65, _⟩ => rowV (row (iblk m c 2 t) 16) (iblk m c 27 t)
  | ⟨66, _⟩ => sinksG (iblk m c 2 t)
  | ⟨67, _⟩ => sinksD (sinksG (iblk m c 2 t)) (iblk m c 28 t) (iblk m c 29 t) (iblk m c 30 t)
  | ⟨68, _⟩ => sinksM (sinksG (iblk m c 2 t)) (iblk m c 29 t)
  | ⟨69, _⟩ => sinksV (sinksG (iblk m c 2 t)) (iblk m c 30 t)
  | ⟨70, _⟩ => convG (iblk m c 3 t)
  | ⟨71, _⟩ => convD (convG (iblk m c 3 t)) (iblk m c 31 t) (iblk m c 32 t) (iblk m c 33 t)
  | ⟨72, _⟩ => convM (convG (iblk m c 3 t)) (iblk m c 32 t)
  | ⟨73, _⟩ => convV (convG (iblk m c 3 t)) (iblk m c 33 t)
  | ⟨74, _⟩ => lossOf (iblk m c 2 t)
  | ⟨_ + 75, h⟩ => absurd h (Nat.not_lt.2 (Nat.le_add_left _ _))

def dats (_ : Fin 1) (c : Dev nD) : Dat τ (Elt F) Unit ℕ (UR sig nD τ) ℕ cfg0 c where
  A w := V m c (Pipeline.arrRef spec0 w)
  after w t := left m c t w
  Φ _ := Pipeline.ΦA spec0 c
  q _ := fullShare
  owed _ := 0

theorem arr_eq (c : Dev nD) (w : Fin cfg0.W) : (dats m 0 c).A w = V m c (Pipeline.arrRef spec0 w) := by
  dsimp only [dats]

set_option maxHeartbeats 4000000 in
/-- An argument's buffer holds its block. -/
theorem found (c : Dev nD) (t : Fin cfg0.N) (w : Fin cfg0.W) (hw : w.val < 34) (d) :
    (dats m 0 c).before w t d = left m c t w := by
  obtain ⟨n, h⟩ := w
  dsimp only at hw
  iterate 34
    obtain _ | n := n
    · exact ((dats m 0 c).before_in_eq_fetched _ rfl (fun _ => rfl) (fun _ _ _ => rfl) (fun t => rfl) t d).trans rfl
  exact absurd hw (by omega)

/-! ## The body's obligation -/

/-- What the body finds and leaves in a window's buffer. -/
def finds (c : Dev nD) (t : Fin cfg0.N) (w : Fin cfg0.W) : sProp 𝕄 :=
  if w.val < 34 then owns (c : Thread nD τ) ((cfg0.win w).stage (cfg0.slots t w)) fullShare (left m c t w)
  else iprop(∃ d, owns (c : Thread nD τ) ((cfg0.win w).stage (cfg0.slots t w)) fullShare d)
def leaves (c : Dev nD) (t : Fin cfg0.N) (w : Fin cfg0.W) : sProp 𝕄 :=
  owns (c : Thread nD τ) ((cfg0.win w).stage (cfg0.slots t w)) fullShare (left m c t w)

theorem before_finds (c : Dev nD) (t : Fin cfg0.N) (w : Fin cfg0.W) :
    iprop(∃ d, owns (c : Thread nD τ) ((cfg0.win w).stage (cfg0.slots t w)) fullShare ((dats m 0 c).before w t d))
      ⊢ finds m c t w := by
  unfold finds
  split
  · rename_i hw
    iintro ⟨%d, H⟩
    rw [found m c t w hw d]
    iexact H
  · iintro ⟨%d, H⟩
    iexists _
    iexact H

/-- A body that turns `P` into `Q` keeps what it does not touch. -/
theorem framed {W : (PUnit → sProp 𝕄) → sProp 𝕄} {X Y P Q : sProp 𝕄}
    (h : ∀ K : PUnit → sProp 𝕄, iprop(P ∗ (Q -∗ K ⟨⟩)) ⊢ W K) :
    iprop(X ∗ Y ∗ P) ⊢ W fun _ => iprop(X ∗ Y ∗ Q) := by
  refine BIBase.Entails.trans ?_ (h _)
  iintro ⟨HX, HY, HP⟩
  isplitl [HP]; · iexact HP
  iintro HQ
  isplitl [HX]; · iexact HX
  isplitl [HY]; · iexact HY
  iexact HQ

/-- The body table's row at point `t`'s slots is the body's call there. -/
theorem row_eq (t : Fin cfg0.N) : defs₀ (F := F) .tc cfg0.body (cfg0.bodyArgs t (cfg0.slots t)) = bodyAt0 t := by
  unfold defs₀; rw [Defs.onTc_tc]

set_option maxHeartbeats 4000000 in
/-- The body over the whole list of windows. -/
theorem body_at (c : Dev nD) (t : Fin cfg0.N) (K : PUnit → sProp 𝕄) :
    iprop(bigSep Finset.univ (finds m c t) ∗ (bigSep Finset.univ (leaves m c t) -∗ K ⟨⟩))
      ⊢ wp frame (wpE (defs₀ (F := F)) Variants.none c none) Set.univ (bodyAt0 t) K := by
  rw [bigSep_W0, bigSep_W0]
  exact body c _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _
      (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t)
      (iblk m c 12 t) (iblk m c 13 t) (iblk m c 14 t) (iblk m c 15 t) (iblk m c 16 t) (iblk m c 17 t)
      (iblk m c 18 t) (iblk m c 19 t) (iblk m c 20 t) (iblk m c 21 t) (iblk m c 22 t) (iblk m c 23 t)
      (iblk m c 24 t) (iblk m c 25 t) (iblk m c 26 t) (iblk m c 27 t) (iblk m c 28 t) (iblk m c 29 t)
      (iblk m c 30 t) (iblk m c 31 t) (iblk m c 32 t) (iblk m c 33 t) K

set_option maxHeartbeats 4000000 in
theorem obligation (c : Dev nD) : BodyObligation (dats (F := F) m 0 c) (defs₀ (F := F)) Variants.none () Set.univ := fun t => by
  rw [row_eq]
  exact triple_restated (framed (body_at m c t)) rfl
    (BI.sep_mono (fun _ h => h) (BI.sep_mono (fun _ h => h) (BI.bigSep_mono fun w _ => before_finds m c t w))) fun _ => .rfl

/-! ## The run and the frame -/

set_option backward.isDefEq.respectTransparency.types false in
set_option maxHeartbeats 800000 in
/-- Every run ends with the arrays as the data say, and every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arr_eq m) (hΦ := fun _ _ => rfl)

theorem inputs : ∀ w : Fin cfg0.W, w.val < 34 → (cfg0.win w).isOut = false := by decide

/-- Every run ends with the arguments as they were and every counter at zero. -/
theorem frame : θ_run defs (onTc (τ := τ) (main (F := F))) ⟨m, fun _ => 0, ρ⟩ (fun r =>
    (∀ (c : Dev nD) (w : Fin cfg0.W), w.val < 34 →
      r.2.mem ((c.tc : Thread nD τ).loc (Pipeline.arrRef spec0 w)) = m ((c.tc : Thread nD τ).loc (Pipeline.arrRef spec0 w)))
    ∧ r.2.sem = fun _ => 0) :=
  (θ_run defs _ _).mono (fun _ h => ⟨fun c w hw => ((h.1 c).1 w).trans (((dats m 0 c).arrAt_in w (inputs w hw) _).trans (arr_eq m c w)), h.2⟩) (run m ρ)

end Cert.Kernel7Ideal.Small

end
-- ==== Proof.SmallFrames.lean ====
/- The small weights' optimiser step ends with its 34 arguments as they were and its counters at zero, the kernel as
   printed and its idealization. -/
module

public import proofs.«01_k».proof.Defs
public import proofs.«01_k».proof.Proof.SmallRun
public import proofs.«01_k».proof.Proof.SmallPrintedRun

@[expose] public section

open Idealize.ShloMosaic Idealize.SL.Sem

namespace Cert.Proof.SmallFrames

theorem frame_printed : Cert.quiescent_Kernel7 := fun m ρ _ =>
  (θ_run Cert.Kernel7.defs _ _).mono (fun _ h => ⟨fun c => ⟨h.1 c 0 (by decide), h.1 c 1 (by decide), h.1 c 2 (by decide), h.1 c 3 (by decide), h.1 c 4 (by decide), h.1 c 5 (by decide), h.1 c 6 (by decide), h.1 c 7 (by decide), h.1 c 8 (by decide), h.1 c 9 (by decide), h.1 c 10 (by decide), h.1 c 11 (by decide), h.1 c 12 (by decide), h.1 c 13 (by decide), h.1 c 14 (by decide), h.1 c 15 (by decide), h.1 c 16 (by decide), h.1 c 17 (by decide), h.1 c 18 (by decide), h.1 c 19 (by decide), h.1 c 20 (by decide), h.1 c 21 (by decide), h.1 c 22 (by decide), h.1 c 23 (by decide), h.1 c 24 (by decide), h.1 c 25 (by decide), h.1 c 26 (by decide), h.1 c 27 (by decide), h.1 c 28 (by decide), h.1 c 29 (by decide), h.1 c 30 (by decide), h.1 c 31 (by decide), h.1 c 32 (by decide), h.1 c 33 (by decide)⟩, h.2⟩)
    (Cert.Kernel7.Small.frame m ρ)

theorem frame_ideal : Cert.quiescent_Kernel7Ideal := fun m ρ _ =>
  (θ_run Cert.Kernel7Ideal.defs _ _).mono (fun _ h => ⟨fun c => ⟨h.1 c 0 (by decide), h.1 c 1 (by decide), h.1 c 2 (by decide), h.1 c 3 (by decide), h.1 c 4 (by decide), h.1 c 5 (by decide), h.1 c 6 (by decide), h.1 c 7 (by decide), h.1 c 8 (by decide), h.1 c 9 (by decide), h.1 c 10 (by decide), h.1 c 11 (by decide), h.1 c 12 (by decide), h.1 c 13 (by decide), h.1 c 14 (by decide), h.1 c 15 (by decide), h.1 c 16 (by decide), h.1 c 17 (by decide), h.1 c 18 (by decide), h.1 c 19 (by decide), h.1 c 20 (by decide), h.1 c 21 (by decide), h.1 c 22 (by decide), h.1 c 23 (by decide), h.1 c 24 (by decide), h.1 c 25 (by decide), h.1 c 26 (by decide), h.1 c 27 (by decide), h.1 c 28 (by decide), h.1 c 29 (by decide), h.1 c 30 (by decide), h.1 c 31 (by decide), h.1 c 32 (by decide), h.1 c 33 (by decide)⟩, h.2⟩)
    (Cert.Kernel7Ideal.Small.frame m ρ)

end Cert.Proof.SmallFrames
-- ==== Proof.SmallRef.lean ====
/- What the reference of the small weights' optimiser step holds: every weight's results are the same step of its
   gradient, its moments and itself, entry by entry; the gradients are parts of the summed arrays. -/
module

public import proofs.«01_k».proof.Proof.AdamRow
public import proofs.«01_k».proof.Proof.Gen.Reference7Ideal.Read
public import Idealize.ShloMosaic.Lib.Pointwise

@[expose] public section

noncomputable section

namespace Cert.Small

open Idealize.ShloMosaic

/-! ## The step of a whole weight -/

section
variable {S : Shape} (g w m v : Vec Ideal S .f32)

/-- The weight's change and its two moments. -/
def stepD : Vec Ideal S .f32 := fun i => Cert.Adam.delta (g i) (w i) (m i) (v i)
def stepM : Vec Ideal S .f32 := fun i => Cert.Adam.first (g i) (m i)
def stepV : Vec Ideal S .f32 := fun i => Cert.Adam.second (g i) (v i)

end

/-! ## The gradients -/

/-- Slab `k` of a block-diagonal weight's gradient is columns `128 k … 128 k + 127` of the sum. -/
def spread (g : Vec Ideal ⟨2, ![128, 1024]⟩ .f32) : Vec Ideal ⟨3, ![8, 128, 128]⟩ .f32 :=
  fun i => g (ix2 (i 1) ⟨128 * (i 0).val + (i 2).val, by
    have h0 : (i 0).val < 8 := (i 0).isLt
    have h2 : (i 2).val < 128 := (i 2).isLt
    omega⟩)

/-- Row `k` of the summed rows, as an array of one row. -/
def rowOf (k : Fin 64) (s : Vec Ideal ⟨2, ![64, 1024]⟩ .f32) : Vec Ideal ⟨2, ![1, 1024]⟩ .f32 := fun i => s (ix2 k (i 1))

/-- The first sixteen entries of row 24. -/
def sinks (s : Vec Ideal ⟨2, ![64, 1024]⟩ .f32) : Vec Ideal ⟨2, ![1, 16]⟩ .f32 :=
  fun i => s (ix2 24 ⟨(i 1).val, lt_of_lt_of_le (i 1).isLt (by decide : 16 ≤ 1024)⟩)

/-- The first four rows. -/
def conv (s : Vec Ideal ⟨2, ![8, 128]⟩ .f32) : Vec Ideal ⟨2, ![4, 128]⟩ .f32 :=
  fun i => s (ix2 ⟨(i 0).val, lt_of_lt_of_le (i 0).isLt (by decide : 4 ≤ 8)⟩ (i 1))

/-- The loss: half of the 1024th part of rows 32 … 39's first 128 entries. -/
def loss (s : Vec Ideal ⟨2, ![64, 1024]⟩ .f32) : Vec Ideal ⟨2, ![8, 128]⟩ .f32 :=
  fun i => s (ix2 ⟨32 + (i 0).val, by have h : (i 0).val < 8 := (i 0).isLt; omega⟩
    ⟨(i 1).val, lt_of_lt_of_le (i 1).isLt (by decide : 128 ≤ 1024)⟩) * Ideal.ofBits .f32 0x3A000000#32

end Cert.Small

namespace Cert.Reference7Ideal.Small

open Cert.Reference7Ideal Cert.Reference7Ideal.Gen Cert.Reference7Ideal.Read Idealize.ShloMosaic
open Idealize.ShloMosaic.TcCoe Idealize.SL.Sem
open Cert.Small

/-! ## The reference's gradients -/

theorem spread_eq (g : Vec Ideal S128x1024 .f32) : val_main_v1 (F := Ideal) g = spread g := funext fun i => by
  rw [val_main_v1_apply, val_main_v0_apply]
  refine congrArg g (funext fun a => Fin.ext ?_)
  have h0 : (i 0).val < 8 := (i 0).isLt
  have h1 : (i 1).val < 128 := (i 1).isLt
  have h2 : (i 2).val < 128 := (i 2).isLt
  match a with
  | 0 => show _ = (i 1).val; simp only [idx_main_v0, idx_main_v1]; omega
  | 1 => show _ = 128 * (i 0).val + (i 2).val; simp only [idx_main_v0, idx_main_v1]; omega

theorem spread_eq' (g : Vec Ideal S128x1024 .f32) : val_main_v3 (F := Ideal) g = spread g := spread_eq g

/-- A slice that reads row `k`. -/
theorem as_row (s : Vec Ideal S64x1024 .f32) (k : Fin 64) {x : Vec Ideal S1x1024 .f32} (f : S1x1024.Idx → S64x1024.Idx)
    (h : ∀ i, x i = s (f i)) (h0 : ∀ i, (i 0).val < 1 → (f i 0).val = k.val) (h1 : ∀ i, (f i 1).val = (i 1).val) :
    x = rowOf k s := funext fun i => (h i).trans (congrArg s (funext fun a => Fin.ext (match a with
  | 0 => h0 i (i 0).isLt
  | 1 => h1 i)))

theorem row0_eq (s : Vec Ideal S64x1024 .f32) : val_main_v4 (F := Ideal) s = rowOf 0 s :=
  as_row s 0 idx_main_v4 (val_main_v4_apply s) (fun i h => by show (i 0).val = 0; omega) fun _ => rfl
theorem row1_eq (s : Vec Ideal S64x1024 .f32) : val_main_v5 (F := Ideal) s = rowOf 1 s :=
  as_row s 1 idx_main_v5 (val_main_v5_apply s) (fun i h => by show 1 + (i 0).val = 1; omega) fun _ => rfl
theorem row2_eq (s : Vec Ideal S64x1024 .f32) : val_main_v6 (F := Ideal) s = rowOf 2 s :=
  as_row s 2 idx_main_v6 (val_main_v6_apply s) (fun i h => by show 2 + (i 0).val = 2; omega) fun _ => rfl
theorem row3_eq (s : Vec Ideal S64x1024 .f32) : val_main_v7 (F := Ideal) s = rowOf 3 s :=
  as_row s 3 idx_main_v7 (val_main_v7_apply s) (fun i h => by show 3 + (i 0).val = 3; omega) fun _ => rfl
theorem row8_eq (s : Vec Ideal S64x1024 .f32) : val_main_v8 (F := Ideal) s = rowOf 8 s :=
  as_row s 8 idx_main_v8 (val_main_v8_apply s) (fun i h => by show 8 + (i 0).val = 8; omega) fun _ => rfl
theorem row16_eq (s : Vec Ideal S64x1024 .f32) : val_main_v9 (F := Ideal) s = rowOf 16 s :=
  as_row s 16 idx_main_v9 (val_main_v9_apply s) (fun i h => by show 16 + (i 0).val = 16; omega) fun _ => rfl

theorem sinks_eq (s : Vec Ideal S64x1024 .f32) : val_main_v10 (F := Ideal) s = sinks s := funext fun i => by
  rw [val_main_v10_apply]
  refine congrArg s (funext fun a => Fin.ext ?_)
  match a with
  | 0 => have h : (i 0).val < 1 := (i 0).isLt; show 24 + (i 0).val = 24; omega
  | 1 => rfl

theorem conv_eq (s : Vec Ideal S8x128 .f32) : val_main_v11 (F := Ideal) s = conv s := funext fun i => by
  rw [val_main_v11_apply]
  refine congrArg s (funext fun a => Fin.ext ?_)
  match a with
  | 0 => rfl
  | 1 => rfl

theorem loss_eq (s : Vec Ideal S64x1024 .f32) : val_main_v254 (F := Ideal) s = loss s := funext fun i => by
  rw [val_main_v254_apply, val_main_v252_apply]
  refine congrArg (· * Ideal.ofBits .f32 0x3A000000#32) (congrArg s (funext fun a => Fin.ext ?_))
  match a with
  | 0 => rfl
  | 1 => rfl

/-! ## The reference's step -/

theorem D_a (g : Vec Ideal S128x1024 .f32) (w m v : Vec Ideal S8x128x128 .f32) :
    val_main_v35 (F := Ideal) g w m v = stepD (val_main_v1 (F := Ideal) g) w m v := rfl
theorem M_a (g : Vec Ideal S128x1024 .f32) (m : Vec Ideal S8x128x128 .f32) :
    val_main_v16 (F := Ideal) g m = stepM (val_main_v1 (F := Ideal) g) m := rfl
theorem V_a (g : Vec Ideal S128x1024 .f32) (v : Vec Ideal S8x128x128 .f32) :
    val_main_v22 (F := Ideal) g v = stepV (val_main_v1 (F := Ideal) g) v := rfl
theorem D_x (g : Vec Ideal S128x1024 .f32) (w m v : Vec Ideal S8x128x128 .f32) :
    val_main_v59 (F := Ideal) g w m v = stepD (val_main_v3 (F := Ideal) g) w m v := rfl
theorem M_x (g : Vec Ideal S128x1024 .f32) (m : Vec Ideal S8x128x128 .f32) :
    val_main_v40 (F := Ideal) g m = stepM (val_main_v3 (F := Ideal) g) m := rfl
theorem V_x (g : Vec Ideal S128x1024 .f32) (v : Vec Ideal S8x128x128 .f32) :
    val_main_v46 (F := Ideal) g v = stepV (val_main_v3 (F := Ideal) g) v := rfl
theorem D_r0 (g : Vec Ideal S64x1024 .f32) (w m v : Vec Ideal S1x1024 .f32) :
    val_main_v83 (F := Ideal) g w m v = stepD (val_main_v4 (F := Ideal) g) w m v := rfl
theorem M_r0 (g : Vec Ideal S64x1024 .f32) (m : Vec Ideal S1x1024 .f32) :
    val_main_v64 (F := Ideal) g m = stepM (val_main_v4 (F := Ideal) g) m := rfl
theorem V_r0 (g : Vec Ideal S64x1024 .f32) (v : Vec Ideal S1x1024 .f32) :
    val_main_v70 (F := Ideal) g v = stepV (val_main_v4 (F := Ideal) g) v := rfl
theorem D_r1 (g : Vec Ideal S64x1024 .f32) (w m v : Vec Ideal S1x1024 .f32) :
    val_main_v107 (F := Ideal) g w m v = stepD (val_main_v5 (F := Ideal) g) w m v := rfl
theorem M_r1 (g : Vec Ideal S64x1024 .f32) (m : Vec Ideal S1x1024 .f32) :
    val_main_v88 (F := Ideal) g m = stepM (val_main_v5 (F := Ideal) g) m := rfl
theorem V_r1 (g : Vec Ideal S64x1024 .f32) (v : Vec Ideal S1x1024 .f32) :
    val_main_v94 (F := Ideal) g v = stepV (val_main_v5 (F := Ideal) g) v := rfl
theorem D_r2 (g : Vec Ideal S64x1024 .f32) (w m v : Vec Ideal S1x1024 .f32) :
    val_main_v131 (F := Ideal) g w m v = stepD (val_main_v6 (F := Ideal) g) w m v := rfl
theorem M_r2 (g : Vec Ideal S64x1024 .f32) (m : Vec Ideal S1x1024 .f32) :
    val_main_v112 (F := Ideal) g m = stepM (val_main_v6 (F := Ideal) g) m := rfl
theorem V_r2 (g : Vec Ideal S64x1024 .f32) (v : Vec Ideal S1x1024 .f32) :
    val_main_v118 (F := Ideal) g v = stepV (val_main_v6 (F := Ideal) g) v := rfl
theorem D_r3 (g : Vec Ideal S64x1024 .f32) (w m v : Vec Ideal S1x1024 .f32) :
    val_main_v155 (F := Ideal) g w m v = stepD (val_main_v7 (F := Ideal) g) w m v := rfl
theorem M_r3 (g : Vec Ideal S64x1024 .f32) (m : Vec Ideal S1x1024 .f32) :
    val_main_v136 (F := Ideal) g m = stepM (val_main_v7 (F := Ideal) g) m := rfl
theorem V_r3 (g : Vec Ideal S64x1024 .f32) (v : Vec Ideal S1x1024 .f32) :
    val_main_v142 (F := Ideal) g v = stepV (val_main_v7 (F := Ideal) g) v := rfl
theorem D_r8 (g : Vec Ideal S64x1024 .f32) (w m v : Vec Ideal S1x1024 .f32) :
    val_main_v179 (F := Ideal) g w m v = stepD (val_main_v8 (F := Ideal) g) w m v := rfl
theorem M_r8 (g : Vec Ideal S64x1024 .f32) (m : Vec Ideal S1x1024 .f32) :
    val_main_v160 (F := Ideal) g m = stepM (val_main_v8 (F := Ideal) g) m := rfl
theorem V_r8 (g : Vec Ideal S64x1024 .f32) (v : Vec Ideal S1x1024 .f32) :
    val_main_v166 (F := Ideal) g v = stepV (val_main_v8 (F := Ideal) g) v := rfl
theorem D_r16 (g : Vec Ideal S64x1024 .f32) (w m v : Vec Ideal S1x1024 .f32) :
    val_main_v203 (F := Ideal) g w m v = stepD (val_main_v9 (F := Ideal) g) w m v := rfl
theorem M_r16 (g : Vec Ideal S64x1024 .f32) (m : Vec Ideal S1x1024 .f32) :
    val_main_v184 (F := Ideal) g m = stepM (val_main_v9 (F := Ideal) g) m := rfl
theorem V_r16 (g : Vec Ideal S64x1024 .f32) (v : Vec Ideal S1x1024 .f32) :
    val_main_v190 (F := Ideal) g v = stepV (val_main_v9 (F := Ideal) g) v := rfl
theorem D_s (g : Vec Ideal S64x1024 .f32) (w m v : Vec Ideal S1x16 .f32) :
    val_main_v227 (F := Ideal) g w m v = stepD (val_main_v10 (F := Ideal) g) w m v := rfl
theorem M_s (g : Vec Ideal S64x1024 .f32) (m : Vec Ideal S1x16 .f32) :
    val_main_v208 (F := Ideal) g m = stepM (val_main_v10 (F := Ideal) g) m := rfl
theorem V_s (g : Vec Ideal S64x1024 .f32) (v : Vec Ideal S1x16 .f32) :
    val_main_v214 (F := Ideal) g v = stepV (val_main_v10 (F := Ideal) g) v := rfl
theorem D_c (g : Vec Ideal S8x128 .f32) (w m v : Vec Ideal S4x128 .f32) :
    val_main_v251 (F := Ideal) g w m v = stepD (val_main_v11 (F := Ideal) g) w m v := rfl
theorem M_c (g : Vec Ideal S8x128 .f32) (m : Vec Ideal S4x128 .f32) :
    val_main_v232 (F := Ideal) g m = stepM (val_main_v11 (F := Ideal) g) m := rfl
theorem V_c (g : Vec Ideal S8x128 .f32) (v : Vec Ideal S4x128 .f32) :
    val_main_v238 (F := Ideal) g v = stepV (val_main_v11 (F := Ideal) g) v := rfl

end Cert.Reference7Ideal.Small

end
-- ==== Proof.SmallStep.lean ====
/- What the 41 results of the small weights' optimiser step hold after the run: the step of each weight's gradient,
   moments and itself, entry by entry, the gradients being parts of the summed arrays. -/
module

public import proofs.«01_k».proof.Proof.SmallRef
public import proofs.«01_k».proof.Proof.SmallBody
public import proofs.«01_k».proof.Proof.Tokens
public import Idealize.ShloMosaic.Lib.VecWindow
public import Idealize.ShloMosaic.Lib.Pointwise
public import Idealize.ShloMosaic.Lib.Pipeline.ValueKit.Tiles
public import Idealize.ShloMosaic.Lib.Pipeline.ValueKit.Geometry

@[expose] public section

noncomputable section

namespace Cert.Kernel7Ideal.Small

open Cert.Kernel7Ideal Cert.Kernel7Ideal.Gen Idealize.ShloMosaic Idealize.ShloMosaic.TcCoe Idealize.SL.Sem
open Cert.Small
open Cert.Tokens (two)

/-! ## The gradients -/

theorem rowG_eq (s : Vec Ideal S64x1024 .f32) (k : Fin 32) : row s k = rowOf ⟨k.val, by omega⟩ s := funext fun i => by
  refine congrArg s (funext fun a => Fin.ext ?_)
  match a with
  | 0 => have h : (i 0).val < 1 := (i 0).isLt; show k.val + 1 * (i 0).val = k.val; omega
  | 1 => show 0 + 1 * (i 1).val = (i 1).val; omega

theorem sinksG_eq (s : Vec Ideal S64x1024 .f32) : sinksG s = sinks s := funext fun i => by
  refine congrArg s (funext fun a => Fin.ext ?_)
  match a with
  | 0 => have h : (i 0).val < 1 := (i 0).isLt; show 24 + 1 * (i 0).val = 24; omega
  | 1 => show 0 + 1 * (i 1).val = (i 1).val; omega

theorem convG_eq (s : Vec Ideal S8x128 .f32) : convG s = conv s := funext fun i => by
  refine congrArg s (funext fun a => Fin.ext ?_)
  match a with
  | 0 => show 0 + 1 * (i 0).val = (i 0).val; omega
  | 1 => show 0 + 1 * (i 1).val = (i 1).val; omega

theorem lossOf_eq (s : Vec Ideal S64x1024 .f32) : lossOf s = loss s := funext fun i => by
  refine congrArg (· * Ideal.ofBits .f32 0x3A000000#32) (congrArg s (funext fun a => Fin.ext ?_))
  match a with
  | 0 => show 32 + 1 * (i 0).val = 32 + (i 0).val; omega
  | 1 => show 0 + 1 * (i 1).val = (i 1).val; omega

/-! ## The step of a weight of one block -/

theorem rowM_eq (g m : Vec Ideal S1x1024 .f32) : rowM g m = stepM g m := funext fun i => by
  obtain ⟨r, k, rfl⟩ := two i
  unfold rowM all stepM Cert.Adam.first k0_pay129
  rw [View.ld_unit_zero (S := S1x1024) zero2]
  pointwise
theorem rowV_eq (g v : Vec Ideal S1x1024 .f32) : rowV g v = stepV g v := funext fun i => by
  obtain ⟨r, k, rfl⟩ := two i
  unfold rowV all stepV Cert.Adam.second k0_pay130
  rw [View.ld_unit_zero (S := S1x1024) zero2]
  pointwise
theorem rowD_eq (g w m v : Vec Ideal S1x1024 .f32) : rowD g w m v = stepD g w m v := funext fun i => by
  obtain ⟨r, k, rfl⟩ := two i
  have em := congrFun (rowM_eq g m) (ix2 r k)
  have ev := congrFun (rowV_eq g v) (ix2 r k)
  unfold stepM at em
  unfold stepV at ev
  unfold stepD Cert.Adam.delta
  rw [← em, ← ev]
  unfold rowD rowM rowV all Cert.Adam.change k0_pay131
  simp only [View.ld_unit_zero (S := S1x1024) zero2]
  pointwise

theorem sinksM_eq (g m : Vec Ideal S1x16 .f32) : sinksM g m = stepM g m := funext fun i => by
  obtain ⟨r, k, rfl⟩ := two i
  unfold sinksM all stepM Cert.Adam.first k0_pay147
  rw [View.ld_unit_zero (S := S1x16) zero2]
  pointwise
theorem sinksV_eq (g v : Vec Ideal S1x16 .f32) : sinksV g v = stepV g v := funext fun i => by
  obtain ⟨r, k, rfl⟩ := two i
  unfold sinksV all stepV Cert.Adam.second k0_pay148
  rw [View.ld_unit_zero (S := S1x16) zero2]
  pointwise
theorem sinksD_eq (g w m v : Vec Ideal S1x16 .f32) : sinksD g w m v = stepD g w m v := funext fun i => by
  obtain ⟨r, k, rfl⟩ := two i
  have em := congrFun (sinksM_eq g m) (ix2 r k)
  have ev := congrFun (sinksV_eq g v) (ix2 r k)
  unfold stepM at em
  unfold stepV at ev
  unfold stepD Cert.Adam.delta
  rw [← em, ← ev]
  unfold sinksD sinksM sinksV all Cert.Adam.change k0_pay149
  simp only [View.ld_unit_zero (S := S1x16) zero2]
  pointwise

theorem convM_eq (g m : Vec Ideal S4x128 .f32) : convM g m = stepM g m := funext fun i => by
  obtain ⟨r, k, rfl⟩ := two i
  unfold convM all stepM Cert.Adam.first k0_pay150
  rw [View.ld_unit_zero (S := S4x128) zero2]
  pointwise
theorem convV_eq (g v : Vec Ideal S4x128 .f32) : convV g v = stepV g v := funext fun i => by
  obtain ⟨r, k, rfl⟩ := two i
  unfold convV all stepV Cert.Adam.second k0_pay151
  rw [View.ld_unit_zero (S := S4x128) zero2]
  pointwise
theorem convD_eq (g w m v : Vec Ideal S4x128 .f32) : convD g w m v = stepD g w m v := funext fun i => by
  obtain ⟨r, k, rfl⟩ := two i
  have em := congrFun (convM_eq g m) (ix2 r k)
  have ev := congrFun (convV_eq g v) (ix2 r k)
  unfold stepM at em
  unfold stepV at ev
  unfold stepD Cert.Adam.delta
  rw [← em, ← ev]
  unfold convD convM convV all Cert.Adam.change k0_pay152
  simp only [View.ld_unit_zero (S := S4x128) zero2]
  pointwise

/-! ## The step of a weight of eight slabs -/

/-- An index of a three-dimensional array is its three coordinates. -/
theorem three {a b d : ℕ} (y : (⟨3, ![a, b, d]⟩ : Shape).Idx) : ∃ i j k, y = ix3 i j k :=
  ⟨y 0, y 1, y 2, funext fun a => match a with | 0 => rfl | 1 => rfl | 2 => rfl⟩

section
variable (k : Fin 8) (r q : Fin 128)

/-- Column `q` of columns `128 k …` of the sum. -/
abbrev at128 : Fin 1024 := ⟨128 * k.val + q.val, by omega⟩

theorem col_at (g : Vec Ideal S128x1024 .f32) : View.ld g (colR k) (ix2 r q) = g (ix2 r (at128 k q)) :=
  congrArg g (funext fun a => Fin.ext (match a with
    | 0 => by show 0 + 1 * r.val = r.val; omega
    | 1 => by show 128 * k.val + 1 * q.val = 128 * k.val + q.val; omega))

theorem slab_at (w : Vec Ideal S8x128x128 .f32) : View.ld w (slabR k) (ix3 0 r q) = w (ix3 k r q) :=
  congrArg w (funext fun a => Fin.ext (match a with
    | 0 => by show k.val + 1 * 0 = k.val; omega
    | 1 => by show 0 + 1 * r.val = r.val; omega
    | 2 => by show 0 + 1 * q.val = q.val; omega))

/-- A slab that holds an entry holds it at the entry's place. -/
theorem in_slab (p : Fin 8 → Vec Ideal S1x128x128 .f32) (k' : Fin 8) :
    View.RectAt (ix3 k r q) (slabR k') (p k') (p k (ix3 0 r q)) := fun x hx => by
  have e0 : k'.val + 1 * (x 0).val = k.val := congrArg Fin.val (congrFun hx 0)
  have e1 : 0 + 1 * (x 1).val = r.val := congrArg Fin.val (congrFun hx 1)
  have e2 : 0 + 1 * (x 2).val = q.val := congrArg Fin.val (congrFun hx 2)
  have h0 : (x 0).val < 1 := (x 0).isLt
  have ek : k' = k := Fin.ext (by omega)
  subst ek
  refine congrArg (p k') (funext fun a => Fin.ext ?_)
  match a with
  | 0 => show (x 0).val = 0; omega
  | 1 => show (x 1).val = r.val; omega
  | 2 => show (x 2).val = q.val; omega

theorem slabs_at (p : Fin 8 → Vec Ideal S1x128x128 .f32) : slabs p (ix3 k r q) = p k (ix3 0 r q) :=
  View.canon_eq_of_allAt _ _ _
    (View.cover_of_tiled [⟨slabR 7, p 7⟩, ⟨slabR 6, p 6⟩, ⟨slabR 5, p 5⟩, ⟨slabR 4, p 4⟩, ⟨slabR 3, p 3⟩,
      ⟨slabR 2, p 2⟩, ⟨slabR 1, p 1⟩, ⟨slabR 0, p 0⟩] S1x128x128.size (by rfl) (ix3 k r q))
    (View.allAt_cons _ _ _ (in_slab k r q p 7) <| View.allAt_cons _ _ _ (in_slab k r q p 6) <|
      View.allAt_cons _ _ _ (in_slab k r q p 5) <| View.allAt_cons _ _ _ (in_slab k r q p 4) <|
      View.allAt_cons _ _ _ (in_slab k r q p 3) <| View.allAt_cons _ _ _ (in_slab k r q p 2) <|
      View.allAt_cons _ _ _ (in_slab k r q p 1) <| View.allAt_cons _ _ _ (in_slab k r q p 0) <| View.allAt_nil _ _)

theorem first_at (g : Vec Ideal S128x1024 .f32) (m : Vec Ideal S8x128x128 .f32) :
    k0_pay2 (View.ld g (colR k)) (View.ld m (slabR k)) (ix2 r q)
      = Cert.Adam.first (g (ix2 r (at128 k q))) (m (ix3 k r q)) := by
  rw [← col_at k r q g, ← slab_at k r q m]
  unfold Cert.Adam.first k0_pay2
  pointwise

theorem second_at (g : Vec Ideal S128x1024 .f32) (v : Vec Ideal S8x128x128 .f32) :
    k0_pay3 (View.ld g (colR k)) (View.ld v (slabR k)) (ix2 r q)
      = Cert.Adam.second (g (ix2 r (at128 k q))) (v (ix3 k r q)) := by
  rw [← col_at k r q g, ← slab_at k r q v]
  unfold Cert.Adam.second k0_pay3
  pointwise

theorem delta_at (g : Vec Ideal S128x1024 .f32) (w m v : Vec Ideal S8x128x128 .f32) :
    k0_pay4 (View.ld g (colR k)) (View.ld w (slabR k)) (View.ld m (slabR k)) (View.ld v (slabR k)) (ix2 r q)
      = Cert.Adam.delta (g (ix2 r (at128 k q))) (w (ix3 k r q)) (m (ix3 k r q)) (v (ix3 k r q)) := by
  unfold Cert.Adam.delta
  rw [← first_at k r q g m, ← second_at k r q g v, ← slab_at k r q w]
  unfold Cert.Adam.change k0_pay4
  pointwise

end

theorem slabG_eq (g : Vec Ideal S128x1024 .f32) : slabG g = spread g := funext fun i => by
  obtain ⟨k, r, q, rfl⟩ := three i
  unfold slabG
  rw [slabs_at]
  unfold k0_pay5
  pointwise
  rfl

theorem slabM_eq (g : Vec Ideal S128x1024 .f32) (m : Vec Ideal S8x128x128 .f32) : slabM g m = stepM (spread g) m :=
  funext fun i => by
    obtain ⟨k, r, q, rfl⟩ := three i
    unfold slabM
    rw [slabs_at]
    unfold k0_pay7
    pointwise
    exact first_at k r q g m

theorem slabV_eq (g : Vec Ideal S128x1024 .f32) (v : Vec Ideal S8x128x128 .f32) : slabV g v = stepV (spread g) v :=
  funext fun i => by
    obtain ⟨k, r, q, rfl⟩ := three i
    unfold slabV
    rw [slabs_at]
    unfold k0_pay8
    pointwise
    exact second_at k r q g v

theorem slabD_eq (g : Vec Ideal S128x1024 .f32) (w m v : Vec Ideal S8x128x128 .f32) :
    slabD g w m v = stepD (spread g) w m v := funext fun i => by
  obtain ⟨k, r, q, rfl⟩ := three i
  unfold slabD
  rw [slabs_at]
  unfold k0_pay6
  pointwise
  exact delta_at k r q g w m v

end Cert.Kernel7Ideal.Small

end
-- ==== Proof.SmallValue.lean ====
/- What the 41 result arrays of the small weights' optimiser step hold after the run, as functions of the 34 arguments:
   the call has one point, whose block of every array is the whole of it. -/
module

public import proofs.«01_k».proof.Proof.SmallStep
public import proofs.«01_k».proof.Proof.SmallRun

@[expose] public section

noncomputable section

namespace Cert.Kernel7Ideal.Small

open Cert.Kernel7Ideal Cert.Kernel7Ideal.Gen Idealize.ShloMosaic Idealize.ShloMosaic.TcCoe Idealize.SL.Sem
open Cert.Small

variable (m : (ℓ : Loc nD τ sig) → Buf (Elt Ideal) ℓ) (ρ : Dev nD → PrngReg) (c : Dev nD)

/-- What the launch finds in an array. -/
abbrev given (b : Ref sig .tc) : Buf (Elt Ideal) ((c : Thread nD τ).loc b) := m ((c : Thread nD τ).loc b)

/-- The one point. -/
abbrev pt : Fin cfg0.N := ⟨0, by decide⟩

/-- The one point writes each array back whole. -/
theorem whole : ∀ w : Fin cfg0.W, 34 ≤ w.val → (cfg0.win w).WholeAt pt := by decide +kernel

theorem place {S : Shape} {x : S.Idx} (y : S.Idx) (h : ∀ a, (x a).val = (y a).val) : x = y :=
  funext fun a => Fin.ext (h a)

theorem congr4 {α β γ δ ε : Type} (f : α → β → γ → δ → ε) {a a' : α} {b b' : β} {d d' : γ} {e e' : δ}
    (h : a = a') (hb : b = b') (hd : d = d') (he : e = e') : f a b d e = f a' b' d' e' := by
  subst h hb hd he; rfl

/-! ## The arguments' blocks -/

theorem blk0 : iblk m c 0 pt = given m c main_arg0 :=
  funext fun y => congrArg (given m c main_arg0) (place y fun a => by show 0 * _ + 1 * (y a).val = (y a).val; omega)
theorem blk1 : iblk m c 1 pt = given m c main_arg1 :=
  funext fun y => congrArg (given m c main_arg1) (place y fun a => by show 0 * _ + 1 * (y a).val = (y a).val; omega)
theorem blk2 : iblk m c 2 pt = given m c main_arg2 :=
  funext fun y => congrArg (given m c main_arg2) (place y fun a => by show 0 * _ + 1 * (y a).val = (y a).val; omega)
theorem blk3 : iblk m c 3 pt = given m c main_arg3 :=
  funext fun y => congrArg (given m c main_arg3) (place y fun a => by show 0 * _ + 1 * (y a).val = (y a).val; omega)
theorem blk4 : iblk m c 4 pt = given m c main_arg4 :=
  funext fun y => congrArg (given m c main_arg4) (place y fun a => by show 0 * _ + 1 * (y a).val = (y a).val; omega)
theorem blk5 : iblk m c 5 pt = given m c main_arg5 :=
  funext fun y => congrArg (given m c main_arg5) (place y fun a => by show 0 * _ + 1 * (y a).val = (y a).val; omega)
theorem blk6 : iblk m c 6 pt = given m c main_arg6 :=
  funext fun y => congrArg (given m c main_arg6) (place y fun a => by show 0 * _ + 1 * (y a).val = (y a).val; omega)
theorem blk7 : iblk m c 7 pt = given m c main_arg7 :=
  funext fun y => congrArg (given m c main_arg7) (place y fun a => by show 0 * _ + 1 * (y a).val = (y a).val; omega)
theorem blk8 : iblk m c 8 pt = given m c main_arg8 :=
  funext fun y => congrArg (given m c main_arg8) (place y fun a => by show 0 * _ + 1 * (y a).val = (y a).val; omega)
theorem blk9 : iblk m c 9 pt = given m c main_arg9 :=
  funext fun y => congrArg (given m c main_arg9) (place y fun a => by show 0 * _ + 1 * (y a).val = (y a).val; omega)
theorem blk10 : iblk m c 10 pt = given m c main_arg10 :=
  funext fun y => congrArg (given m c main_arg10) (place y fun a => by show 0 * _ + 1 * (y a).val = (y a).val; omega)
theorem blk11 : iblk m c 11 pt = given m c main_arg11 :=
  funext fun y => congrArg (given m c main_arg11) (place y fun a => by show 0 * _ + 1 * (y a).val = (y a).val; omega)
theorem blk12 : iblk m c 12 pt = given m c main_arg12 :=
  funext fun y => congrArg (given m c main_arg12) (place y fun a => by show 0 * _ + 1 * (y a).val = (y a).val; omega)
theorem blk13 : iblk m c 13 pt = given m c main_arg13 :=
  funext fun y => congrArg (given m c main_arg13) (place y fun a => by show 0 * _ + 1 * (y a).val = (y a).val; omega)
theorem blk14 : iblk m c 14 pt = given m c main_arg14 :=
  funext fun y => congrArg (given m c main_arg14) (place y fun a => by show 0 * _ + 1 * (y a).val = (y a).val; omega)
theorem blk15 : iblk m c 15 pt = given m c main_arg15 :=
  funext fun y => congrArg (given m c main_arg15) (place y fun a => by show 0 * _ + 1 * (y a).val = (y a).val; omega)
theorem blk16 : iblk m c 16 pt = given m c main_arg16 :=
  funext fun y => congrArg (given m c main_arg16) (place y fun a => by show 0 * _ + 1 * (y a).val = (y a).val; omega)
theorem blk17 : iblk m c 17 pt = given m c main_arg17 :=
  funext fun y => congrArg (given m c main_arg17) (place y fun a => by show 0 * _ + 1 * (y a).val = (y a).val; omega)
theorem blk18 : iblk m c 18 pt = given m c main_arg18 :=
  funext fun y => congrArg (given m c main_arg18) (place y fun a => by show 0 * _ + 1 * (y a).val = (y a).val; omega)
theorem blk19 : iblk m c 19 pt = given m c main_arg19 :=
  funext fun y => congrArg (given m c main_arg19) (place y fun a => by show 0 * _ + 1 * (y a).val = (y a).val; omega)
theorem blk20 : iblk m c 20 pt = given m c main_arg20 :=
  funext fun y => congrArg (given m c main_arg20) (place y fun a => by show 0 * _ + 1 * (y a).val = (y a).val; omega)
theorem blk21 : iblk m c 21 pt = given m c main_arg21 :=
  funext fun y => congrArg (given m c main_arg21) (place y fun a => by show 0 * _ + 1 * (y a).val = (y a).val; omega)
theorem blk22 : iblk m c 22 pt = given m c main_arg22 :=
  funext fun y => congrArg (given m c main_arg22) (place y fun a => by show 0 * _ + 1 * (y a).val = (y a).val; omega)
theorem blk23 : iblk m c 23 pt = given m c main_arg23 :=
  funext fun y => congrArg (given m c main_arg23) (place y fun a => by show 0 * _ + 1 * (y a).val = (y a).val; omega)
theorem blk24 : iblk m c 24 pt = given m c main_arg24 :=
  funext fun y => congrArg (given m c main_arg24) (place y fun a => by show 0 * _ + 1 * (y a).val = (y a).val; omega)
theorem blk25 : iblk m c 25 pt = given m c main_arg25 :=
  funext fun y => congrArg (given m c main_arg25) (place y fun a => by show 0 * _ + 1 * (y a).val = (y a).val; omega)
theorem blk26 : iblk m c 26 pt = given m c main_arg26 :=
  funext fun y => congrArg (given m c main_arg26) (place y fun a => by show 0 * _ + 1 * (y a).val = (y a).val; omega)
theorem blk27 : iblk m c 27 pt = given m c main_arg27 :=
  funext fun y => congrArg (given m c main_arg27) (place y fun a => by show 0 * _ + 1 * (y a).val = (y a).val; omega)
theorem blk28 : iblk m c 28 pt = given m c main_arg28 :=
  funext fun y => congrArg (given m c main_arg28) (place y fun a => by show 0 * _ + 1 * (y a).val = (y a).val; omega)
theorem blk29 : iblk m c 29 pt = given m c main_arg29 :=
  funext fun y => congrArg (given m c main_arg29) (place y fun a => by show 0 * _ + 1 * (y a).val = (y a).val; omega)
theorem blk30 : iblk m c 30 pt = given m c main_arg30 :=
  funext fun y => congrArg (given m c main_arg30) (place y fun a => by show 0 * _ + 1 * (y a).val = (y a).val; omega)
theorem blk31 : iblk m c 31 pt = given m c main_arg31 :=
  funext fun y => congrArg (given m c main_arg31) (place y fun a => by show 0 * _ + 1 * (y a).val = (y a).val; omega)
theorem blk32 : iblk m c 32 pt = given m c main_arg32 :=
  funext fun y => congrArg (given m c main_arg32) (place y fun a => by show 0 * _ + 1 * (y a).val = (y a).val; omega)
theorem blk33 : iblk m c 33 pt = given m c main_arg33 :=
  funext fun y => congrArg (given m c main_arg33) (place y fun a => by show 0 * _ + 1 * (y a).val = (y a).val; omega)

/-! ## The results -/

attribute [local irreducible] slabG slabD slabM slabV

theorem array34 : (dats m 0 c).arrAt 34 cfg0.N = spread (given m c main_arg0) :=
  (dats m 0 c).arrAt_eq_of_after_last 34 pt (whole 34 (by decide)) _ (congrFun ((congrArg slabG (blk0 m c)).trans (slabG_eq _)))
theorem array35 : (dats m 0 c).arrAt 35 cfg0.N = stepD (spread (given m c main_arg0)) (given m c main_arg4) (given m c main_arg5) (given m c main_arg6) :=
  (dats m 0 c).arrAt_eq_of_after_last 35 pt (whole 35 (by decide)) _ (congrFun ((congr4 slabD (blk0 m c) (blk4 m c) (blk5 m c) (blk6 m c)).trans (slabD_eq _ _ _ _)))
theorem array36 : (dats m 0 c).arrAt 36 cfg0.N = stepM (spread (given m c main_arg0)) (given m c main_arg5) :=
  (dats m 0 c).arrAt_eq_of_after_last 36 pt (whole 36 (by decide)) _ (congrFun ((congrArg₂ slabM (blk0 m c) (blk5 m c)).trans (slabM_eq _ _)))
theorem array37 : (dats m 0 c).arrAt 37 cfg0.N = stepV (spread (given m c main_arg0)) (given m c main_arg6) :=
  (dats m 0 c).arrAt_eq_of_after_last 37 pt (whole 37 (by decide)) _ (congrFun ((congrArg₂ slabV (blk0 m c) (blk6 m c)).trans (slabV_eq _ _)))
theorem array38 : (dats m 0 c).arrAt 38 cfg0.N = spread (given m c main_arg1) :=
  (dats m 0 c).arrAt_eq_of_after_last 38 pt (whole 38 (by decide)) _ (congrFun ((congrArg slabG (blk1 m c)).trans (slabG_eq _)))
theorem array39 : (dats m 0 c).arrAt 39 cfg0.N = stepD (spread (given m c main_arg1)) (given m c main_arg7) (given m c main_arg8) (given m c main_arg9) :=
  (dats m 0 c).arrAt_eq_of_after_last 39 pt (whole 39 (by decide)) _ (congrFun ((congr4 slabD (blk1 m c) (blk7 m c) (blk8 m c) (blk9 m c)).trans (slabD_eq _ _ _ _)))
theorem array40 : (dats m 0 c).arrAt 40 cfg0.N = stepM (spread (given m c main_arg1)) (given m c main_arg8) :=
  (dats m 0 c).arrAt_eq_of_after_last 40 pt (whole 40 (by decide)) _ (congrFun ((congrArg₂ slabM (blk1 m c) (blk8 m c)).trans (slabM_eq _ _)))
theorem array41 : (dats m 0 c).arrAt 41 cfg0.N = stepV (spread (given m c main_arg1)) (given m c main_arg9) :=
  (dats m 0 c).arrAt_eq_of_after_last 41 pt (whole 41 (by decide)) _ (congrFun ((congrArg₂ slabV (blk1 m c) (blk9 m c)).trans (slabV_eq _ _)))
theorem array42 : (dats m 0 c).arrAt 42 cfg0.N = rowOf 0 (given m c main_arg2) :=
  (dats m 0 c).arrAt_eq_of_after_last 42 pt (whole 42 (by decide)) _ (congrFun ((congrArg (row · 0) (blk2 m c)).trans (rowG_eq _ 0)))
theorem array43 : (dats m 0 c).arrAt 43 cfg0.N = stepD (rowOf 0 (given m c main_arg2)) (given m c main_arg10) (given m c main_arg11) (given m c main_arg12) :=
  (dats m 0 c).arrAt_eq_of_after_last 43 pt (whole 43 (by decide)) _ (congrFun ((congr4 rowD ((congrArg (row · 0) (blk2 m c)).trans (rowG_eq _ 0)) (blk10 m c) (blk11 m c) (blk12 m c)).trans (rowD_eq _ _ _ _)))
theorem array44 : (dats m 0 c).arrAt 44 cfg0.N = stepM (rowOf 0 (given m c main_arg2)) (given m c main_arg11) :=
  (dats m 0 c).arrAt_eq_of_after_last 44 pt (whole 44 (by decide)) _ (congrFun ((congrArg₂ rowM ((congrArg (row · 0) (blk2 m c)).trans (rowG_eq _ 0)) (blk11 m c)).trans (rowM_eq _ _)))
theorem array45 : (dats m 0 c).arrAt 45 cfg0.N = stepV (rowOf 0 (given m c main_arg2)) (given m c main_arg12) :=
  (dats m 0 c).arrAt_eq_of_after_last 45 pt (whole 45 (by decide)) _ (congrFun ((congrArg₂ rowV ((congrArg (row · 0) (blk2 m c)).trans (rowG_eq _ 0)) (blk12 m c)).trans (rowV_eq _ _)))
theorem array46 : (dats m 0 c).arrAt 46 cfg0.N = rowOf 1 (given m c main_arg2) :=
  (dats m 0 c).arrAt_eq_of_after_last 46 pt (whole 46 (by decide)) _ (congrFun ((congrArg (row · 1) (blk2 m c)).trans (rowG_eq _ 1)))
theorem array47 : (dats m 0 c).arrAt 47 cfg0.N = stepD (rowOf 1 (given m c main_arg2)) (given m c main_arg13) (given m c main_arg14) (given m c main_arg15) :=
  (dats m 0 c).arrAt_eq_of_after_last 47 pt (whole 47 (by decide)) _ (congrFun ((congr4 rowD ((congrArg (row · 1) (blk2 m c)).trans (rowG_eq _ 1)) (blk13 m c) (blk14 m c) (blk15 m c)).trans (rowD_eq _ _ _ _)))
theorem array48 : (dats m 0 c).arrAt 48 cfg0.N = stepM (rowOf 1 (given m c main_arg2)) (given m c main_arg14) :=
  (dats m 0 c).arrAt_eq_of_after_last 48 pt (whole 48 (by decide)) _ (congrFun ((congrArg₂ rowM ((congrArg (row · 1) (blk2 m c)).trans (rowG_eq _ 1)) (blk14 m c)).trans (rowM_eq _ _)))
theorem array49 : (dats m 0 c).arrAt 49 cfg0.N = stepV (rowOf 1 (given m c main_arg2)) (given m c main_arg15) :=
  (dats m 0 c).arrAt_eq_of_after_last 49 pt (whole 49 (by decide)) _ (congrFun ((congrArg₂ rowV ((congrArg (row · 1) (blk2 m c)).trans (rowG_eq _ 1)) (blk15 m c)).trans (rowV_eq _ _)))
theorem array50 : (dats m 0 c).arrAt 50 cfg0.N = rowOf 2 (given m c main_arg2) :=
  (dats m 0 c).arrAt_eq_of_after_last 50 pt (whole 50 (by decide)) _ (congrFun ((congrArg (row · 2) (blk2 m c)).trans (rowG_eq _ 2)))
theorem array51 : (dats m 0 c).arrAt 51 cfg0.N = stepD (rowOf 2 (given m c main_arg2)) (given m c main_arg16) (given m c main_arg17) (given m c main_arg18) :=
  (dats m 0 c).arrAt_eq_of_after_last 51 pt (whole 51 (by decide)) _ (congrFun ((congr4 rowD ((congrArg (row · 2) (blk2 m c)).trans (rowG_eq _ 2)) (blk16 m c) (blk17 m c) (blk18 m c)).trans (rowD_eq _ _ _ _)))
theorem array52 : (dats m 0 c).arrAt 52 cfg0.N = stepM (rowOf 2 (given m c main_arg2)) (given m c main_arg17) :=
  (dats m 0 c).arrAt_eq_of_after_last 52 pt (whole 52 (by decide)) _ (congrFun ((congrArg₂ rowM ((congrArg (row · 2) (blk2 m c)).trans (rowG_eq _ 2)) (blk17 m c)).trans (rowM_eq _ _)))
theorem array53 : (dats m 0 c).arrAt 53 cfg0.N = stepV (rowOf 2 (given m c main_arg2)) (given m c main_arg18) :=
  (dats m 0 c).arrAt_eq_of_after_last 53 pt (whole 53 (by decide)) _ (congrFun ((congrArg₂ rowV ((congrArg (row · 2) (blk2 m c)).trans (rowG_eq _ 2)) (blk18 m c)).trans (rowV_eq _ _)))
theorem array54 : (dats m 0 c).arrAt 54 cfg0.N = rowOf 3 (given m c main_arg2) :=
  (dats m 0 c).arrAt_eq_of_after_last 54 pt (whole 54 (by decide)) _ (congrFun ((congrArg (row · 3) (blk2 m c)).trans (rowG_eq _ 3)))
theorem array55 : (dats m 0 c).arrAt 55 cfg0.N = stepD (rowOf 3 (given m c main_arg2)) (given m c main_arg19) (given m c main_arg20) (given m c main_arg21) :=
  (dats m 0 c).arrAt_eq_of_after_last 55 pt (whole 55 (by decide)) _ (congrFun ((congr4 rowD ((congrArg (row · 3) (blk2 m c)).trans (rowG_eq _ 3)) (blk19 m c) (blk20 m c) (blk21 m c)).trans (rowD_eq _ _ _ _)))
theorem array56 : (dats m 0 c).arrAt 56 cfg0.N = stepM (rowOf 3 (given m c main_arg2)) (given m c main_arg20) :=
  (dats m 0 c).arrAt_eq_of_after_last 56 pt (whole 56 (by decide)) _ (congrFun ((congrArg₂ rowM ((congrArg (row · 3) (blk2 m c)).trans (rowG_eq _ 3)) (blk20 m c)).trans (rowM_eq _ _)))
theorem array57 : (dats m 0 c).arrAt 57 cfg0.N = stepV (rowOf 3 (given m c main_arg2)) (given m c main_arg21) :=
  (dats m 0 c).arrAt_eq_of_after_last 57 pt (whole 57 (by decide)) _ (congrFun ((congrArg₂ rowV ((congrArg (row · 3) (blk2 m c)).trans (rowG_eq _ 3)) (blk21 m c)).trans (rowV_eq _ _)))
theorem array58 : (dats m 0 c).arrAt 58 cfg0.N = rowOf 8 (given m c main_arg2) :=
  (dats m 0 c).arrAt_eq_of_after_last 58 pt (whole 58 (by decide)) _ (congrFun ((congrArg (row · 8) (blk2 m c)).trans (rowG_eq _ 8)))
theorem array59 : (dats m 0 c).arrAt 59 cfg0.N = stepD (rowOf 8 (given m c main_arg2)) (given m c main_arg22) (given m c main_arg23) (given m c main_arg24) :=
  (dats m 0 c).arrAt_eq_of_after_last 59 pt (whole 59 (by decide)) _ (congrFun ((congr4 rowD ((congrArg (row · 8) (blk2 m c)).trans (rowG_eq _ 8)) (blk22 m c) (blk23 m c) (blk24 m c)).trans (rowD_eq _ _ _ _)))
theorem array60 : (dats m 0 c).arrAt 60 cfg0.N = stepM (rowOf 8 (given m c main_arg2)) (given m c main_arg23) :=
  (dats m 0 c).arrAt_eq_of_after_last 60 pt (whole 60 (by decide)) _ (congrFun ((congrArg₂ rowM ((congrArg (row · 8) (blk2 m c)).trans (rowG_eq _ 8)) (blk23 m c)).trans (rowM_eq _ _)))
theorem array61 : (dats m 0 c).arrAt 61 cfg0.N = stepV (rowOf 8 (given m c main_arg2)) (given m c main_arg24) :=
  (dats m 0 c).arrAt_eq_of_after_last 61 pt (whole 61 (by decide)) _ (congrFun ((congrArg₂ rowV ((congrArg (row · 8) (blk2 m c)).trans (rowG_eq _ 8)) (blk24 m c)).trans (rowV_eq _ _)))
theorem array62 : (dats m 0 c).arrAt 62 cfg0.N = rowOf 16 (given m c main_arg2) :=
  (dats m 0 c).arrAt_eq_of_after_last 62 pt (whole 62 (by decide)) _ (congrFun ((congrArg (row · 16) (blk2 m c)).trans (rowG_eq _ 16)))
theorem array63 : (dats m 0 c).arrAt 63 cfg0.N = stepD (rowOf 16 (given m c main_arg2)) (given m c main_arg25) (given m c main_arg26) (given m c main_arg27) :=
  (dats m 0 c).arrAt_eq_of_after_last 63 pt (whole 63 (by decide)) _ (congrFun ((congr4 rowD ((congrArg (row · 16) (blk2 m c)).trans (rowG_eq _ 16)) (blk25 m c) (blk26 m c) (blk27 m c)).trans (rowD_eq _ _ _ _)))
theorem array64 : (dats m 0 c).arrAt 64 cfg0.N = stepM (rowOf 16 (given m c main_arg2)) (given m c main_arg26) :=
  (dats m 0 c).arrAt_eq_of_after_last 64 pt (whole 64 (by decide)) _ (congrFun ((congrArg₂ rowM ((congrArg (row · 16) (blk2 m c)).trans (rowG_eq _ 16)) (blk26 m c)).trans (rowM_eq _ _)))
theorem array65 : (dats m 0 c).arrAt 65 cfg0.N = stepV (rowOf 16 (given m c main_arg2)) (given m c main_arg27) :=
  (dats m 0 c).arrAt_eq_of_after_last 65 pt (whole 65 (by decide)) _ (congrFun ((congrArg₂ rowV ((congrArg (row · 16) (blk2 m c)).trans (rowG_eq _ 16)) (blk27 m c)).trans (rowV_eq _ _)))
theorem array66 : (dats m 0 c).arrAt 66 cfg0.N = sinks (given m c main_arg2) :=
  (dats m 0 c).arrAt_eq_of_after_last 66 pt (whole 66 (by decide)) _ (congrFun ((congrArg sinksG (blk2 m c)).trans (sinksG_eq _)))
theorem array67 : (dats m 0 c).arrAt 67 cfg0.N = stepD (sinks (given m c main_arg2)) (given m c main_arg28) (given m c main_arg29) (given m c main_arg30) :=
  (dats m 0 c).arrAt_eq_of_after_last 67 pt (whole 67 (by decide)) _ (congrFun ((congr4 sinksD ((congrArg sinksG (blk2 m c)).trans (sinksG_eq _)) (blk28 m c) (blk29 m c) (blk30 m c)).trans (sinksD_eq _ _ _ _)))
theorem array68 : (dats m 0 c).arrAt 68 cfg0.N = stepM (sinks (given m c main_arg2)) (given m c main_arg29) :=
  (dats m 0 c).arrAt_eq_of_after_last 68 pt (whole 68 (by decide)) _ (congrFun ((congrArg₂ sinksM ((congrArg sinksG (blk2 m c)).trans (sinksG_eq _)) (blk29 m c)).trans (sinksM_eq _ _)))
theorem array69 : (dats m 0 c).arrAt 69 cfg0.N = stepV (sinks (given m c main_arg2)) (given m c main_arg30) :=
  (dats m 0 c).arrAt_eq_of_after_last 69 pt (whole 69 (by decide)) _ (congrFun ((congrArg₂ sinksV ((congrArg sinksG (blk2 m c)).trans (sinksG_eq _)) (blk30 m c)).trans (sinksV_eq _ _)))
theorem array70 : (dats m 0 c).arrAt 70 cfg0.N = conv (given m c main_arg3) :=
  (dats m 0 c).arrAt_eq_of_after_last 70 pt (whole 70 (by decide)) _ (congrFun ((congrArg convG (blk3 m c)).trans (convG_eq _)))
theorem array71 : (dats m 0 c).arrAt 71 cfg0.N = stepD (conv (given m c main_arg3)) (given m c main_arg31) (given m c main_arg32) (given m c main_arg33) :=
  (dats m 0 c).arrAt_eq_of_after_last 71 pt (whole 71 (by decide)) _ (congrFun ((congr4 convD ((congrArg convG (blk3 m c)).trans (convG_eq _)) (blk31 m c) (blk32 m c) (blk33 m c)).trans (convD_eq _ _ _ _)))
theorem array72 : (dats m 0 c).arrAt 72 cfg0.N = stepM (conv (given m c main_arg3)) (given m c main_arg32) :=
  (dats m 0 c).arrAt_eq_of_after_last 72 pt (whole 72 (by decide)) _ (congrFun ((congrArg₂ convM ((congrArg convG (blk3 m c)).trans (convG_eq _)) (blk32 m c)).trans (convM_eq _ _)))
theorem array73 : (dats m 0 c).arrAt 73 cfg0.N = stepV (conv (given m c main_arg3)) (given m c main_arg33) :=
  (dats m 0 c).arrAt_eq_of_after_last 73 pt (whole 73 (by decide)) _ (congrFun ((congrArg₂ convV ((congrArg convG (blk3 m c)).trans (convG_eq _)) (blk33 m c)).trans (convV_eq _ _)))
theorem array74 : (dats m 0 c).arrAt 74 cfg0.N = loss (given m c main_arg2) :=
  (dats m 0 c).arrAt_eq_of_after_last 74 pt (whole 74 (by decide)) _ (congrFun ((congrArg lossOf (blk2 m c)).trans (lossOf_eq _)))

set_option maxHeartbeats 4000000 in
/-- Every run ends with the 41 results at these functions of the arguments, and the arguments as they were. -/
theorem values : θ_run defs (onTc (τ := τ) (main (F := Ideal))) ⟨m, fun _ => 0, ρ⟩ (fun r => ∀ c : Dev nD,
      r.2.mem ((c.tc : Thread nD τ).loc main_v0_0) = spread (given m c main_arg0) ∧
      r.2.mem ((c.tc : Thread nD τ).loc main_v0_1) = stepD (spread (given m c main_arg0)) (given m c main_arg4) (given m c main_arg5) (given m c main_arg6) ∧
      r.2.mem ((c.tc : Thread nD τ).loc main_v0_2) = stepM (spread (given m c main_arg0)) (given m c main_arg5) ∧
      r.2.mem ((c.tc : Thread nD τ).loc main_v0_3) = stepV (spread (given m c main_arg0)) (given m c main_arg6) ∧
      r.2.mem ((c.tc : Thread nD τ).loc main_v0_4) = spread (given m c main_arg1) ∧
      r.2.mem ((c.tc : Thread nD τ).loc main_v0_5) = stepD (spread (given m c main_arg1)) (given m c main_arg7) (given m c main_arg8) (given m c main_arg9) ∧
      r.2.mem ((c.tc : Thread nD τ).loc main_v0_6) = stepM (spread (given m c main_arg1)) (given m c main_arg8) ∧
      r.2.mem ((c.tc : Thread nD τ).loc main_v0_7) = stepV (spread (given m c main_arg1)) (given m c main_arg9) ∧
      r.2.mem ((c.tc : Thread nD τ).loc main_v0_8) = rowOf 0 (given m c main_arg2) ∧
      r.2.mem ((c.tc : Thread nD τ).loc main_v0_9) = stepD (rowOf 0 (given m c main_arg2)) (given m c main_arg10) (given m c main_arg11) (given m c main_arg12) ∧
      r.2.mem ((c.tc : Thread nD τ).loc main_v0_10) = stepM (rowOf 0 (given m c main_arg2)) (given m c main_arg11) ∧
      r.2.mem ((c.tc : Thread nD τ).loc main_v0_11) = stepV (rowOf 0 (given m c main_arg2)) (given m c main_arg12) ∧
      r.2.mem ((c.tc : Thread nD τ).loc main_v0_12) = rowOf 1 (given m c main_arg2) ∧
      r.2.mem ((c.tc : Thread nD τ).loc main_v0_13) = stepD (rowOf 1 (given m c main_arg2)) (given m c main_arg13) (given m c main_arg14) (given m c main_arg15) ∧
      r.2.mem ((c.tc : Thread nD τ).loc main_v0_14) = stepM (rowOf 1 (given m c main_arg2)) (given m c main_arg14) ∧
      r.2.mem ((c.tc : Thread nD τ).loc main_v0_15) = stepV (rowOf 1 (given m c main_arg2)) (given m c main_arg15) ∧
      r.2.mem ((c.tc : Thread nD τ).loc main_v0_16) = rowOf 2 (given m c main_arg2) ∧
      r.2.mem ((c.tc : Thread nD τ).loc main_v0_17) = stepD (rowOf 2 (given m c main_arg2)) (given m c main_arg16) (given m c main_arg17) (given m c main_arg18) ∧
      r.2.mem ((c.tc : Thread nD τ).loc main_v0_18) = stepM (rowOf 2 (given m c main_arg2)) (given m c main_arg17) ∧
      r.2.mem ((c.tc : Thread nD τ).loc main_v0_19) = stepV (rowOf 2 (given m c main_arg2)) (given m c main_arg18) ∧
      r.2.mem ((c.tc : Thread nD τ).loc main_v0_20) = rowOf 3 (given m c main_arg2) ∧
      r.2.mem ((c.tc : Thread nD τ).loc main_v0_21) = stepD (rowOf 3 (given m c main_arg2)) (given m c main_arg19) (given m c main_arg20) (given m c main_arg21) ∧
      r.2.mem ((c.tc : Thread nD τ).loc main_v0_22) = stepM (rowOf 3 (given m c main_arg2)) (given m c main_arg20) ∧
      r.2.mem ((c.tc : Thread nD τ).loc main_v0_23) = stepV (rowOf 3 (given m c main_arg2)) (given m c main_arg21) ∧
      r.2.mem ((c.tc : Thread nD τ).loc main_v0_24) = rowOf 8 (given m c main_arg2) ∧
      r.2.mem ((c.tc : Thread nD τ).loc main_v0_25) = stepD (rowOf 8 (given m c main_arg2)) (given m c main_arg22) (given m c main_arg23) (given m c main_arg24) ∧
      r.2.mem ((c.tc : Thread nD τ).loc main_v0_26) = stepM (rowOf 8 (given m c main_arg2)) (given m c main_arg23) ∧
      r.2.mem ((c.tc : Thread nD τ).loc main_v0_27) = stepV (rowOf 8 (given m c main_arg2)) (given m c main_arg24) ∧
      r.2.mem ((c.tc : Thread nD τ).loc main_v0_28) = rowOf 16 (given m c main_arg2) ∧
      r.2.mem ((c.tc : Thread nD τ).loc main_v0_29) = stepD (rowOf 16 (given m c main_arg2)) (given m c main_arg25) (given m c main_arg26) (given m c main_arg27) ∧
      r.2.mem ((c.tc : Thread nD τ).loc main_v0_30) = stepM (rowOf 16 (given m c main_arg2)) (given m c main_arg26) ∧
      r.2.mem ((c.tc : Thread nD τ).loc main_v0_31) = stepV (rowOf 16 (given m c main_arg2)) (given m c main_arg27) ∧
      r.2.mem ((c.tc : Thread nD τ).loc main_v0_32) = sinks (given m c main_arg2) ∧
      r.2.mem ((c.tc : Thread nD τ).loc main_v0_33) = stepD (sinks (given m c main_arg2)) (given m c main_arg28) (given m c main_arg29) (given m c main_arg30) ∧
      r.2.mem ((c.tc : Thread nD τ).loc main_v0_34) = stepM (sinks (given m c main_arg2)) (given m c main_arg29) ∧
      r.2.mem ((c.tc : Thread nD τ).loc main_v0_35) = stepV (sinks (given m c main_arg2)) (given m c main_arg30) ∧
      r.2.mem ((c.tc : Thread nD τ).loc main_v0_36) = conv (given m c main_arg3) ∧
      r.2.mem ((c.tc : Thread nD τ).loc main_v0_37) = stepD (conv (given m c main_arg3)) (given m c main_arg31) (given m c main_arg32) (given m c main_arg33) ∧
      r.2.mem ((c.tc : Thread nD τ).loc main_v0_38) = stepM (conv (given m c main_arg3)) (given m c main_arg32) ∧
      r.2.mem ((c.tc : Thread nD τ).loc main_v0_39) = stepV (conv (given m c main_arg3)) (given m c main_arg33) ∧
      r.2.mem ((c.tc : Thread nD τ).loc main_v0_40) = loss (given m c main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)) :=
  (θ_run defs _ _).mono (fun r h c => ⟨((h.1 c).1 34).trans (array34 m c), ((h.1 c).1 35).trans (array35 m c), ((h.1 c).1 36).trans (array36 m c), ((h.1 c).1 37).trans (array37 m c), ((h.1 c).1 38).trans (array38 m c), ((h.1 c).1 39).trans (array39 m c), ((h.1 c).1 40).trans (array40 m c), ((h.1 c).1 41).trans (array41 m c), ((h.1 c).1 42).trans (array42 m c), ((h.1 c).1 43).trans (array43 m c), ((h.1 c).1 44).trans (array44 m c), ((h.1 c).1 45).trans (array45 m c), ((h.1 c).1 46).trans (array46 m c), ((h.1 c).1 47).trans (array47 m c), ((h.1 c).1 48).trans (array48 m c), ((h.1 c).1 49).trans (array49 m c), ((h.1 c).1 50).trans (array50 m c), ((h.1 c).1 51).trans (array51 m c), ((h.1 c).1 52).trans (array52 m c), ((h.1 c).1 53).trans (array53 m c), ((h.1 c).1 54).trans (array54 m c), ((h.1 c).1 55).trans (array55 m c), ((h.1 c).1 56).trans (array56 m c), ((h.1 c).1 57).trans (array57 m c), ((h.1 c).1 58).trans (array58 m c), ((h.1 c).1 59).trans (array59 m c), ((h.1 c).1 60).trans (array60 m c), ((h.1 c).1 61).trans (array61 m c), ((h.1 c).1 62).trans (array62 m c), ((h.1 c).1 63).trans (array63 m c), ((h.1 c).1 64).trans (array64 m c), ((h.1 c).1 65).trans (array65 m c), ((h.1 c).1 66).trans (array66 m c), ((h.1 c).1 67).trans (array67 m c), ((h.1 c).1 68).trans (array68 m c), ((h.1 c).1 69).trans (array69 m c), ((h.1 c).1 70).trans (array70 m c), ((h.1 c).1 71).trans (array71 m c), ((h.1 c).1 72).trans (array72 m c), ((h.1 c).1 73).trans (array73 m c), ((h.1 c).1 74).trans (array74 m c),
    h.1.in_eq c 0 rfl, h.1.in_eq c 1 rfl, h.1.in_eq c 2 rfl, h.1.in_eq c 3 rfl, h.1.in_eq c 4 rfl, h.1.in_eq c 5 rfl, h.1.in_eq c 6 rfl, h.1.in_eq c 7 rfl, h.1.in_eq c 8 rfl, h.1.in_eq c 9 rfl, h.1.in_eq c 10 rfl, h.1.in_eq c 11 rfl, h.1.in_eq c 12 rfl, h.1.in_eq c 13 rfl, h.1.in_eq c 14 rfl, h.1.in_eq c 15 rfl, h.1.in_eq c 16 rfl, h.1.in_eq c 17 rfl, h.1.in_eq c 18 rfl, h.1.in_eq c 19 rfl, h.1.in_eq c 20 rfl, h.1.in_eq c 21 rfl, h.1.in_eq c 22 rfl, h.1.in_eq c 23 rfl, h.1.in_eq c 24 rfl, h.1.in_eq c 25 rfl, h.1.in_eq c 26 rfl, h.1.in_eq c 27 rfl, h.1.in_eq c 28 rfl, h.1.in_eq c 29 rfl, h.1.in_eq c 30 rfl, h.1.in_eq c 31 rfl, h.1.in_eq c 32 rfl, h.1.in_eq c 33 rfl⟩) (run m ρ)

end Cert.Kernel7Ideal.Small

end
-- ==== Proof.SmallClaims.lean ====
/- The claims about the small weights' optimiser step: the reference ends with its counters at zero and its arguments
   untouched, and the kernel's 41 result arrays are the reference's, as functions of the 34 arguments. -/
module

public import proofs.«01_k».proof.Defs
public import proofs.«01_k».proof.Proof.Gen.Reference7Ideal
public import proofs.«01_k».proof.Proof.Gen.Reference7Ideal.Run
public import proofs.«01_k».proof.Proof.Gen.Reference7Ideal.Read
public import proofs.«01_k».proof.Proof.SmallValue

@[expose] public section

noncomputable section

open Idealize.ShloMosaic Idealize.SL.Sem

namespace Cert.Proof.SmallClaims

open Cert.Kernel7Ideal.Small Cert.Reference7Ideal.Small Cert.Small

/-- The reference touches none of its arguments, and it has no counter to leave raised. -/
theorem frame_reference : Cert.quiescent_Reference7Ideal := fun m ρ _ =>
  (θ_run Cert.Reference7Ideal.defs _ _).mono
    (fun r h => ⟨fun c => by
      obtain ⟨_, _, _, _, _, _, _, _, _, _, _, _, _, _, _, _, _, _, _, _, _, _, _, _, _, _, _, _, _, _, _, _, _, _, _, _, _, _, _, _, _, kept⟩ := h c
      exact kept, sem_eq_zero_of_no_sems (by decide) r.2⟩)
    (Cert.Reference7Ideal.Value.run (F := Ideal) m ρ)

set_option maxHeartbeats 8000000 in
/-- The kernel's 41 results are the reference's. -/
theorem algebraic : Cert.algebraic_Kernel7Ideal_Reference7Ideal := by
  intro m g m' g' _ h
  refine ⟨fun c => spread (given m c Cert.Kernel7Ideal.main_arg0), fun c => stepD (spread (given m c Cert.Kernel7Ideal.main_arg0)) (given m c Cert.Kernel7Ideal.main_arg4) (given m c Cert.Kernel7Ideal.main_arg5) (given m c Cert.Kernel7Ideal.main_arg6), fun c => stepM (spread (given m c Cert.Kernel7Ideal.main_arg0)) (given m c Cert.Kernel7Ideal.main_arg5), fun c => stepV (spread (given m c Cert.Kernel7Ideal.main_arg0)) (given m c Cert.Kernel7Ideal.main_arg6), fun c => spread (given m c Cert.Kernel7Ideal.main_arg1), fun c => stepD (spread (given m c Cert.Kernel7Ideal.main_arg1)) (given m c Cert.Kernel7Ideal.main_arg7) (given m c Cert.Kernel7Ideal.main_arg8) (given m c Cert.Kernel7Ideal.main_arg9), fun c => stepM (spread (given m c Cert.Kernel7Ideal.main_arg1)) (given m c Cert.Kernel7Ideal.main_arg8), fun c => stepV (spread (given m c Cert.Kernel7Ideal.main_arg1)) (given m c Cert.Kernel7Ideal.main_arg9), fun c => rowOf 0 (given m c Cert.Kernel7Ideal.main_arg2), fun c => stepD (rowOf 0 (given m c Cert.Kernel7Ideal.main_arg2)) (given m c Cert.Kernel7Ideal.main_arg10) (given m c Cert.Kernel7Ideal.main_arg11) (given m c Cert.Kernel7Ideal.main_arg12), fun c => stepM (rowOf 0 (given m c Cert.Kernel7Ideal.main_arg2)) (given m c Cert.Kernel7Ideal.main_arg11), fun c => stepV (rowOf 0 (given m c Cert.Kernel7Ideal.main_arg2)) (given m c Cert.Kernel7Ideal.main_arg12), fun c => rowOf 1 (given m c Cert.Kernel7Ideal.main_arg2), fun c => stepD (rowOf 1 (given m c Cert.Kernel7Ideal.main_arg2)) (given m c Cert.Kernel7Ideal.main_arg13) (given m c Cert.Kernel7Ideal.main_arg14) (given m c Cert.Kernel7Ideal.main_arg15), fun c => stepM (rowOf 1 (given m c Cert.Kernel7Ideal.main_arg2)) (given m c Cert.Kernel7Ideal.main_arg14), fun c => stepV (rowOf 1 (given m c Cert.Kernel7Ideal.main_arg2)) (given m c Cert.Kernel7Ideal.main_arg15), fun c => rowOf 2 (given m c Cert.Kernel7Ideal.main_arg2), fun c => stepD (rowOf 2 (given m c Cert.Kernel7Ideal.main_arg2)) (given m c Cert.Kernel7Ideal.main_arg16) (given m c Cert.Kernel7Ideal.main_arg17) (given m c Cert.Kernel7Ideal.main_arg18), fun c => stepM (rowOf 2 (given m c Cert.Kernel7Ideal.main_arg2)) (given m c Cert.Kernel7Ideal.main_arg17), fun c => stepV (rowOf 2 (given m c Cert.Kernel7Ideal.main_arg2)) (given m c Cert.Kernel7Ideal.main_arg18), fun c => rowOf 3 (given m c Cert.Kernel7Ideal.main_arg2), fun c => stepD (rowOf 3 (given m c Cert.Kernel7Ideal.main_arg2)) (given m c Cert.Kernel7Ideal.main_arg19) (given m c Cert.Kernel7Ideal.main_arg20) (given m c Cert.Kernel7Ideal.main_arg21), fun c => stepM (rowOf 3 (given m c Cert.Kernel7Ideal.main_arg2)) (given m c Cert.Kernel7Ideal.main_arg20), fun c => stepV (rowOf 3 (given m c Cert.Kernel7Ideal.main_arg2)) (given m c Cert.Kernel7Ideal.main_arg21), fun c => rowOf 8 (given m c Cert.Kernel7Ideal.main_arg2), fun c => stepD (rowOf 8 (given m c Cert.Kernel7Ideal.main_arg2)) (given m c Cert.Kernel7Ideal.main_arg22) (given m c Cert.Kernel7Ideal.main_arg23) (given m c Cert.Kernel7Ideal.main_arg24), fun c => stepM (rowOf 8 (given m c Cert.Kernel7Ideal.main_arg2)) (given m c Cert.Kernel7Ideal.main_arg23), fun c => stepV (rowOf 8 (given m c Cert.Kernel7Ideal.main_arg2)) (given m c Cert.Kernel7Ideal.main_arg24), fun c => rowOf 16 (given m c Cert.Kernel7Ideal.main_arg2), fun c => stepD (rowOf 16 (given m c Cert.Kernel7Ideal.main_arg2)) (given m c Cert.Kernel7Ideal.main_arg25) (given m c Cert.Kernel7Ideal.main_arg26) (given m c Cert.Kernel7Ideal.main_arg27), fun c => stepM (rowOf 16 (given m c Cert.Kernel7Ideal.main_arg2)) (given m c Cert.Kernel7Ideal.main_arg26), fun c => stepV (rowOf 16 (given m c Cert.Kernel7Ideal.main_arg2)) (given m c Cert.Kernel7Ideal.main_arg27), fun c => sinks (given m c Cert.Kernel7Ideal.main_arg2), fun c => stepD (sinks (given m c Cert.Kernel7Ideal.main_arg2)) (given m c Cert.Kernel7Ideal.main_arg28) (given m c Cert.Kernel7Ideal.main_arg29) (given m c Cert.Kernel7Ideal.main_arg30), fun c => stepM (sinks (given m c Cert.Kernel7Ideal.main_arg2)) (given m c Cert.Kernel7Ideal.main_arg29), fun c => stepV (sinks (given m c Cert.Kernel7Ideal.main_arg2)) (given m c Cert.Kernel7Ideal.main_arg30), fun c => conv (given m c Cert.Kernel7Ideal.main_arg3), fun c => stepD (conv (given m c Cert.Kernel7Ideal.main_arg3)) (given m c Cert.Kernel7Ideal.main_arg31) (given m c Cert.Kernel7Ideal.main_arg32) (given m c Cert.Kernel7Ideal.main_arg33), fun c => stepM (conv (given m c Cert.Kernel7Ideal.main_arg3)) (given m c Cert.Kernel7Ideal.main_arg32), fun c => stepV (conv (given m c Cert.Kernel7Ideal.main_arg3)) (given m c Cert.Kernel7Ideal.main_arg33), fun c => loss (given m c Cert.Kernel7Ideal.main_arg2), values m g, ?_⟩
  refine (θ_run Cert.Reference7Ideal.defs _ _).mono (fun r hr c => ?_) (Cert.Reference7Ideal.Value.run (F := Ideal) m' g')
  obtain ⟨r0, r1, r2, r3, r4, r5, r6, r7, r8, r9, r10, r11, r12, r13, r14, r15, r16, r17, r18, r19, r20, r21, r22, r23, r24, r25, r26, r27, r28, r29, r30, r31, r32, r33, r34, r35, r36, r37, r38, r39, r40, kept⟩ := hr c
  obtain ⟨h0, h1, h2, h3, h4, h5, h6, h7, h8, h9, h10, h11, h12, h13, h14, h15, h16, h17, h18, h19, h20, h21, h22, h23, h24, h25, h26, h27, h28, h29, h30, h31, h32, h33⟩ := h c
  exact ⟨
    r0.trans ((Cert.Reference7Ideal.Read.val_main_v1_eq _).trans ((spread_eq _).trans (congrArg spread h0))),
    r1.trans ((Cert.Reference7Ideal.Read.val_main_v35_eq _).trans ((D_a _ _ _ _).trans (congr4 stepD ((spread_eq _).trans (congrArg spread h0)) h4 h5 h6))),
    r2.trans ((Cert.Reference7Ideal.Read.val_main_v16_eq _).trans ((M_a _ _).trans (congrArg₂ stepM ((spread_eq _).trans (congrArg spread h0)) h5))),
    r3.trans ((Cert.Reference7Ideal.Read.val_main_v22_eq _).trans ((V_a _ _).trans (congrArg₂ stepV ((spread_eq _).trans (congrArg spread h0)) h6))),
    r4.trans ((Cert.Reference7Ideal.Read.val_main_v3_eq _).trans ((spread_eq' _).trans (congrArg spread h1))),
    r5.trans ((Cert.Reference7Ideal.Read.val_main_v59_eq _).trans ((D_x _ _ _ _).trans (congr4 stepD ((spread_eq' _).trans (congrArg spread h1)) h7 h8 h9))),
    r6.trans ((Cert.Reference7Ideal.Read.val_main_v40_eq _).trans ((M_x _ _).trans (congrArg₂ stepM ((spread_eq' _).trans (congrArg spread h1)) h8))),
    r7.trans ((Cert.Reference7Ideal.Read.val_main_v46_eq _).trans ((V_x _ _).trans (congrArg₂ stepV ((spread_eq' _).trans (congrArg spread h1)) h9))),
    r8.trans ((Cert.Reference7Ideal.Read.val_main_v4_eq _).trans ((row0_eq _).trans (congrArg (rowOf 0) h2))),
    r9.trans ((Cert.Reference7Ideal.Read.val_main_v83_eq _).trans ((D_r0 _ _ _ _).trans (congr4 stepD ((row0_eq _).trans (congrArg (rowOf 0) h2)) h10 h11 h12))),
    r10.trans ((Cert.Reference7Ideal.Read.val_main_v64_eq _).trans ((M_r0 _ _).trans (congrArg₂ stepM ((row0_eq _).trans (congrArg (rowOf 0) h2)) h11))),
    r11.trans ((Cert.Reference7Ideal.Read.val_main_v70_eq _).trans ((V_r0 _ _).trans (congrArg₂ stepV ((row0_eq _).trans (congrArg (rowOf 0) h2)) h12))),
    r12.trans ((Cert.Reference7Ideal.Read.val_main_v5_eq _).trans ((row1_eq _).trans (congrArg (rowOf 1) h2))),
    r13.trans ((Cert.Reference7Ideal.Read.val_main_v107_eq _).trans ((D_r1 _ _ _ _).trans (congr4 stepD ((row1_eq _).trans (congrArg (rowOf 1) h2)) h13 h14 h15))),
    r14.trans ((Cert.Reference7Ideal.Read.val_main_v88_eq _).trans ((M_r1 _ _).trans (congrArg₂ stepM ((row1_eq _).trans (congrArg (rowOf 1) h2)) h14))),
    r15.trans ((Cert.Reference7Ideal.Read.val_main_v94_eq _).trans ((V_r1 _ _).trans (congrArg₂ stepV ((row1_eq _).trans (congrArg (rowOf 1) h2)) h15))),
    r16.trans ((Cert.Reference7Ideal.Read.val_main_v6_eq _).trans ((row2_eq _).trans (congrArg (rowOf 2) h2))),
    r17.trans ((Cert.Reference7Ideal.Read.val_main_v131_eq _).trans ((D_r2 _ _ _ _).trans (congr4 stepD ((row2_eq _).trans (congrArg (rowOf 2) h2)) h16 h17 h18))),
    r18.trans ((Cert.Reference7Ideal.Read.val_main_v112_eq _).trans ((M_r2 _ _).trans (congrArg₂ stepM ((row2_eq _).trans (congrArg (rowOf 2) h2)) h17))),
    r19.trans ((Cert.Reference7Ideal.Read.val_main_v118_eq _).trans ((V_r2 _ _).trans (congrArg₂ stepV ((row2_eq _).trans (congrArg (rowOf 2) h2)) h18))),
    r20.trans ((Cert.Reference7Ideal.Read.val_main_v7_eq _).trans ((row3_eq _).trans (congrArg (rowOf 3) h2))),
    r21.trans ((Cert.Reference7Ideal.Read.val_main_v155_eq _).trans ((D_r3 _ _ _ _).trans (congr4 stepD ((row3_eq _).trans (congrArg (rowOf 3) h2)) h19 h20 h21))),
    r22.trans ((Cert.Reference7Ideal.Read.val_main_v136_eq _).trans ((M_r3 _ _).trans (congrArg₂ stepM ((row3_eq _).trans (congrArg (rowOf 3) h2)) h20))),
    r23.trans ((Cert.Reference7Ideal.Read.val_main_v142_eq _).trans ((V_r3 _ _).trans (congrArg₂ stepV ((row3_eq _).trans (congrArg (rowOf 3) h2)) h21))),
    r24.trans ((Cert.Reference7Ideal.Read.val_main_v8_eq _).trans ((row8_eq _).trans (congrArg (rowOf 8) h2))),
    r25.trans ((Cert.Reference7Ideal.Read.val_main_v179_eq _).trans ((D_r8 _ _ _ _).trans (congr4 stepD ((row8_eq _).trans (congrArg (rowOf 8) h2)) h22 h23 h24))),
    r26.trans ((Cert.Reference7Ideal.Read.val_main_v160_eq _).trans ((M_r8 _ _).trans (congrArg₂ stepM ((row8_eq _).trans (congrArg (rowOf 8) h2)) h23))),
    r27.trans ((Cert.Reference7Ideal.Read.val_main_v166_eq _).trans ((V_r8 _ _).trans (congrArg₂ stepV ((row8_eq _).trans (congrArg (rowOf 8) h2)) h24))),
    r28.trans ((Cert.Reference7Ideal.Read.val_main_v9_eq _).trans ((row16_eq _).trans (congrArg (rowOf 16) h2))),
    r29.trans ((Cert.Reference7Ideal.Read.val_main_v203_eq _).trans ((D_r16 _ _ _ _).trans (congr4 stepD ((row16_eq _).trans (congrArg (rowOf 16) h2)) h25 h26 h27))),
    r30.trans ((Cert.Reference7Ideal.Read.val_main_v184_eq _).trans ((M_r16 _ _).trans (congrArg₂ stepM ((row16_eq _).trans (congrArg (rowOf 16) h2)) h26))),
    r31.trans ((Cert.Reference7Ideal.Read.val_main_v190_eq _).trans ((V_r16 _ _).trans (congrArg₂ stepV ((row16_eq _).trans (congrArg (rowOf 16) h2)) h27))),
    r32.trans ((Cert.Reference7Ideal.Read.val_main_v10_eq _).trans ((sinks_eq _).trans (congrArg sinks h2))),
    r33.trans ((Cert.Reference7Ideal.Read.val_main_v227_eq _).trans ((D_s _ _ _ _).trans (congr4 stepD ((sinks_eq _).trans (congrArg sinks h2)) h28 h29 h30))),
    r34.trans ((Cert.Reference7Ideal.Read.val_main_v208_eq _).trans ((M_s _ _).trans (congrArg₂ stepM ((sinks_eq _).trans (congrArg sinks h2)) h29))),
    r35.trans ((Cert.Reference7Ideal.Read.val_main_v214_eq _).trans ((V_s _ _).trans (congrArg₂ stepV ((sinks_eq _).trans (congrArg sinks h2)) h30))),
    r36.trans ((Cert.Reference7Ideal.Read.val_main_v11_eq _).trans ((conv_eq _).trans (congrArg conv h3))),
    r37.trans ((Cert.Reference7Ideal.Read.val_main_v251_eq _).trans ((D_c _ _ _ _).trans (congr4 stepD ((conv_eq _).trans (congrArg conv h3)) h31 h32 h33))),
    r38.trans ((Cert.Reference7Ideal.Read.val_main_v232_eq _).trans ((M_c _ _).trans (congrArg₂ stepM ((conv_eq _).trans (congrArg conv h3)) h32))),
    r39.trans ((Cert.Reference7Ideal.Read.val_main_v238_eq _).trans ((V_c _ _).trans (congrArg₂ stepV ((conv_eq _).trans (congrArg conv h3)) h33))),
    r40.trans ((Cert.Reference7Ideal.Read.val_main_v254_eq _).trans ((loss_eq _).trans (congrArg loss h2))),
    kept⟩

end Cert.Proof.SmallClaims

end
-- ==== Proof.GateRow.lean ====
/- One entry of the gradient of a gated product `h · g·σ(g)` with respect to the gate's input `g`. Everything is over
   the extended reals. -/
module

public import proofs.«01_k».proof.Proof.MergeRow

@[expose] public section

noncomputable section

namespace Cert.Gate

open Idealize.ShloMosaic Cert.Norm

/-- The gradient as differentiation writes it: the product rule, with `t` the state times the cotangent. -/
def slope (t g : EReal) : EReal :=
  t * Ideal.logistic g + g * t * (Ideal.logistic g * (1 - Ideal.logistic g))

theorem logistic_top : Ideal.logistic ⊤ = 1 := by
  rw [Ideal.logistic, EReal.neg_top, show Ideal.exp ⊥ = 0 from rfl, add_zero, ← EReal.coe_one, div_real _ one_ne_zero,
    ← EReal.coe_mul]
  norm_num

theorem logistic_bot : Ideal.logistic ⊥ = 0 := by
  rw [Ideal.logistic, EReal.neg_bot, show Ideal.exp ⊤ = ⊤ from rfl, show (1 : EReal) + ⊤ = ⊤ from rfl, Ideal.div,
    if_neg (by simp), EReal.inv_top, mul_zero]

/-- At a real argument the logistic function is real. -/
theorem logistic_real (x : ℝ) : ∃ s : ℝ, Ideal.logistic (x : EReal) = (s : EReal) := by
  have e : (1 : EReal) + Ideal.exp (-(x : EReal)) = ((1 + Real.exp (-x) : ℝ) : EReal) := by
    rw [← EReal.coe_neg, Cert.Merge.exp_real, EReal.coe_add, EReal.coe_one]
  have hp : (1 + Real.exp (-x) : ℝ) ≠ 0 := by positivity
  exact ⟨_, by rw [Ideal.logistic, e, div_real _ hp, ← EReal.coe_one, ← EReal.coe_mul]⟩

/-- The kernel factors the state and the cotangent out. For real ones, and any gate, that is the same. -/
theorem slope_eq (h d : ℝ) (g : EReal) :
    (d : EReal) * h * (Ideal.logistic g * (1 + g * (1 - Ideal.logistic g))) = slope ((h : EReal) * d) g := by
  unfold slope
  rw [mul_comm (d : EReal), ← EReal.coe_mul]
  generalize h * d = t
  induction g using EReal.rec with
  | bot => rw [logistic_bot, sub_zero, mul_one, zero_mul, zero_mul, mul_zero, mul_zero, add_zero]
  | top =>
    rw [logistic_top, show (1 : EReal) - 1 = 0 from by rw [← EReal.coe_one, ← EReal.coe_sub, sub_self, EReal.coe_zero], mul_zero, mul_zero,
      mul_zero, add_zero, add_zero, mul_one]
  | coe x =>
    obtain ⟨s, hs⟩ := logistic_real x
    rw [hs]
    norm_cast
    ring

/-- An extended real of which the absolute value is below `⊤` is real. -/
theorem real_of_abs {x : EReal} (h : max x (-x) < ⊤) : ∃ r : ℝ, x = (r : EReal) := by
  induction x using EReal.rec with
  | bot => simp at h
  | top => simp at h
  | coe r => exact ⟨r, rfl⟩

end Cert.Gate

end
-- ==== Proof.GatePoint.lean ====
/- What one grid point of the recurrence's gradient leaves in the block of the gate's gradient: the stored payload of
   the point's blocks of gate, state and cotangent. The point's other work reaches only the other results. -/
module

public import proofs.«01_k».proof.Proof.GateRow
public import proofs.«01_k».proof.Proof.Gen.Kernel6Ideal.Frame
public import Idealize.ShloMosaic.Lib.VecWindow
public import Idealize.ShloMosaic.Lib.Pointwise

@[expose] public section

noncomputable section

namespace Cert.Kernel6Ideal.Gate

open Cert.Kernel6Ideal Cert.Kernel6Ideal.Gen Idealize.ShloMosaic Idealize.ShloMosaic.TcCoe
open Idealize.ShloMosaic.Tactic Idealize.SL.Sem

variable {F : FTy → Type} [FloatOps F] (m : (ℓ : Loc nD τ sig) → Buf (Elt F) ℓ)

/-- The kernel's gradient of the gate, from a block of the gate, of the state and of the cotangent. -/
def store (g : Vec F S2048x128 .bf16) (h : Vec F S2048x128 .f32) (d : Vec F S2048x128 .bf16) : FVec F S2048x128 .bf16 :=
  k0_pay39 h (k0_pay35 g) (k0_pay36 d) (k0_pay37 g) (Scalar.ofBits .f32 0x3F000000#32)

theorem hz : (![0, 0] : Fin 2 → Nat) = fun _ => 0 := funext fun a => by fin_cases a <;> rfl

set_option maxHeartbeats 1000000 in
theorem pointA (c : Dev nD) (t : Fin cfg0.N) (h0 : t.val % 2 = 0) :
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) = store (iblk m c 1 t) (iblk m c 2 t) (iblk m c 3 t) := by
  unfold out0_A_12 kernelRun0_A
  dsimp only
  sl_unfold_words
  rw [View.read_writes_full]
  simp only [View.readAt_eq_ld, Memref.IsWhole.read_unread, View.ld_unit_zero (S := S2048x128) hz, shapeCast_self]
  rfl

set_option maxHeartbeats 1000000 in
theorem pointB (c : Dev nD) (t : Fin cfg0.N) (h0 : ¬t.val % 2 = 0) (s0 : Vec F S128x128 .f32) (s1 : Vec F S128x128 .f32)
    (s2 : Vec F S8x128 .f32) (s3 : Vec F S8x128 .f32) :
    out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) s0 s1 s2 s3 = store (iblk m c 1 t) (iblk m c 2 t) (iblk m c 3 t) := by
  unfold out0_B_12 kernelRun0_B
  dsimp only
  sl_unfold_words
  rw [View.read_writes_full]
  simp only [View.readAt_eq_ld, Memref.IsWhole.read_unread, View.ld_unit_zero (S := S2048x128) hz, shapeCast_self]
  rfl

/-- The second part of a record known in full. -/
theorem second {α β γ : Type} {p : α × β × γ} {x : α} {y : β} {z : γ} (e : p = (x, y, z)) : p.2.1 = y := by rw [e]

/-- Both kinds of point store the same. -/
theorem point (c : Dev nD) (t : Fin cfg0.N) :
    (outsAt0 m c t.val t.isLt).2.1 = store (iblk m c 1 t) (iblk m c 2 t) (iblk m c 3 t) := by
  by_cases h0 : t.val % 2 = 0
  · exact (second (outsAt0_A m c t h0)).trans (pointA m c t h0)
  · exact (second (outsAt0_B m c t h0)).trans (pointB m c t h0 _ _ _ _)

/-- The stored value, for a real state and cotangent, is what differentiation gives. -/
theorem store_at (g : Vec Ideal S2048x128 .bf16) (h : Vec Ideal S2048x128 .f32) (d : Vec Ideal S2048x128 .bf16)
    (r : Fin 2048) (k : Fin 128) (u v : ℝ) (hu : h (ix2 r k) = (u : EReal)) (hv : d (ix2 r k) = (v : EReal)) :
    store (F := Ideal) g h d (ix2 r k) = Cert.Gate.slope (h (ix2 r k) * d (ix2 r k)) (g (ix2 r k)) := by
  rw [hu, hv, ← Cert.Gate.slope_eq, ← Cert.Merge.gate_eq, ← Cert.Norm.lit_half, ← hu, ← hv]
  unfold store k0_pay39 k0_pay38 k0_pay37 k0_pay36 k0_pay35
  pointwise
  done

end Cert.Kernel6Ideal.Gate

end
-- ==== Proof.GateRef.lean ====
/- What the reference of the recurrence branch's gate holds in each entry, and what the precondition says of the state
   and the cotangent. -/
module

public import proofs.«01_k».proof.Proof.GateRow
public import proofs.«01_k».proof.Proof.Gen.Reference6Ideal.Read
public import proofs.«01_k».proof.Pre_finite_state
public import Idealize.ShloMosaic.Lib.Pointwise

@[expose] public section

noncomputable section

namespace Cert.Reference6Ideal.Gate

open Cert.Reference6Ideal Cert.Reference6Ideal.Gen Cert.Reference6Ideal.Read Idealize.ShloMosaic
open Idealize.ShloMosaic.TcCoe Idealize.SL.Sem

/-- What the gate's gradient is made from: the projection, the state and the cotangent of the gated state. -/
structure Args where
  proj : Vec Ideal S4096x6656 .bf16
  h : Vec Ideal S4096x1024 .f32
  dy : Vec Ideal S4096x1024 .bf16

def Args.out (a : Args) : Vec Ideal S4096x1024 .bf16 := val_main_v7 (F := Ideal) a.proj a.h a.dy

/-- The gate's column of the projection. -/
def col (k : Fin 1024) : Fin 6656 := ⟨1024 + k.val, by omega⟩

variable (a : Args) (r : Fin 4096) (k : Fin 1024)

theorem sig_at : val_main_v2_2 (F := Ideal) a.proj (ix2 r k) = Ideal.logistic (a.proj (ix2 r (col k))) := by
  have e : idx_main_v0 (ix2 r k) = ix2 r (col k) := funext fun a => match a with
    | 0 => rfl
    | 1 => rfl
  rw [← e, ← val_main_v0_apply a.proj]
  unfold Ideal.logistic val_main_v2_2 val_main_call0_v4 val_main_call0_cst_0 val_main_call0_v3 val_main_call0_v2
    val_main_call0_cst val_main_call0_v1 val_main_call0_v0 val_main_v1
  pointwise
  done

theorem Args.out_at :
    a.out (ix2 r k) = Cert.Gate.slope (a.h (ix2 r k) * a.dy (ix2 r k)) (a.proj (ix2 r (col k))) := by
  have e : idx_main_v0 (ix2 r k) = ix2 r (col k) := funext fun a => match a with
    | 0 => rfl
    | 1 => rfl
  unfold Cert.Gate.slope
  rw [← sig_at, ← e, ← val_main_v0_apply a.proj]
  unfold Args.out val_main_v7 val_main_v6 val_main_call1_v2 val_main_call1_v1 val_main_call1_v0 val_main_v5 val_main_v4
    val_main_v2_1 val_main_call0_v7 val_main_call0_v6 val_main_call0_cst_1 val_main_v1
  pointwise
  done

/-- Two comparisons of which the conjunction is set both hold. -/
theorem both_of_one {p q : Prop} [Decidable p] [Decidable q]
    (h : IntOp.andi (BitVec.ofBool (decide p)) (BitVec.ofBool (decide q)) = 1#1) : p ∧ q := by
  by_cases hp : p <;> by_cases hq : q <;> simp [hp, hq, IntOp.andi] at h ⊢

/-- The state and the cotangent are finite, by the precondition. -/
theorem finite [Cert.Pre_finite_state.Facts] {x0 x1 x2 x3 x4 x5 x6 x7 x8 x9}
    (hp : Cert.Pre_finite_state.fn (F := Ideal) x0 x1 x2 x3 x4 x5 x6 x7 x8 x9 = fun _ => 1#1) :
    (∃ u : ℝ, x1 (ix2 r k) = (u : EReal)) ∧ ∃ u : ℝ, x2 (ix2 r k) = (u : EReal) := by
  have h := congrFun hp (ix2 r k)
  unfold Cert.Pre_finite_state.fn at h
  dsimp only at h
  pointwise at h
  have top : Ideal.ofBits .f32 2139095040#32 = ⊤ := by simp [Ideal.ofBits, Ideal.ieee]
  rw [top] at h
  have both := both_of_one h
  exact ⟨Cert.Gate.real_of_abs both.1, Cert.Gate.real_of_abs both.2⟩

end Cert.Reference6Ideal.Gate

end
-- ==== Proof.GateValue.lean ====
/- What the gate's gradient holds after the run of the recurrence's gradient: the reference's array. Point `t` of the
   grid holds block `t mod 2` of the tokens and block `t / 2` of the channels. -/
module

public import proofs.«01_k».proof.Proof.GatePoint
public import proofs.«01_k».proof.Proof.GateRef
public import proofs.«01_k».proof.Proof.Tokens
public import proofs.«01_k».proof.Proof.Gen.Kernel6Ideal.Value
public import Idealize.ShloMosaic.Lib.Pipeline.ValueKit.Geometry

@[expose] public section

noncomputable section

namespace Cert.Kernel6Ideal.Gate

open Cert.Kernel6Ideal Cert.Kernel6Ideal.Gen Idealize.ShloMosaic Idealize.ShloMosaic.TcCoe Idealize.SL.Sem
open Cert.Reference6Ideal.Gate (Args col)
open Cert.Tokens (two)

variable (m : (ℓ : Loc nD τ sig) → Buf (Elt Ideal) ℓ) (ρ : Dev nD → PrngReg) (c : Dev nD)

/-- The arguments the gate's gradient is made from, as the launch finds them. -/
def args : Args where
  proj := m ((c : Thread nD τ).loc main_arg0)
  h := m ((c : Thread nD τ).loc main_arg1)
  dy := m ((c : Thread nD τ).loc main_arg2)

theorem points (t : Fin cfg0.N) : t.val < 16 := lt_of_lt_of_eq t.isLt (show cfg0.N = 16 from N_0)

/-- The token in row `r` of point `t`'s blocks, and the channel in column `k`. -/
def tok (t : Fin cfg0.N) (r : Fin 2048) : Fin 4096 := ⟨2048 * (t.val % 2) + r.val, by omega⟩
def chan (t : Fin cfg0.N) (k : Fin 128) : Fin 1024 := ⟨128 * (t.val / 2) + k.val, by have := points t; omega⟩

/-! ## The blocks' places -/

theorem place1 : ∀ t : Fin cfg0.N, win0_1.index t 0 = t.val % 2 ∧ win0_1.index t 1 = 8 + t.val / 2 :=
  (by decide +kernel : ∀ t : Fin grid0.N, win0_1.index t 0 = t.val % 2 ∧ win0_1.index t 1 = 8 + t.val / 2)
theorem blk_gate (t : Fin cfg0.N) (r : Fin 2048) (k : Fin 128) :
    iblk m c 1 t (ix2 r k) = (args m c).proj (ix2 (tok t r) (col (chan t k))) := by
  obtain ⟨h0, h1⟩ := place1 t
  exact congrArg (V m c main_arg0) (funext fun a => Fin.ext (match a with
    | 0 => by show win0_1.index t 0 * 2048 + 1 * r.val = 2048 * (t.val % 2) + r.val; rw [h0]; omega
    | 1 => by show win0_1.index t 1 * 128 + 1 * k.val = 1024 + (128 * (t.val / 2) + k.val); rw [h1]; omega))

theorem place2 : ∀ t : Fin cfg0.N, win0_2.index t 0 = t.val % 2 ∧ win0_2.index t 1 = t.val / 2 :=
  (by decide +kernel : ∀ t : Fin grid0.N, win0_2.index t 0 = t.val % 2 ∧ win0_2.index t 1 = t.val / 2)
theorem blk_state (t : Fin cfg0.N) (r : Fin 2048) (k : Fin 128) :
    iblk m c 2 t (ix2 r k) = (args m c).h (ix2 (tok t r) (chan t k)) := by
  obtain ⟨h0, h1⟩ := place2 t
  exact congrArg (V m c main_arg1) (funext fun a => Fin.ext (match a with
    | 0 => by show win0_2.index t 0 * 2048 + 1 * r.val = 2048 * (t.val % 2) + r.val; rw [h0]; omega
    | 1 => by show win0_2.index t 1 * 128 + 1 * k.val = 128 * (t.val / 2) + k.val; rw [h1]; omega))

theorem place3 : ∀ t : Fin cfg0.N, win0_3.index t 0 = t.val % 2 ∧ win0_3.index t 1 = t.val / 2 :=
  (by decide +kernel : ∀ t : Fin grid0.N, win0_3.index t 0 = t.val % 2 ∧ win0_3.index t 1 = t.val / 2)
theorem blk_cot (t : Fin cfg0.N) (r : Fin 2048) (k : Fin 128) :
    iblk m c 3 t (ix2 r k) = (args m c).dy (ix2 (tok t r) (chan t k)) := by
  obtain ⟨h0, h1⟩ := place3 t
  exact congrArg (V m c main_arg2) (funext fun a => Fin.ext (match a with
    | 0 => by show win0_3.index t 0 * 2048 + 1 * r.val = 2048 * (t.val % 2) + r.val; rw [h0]; omega
    | 1 => by show win0_3.index t 1 * 128 + 1 * k.val = 128 * (t.val / 2) + k.val; rw [h1]; omega))

/-! ## The result -/

/-- That the state and the cotangent are real, as the precondition has it. -/
def Finite (a : Args) : Prop :=
  ∀ (r : Fin 4096) (k : Fin 1024), (∃ u : ℝ, a.h (ix2 r k) = (u : EReal)) ∧ ∃ u : ℝ, a.dy (ix2 r k) = (u : EReal)

theorem place12 : ∀ t : Fin cfg0.N, win0_12.index t 0 = t.val % 2 ∧ win0_12.index t 1 = t.val / 2 :=
  (by decide +kernel : ∀ t : Fin grid0.N, win0_12.index t 0 = t.val % 2 ∧ win0_12.index t 1 = t.val / 2)

theorem array (hf : Finite (args m c)) : (dats m 0 c).arrAt 12 cfg0.N = (args m c).out := by
  refine (dats m 0 c).arrAt_eq_of_covers 12 _ (by decide +kernel) fun t _ y => ?_
  obtain ⟨r, k, rfl⟩ : ∃ (r : Fin 2048) (k : Fin 128), y = ix2 r k := two y
  obtain ⟨h0, h1⟩ := place12 t
  have e : ((cfg0.win 12).blk t).view.emb (ix2 r k) = ix2 (tok t r) (chan t k) := funext fun a => Fin.ext (match a with
    | 0 => by show win0_12.index t 0 * 2048 + 1 * r.val = 2048 * (t.val % 2) + r.val; rw [h0]; omega
    | 1 => by show win0_12.index t 1 * 128 + 1 * k.val = 128 * (t.val / 2) + k.val; rw [h1]; omega)
  show (outsAt0 m c t.val t.isLt).2.1 (ix2 r k) = (args m c).out (((cfg0.win 12).blk t).view.emb (ix2 r k))
  obtain ⟨⟨u, hu⟩, ⟨v, hv⟩⟩ := hf (tok t r) (chan t k)
  rw [e, point]
  refine (store_at _ _ _ r k u v ((blk_state m c t r k).trans hu) ((blk_cot m c t r k).trans hv)).trans ?_
  rw [blk_state, blk_cot, blk_gate]
  exact ((args m c).out_at _ _).symm

/-- Every run ends with the gate's gradient at the reference's array of the arguments, and the arguments as they were. -/
theorem values (hf : ∀ c : Dev nD, Finite (args m c)) :
    θ_run defs (onTc (τ := τ) (main (F := Ideal))) ⟨m, fun _ => 0, ρ⟩ (fun r => ∀ c : Dev nD,
      r.2.mem ((c.tc : Thread nD τ).loc main_v0_1) = (args m c).out
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono
    (fun _ h c => ⟨(h c).2.1.trans (array m c (hf c)), (h c).2.2.2.2.2.2⟩)
    (Value.run_blocks m ρ)

end Cert.Kernel6Ideal.Gate

end
-- ==== Proof.GateClaims.lean ====
/- The claims about the gate's gradient: the reference ends with its counters at zero and its arguments untouched, and,
   where the state and the cotangent are finite, the kernel's array of the gate's gradient is the reference's. -/
module

public import proofs.«01_k».proof.Defs
public import proofs.«01_k».proof.Proof.Gen.Reference6Ideal
public import proofs.«01_k».proof.Proof.Gen.Reference6Ideal.Run
public import proofs.«01_k».proof.Proof.Gen.Reference6Ideal.Read
public import proofs.«01_k».proof.Proof.GateValue

@[expose] public section

noncomputable section

open Idealize.ShloMosaic Idealize.SL.Sem

namespace Cert.Reference6Ideal.Gate

/-- The three arrays the reference finds on device `c` and reads. -/
def given (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2)⟩

end Cert.Reference6Ideal.Gate

namespace Cert.Proof.GateClaims

open Cert.Kernel6Ideal.Gate Cert.Reference6Ideal.Gate

/-- The reference touches none of its arguments, and it has no counter to leave raised. -/
theorem frame_reference : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- Arguments that agree on a device are one record. -/
theorem given_eq (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ)
    (c : Dev Cert.Kernel6Ideal.nD)
    (h0 : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0))
    (h1 : m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1))
    (h2 : m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) :
    given m' c = args m c := by
  unfold given args
  rw [h0, h1, h2]

/-- Where the state and the cotangent are finite, the kernel and the reference end with the same gradient of the gate. -/
theorem algebraic [Cert.Pre_finite_state.Facts] : Cert.algebraic_Kernel6Ideal_Reference6Ideal_pre_finite_state := by
  intro m g m' g' hp h
  have e : ∀ c, given m' c = args m c := fun c => by
    obtain ⟨h0, h1, h2, -⟩ := h c
    exact given_eq m m' c h0 h1 h2
  have hf : ∀ c, Finite (args m c) := fun c r k => finite r k (hp c)
  refine ⟨fun c => (args m c).out, values m g hf, ?_⟩
  refine (θ_run Cert.Reference6Ideal.defs _ _).mono (fun r hr c => ?_) (Cert.Reference6Ideal.Value.run (F := Ideal) m' g')
  obtain ⟨r0, kept⟩ := hr c
  exact ⟨(r0.trans (Cert.Reference6Ideal.Read.val_main_v7_eq (F := Ideal) _ _ _)).trans (congrArg Args.out (e c)), kept⟩

end Cert.Proof.GateClaims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.MergeLaunch
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.MergeSame
public import proofs.«01_k».proof.Proof.MergeClaims
public import proofs.«01_k».proof.Proof.InputClaims
public import proofs.«01_k».proof.Proof.WinClaims
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.AdamInClaims
public import proofs.«01_k».proof.Proof.AdamOutClaims
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Reference7Ideal
public import proofs.«01_k».proof.Proof.Gen.Reference7Ideal.Run
public import proofs.«01_k».proof.Proof.Gen.Reference7Ideal.Read
public import proofs.«01_k».proof.Proof.SmallFrames
public import proofs.«01_k».proof.Proof.SmallClaims
public import proofs.«01_k».proof.Proof.Gen.Pre_finite_state
public import proofs.«01_k».proof.Proof.GateClaims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_finite_state.Gen.facts,
    fun m ρ _ => Cert.Kernel.Merge.run_eq _ _ (Cert.KernelIdeal.Merge.frame m ρ), fun m ρ _ => Cert.KernelIdeal.Merge.frame m ρ,
    MergeClaims.frame_reference,
    fun m ρ _ => Cert.Kernel2.Gen.frame m ρ, fun m ρ _ => Cert.Kernel2Ideal.Gen.frame m ρ, InputClaims.frame_reference,
    fun m ρ _ => Cert.Kernel3.Gen.frame m ρ, fun m ρ _ => Cert.Kernel3Ideal.Gen.frame m ρ, WinClaims.frame_reference,
    fun m ρ _ => Cert.Kernel4.Gen.frame m ρ, fun m ρ _ => Cert.Kernel4Ideal.Gen.frame m ρ, AdamInClaims.frame_reference,
    fun m ρ _ => Cert.Kernel5.Gen.frame m ρ, fun m ρ _ => Cert.Kernel5Ideal.Gen.frame m ρ, AdamOutClaims.frame_reference,
    fun m ρ _ => Cert.Kernel6.Gen.frame m ρ, fun m ρ _ => Cert.Kernel6Ideal.Gen.frame m ρ, fun m ρ _ => Cert.Kernel6Ideal.Gen.frame m ρ,
    GateClaims.frame_reference, fun m ρ _ => GateClaims.frame_reference m ρ trivial,
    SmallFrames.frame_printed, SmallFrames.frame_ideal, SmallClaims.frame_reference,
    trivial, MergeClaims.algebraic, trivial, InputClaims.algebraic, trivial, WinClaims.algebraic,
    trivial, AdamInClaims.algebraic, trivial, AdamOutClaims.algebraic, trivial, GateClaims.algebraic,
    trivial, SmallClaims.algebraic⟩

end Cert.Proof

end
